-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_EvenProj (m : (ℓ : Loc Cert.EvenProj.nD Cert.EvenProj.τ Cert.EvenProj.sig) → Buf (Elt Bits) ℓ) : Prop :=
  True

def Pre_EvenProjIdeal (m : (ℓ : Loc Cert.EvenProjIdeal.nD Cert.EvenProjIdeal.τ Cert.EvenProjIdeal.sig) → Buf (Elt Ideal) ℓ) : Prop :=
  True

def Pre_EvenProjRefIdeal (m : (ℓ : Loc Cert.EvenProjRefIdeal.nD Cert.EvenProjRefIdeal.τ Cert.EvenProjRefIdeal.sig) → Buf (Elt Ideal) ℓ) : Prop :=
  True

def Pre_OddMix (m : (ℓ : Loc Cert.OddMix.nD Cert.OddMix.τ Cert.OddMix.sig) → Buf (Elt Bits) ℓ) : Prop :=
  True

def Pre_OddMixIdeal (m : (ℓ : Loc Cert.OddMixIdeal.nD Cert.OddMixIdeal.τ Cert.OddMixIdeal.sig) → Buf (Elt Ideal) ℓ) : Prop :=
  True

def Pre_OddMixRefIdeal (m : (ℓ : Loc Cert.OddMixRefIdeal.nD Cert.OddMixRefIdeal.τ Cert.OddMixRefIdeal.sig) → Buf (Elt Ideal) ℓ) : Prop :=
  True

def Pre_OddProj (m : (ℓ : Loc Cert.OddProj.nD Cert.OddProj.τ Cert.OddProj.sig) → Buf (Elt Bits) ℓ) : Prop :=
  True

def Pre_OddProjIdeal (m : (ℓ : Loc Cert.OddProjIdeal.nD Cert.OddProjIdeal.τ Cert.OddProjIdeal.sig) → Buf (Elt Ideal) ℓ) : Prop :=
  True

def Pre_OddProjRefIdeal (m : (ℓ : Loc Cert.OddProjRefIdeal.nD Cert.OddProjRefIdeal.τ Cert.OddProjRefIdeal.sig) → Buf (Elt Ideal) ℓ) : Prop :=
  True

def Pre_MemAttend (m : (ℓ : Loc Cert.MemAttend.nD Cert.MemAttend.τ Cert.MemAttend.sig) → Buf (Elt Bits) ℓ) : Prop :=
  True

def Pre_MemAttendIdeal (m : (ℓ : Loc Cert.MemAttendIdeal.nD Cert.MemAttendIdeal.τ Cert.MemAttendIdeal.sig) → Buf (Elt Ideal) ℓ) : Prop :=
  True

def Pre_MemAttendRefIdeal (m : (ℓ : Loc Cert.MemAttendRefIdeal.nD Cert.MemAttendRefIdeal.τ Cert.MemAttendRefIdeal.sig) → Buf (Elt Ideal) ℓ) : Prop :=
  True

def Pre_EvenMix (m : (ℓ : Loc Cert.EvenMix.nD Cert.EvenMix.τ Cert.EvenMix.sig) → Buf (Elt Bits) ℓ) : Prop :=
  True

def Pre_EvenMixIdeal (m : (ℓ : Loc Cert.EvenMixIdeal.nD Cert.EvenMixIdeal.τ Cert.EvenMixIdeal.sig) → Buf (Elt Ideal) ℓ) : Prop :=
  True

def Pre_EvenMixRefIdeal (m : (ℓ : Loc Cert.EvenMixRefIdeal.nD Cert.EvenMixRefIdeal.τ Cert.EvenMixRefIdeal.sig) → Buf (Elt Ideal) ℓ) : Prop :=
  True

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjRefIdeal (m : (ℓ : Loc Cert.MemProjRefIdeal.nD Cert.MemProjRefIdeal.τ Cert.MemProjRefIdeal.sig) → Buf (Elt Ideal) ℓ) : Prop :=
  True

def Pre_RetStep (m : (ℓ : Loc Cert.RetStep.nD Cert.RetStep.τ Cert.RetStep.sig) → Buf (Elt Bits) ℓ) : Prop :=
  True

def Pre_RetStepIdeal (m : (ℓ : Loc Cert.RetStepIdeal.nD Cert.RetStepIdeal.τ Cert.RetStepIdeal.sig) → Buf (Elt Ideal) ℓ) : Prop :=
  True

def Pre_RetStepIdeal_finite_step [hPre_finite_step : Cert.Pre_finite_step.Facts] (m : (ℓ : Loc Cert.RetStepIdeal.nD Cert.RetStepIdeal.τ Cert.RetStepIdeal.sig) → Buf (Elt Ideal) ℓ) : Prop :=
  ∀ c : Dev Cert.RetStepIdeal.nD,
    (Cert.Pre_finite_step.fn (F := Ideal) (m ((c.tc : Thread Cert.RetStepIdeal.nD Cert.RetStepIdeal.τ).loc Cert.RetStepIdeal.main_arg0)) (m ((c.tc : Thread Cert.RetStepIdeal.nD Cert.RetStepIdeal.τ).loc Cert.RetStepIdeal.main_arg1)) (m ((c.tc : Thread Cert.RetStepIdeal.nD Cert.RetStepIdeal.τ).loc Cert.RetStepIdeal.main_arg2)) (m ((c.tc : Thread Cert.RetStepIdeal.nD Cert.RetStepIdeal.τ).loc Cert.RetStepIdeal.main_arg3))) = (fun _ => 1#1)

def Pre_RetStepRefIdeal (m : (ℓ : Loc Cert.RetStepRefIdeal.nD Cert.RetStepRefIdeal.τ Cert.RetStepRefIdeal.sig) → Buf (Elt Ideal) ℓ) : Prop :=
  True

def Pre_RetStepRefIdeal_finite_step [hPre_finite_step : Cert.Pre_finite_step.Facts] (m : (ℓ : Loc Cert.RetStepRefIdeal.nD Cert.RetStepRefIdeal.τ Cert.RetStepRefIdeal.sig) → Buf (Elt Ideal) ℓ) : Prop :=
  ∀ c : Dev Cert.RetStepRefIdeal.nD,
    (Cert.Pre_finite_step.fn (F := Ideal) (m ((c.tc : Thread Cert.RetStepRefIdeal.nD Cert.RetStepRefIdeal.τ).loc Cert.RetStepRefIdeal.main_arg0)) (m ((c.tc : Thread Cert.RetStepRefIdeal.nD Cert.RetStepRefIdeal.τ).loc Cert.RetStepRefIdeal.main_arg1)) (m ((c.tc : Thread Cert.RetStepRefIdeal.nD Cert.RetStepRefIdeal.τ).loc Cert.RetStepRefIdeal.main_arg2)) (m ((c.tc : Thread Cert.RetStepRefIdeal.nD Cert.RetStepRefIdeal.τ).loc Cert.RetStepRefIdeal.main_arg3))) = (fun _ => 1#1)

def Pre_HgrnStep (m : (ℓ : Loc Cert.HgrnStep.nD Cert.HgrnStep.τ Cert.HgrnStep.sig) → Buf (Elt Bits) ℓ) : Prop :=
  True

def Pre_HgrnStepIdeal (m : (ℓ : Loc Cert.HgrnStepIdeal.nD Cert.HgrnStepIdeal.τ Cert.HgrnStepIdeal.sig) → Buf (Elt Ideal) ℓ) : Prop :=
  True

def Pre_HgrnStepIdeal_finite_hgrn [hPre_finite_hgrn : Cert.Pre_finite_hgrn.Facts] (m : (ℓ : Loc Cert.HgrnStepIdeal.nD Cert.HgrnStepIdeal.τ Cert.HgrnStepIdeal.sig) → Buf (Elt Ideal) ℓ) : Prop :=
  ∀ c : Dev Cert.HgrnStepIdeal.nD,
    (Cert.Pre_finite_hgrn.fn (F := Ideal) (m ((c.tc : Thread Cert.HgrnStepIdeal.nD Cert.HgrnStepIdeal.τ).loc Cert.HgrnStepIdeal.main_arg0)) (m ((c.tc : Thread Cert.HgrnStepIdeal.nD Cert.HgrnStepIdeal.τ).loc Cert.HgrnStepIdeal.main_arg1)) (m ((c.tc : Thread Cert.HgrnStepIdeal.nD Cert.HgrnStepIdeal.τ).loc Cert.HgrnStepIdeal.main_arg2)) (m ((c.tc : Thread Cert.HgrnStepIdeal.nD Cert.HgrnStepIdeal.τ).loc Cert.HgrnStepIdeal.main_arg3)) (m ((c.tc : Thread Cert.HgrnStepIdeal.nD Cert.HgrnStepIdeal.τ).loc Cert.HgrnStepIdeal.main_arg4))) = (fun _ => 1#1)

def Pre_HgrnStepRefIdeal (m : (ℓ : Loc Cert.HgrnStepRefIdeal.nD Cert.HgrnStepRefIdeal.τ Cert.HgrnStepRefIdeal.sig) → Buf (Elt Ideal) ℓ) : Prop :=
  True

def Pre_HgrnStepRefIdeal_finite_hgrn [hPre_finite_hgrn : Cert.Pre_finite_hgrn.Facts] (m : (ℓ : Loc Cert.HgrnStepRefIdeal.nD Cert.HgrnStepRefIdeal.τ Cert.HgrnStepRefIdeal.sig) → Buf (Elt Ideal) ℓ) : Prop :=
  ∀ c : Dev Cert.HgrnStepRefIdeal.nD,
    (Cert.Pre_finite_hgrn.fn (F := Ideal) (m ((c.tc : Thread Cert.HgrnStepRefIdeal.nD Cert.HgrnStepRefIdeal.τ).loc Cert.HgrnStepRefIdeal.main_arg0)) (m ((c.tc : Thread Cert.HgrnStepRefIdeal.nD Cert.HgrnStepRefIdeal.τ).loc Cert.HgrnStepRefIdeal.main_arg1)) (m ((c.tc : Thread Cert.HgrnStepRefIdeal.nD Cert.HgrnStepRefIdeal.τ).loc Cert.HgrnStepRefIdeal.main_arg2)) (m ((c.tc : Thread Cert.HgrnStepRefIdeal.nD Cert.HgrnStepRefIdeal.τ).loc Cert.HgrnStepRefIdeal.main_arg3)) (m ((c.tc : Thread Cert.HgrnStepRefIdeal.nD Cert.HgrnStepRefIdeal.τ).loc Cert.HgrnStepRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_EvenProj [hEvenProj : Cert.EvenProj.Facts] : Prop :=
  ∀ (m : (ℓ : Loc Cert.EvenProj.nD Cert.EvenProj.τ Cert.EvenProj.sig) → Buf (Elt Bits) ℓ) (g : Dev Cert.EvenProj.nD → PrngReg), Pre_EvenProj m →
    θ_run (Cert.EvenProj.defs (F := Bits)) (onTc (τ := Cert.EvenProj.τ) (Cert.EvenProj.main (F := Bits))) ⟨m, fun _ => 0, g⟩ (fun r => (∀ c : Dev Cert.EvenProj.nD,
      r.2.mem ((c.tc : Thread Cert.EvenProj.nD Cert.EvenProj.τ).loc Cert.EvenProj.main_arg0) = m ((c.tc : Thread Cert.EvenProj.nD Cert.EvenProj.τ).loc Cert.EvenProj.main_arg0)
      ∧ r.2.mem ((c.tc : Thread Cert.EvenProj.nD Cert.EvenProj.τ).loc Cert.EvenProj.main_arg1) = m ((c.tc : Thread Cert.EvenProj.nD Cert.EvenProj.τ).loc Cert.EvenProj.main_arg1)
      ∧ r.2.mem ((c.tc : Thread Cert.EvenProj.nD Cert.EvenProj.τ).loc Cert.EvenProj.main_arg2) = m ((c.tc : Thread Cert.EvenProj.nD Cert.EvenProj.τ).loc Cert.EvenProj.main_arg2))
      ∧ r.2.sem = fun _ => 0)

def quiescent_EvenProjIdeal [hEvenProjIdeal : Cert.EvenProjIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg), Pre_EvenProjIdeal m →
    θ_run (Cert.EvenProjIdeal.defs (F := Ideal)) (onTc (τ := Cert.EvenProjIdeal.τ) (Cert.EvenProjIdeal.main (F := Ideal))) ⟨m, fun _ => 0, g⟩ (fun r => (∀ c : Dev Cert.EvenProjIdeal.nD,
      r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
      ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
      ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ r.2.sem = fun _ => 0)

def quiescent_EvenProjRefIdeal [hEvenProjRefIdeal : Cert.EvenProjRefIdeal.Facts] : Prop :=
  ∀ (m : (ℓ : Loc Cert.EvenProjRefIdeal.nD Cert.EvenProjRefIdeal.τ Cert.EvenProjRefIdeal.sig) → Buf (Elt Ideal) ℓ) (g : Dev Cert.EvenProjRefIdeal.nD → PrngReg), Pre_EvenProjRefIdeal m →
    θ_run (Cert.EvenProjRefIdeal.defs (F := Ideal)) (onTc (τ := Cert.EvenProjRefIdeal.τ) (Cert.EvenProjRefIdeal.main (F := Ideal))) ⟨m, fun _ => 0, g⟩ (fun r => (∀ c : Dev Cert.EvenProjRefIdeal.nD,
      r.2.mem ((c.tc : Thread Cert.EvenProjRefIdeal.nD Cert.EvenProjRefIdeal.τ).loc Cert.EvenProjRefIdeal.main_arg0) = m ((c.tc : Thread Cert.EvenProjRefIdeal.nD Cert.EvenProjRefIdeal.τ).loc Cert.EvenProjRefIdeal.main_arg0)
      ∧ r.2.mem ((c.tc : Thread Cert.EvenProjRefIdeal.nD Cert.EvenProjRefIdeal.τ).loc Cert.EvenProjRefIdeal.main_arg1) = m ((c.tc : Thread Cert.EvenProjRefIdeal.nD Cert.EvenProjRefIdeal.τ).loc Cert.EvenProjRefIdeal.main_arg1)
      ∧ r.2.mem ((c.tc : Thread Cert.EvenProjRefIdeal.nD Cert.EvenProjRefIdeal.τ).loc Cert.EvenProjRefIdeal.main_arg2) = m ((c.tc : Thread Cert.EvenProjRefIdeal.nD Cert.EvenProjRefIdeal.τ).loc Cert.EvenProjRefIdeal.main_arg2))
      ∧ r.2.sem = fun _ => 0)

def quiescent_OddMix [hOddMix : Cert.OddMix.Facts] : Prop :=
  ∀ (m : (ℓ : Loc Cert.OddMix.nD Cert.OddMix.τ Cert.OddMix.sig) → Buf (Elt Bits) ℓ) (g : Dev Cert.OddMix.nD → PrngReg), Pre_OddMix m →
    θ_run (Cert.OddMix.defs (F := Bits)) (onTc (τ := Cert.OddMix.τ) (Cert.OddMix.main (F := Bits))) ⟨m, fun _ => 0, g⟩ (fun r => (∀ c : Dev Cert.OddMix.nD,
      r.2.mem ((c.tc : Thread Cert.OddMix.nD Cert.OddMix.τ).loc Cert.OddMix.main_arg0) = m ((c.tc : Thread Cert.OddMix.nD Cert.OddMix.τ).loc Cert.OddMix.main_arg0)
      ∧ r.2.mem ((c.tc : Thread Cert.OddMix.nD Cert.OddMix.τ).loc Cert.OddMix.main_arg1) = m ((c.tc : Thread Cert.OddMix.nD Cert.OddMix.τ).loc Cert.OddMix.main_arg1)
      ∧ r.2.mem ((c.tc : Thread Cert.OddMix.nD Cert.OddMix.τ).loc Cert.OddMix.main_arg2) = m ((c.tc : Thread Cert.OddMix.nD Cert.OddMix.τ).loc Cert.OddMix.main_arg2)
      ∧ r.2.mem ((c.tc : Thread Cert.OddMix.nD Cert.OddMix.τ).loc Cert.OddMix.main_arg3) = m ((c.tc : Thread Cert.OddMix.nD Cert.OddMix.τ).loc Cert.OddMix.main_arg3)
      ∧ r.2.mem ((c.tc : Thread Cert.OddMix.nD Cert.OddMix.τ).loc Cert.OddMix.main_arg4) = m ((c.tc : Thread Cert.OddMix.nD Cert.OddMix.τ).loc Cert.OddMix.main_arg4)
      ∧ r.2.mem ((c.tc : Thread Cert.OddMix.nD Cert.OddMix.τ).loc Cert.OddMix.main_arg5) = m ((c.tc : Thread Cert.OddMix.nD Cert.OddMix.τ).loc Cert.OddMix.main_arg5)
      ∧ r.2.mem ((c.tc : Thread Cert.OddMix.nD Cert.OddMix.τ).loc Cert.OddMix.main_arg6) = m ((c.tc : Thread Cert.OddMix.nD Cert.OddMix.τ).loc Cert.OddMix.main_arg6))
      ∧ r.2.sem = fun _ => 0)

def quiescent_OddMixIdeal [hOddMixIdeal : Cert.OddMixIdeal.Facts] : Prop :=
  ∀ (m : (ℓ : Loc Cert.OddMixIdeal.nD Cert.OddMixIdeal.τ Cert.OddMixIdeal.sig) → Buf (Elt Ideal) ℓ) (g : Dev Cert.OddMixIdeal.nD → PrngReg), Pre_OddMixIdeal m →
    θ_run (Cert.OddMixIdeal.defs (F := Ideal)) (onTc (τ := Cert.OddMixIdeal.τ) (Cert.OddMixIdeal.main (F := Ideal))) ⟨m, fun _ => 0, g⟩ (fun r => (∀ c : Dev Cert.OddMixIdeal.nD,
      r.2.mem ((c.tc : Thread Cert.OddMixIdeal.nD Cert.OddMixIdeal.τ).loc Cert.OddMixIdeal.main_arg0) = m ((c.tc : Thread Cert.OddMixIdeal.nD Cert.OddMixIdeal.τ).loc Cert.OddMixIdeal.main_arg0)
      ∧ r.2.mem ((c.tc : Thread Cert.OddMixIdeal.nD Cert.OddMixIdeal.τ).loc Cert.OddMixIdeal.main_arg1) = m ((c.tc : Thread Cert.OddMixIdeal.nD Cert.OddMixIdeal.τ).loc Cert.OddMixIdeal.main_arg1)
      ∧ r.2.mem ((c.tc : Thread Cert.OddMixIdeal.nD Cert.OddMixIdeal.τ).loc Cert.OddMixIdeal.main_arg2) = m ((c.tc : Thread Cert.OddMixIdeal.nD Cert.OddMixIdeal.τ).loc Cert.OddMixIdeal.main_arg2)
      ∧ r.2.mem ((c.tc : Thread Cert.OddMixIdeal.nD Cert.OddMixIdeal.τ).loc Cert.OddMixIdeal.main_arg3) = m ((c.tc : Thread Cert.OddMixIdeal.nD Cert.OddMixIdeal.τ).loc Cert.OddMixIdeal.main_arg3)
      ∧ r.2.mem ((c.tc : Thread Cert.OddMixIdeal.nD Cert.OddMixIdeal.τ).loc Cert.OddMixIdeal.main_arg4) = m ((c.tc : Thread Cert.OddMixIdeal.nD Cert.OddMixIdeal.τ).loc Cert.OddMixIdeal.main_arg4)
      ∧ r.2.mem ((c.tc : Thread Cert.OddMixIdeal.nD Cert.OddMixIdeal.τ).loc Cert.OddMixIdeal.main_arg5) = m ((c.tc : Thread Cert.OddMixIdeal.nD Cert.OddMixIdeal.τ).loc Cert.OddMixIdeal.main_arg5)
      ∧ r.2.mem ((c.tc : Thread Cert.OddMixIdeal.nD Cert.OddMixIdeal.τ).loc Cert.OddMixIdeal.main_arg6) = m ((c.tc : Thread Cert.OddMixIdeal.nD Cert.OddMixIdeal.τ).loc Cert.OddMixIdeal.main_arg6))
      ∧ r.2.sem = fun _ => 0)

def quiescent_OddMixRefIdeal [hOddMixRefIdeal : Cert.OddMixRefIdeal.Facts] : Prop :=
  ∀ (m : (ℓ : Loc Cert.OddMixRefIdeal.nD Cert.OddMixRefIdeal.τ Cert.OddMixRefIdeal.sig) → Buf (Elt Ideal) ℓ) (g : Dev Cert.OddMixRefIdeal.nD → PrngReg), Pre_OddMixRefIdeal m →
    θ_run (Cert.OddMixRefIdeal.defs (F := Ideal)) (onTc (τ := Cert.OddMixRefIdeal.τ) (Cert.OddMixRefIdeal.main (F := Ideal))) ⟨m, fun _ => 0, g⟩ (fun r => (∀ c : Dev Cert.OddMixRefIdeal.nD,
      r.2.mem ((c.tc : Thread Cert.OddMixRefIdeal.nD Cert.OddMixRefIdeal.τ).loc Cert.OddMixRefIdeal.main_arg0) = m ((c.tc : Thread Cert.OddMixRefIdeal.nD Cert.OddMixRefIdeal.τ).loc Cert.OddMixRefIdeal.main_arg0)
      ∧ r.2.mem ((c.tc : Thread Cert.OddMixRefIdeal.nD Cert.OddMixRefIdeal.τ).loc Cert.OddMixRefIdeal.main_arg1) = m ((c.tc : Thread Cert.OddMixRefIdeal.nD Cert.OddMixRefIdeal.τ).loc Cert.OddMixRefIdeal.main_arg1)
      ∧ r.2.mem ((c.tc : Thread Cert.OddMixRefIdeal.nD Cert.OddMixRefIdeal.τ).loc Cert.OddMixRefIdeal.main_arg2) = m ((c.tc : Thread Cert.OddMixRefIdeal.nD Cert.OddMixRefIdeal.τ).loc Cert.OddMixRefIdeal.main_arg2)
      ∧ r.2.mem ((c.tc : Thread Cert.OddMixRefIdeal.nD Cert.OddMixRefIdeal.τ).loc Cert.OddMixRefIdeal.main_arg3) = m ((c.tc : Thread Cert.OddMixRefIdeal.nD Cert.OddMixRefIdeal.τ).loc Cert.OddMixRefIdeal.main_arg3)
      ∧ r.2.mem ((c.tc : Thread Cert.OddMixRefIdeal.nD Cert.OddMixRefIdeal.τ).loc Cert.OddMixRefIdeal.main_arg4) = m ((c.tc : Thread Cert.OddMixRefIdeal.nD Cert.OddMixRefIdeal.τ).loc Cert.OddMixRefIdeal.main_arg4)
      ∧ r.2.mem ((c.tc : Thread Cert.OddMixRefIdeal.nD Cert.OddMixRefIdeal.τ).loc Cert.OddMixRefIdeal.main_arg5) = m ((c.tc : Thread Cert.OddMixRefIdeal.nD Cert.OddMixRefIdeal.τ).loc Cert.OddMixRefIdeal.main_arg5)
      ∧ r.2.mem ((c.tc : Thread Cert.OddMixRefIdeal.nD Cert.OddMixRefIdeal.τ).loc Cert.OddMixRefIdeal.main_arg6) = m ((c.tc : Thread Cert.OddMixRefIdeal.nD Cert.OddMixRefIdeal.τ).loc Cert.OddMixRefIdeal.main_arg6))
      ∧ r.2.sem = fun _ => 0)

def quiescent_OddProj [hOddProj : Cert.OddProj.Facts] : Prop :=
  ∀ (m : (ℓ : Loc Cert.OddProj.nD Cert.OddProj.τ Cert.OddProj.sig) → Buf (Elt Bits) ℓ) (g : Dev Cert.OddProj.nD → PrngReg), Pre_OddProj m →
    θ_run (Cert.OddProj.defs (F := Bits)) (onTc (τ := Cert.OddProj.τ) (Cert.OddProj.main (F := Bits))) ⟨m, fun _ => 0, g⟩ (fun r => (∀ c : Dev Cert.OddProj.nD,
      r.2.mem ((c.tc : Thread Cert.OddProj.nD Cert.OddProj.τ).loc Cert.OddProj.main_arg0) = m ((c.tc : Thread Cert.OddProj.nD Cert.OddProj.τ).loc Cert.OddProj.main_arg0)
      ∧ r.2.mem ((c.tc : Thread Cert.OddProj.nD Cert.OddProj.τ).loc Cert.OddProj.main_arg1) = m ((c.tc : Thread Cert.OddProj.nD Cert.OddProj.τ).loc Cert.OddProj.main_arg1)
      ∧ r.2.mem ((c.tc : Thread Cert.OddProj.nD Cert.OddProj.τ).loc Cert.OddProj.main_arg2) = m ((c.tc : Thread Cert.OddProj.nD Cert.OddProj.τ).loc Cert.OddProj.main_arg2))
      ∧ r.2.sem = fun _ => 0)

def quiescent_OddProjIdeal [hOddProjIdeal : Cert.OddProjIdeal.Facts] : Prop :=
  ∀ (m : (ℓ : Loc Cert.OddProjIdeal.nD Cert.OddProjIdeal.τ Cert.OddProjIdeal.sig) → Buf (Elt Ideal) ℓ) (g : Dev Cert.OddProjIdeal.nD → PrngReg), Pre_OddProjIdeal m →
    θ_run (Cert.OddProjIdeal.defs (F := Ideal)) (onTc (τ := Cert.OddProjIdeal.τ) (Cert.OddProjIdeal.main (F := Ideal))) ⟨m, fun _ => 0, g⟩ (fun r => (∀ c : Dev Cert.OddProjIdeal.nD,
      r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
      ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
      ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ r.2.sem = fun _ => 0)

def quiescent_OddProjRefIdeal [hOddProjRefIdeal : Cert.OddProjRefIdeal.Facts] : Prop :=
  ∀ (m : (ℓ : Loc Cert.OddProjRefIdeal.nD Cert.OddProjRefIdeal.τ Cert.OddProjRefIdeal.sig) → Buf (Elt Ideal) ℓ) (g : Dev Cert.OddProjRefIdeal.nD → PrngReg), Pre_OddProjRefIdeal m →
    θ_run (Cert.OddProjRefIdeal.defs (F := Ideal)) (onTc (τ := Cert.OddProjRefIdeal.τ) (Cert.OddProjRefIdeal.main (F := Ideal))) ⟨m, fun _ => 0, g⟩ (fun r => (∀ c : Dev Cert.OddProjRefIdeal.nD,
      r.2.mem ((c.tc : Thread Cert.OddProjRefIdeal.nD Cert.OddProjRefIdeal.τ).loc Cert.OddProjRefIdeal.main_arg0) = m ((c.tc : Thread Cert.OddProjRefIdeal.nD Cert.OddProjRefIdeal.τ).loc Cert.OddProjRefIdeal.main_arg0)
      ∧ r.2.mem ((c.tc : Thread Cert.OddProjRefIdeal.nD Cert.OddProjRefIdeal.τ).loc Cert.OddProjRefIdeal.main_arg1) = m ((c.tc : Thread Cert.OddProjRefIdeal.nD Cert.OddProjRefIdeal.τ).loc Cert.OddProjRefIdeal.main_arg1)
      ∧ r.2.mem ((c.tc : Thread Cert.OddProjRefIdeal.nD Cert.OddProjRefIdeal.τ).loc Cert.OddProjRefIdeal.main_arg2) = m ((c.tc : Thread Cert.OddProjRefIdeal.nD Cert.OddProjRefIdeal.τ).loc Cert.OddProjRefIdeal.main_arg2))
      ∧ r.2.sem = fun _ => 0)

def quiescent_MemAttend [hMemAttend : Cert.MemAttend.Facts] : Prop :=
  ∀ (m : (ℓ : Loc Cert.MemAttend.nD Cert.MemAttend.τ Cert.MemAttend.sig) → Buf (Elt Bits) ℓ) (g : Dev Cert.MemAttend.nD → PrngReg), Pre_MemAttend m →
    θ_run (Cert.MemAttend.defs (F := Bits)) (onTc (τ := Cert.MemAttend.τ) (Cert.MemAttend.main (F := Bits))) ⟨m, fun _ => 0, g⟩ (fun r => (∀ c : Dev Cert.MemAttend.nD,
      r.2.mem ((c.tc : Thread Cert.MemAttend.nD Cert.MemAttend.τ).loc Cert.MemAttend.main_arg0) = m ((c.tc : Thread Cert.MemAttend.nD Cert.MemAttend.τ).loc Cert.MemAttend.main_arg0)
      ∧ r.2.mem ((c.tc : Thread Cert.MemAttend.nD Cert.MemAttend.τ).loc Cert.MemAttend.main_arg1) = m ((c.tc : Thread Cert.MemAttend.nD Cert.MemAttend.τ).loc Cert.MemAttend.main_arg1)
      ∧ r.2.mem ((c.tc : Thread Cert.MemAttend.nD Cert.MemAttend.τ).loc Cert.MemAttend.main_arg2) = m ((c.tc : Thread Cert.MemAttend.nD Cert.MemAttend.τ).loc Cert.MemAttend.main_arg2))
      ∧ r.2.sem = fun _ => 0)

def quiescent_MemAttendIdeal [hMemAttendIdeal : Cert.MemAttendIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg), Pre_MemAttendIdeal m →
    θ_run (Cert.MemAttendIdeal.defs (F := Ideal)) (onTc (τ := Cert.MemAttendIdeal.τ) (Cert.MemAttendIdeal.main (F := Ideal))) ⟨m, fun _ => 0, g⟩ (fun r => (∀ c : Dev Cert.MemAttendIdeal.nD,
      r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
      ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
      ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2))
      ∧ r.2.sem = fun _ => 0)

def quiescent_MemAttendRefIdeal [hMemAttendRefIdeal : Cert.MemAttendRefIdeal.Facts] : Prop :=
  ∀ (m : (ℓ : Loc Cert.MemAttendRefIdeal.nD Cert.MemAttendRefIdeal.τ Cert.MemAttendRefIdeal.sig) → Buf (Elt Ideal) ℓ) (g : Dev Cert.MemAttendRefIdeal.nD → PrngReg), Pre_MemAttendRefIdeal m →
    θ_run (Cert.MemAttendRefIdeal.defs (F := Ideal)) (onTc (τ := Cert.MemAttendRefIdeal.τ) (Cert.MemAttendRefIdeal.main (F := Ideal))) ⟨m, fun _ => 0, g⟩ (fun r => (∀ c : Dev Cert.MemAttendRefIdeal.nD,
      r.2.mem ((c.tc : Thread Cert.MemAttendRefIdeal.nD Cert.MemAttendRefIdeal.τ).loc Cert.MemAttendRefIdeal.main_arg0) = m ((c.tc : Thread Cert.MemAttendRefIdeal.nD Cert.MemAttendRefIdeal.τ).loc Cert.MemAttendRefIdeal.main_arg0)
      ∧ r.2.mem ((c.tc : Thread Cert.MemAttendRefIdeal.nD Cert.MemAttendRefIdeal.τ).loc Cert.MemAttendRefIdeal.main_arg1) = m ((c.tc : Thread Cert.MemAttendRefIdeal.nD Cert.MemAttendRefIdeal.τ).loc Cert.MemAttendRefIdeal.main_arg1)
      ∧ r.2.mem ((c.tc : Thread Cert.MemAttendRefIdeal.nD Cert.MemAttendRefIdeal.τ).loc Cert.MemAttendRefIdeal.main_arg2) = m ((c.tc : Thread Cert.MemAttendRefIdeal.nD Cert.MemAttendRefIdeal.τ).loc Cert.MemAttendRefIdeal.main_arg2))
      ∧ r.2.sem = fun _ => 0)

def quiescent_EvenMix [hEvenMix : Cert.EvenMix.Facts] : Prop :=
  ∀ (m : (ℓ : Loc Cert.EvenMix.nD Cert.EvenMix.τ Cert.EvenMix.sig) → Buf (Elt Bits) ℓ) (g : Dev Cert.EvenMix.nD → PrngReg), Pre_EvenMix m →
    θ_run (Cert.EvenMix.defs (F := Bits)) (onTc (τ := Cert.EvenMix.τ) (Cert.EvenMix.main (F := Bits))) ⟨m, fun _ => 0, g⟩ (fun r => (∀ c : Dev Cert.EvenMix.nD,
      r.2.mem ((c.tc : Thread Cert.EvenMix.nD Cert.EvenMix.τ).loc Cert.EvenMix.main_arg0) = m ((c.tc : Thread Cert.EvenMix.nD Cert.EvenMix.τ).loc Cert.EvenMix.main_arg0)
      ∧ r.2.mem ((c.tc : Thread Cert.EvenMix.nD Cert.EvenMix.τ).loc Cert.EvenMix.main_arg1) = m ((c.tc : Thread Cert.EvenMix.nD Cert.EvenMix.τ).loc Cert.EvenMix.main_arg1)
      ∧ r.2.mem ((c.tc : Thread Cert.EvenMix.nD Cert.EvenMix.τ).loc Cert.EvenMix.main_arg2) = m ((c.tc : Thread Cert.EvenMix.nD Cert.EvenMix.τ).loc Cert.EvenMix.main_arg2)
      ∧ r.2.mem ((c.tc : Thread Cert.EvenMix.nD Cert.EvenMix.τ).loc Cert.EvenMix.main_arg3) = m ((c.tc : Thread Cert.EvenMix.nD Cert.EvenMix.τ).loc Cert.EvenMix.main_arg3)
      ∧ r.2.mem ((c.tc : Thread Cert.EvenMix.nD Cert.EvenMix.τ).loc Cert.EvenMix.main_arg4) = m ((c.tc : Thread Cert.EvenMix.nD Cert.EvenMix.τ).loc Cert.EvenMix.main_arg4)
      ∧ r.2.mem ((c.tc : Thread Cert.EvenMix.nD Cert.EvenMix.τ).loc Cert.EvenMix.main_arg5) = m ((c.tc : Thread Cert.EvenMix.nD Cert.EvenMix.τ).loc Cert.EvenMix.main_arg5))
      ∧ r.2.sem = fun _ => 0)

def quiescent_EvenMixIdeal [hEvenMixIdeal : Cert.EvenMixIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg), Pre_EvenMixIdeal m →
    θ_run (Cert.EvenMixIdeal.defs (F := Ideal)) (onTc (τ := Cert.EvenMixIdeal.τ) (Cert.EvenMixIdeal.main (F := Ideal))) ⟨m, fun _ => 0, g⟩ (fun r => (∀ c : Dev Cert.EvenMixIdeal.nD,
      r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
      ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
      ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
      ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3)
      ∧ r.2.mem ((c.tc : Thread Cert.EvenMixIdeal.nD Cert.EvenMixIdeal.τ).loc Cert.EvenMixIdeal.main_arg4) = m ((c.tc : Thread Cert.EvenMixIdeal.nD Cert.EvenMixIdeal.τ).loc Cert.EvenMixIdeal.main_arg4)
      ∧ r.2.mem ((c.tc : Thread Cert.EvenMixIdeal.nD Cert.EvenMixIdeal.τ).loc Cert.EvenMixIdeal.main_arg5) = m ((c.tc : Thread Cert.EvenMixIdeal.nD Cert.EvenMixIdeal.τ).loc Cert.EvenMixIdeal.main_arg5))
      ∧ r.2.sem = fun _ => 0)

def quiescent_EvenMixRefIdeal [hEvenMixRefIdeal : Cert.EvenMixRefIdeal.Facts] : Prop :=
  ∀ (m : (ℓ : Loc Cert.EvenMixRefIdeal.nD Cert.EvenMixRefIdeal.τ Cert.EvenMixRefIdeal.sig) → Buf (Elt Ideal) ℓ) (g : Dev Cert.EvenMixRefIdeal.nD → PrngReg), Pre_EvenMixRefIdeal m →
    θ_run (Cert.EvenMixRefIdeal.defs (F := Ideal)) (onTc (τ := Cert.EvenMixRefIdeal.τ) (Cert.EvenMixRefIdeal.main (F := Ideal))) ⟨m, fun _ => 0, g⟩ (fun r => (∀ c : Dev Cert.EvenMixRefIdeal.nD,
      r.2.mem ((c.tc : Thread Cert.EvenMixRefIdeal.nD Cert.EvenMixRefIdeal.τ).loc Cert.EvenMixRefIdeal.main_arg0) = m ((c.tc : Thread Cert.EvenMixRefIdeal.nD Cert.EvenMixRefIdeal.τ).loc Cert.EvenMixRefIdeal.main_arg0)
      ∧ r.2.mem ((c.tc : Thread Cert.EvenMixRefIdeal.nD Cert.EvenMixRefIdeal.τ).loc Cert.EvenMixRefIdeal.main_arg1) = m ((c.tc : Thread Cert.EvenMixRefIdeal.nD Cert.EvenMixRefIdeal.τ).loc Cert.EvenMixRefIdeal.main_arg1)
      ∧ r.2.mem ((c.tc : Thread Cert.EvenMixRefIdeal.nD Cert.EvenMixRefIdeal.τ).loc Cert.EvenMixRefIdeal.main_arg2) = m ((c.tc : Thread Cert.EvenMixRefIdeal.nD Cert.EvenMixRefIdeal.τ).loc Cert.EvenMixRefIdeal.main_arg2)
      ∧ r.2.mem ((c.tc : Thread Cert.EvenMixRefIdeal.nD Cert.EvenMixRefIdeal.τ).loc Cert.EvenMixRefIdeal.main_arg3) = m ((c.tc : Thread Cert.EvenMixRefIdeal.nD Cert.EvenMixRefIdeal.τ).loc Cert.EvenMixRefIdeal.main_arg3)
      ∧ r.2.mem ((c.tc : Thread Cert.EvenMixRefIdeal.nD Cert.EvenMixRefIdeal.τ).loc Cert.EvenMixRefIdeal.main_arg4) = m ((c.tc : Thread Cert.EvenMixRefIdeal.nD Cert.EvenMixRefIdeal.τ).loc Cert.EvenMixRefIdeal.main_arg4)
      ∧ r.2.mem ((c.tc : Thread Cert.EvenMixRefIdeal.nD Cert.EvenMixRefIdeal.τ).loc Cert.EvenMixRefIdeal.main_arg5) = m ((c.tc : Thread Cert.EvenMixRefIdeal.nD Cert.EvenMixRefIdeal.τ).loc Cert.EvenMixRefIdeal.main_arg5))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1)
      ∧ r.2.mem ((c.tc : Thread Cert.MemProj.nD Cert.MemProj.τ).loc Cert.MemProj.main_arg2) = m ((c.tc : Thread Cert.MemProj.nD Cert.MemProj.τ).loc Cert.MemProj.main_arg2))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
      ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ r.2.sem = fun _ => 0)

def quiescent_MemProjRefIdeal [hMemProjRefIdeal : Cert.MemProjRefIdeal.Facts] : Prop :=
  ∀ (m : (ℓ : Loc Cert.MemProjRefIdeal.nD Cert.MemProjRefIdeal.τ Cert.MemProjRefIdeal.sig) → Buf (Elt Ideal) ℓ) (g : Dev Cert.MemProjRefIdeal.nD → PrngReg), Pre_MemProjRefIdeal m →
    θ_run (Cert.MemProjRefIdeal.defs (F := Ideal)) (onTc (τ := Cert.MemProjRefIdeal.τ) (Cert.MemProjRefIdeal.main (F := Ideal))) ⟨m, fun _ => 0, g⟩ (fun r => (∀ c : Dev Cert.MemProjRefIdeal.nD,
      r.2.mem ((c.tc : Thread Cert.MemProjRefIdeal.nD Cert.MemProjRefIdeal.τ).loc Cert.MemProjRefIdeal.main_arg0) = m ((c.tc : Thread Cert.MemProjRefIdeal.nD Cert.MemProjRefIdeal.τ).loc Cert.MemProjRefIdeal.main_arg0)
      ∧ r.2.mem ((c.tc : Thread Cert.MemProjRefIdeal.nD Cert.MemProjRefIdeal.τ).loc Cert.MemProjRefIdeal.main_arg1) = m ((c.tc : Thread Cert.MemProjRefIdeal.nD Cert.MemProjRefIdeal.τ).loc Cert.MemProjRefIdeal.main_arg1)
      ∧ r.2.mem ((c.tc : Thread Cert.MemProjRefIdeal.nD Cert.MemProjRefIdeal.τ).loc Cert.MemProjRefIdeal.main_arg2) = m ((c.tc : Thread Cert.MemProjRefIdeal.nD Cert.MemProjRefIdeal.τ).loc Cert.MemProjRefIdeal.main_arg2))
      ∧ r.2.sem = fun _ => 0)

def quiescent_RetStep [hRetStep : Cert.RetStep.Facts] : Prop :=
  ∀ (m : (ℓ : Loc Cert.RetStep.nD Cert.RetStep.τ Cert.RetStep.sig) → Buf (Elt Bits) ℓ) (g : Dev Cert.RetStep.nD → PrngReg), Pre_RetStep m →
    θ_run (Cert.RetStep.defs (F := Bits)) (onTc (τ := Cert.RetStep.τ) (Cert.RetStep.main (F := Bits))) ⟨m, fun _ => 0, g⟩ (fun r => (∀ c : Dev Cert.RetStep.nD,
      r.2.mem ((c.tc : Thread Cert.RetStep.nD Cert.RetStep.τ).loc Cert.RetStep.main_arg0) = m ((c.tc : Thread Cert.RetStep.nD Cert.RetStep.τ).loc Cert.RetStep.main_arg0)
      ∧ r.2.mem ((c.tc : Thread Cert.RetStep.nD Cert.RetStep.τ).loc Cert.RetStep.main_arg1) = m ((c.tc : Thread Cert.RetStep.nD Cert.RetStep.τ).loc Cert.RetStep.main_arg1)
      ∧ r.2.mem ((c.tc : Thread Cert.RetStep.nD Cert.RetStep.τ).loc Cert.RetStep.main_arg2) = m ((c.tc : Thread Cert.RetStep.nD Cert.RetStep.τ).loc Cert.RetStep.main_arg2)
      ∧ r.2.mem ((c.tc : Thread Cert.RetStep.nD Cert.RetStep.τ).loc Cert.RetStep.main_arg3) = m ((c.tc : Thread Cert.RetStep.nD Cert.RetStep.τ).loc Cert.RetStep.main_arg3))
      ∧ r.2.sem = fun _ => 0)

def quiescent_RetStepIdeal [hRetStepIdeal : Cert.RetStepIdeal.Facts] : Prop :=
  ∀ (m : (ℓ : Loc Cert.RetStepIdeal.nD Cert.RetStepIdeal.τ Cert.RetStepIdeal.sig) → Buf (Elt Ideal) ℓ) (g : Dev Cert.RetStepIdeal.nD → PrngReg), Pre_RetStepIdeal m →
    θ_run (Cert.RetStepIdeal.defs (F := Ideal)) (onTc (τ := Cert.RetStepIdeal.τ) (Cert.RetStepIdeal.main (F := Ideal))) ⟨m, fun _ => 0, g⟩ (fun r => (∀ c : Dev Cert.RetStepIdeal.nD,
      r.2.mem ((c.tc : Thread Cert.RetStepIdeal.nD Cert.RetStepIdeal.τ).loc Cert.RetStepIdeal.main_arg0) = m ((c.tc : Thread Cert.RetStepIdeal.nD Cert.RetStepIdeal.τ).loc Cert.RetStepIdeal.main_arg0)
      ∧ r.2.mem ((c.tc : Thread Cert.RetStepIdeal.nD Cert.RetStepIdeal.τ).loc Cert.RetStepIdeal.main_arg1) = m ((c.tc : Thread Cert.RetStepIdeal.nD Cert.RetStepIdeal.τ).loc Cert.RetStepIdeal.main_arg1)
      ∧ r.2.mem ((c.tc : Thread Cert.RetStepIdeal.nD Cert.RetStepIdeal.τ).loc Cert.RetStepIdeal.main_arg2) = m ((c.tc : Thread Cert.RetStepIdeal.nD Cert.RetStepIdeal.τ).loc Cert.RetStepIdeal.main_arg2)
      ∧ r.2.mem ((c.tc : Thread Cert.RetStepIdeal.nD Cert.RetStepIdeal.τ).loc Cert.RetStepIdeal.main_arg3) = m ((c.tc : Thread Cert.RetStepIdeal.nD Cert.RetStepIdeal.τ).loc Cert.RetStepIdeal.main_arg3))
      ∧ r.2.sem = fun _ => 0)

def quiescent_RetStepIdeal_pre_finite_step [hRetStepIdeal : Cert.RetStepIdeal.Facts] [hPre_finite_step : Cert.Pre_finite_step.Facts] : Prop :=
  ∀ (m : (ℓ : Loc Cert.RetStepIdeal.nD Cert.RetStepIdeal.τ Cert.RetStepIdeal.sig) → Buf (Elt Ideal) ℓ) (g : Dev Cert.RetStepIdeal.nD → PrngReg), Pre_RetStepIdeal_finite_step m →
    θ_run (Cert.RetStepIdeal.defs (F := Ideal)) (onTc (τ := Cert.RetStepIdeal.τ) (Cert.RetStepIdeal.main (F := Ideal))) ⟨m, fun _ => 0, g⟩ (fun r => (∀ c : Dev Cert.RetStepIdeal.nD,
      r.2.mem ((c.tc : Thread Cert.RetStepIdeal.nD Cert.RetStepIdeal.τ).loc Cert.RetStepIdeal.main_arg0) = m ((c.tc : Thread Cert.RetStepIdeal.nD Cert.RetStepIdeal.τ).loc Cert.RetStepIdeal.main_arg0)
      ∧ r.2.mem ((c.tc : Thread Cert.RetStepIdeal.nD Cert.RetStepIdeal.τ).loc Cert.RetStepIdeal.main_arg1) = m ((c.tc : Thread Cert.RetStepIdeal.nD Cert.RetStepIdeal.τ).loc Cert.RetStepIdeal.main_arg1)
      ∧ r.2.mem ((c.tc : Thread Cert.RetStepIdeal.nD Cert.RetStepIdeal.τ).loc Cert.RetStepIdeal.main_arg2) = m ((c.tc : Thread Cert.RetStepIdeal.nD Cert.RetStepIdeal.τ).loc Cert.RetStepIdeal.main_arg2)
      ∧ r.2.mem ((c.tc : Thread Cert.RetStepIdeal.nD Cert.RetStepIdeal.τ).loc Cert.RetStepIdeal.main_arg3) = m ((c.tc : Thread Cert.RetStepIdeal.nD Cert.RetStepIdeal.τ).loc Cert.RetStepIdeal.main_arg3))
      ∧ r.2.sem = fun _ => 0)

def quiescent_RetStepRefIdeal [hRetStepRefIdeal : Cert.RetStepRefIdeal.Facts] : Prop :=
  ∀ (m : (ℓ : Loc Cert.RetStepRefIdeal.nD Cert.RetStepRefIdeal.τ Cert.RetStepRefIdeal.sig) → Buf (Elt Ideal) ℓ) (g : Dev Cert.RetStepRefIdeal.nD → PrngReg), Pre_RetStepRefIdeal m →
    θ_run (Cert.RetStepRefIdeal.defs (F := Ideal)) (onTc (τ := Cert.RetStepRefIdeal.τ) (Cert.RetStepRefIdeal.main (F := Ideal))) ⟨m, fun _ => 0, g⟩ (fun r => (∀ c : Dev Cert.RetStepRefIdeal.nD,
      r.2.mem ((c.tc : Thread Cert.RetStepRefIdeal.nD Cert.RetStepRefIdeal.τ).loc Cert.RetStepRefIdeal.main_arg0) = m ((c.tc : Thread Cert.RetStepRefIdeal.nD Cert.RetStepRefIdeal.τ).loc Cert.RetStepRefIdeal.main_arg0)
      ∧ r.2.mem ((c.tc : Thread Cert.RetStepRefIdeal.nD Cert.RetStepRefIdeal.τ).loc Cert.RetStepRefIdeal.main_arg1) = m ((c.tc : Thread Cert.RetStepRefIdeal.nD Cert.RetStepRefIdeal.τ).loc Cert.RetStepRefIdeal.main_arg1)
      ∧ r.2.mem ((c.tc : Thread Cert.RetStepRefIdeal.nD Cert.RetStepRefIdeal.τ).loc Cert.RetStepRefIdeal.main_arg2) = m ((c.tc : Thread Cert.RetStepRefIdeal.nD Cert.RetStepRefIdeal.τ).loc Cert.RetStepRefIdeal.main_arg2)
      ∧ r.2.mem ((c.tc : Thread Cert.RetStepRefIdeal.nD Cert.RetStepRefIdeal.τ).loc Cert.RetStepRefIdeal.main_arg3) = m ((c.tc : Thread Cert.RetStepRefIdeal.nD Cert.RetStepRefIdeal.τ).loc Cert.RetStepRefIdeal.main_arg3))
      ∧ r.2.sem = fun _ => 0)

def quiescent_RetStepRefIdeal_pre_finite_step [hRetStepRefIdeal : Cert.RetStepRefIdeal.Facts] [hPre_finite_step : Cert.Pre_finite_step.Facts] : Prop :=
  ∀ (m : (ℓ : Loc Cert.RetStepRefIdeal.nD Cert.RetStepRefIdeal.τ Cert.RetStepRefIdeal.sig) → Buf (Elt Ideal) ℓ) (g : Dev Cert.RetStepRefIdeal.nD → PrngReg), Pre_RetStepRefIdeal_finite_step m →
    θ_run (Cert.RetStepRefIdeal.defs (F := Ideal)) (onTc (τ := Cert.RetStepRefIdeal.τ) (Cert.RetStepRefIdeal.main (F := Ideal))) ⟨m, fun _ => 0, g⟩ (fun r => (∀ c : Dev Cert.RetStepRefIdeal.nD,
      r.2.mem ((c.tc : Thread Cert.RetStepRefIdeal.nD Cert.RetStepRefIdeal.τ).loc Cert.RetStepRefIdeal.main_arg0) = m ((c.tc : Thread Cert.RetStepRefIdeal.nD Cert.RetStepRefIdeal.τ).loc Cert.RetStepRefIdeal.main_arg0)
      ∧ r.2.mem ((c.tc : Thread Cert.RetStepRefIdeal.nD Cert.RetStepRefIdeal.τ).loc Cert.RetStepRefIdeal.main_arg1) = m ((c.tc : Thread Cert.RetStepRefIdeal.nD Cert.RetStepRefIdeal.τ).loc Cert.RetStepRefIdeal.main_arg1)
      ∧ r.2.mem ((c.tc : Thread Cert.RetStepRefIdeal.nD Cert.RetStepRefIdeal.τ).loc Cert.RetStepRefIdeal.main_arg2) = m ((c.tc : Thread Cert.RetStepRefIdeal.nD Cert.RetStepRefIdeal.τ).loc Cert.RetStepRefIdeal.main_arg2)
      ∧ r.2.mem ((c.tc : Thread Cert.RetStepRefIdeal.nD Cert.RetStepRefIdeal.τ).loc Cert.RetStepRefIdeal.main_arg3) = m ((c.tc : Thread Cert.RetStepRefIdeal.nD Cert.RetStepRefIdeal.τ).loc Cert.RetStepRefIdeal.main_arg3))
      ∧ r.2.sem = fun _ => 0)

def quiescent_HgrnStep [hHgrnStep : Cert.HgrnStep.Facts] : Prop :=
  ∀ (m : (ℓ : Loc Cert.HgrnStep.nD Cert.HgrnStep.τ Cert.HgrnStep.sig) → Buf (Elt Bits) ℓ) (g : Dev Cert.HgrnStep.nD → PrngReg), Pre_HgrnStep m →
    θ_run (Cert.HgrnStep.defs (F := Bits)) (onTc (τ := Cert.HgrnStep.τ) (Cert.HgrnStep.main (F := Bits))) ⟨m, fun _ => 0, g⟩ (fun r => (∀ c : Dev Cert.HgrnStep.nD,
      r.2.mem ((c.tc : Thread Cert.HgrnStep.nD Cert.HgrnStep.τ).loc Cert.HgrnStep.main_arg0) = m ((c.tc : Thread Cert.HgrnStep.nD Cert.HgrnStep.τ).loc Cert.HgrnStep.main_arg0)
      ∧ r.2.mem ((c.tc : Thread Cert.HgrnStep.nD Cert.HgrnStep.τ).loc Cert.HgrnStep.main_arg1) = m ((c.tc : Thread Cert.HgrnStep.nD Cert.HgrnStep.τ).loc Cert.HgrnStep.main_arg1)
      ∧ r.2.mem ((c.tc : Thread Cert.HgrnStep.nD Cert.HgrnStep.τ).loc Cert.HgrnStep.main_arg2) = m ((c.tc : Thread Cert.HgrnStep.nD Cert.HgrnStep.τ).loc Cert.HgrnStep.main_arg2)
      ∧ r.2.mem ((c.tc : Thread Cert.HgrnStep.nD Cert.HgrnStep.τ).loc Cert.HgrnStep.main_arg3) = m ((c.tc : Thread Cert.HgrnStep.nD Cert.HgrnStep.τ).loc Cert.HgrnStep.main_arg3)
      ∧ r.2.mem ((c.tc : Thread Cert.HgrnStep.nD Cert.HgrnStep.τ).loc Cert.HgrnStep.main_arg4) = m ((c.tc : Thread Cert.HgrnStep.nD Cert.HgrnStep.τ).loc Cert.HgrnStep.main_arg4))
      ∧ r.2.sem = fun _ => 0)

def quiescent_HgrnStepIdeal [hHgrnStepIdeal : Cert.HgrnStepIdeal.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg), Pre_HgrnStepIdeal m →
    θ_run (Cert.HgrnStepIdeal.defs (F := Ideal)) (onTc (τ := Cert.HgrnStepIdeal.τ) (Cert.HgrnStepIdeal.main (F := Ideal))) ⟨m, fun _ => 0, g⟩ (fun r => (∀ c : Dev Cert.HgrnStepIdeal.nD,
      r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
      ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
      ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
      ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3)
      ∧ r.2.mem ((c.tc : Thread Cert.HgrnStepIdeal.nD Cert.HgrnStepIdeal.τ).loc Cert.HgrnStepIdeal.main_arg4) = m ((c.tc : Thread Cert.HgrnStepIdeal.nD Cert.HgrnStepIdeal.τ).loc Cert.HgrnStepIdeal.main_arg4))
      ∧ r.2.sem = fun _ => 0)

def quiescent_HgrnStepIdeal_pre_finite_hgrn [hHgrnStepIdeal : Cert.HgrnStepIdeal.Facts] [hPre_finite_hgrn : Cert.Pre_finite_hgrn.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg), Pre_HgrnStepIdeal_finite_hgrn m →
    θ_run (Cert.HgrnStepIdeal.defs (F := Ideal)) (onTc (τ := Cert.HgrnStepIdeal.τ) (Cert.HgrnStepIdeal.main (F := Ideal))) ⟨m, fun _ => 0, g⟩ (fun r => (∀ c : Dev Cert.HgrnStepIdeal.nD,
      r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
      ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
      ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
      ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3)
      ∧ r.2.mem ((c.tc : Thread Cert.HgrnStepIdeal.nD Cert.HgrnStepIdeal.τ).loc Cert.HgrnStepIdeal.main_arg4) = m ((c.tc : Thread Cert.HgrnStepIdeal.nD Cert.HgrnStepIdeal.τ).loc Cert.HgrnStepIdeal.main_arg4))
      ∧ r.2.sem = fun _ => 0)

def quiescent_HgrnStepRefIdeal [hHgrnStepRefIdeal : Cert.HgrnStepRefIdeal.Facts] : Prop :=
  ∀ (m : (ℓ : Loc Cert.HgrnStepRefIdeal.nD Cert.HgrnStepRefIdeal.τ Cert.HgrnStepRefIdeal.sig) → Buf (Elt Ideal) ℓ) (g : Dev Cert.HgrnStepRefIdeal.nD → PrngReg), Pre_HgrnStepRefIdeal m →
    θ_run (Cert.HgrnStepRefIdeal.defs (F := Ideal)) (onTc (τ := Cert.HgrnStepRefIdeal.τ) (Cert.HgrnStepRefIdeal.main (F := Ideal))) ⟨m, fun _ => 0, g⟩ (fun r => (∀ c : Dev Cert.HgrnStepRefIdeal.nD,
      r.2.mem ((c.tc : Thread Cert.HgrnStepRefIdeal.nD Cert.HgrnStepRefIdeal.τ).loc Cert.HgrnStepRefIdeal.main_arg0) = m ((c.tc : Thread Cert.HgrnStepRefIdeal.nD Cert.HgrnStepRefIdeal.τ).loc Cert.HgrnStepRefIdeal.main_arg0)
      ∧ r.2.mem ((c.tc : Thread Cert.HgrnStepRefIdeal.nD Cert.HgrnStepRefIdeal.τ).loc Cert.HgrnStepRefIdeal.main_arg1) = m ((c.tc : Thread Cert.HgrnStepRefIdeal.nD Cert.HgrnStepRefIdeal.τ).loc Cert.HgrnStepRefIdeal.main_arg1)
      ∧ r.2.mem ((c.tc : Thread Cert.HgrnStepRefIdeal.nD Cert.HgrnStepRefIdeal.τ).loc Cert.HgrnStepRefIdeal.main_arg2) = m ((c.tc : Thread Cert.HgrnStepRefIdeal.nD Cert.HgrnStepRefIdeal.τ).loc Cert.HgrnStepRefIdeal.main_arg2)
      ∧ r.2.mem ((c.tc : Thread Cert.HgrnStepRefIdeal.nD Cert.HgrnStepRefIdeal.τ).loc Cert.HgrnStepRefIdeal.main_arg3) = m ((c.tc : Thread Cert.HgrnStepRefIdeal.nD Cert.HgrnStepRefIdeal.τ).loc Cert.HgrnStepRefIdeal.main_arg3)
      ∧ r.2.mem ((c.tc : Thread Cert.HgrnStepRefIdeal.nD Cert.HgrnStepRefIdeal.τ).loc Cert.HgrnStepRefIdeal.main_arg4) = m ((c.tc : Thread Cert.HgrnStepRefIdeal.nD Cert.HgrnStepRefIdeal.τ).loc Cert.HgrnStepRefIdeal.main_arg4))
      ∧ r.2.sem = fun _ => 0)

def quiescent_HgrnStepRefIdeal_pre_finite_hgrn [hHgrnStepRefIdeal : Cert.HgrnStepRefIdeal.Facts] [hPre_finite_hgrn : Cert.Pre_finite_hgrn.Facts] : Prop :=
  ∀ (m : (ℓ : Loc Cert.HgrnStepRefIdeal.nD Cert.HgrnStepRefIdeal.τ Cert.HgrnStepRefIdeal.sig) → Buf (Elt Ideal) ℓ) (g : Dev Cert.HgrnStepRefIdeal.nD → PrngReg), Pre_HgrnStepRefIdeal_finite_hgrn m →
    θ_run (Cert.HgrnStepRefIdeal.defs (F := Ideal)) (onTc (τ := Cert.HgrnStepRefIdeal.τ) (Cert.HgrnStepRefIdeal.main (F := Ideal))) ⟨m, fun _ => 0, g⟩ (fun r => (∀ c : Dev Cert.HgrnStepRefIdeal.nD,
      r.2.mem ((c.tc : Thread Cert.HgrnStepRefIdeal.nD Cert.HgrnStepRefIdeal.τ).loc Cert.HgrnStepRefIdeal.main_arg0) = m ((c.tc : Thread Cert.HgrnStepRefIdeal.nD Cert.HgrnStepRefIdeal.τ).loc Cert.HgrnStepRefIdeal.main_arg0)
      ∧ r.2.mem ((c.tc : Thread Cert.HgrnStepRefIdeal.nD Cert.HgrnStepRefIdeal.τ).loc Cert.HgrnStepRefIdeal.main_arg1) = m ((c.tc : Thread Cert.HgrnStepRefIdeal.nD Cert.HgrnStepRefIdeal.τ).loc Cert.HgrnStepRefIdeal.main_arg1)
      ∧ r.2.mem ((c.tc : Thread Cert.HgrnStepRefIdeal.nD Cert.HgrnStepRefIdeal.τ).loc Cert.HgrnStepRefIdeal.main_arg2) = m ((c.tc : Thread Cert.HgrnStepRefIdeal.nD Cert.HgrnStepRefIdeal.τ).loc Cert.HgrnStepRefIdeal.main_arg2)
      ∧ r.2.mem ((c.tc : Thread Cert.HgrnStepRefIdeal.nD Cert.HgrnStepRefIdeal.τ).loc Cert.HgrnStepRefIdeal.main_arg3) = m ((c.tc : Thread Cert.HgrnStepRefIdeal.nD Cert.HgrnStepRefIdeal.τ).loc Cert.HgrnStepRefIdeal.main_arg3)
      ∧ r.2.mem ((c.tc : Thread Cert.HgrnStepRefIdeal.nD Cert.HgrnStepRefIdeal.τ).loc Cert.HgrnStepRefIdeal.main_arg4) = m ((c.tc : Thread Cert.HgrnStepRefIdeal.nD Cert.HgrnStepRefIdeal.τ).loc Cert.HgrnStepRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_EvenProj_EvenProjIdeal : Prop :=
  True

def algebraic_EvenProjIdeal_EvenProjRefIdeal [hEvenProjIdeal : Cert.EvenProjIdeal.Facts] [hEvenProjRefIdeal : Cert.EvenProjRefIdeal.Facts] : Prop :=
  ∀ (m : (ℓ : Loc Cert.EvenProjIdeal.nD Cert.EvenProjIdeal.τ Cert.EvenProjIdeal.sig) → Buf (Elt Ideal) ℓ) (g : Dev Cert.EvenProjIdeal.nD → PrngReg)
    (m' : (ℓ : Loc Cert.EvenProjRefIdeal.nD Cert.EvenProjRefIdeal.τ Cert.EvenProjRefIdeal.sig) → Buf (Elt Ideal) ℓ) (g' : Dev Cert.EvenProjRefIdeal.nD → PrngReg), Pre_EvenProjIdeal m →
    (∀ c : Dev Cert.EvenProjIdeal.nD,
      m' ((c.tc : Thread Cert.EvenProjRefIdeal.nD Cert.EvenProjRefIdeal.τ).loc Cert.EvenProjRefIdeal.main_arg0) = m ((c.tc : Thread Cert.EvenProjIdeal.nD Cert.EvenProjIdeal.τ).loc Cert.EvenProjIdeal.main_arg0)
      ∧ m' ((c.tc : Thread Cert.EvenProjRefIdeal.nD Cert.EvenProjRefIdeal.τ).loc Cert.EvenProjRefIdeal.main_arg1) = m ((c.tc : Thread Cert.EvenProjIdeal.nD Cert.EvenProjIdeal.τ).loc Cert.EvenProjIdeal.main_arg1)
      ∧ m' ((c.tc : Thread Cert.EvenProjRefIdeal.nD Cert.EvenProjRefIdeal.τ).loc Cert.EvenProjRefIdeal.main_arg2) = m ((c.tc : Thread Cert.EvenProjIdeal.nD Cert.EvenProjIdeal.τ).loc Cert.EvenProjIdeal.main_arg2)) →
    ∃ (v0 : (c : Dev Cert.EvenProjIdeal.nD) → Buf (Elt Ideal) ((c.tc : Thread Cert.EvenProjIdeal.nD Cert.EvenProjIdeal.τ).loc Cert.EvenProjIdeal.main_v21_0)) (v1 : (c : Dev Cert.EvenProjIdeal.nD) → Buf (Elt Ideal) ((c.tc : Thread Cert.EvenProjIdeal.nD Cert.EvenProjIdeal.τ).loc Cert.EvenProjIdeal.main_v21_1)) (v2 : (c : Dev Cert.EvenProjIdeal.nD) → Buf (Elt Ideal) ((c.tc : Thread Cert.EvenProjIdeal.nD Cert.EvenProjIdeal.τ).loc Cert.EvenProjIdeal.main_v21_2)) (v3 : (c : Dev Cert.EvenProjIdeal.nD) → Buf (Elt Ideal) ((c.tc : Thread Cert.EvenProjIdeal.nD Cert.EvenProjIdeal.τ).loc Cert.EvenProjIdeal.main_v21_3)),
      θ_run (Cert.EvenProjIdeal.defs (F := Ideal)) (onTc (τ := Cert.EvenProjIdeal.τ) (Cert.EvenProjIdeal.main (F := Ideal))) ⟨m, fun _ => 0, g⟩ (fun r => ∀ c : Dev Cert.EvenProjIdeal.nD,
          r.2.mem ((c.tc : Thread Cert.EvenProjIdeal.nD Cert.EvenProjIdeal.τ).loc Cert.EvenProjIdeal.main_v21_0) = v0 c
          ∧ r.2.mem ((c.tc : Thread Cert.EvenProjIdeal.nD Cert.EvenProjIdeal.τ).loc Cert.EvenProjIdeal.main_v21_1) = v1 c
          ∧ r.2.mem ((c.tc : Thread Cert.EvenProjIdeal.nD Cert.EvenProjIdeal.τ).loc Cert.EvenProjIdeal.main_v21_2) = v2 c
          ∧ r.2.mem ((c.tc : Thread Cert.EvenProjIdeal.nD Cert.EvenProjIdeal.τ).loc Cert.EvenProjIdeal.main_v21_3) = v3 c
          ∧ r.2.mem ((c.tc : Thread Cert.EvenProjIdeal.nD Cert.EvenProjIdeal.τ).loc Cert.EvenProjIdeal.main_arg0) = m ((c.tc : Thread Cert.EvenProjIdeal.nD Cert.EvenProjIdeal.τ).loc Cert.EvenProjIdeal.main_arg0)
          ∧ r.2.mem ((c.tc : Thread Cert.EvenProjIdeal.nD Cert.EvenProjIdeal.τ).loc Cert.EvenProjIdeal.main_arg1) = m ((c.tc : Thread Cert.EvenProjIdeal.nD Cert.EvenProjIdeal.τ).loc Cert.EvenProjIdeal.main_arg1)
          ∧ r.2.mem ((c.tc : Thread Cert.EvenProjIdeal.nD Cert.EvenProjIdeal.τ).loc Cert.EvenProjIdeal.main_arg2) = m ((c.tc : Thread Cert.EvenProjIdeal.nD Cert.EvenProjIdeal.τ).loc Cert.EvenProjIdeal.main_arg2))
      ∧ θ_run (Cert.EvenProjRefIdeal.defs (F := Ideal)) (onTc (τ := Cert.EvenProjRefIdeal.τ) (Cert.EvenProjRefIdeal.main (F := Ideal))) ⟨m', fun _ => 0, g'⟩ (fun r => ∀ c : Dev Cert.EvenProjRefIdeal.nD,
          r.2.mem ((c.tc : Thread Cert.EvenProjRefIdeal.nD Cert.EvenProjRefIdeal.τ).loc Cert.EvenProjRefIdeal.main_v94) = v0 c
          ∧ r.2.mem ((c.tc : Thread Cert.EvenProjRefIdeal.nD Cert.EvenProjRefIdeal.τ).loc Cert.EvenProjRefIdeal.main_v167) = v1 c
          ∧ r.2.mem ((c.tc : Thread Cert.EvenProjRefIdeal.nD Cert.EvenProjRefIdeal.τ).loc Cert.EvenProjRefIdeal.main_v20) = v2 c
          ∧ r.2.mem ((c.tc : Thread Cert.EvenProjRefIdeal.nD Cert.EvenProjRefIdeal.τ).loc Cert.EvenProjRefIdeal.main_v21) = v3 c
          ∧ r.2.mem ((c.tc : Thread Cert.EvenProjRefIdeal.nD Cert.EvenProjRefIdeal.τ).loc Cert.EvenProjRefIdeal.main_arg0) = m' ((c.tc : Thread Cert.EvenProjRefIdeal.nD Cert.EvenProjRefIdeal.τ).loc Cert.EvenProjRefIdeal.main_arg0)
          ∧ r.2.mem ((c.tc : Thread Cert.EvenProjRefIdeal.nD Cert.EvenProjRefIdeal.τ).loc Cert.EvenProjRefIdeal.main_arg1) = m' ((c.tc : Thread Cert.EvenProjRefIdeal.nD Cert.EvenProjRefIdeal.τ).loc Cert.EvenProjRefIdeal.main_arg1)
          ∧ r.2.mem ((c.tc : Thread Cert.EvenProjRefIdeal.nD Cert.EvenProjRefIdeal.τ).loc Cert.EvenProjRefIdeal.main_arg2) = m' ((c.tc : Thread Cert.EvenProjRefIdeal.nD Cert.EvenProjRefIdeal.τ).loc Cert.EvenProjRefIdeal.main_arg2))

def preserves_OddMix_OddMixIdeal : Prop :=
  True

def algebraic_OddMixIdeal_OddMixRefIdeal [hOddMixIdeal : Cert.OddMixIdeal.Facts] [hOddMixRefIdeal : Cert.OddMixRefIdeal.Facts] : Prop :=
  ∀ (m : (ℓ : Loc Cert.OddMixIdeal.nD Cert.OddMixIdeal.τ Cert.OddMixIdeal.sig) → Buf (Elt Ideal) ℓ) (g : Dev Cert.OddMixIdeal.nD → PrngReg)
    (m' : (ℓ : Loc Cert.OddMixRefIdeal.nD Cert.OddMixRefIdeal.τ Cert.OddMixRefIdeal.sig) → Buf (Elt Ideal) ℓ) (g' : Dev Cert.OddMixRefIdeal.nD → PrngReg), Pre_OddMixIdeal m →
    (∀ c : Dev Cert.OddMixIdeal.nD,
      m' ((c.tc : Thread Cert.OddMixRefIdeal.nD Cert.OddMixRefIdeal.τ).loc Cert.OddMixRefIdeal.main_arg0) = m ((c.tc : Thread Cert.OddMixIdeal.nD Cert.OddMixIdeal.τ).loc Cert.OddMixIdeal.main_arg0)
      ∧ m' ((c.tc : Thread Cert.OddMixRefIdeal.nD Cert.OddMixRefIdeal.τ).loc Cert.OddMixRefIdeal.main_arg1) = m ((c.tc : Thread Cert.OddMixIdeal.nD Cert.OddMixIdeal.τ).loc Cert.OddMixIdeal.main_arg1)
      ∧ m' ((c.tc : Thread Cert.OddMixRefIdeal.nD Cert.OddMixRefIdeal.τ).loc Cert.OddMixRefIdeal.main_arg2) = m ((c.tc : Thread Cert.OddMixIdeal.nD Cert.OddMixIdeal.τ).loc Cert.OddMixIdeal.main_arg2)
      ∧ m' ((c.tc : Thread Cert.OddMixRefIdeal.nD Cert.OddMixRefIdeal.τ).loc Cert.OddMixRefIdeal.main_arg3) = m ((c.tc : Thread Cert.OddMixIdeal.nD Cert.OddMixIdeal.τ).loc Cert.OddMixIdeal.main_arg3)
      ∧ m' ((c.tc : Thread Cert.OddMixRefIdeal.nD Cert.OddMixRefIdeal.τ).loc Cert.OddMixRefIdeal.main_arg4) = m ((c.tc : Thread Cert.OddMixIdeal.nD Cert.OddMixIdeal.τ).loc Cert.OddMixIdeal.main_arg4)
      ∧ m' ((c.tc : Thread Cert.OddMixRefIdeal.nD Cert.OddMixRefIdeal.τ).loc Cert.OddMixRefIdeal.main_arg5) = m ((c.tc : Thread Cert.OddMixIdeal.nD Cert.OddMixIdeal.τ).loc Cert.OddMixIdeal.main_arg5)
      ∧ m' ((c.tc : Thread Cert.OddMixRefIdeal.nD Cert.OddMixRefIdeal.τ).loc Cert.OddMixRefIdeal.main_arg6) = m ((c.tc : Thread Cert.OddMixIdeal.nD Cert.OddMixIdeal.τ).loc Cert.OddMixIdeal.main_arg6)) →
    ∃ (v0 : (c : Dev Cert.OddMixIdeal.nD) → Buf (Elt Ideal) ((c.tc : Thread Cert.OddMixIdeal.nD Cert.OddMixIdeal.τ).loc Cert.OddMixIdeal.main_v2)),
      θ_run (Cert.OddMixIdeal.defs (F := Ideal)) (onTc (τ := Cert.OddMixIdeal.τ) (Cert.OddMixIdeal.main (F := Ideal))) ⟨m, fun _ => 0, g⟩ (fun r => ∀ c : Dev Cert.OddMixIdeal.nD,
          r.2.mem ((c.tc : Thread Cert.OddMixIdeal.nD Cert.OddMixIdeal.τ).loc Cert.OddMixIdeal.main_v2) = v0 c
          ∧ r.2.mem ((c.tc : Thread Cert.OddMixIdeal.nD Cert.OddMixIdeal.τ).loc Cert.OddMixIdeal.main_arg0) = m ((c.tc : Thread Cert.OddMixIdeal.nD Cert.OddMixIdeal.τ).loc Cert.OddMixIdeal.main_arg0)
          ∧ r.2.mem ((c.tc : Thread Cert.OddMixIdeal.nD Cert.OddMixIdeal.τ).loc Cert.OddMixIdeal.main_arg1) = m ((c.tc : Thread Cert.OddMixIdeal.nD Cert.OddMixIdeal.τ).loc Cert.OddMixIdeal.main_arg1)
          ∧ r.2.mem ((c.tc : Thread Cert.OddMixIdeal.nD Cert.OddMixIdeal.τ).loc Cert.OddMixIdeal.main_arg2) = m ((c.tc : Thread Cert.OddMixIdeal.nD Cert.OddMixIdeal.τ).loc Cert.OddMixIdeal.main_arg2)
          ∧ r.2.mem ((c.tc : Thread Cert.OddMixIdeal.nD Cert.OddMixIdeal.τ).loc Cert.OddMixIdeal.main_arg3) = m ((c.tc : Thread Cert.OddMixIdeal.nD Cert.OddMixIdeal.τ).loc Cert.OddMixIdeal.main_arg3)
          ∧ r.2.mem ((c.tc : Thread Cert.OddMixIdeal.nD Cert.OddMixIdeal.τ).loc Cert.OddMixIdeal.main_arg4) = m ((c.tc : Thread Cert.OddMixIdeal.nD Cert.OddMixIdeal.τ).loc Cert.OddMixIdeal.main_arg4)
          ∧ r.2.mem ((c.tc : Thread Cert.OddMixIdeal.nD Cert.OddMixIdeal.τ).loc Cert.OddMixIdeal.main_arg5) = m ((c.tc : Thread Cert.OddMixIdeal.nD Cert.OddMixIdeal.τ).loc Cert.OddMixIdeal.main_arg5)
          ∧ r.2.mem ((c.tc : Thread Cert.OddMixIdeal.nD Cert.OddMixIdeal.τ).loc Cert.OddMixIdeal.main_arg6) = m ((c.tc : Thread Cert.OddMixIdeal.nD Cert.OddMixIdeal.τ).loc Cert.OddMixIdeal.main_arg6))
      ∧ θ_run (Cert.OddMixRefIdeal.defs (F := Ideal)) (onTc (τ := Cert.OddMixRefIdeal.τ) (Cert.OddMixRefIdeal.main (F := Ideal))) ⟨m', fun _ => 0, g'⟩ (fun r => ∀ c : Dev Cert.OddMixRefIdeal.nD,
          r.2.mem ((c.tc : Thread Cert.OddMixRefIdeal.nD Cert.OddMixRefIdeal.τ).loc Cert.OddMixRefIdeal.main_v17) = v0 c
          ∧ r.2.mem ((c.tc : Thread Cert.OddMixRefIdeal.nD Cert.OddMixRefIdeal.τ).loc Cert.OddMixRefIdeal.main_arg0) = m' ((c.tc : Thread Cert.OddMixRefIdeal.nD Cert.OddMixRefIdeal.τ).loc Cert.OddMixRefIdeal.main_arg0)
          ∧ r.2.mem ((c.tc : Thread Cert.OddMixRefIdeal.nD Cert.OddMixRefIdeal.τ).loc Cert.OddMixRefIdeal.main_arg1) = m' ((c.tc : Thread Cert.OddMixRefIdeal.nD Cert.OddMixRefIdeal.τ).loc Cert.OddMixRefIdeal.main_arg1)
          ∧ r.2.mem ((c.tc : Thread Cert.OddMixRefIdeal.nD Cert.OddMixRefIdeal.τ).loc Cert.OddMixRefIdeal.main_arg2) = m' ((c.tc : Thread Cert.OddMixRefIdeal.nD Cert.OddMixRefIdeal.τ).loc Cert.OddMixRefIdeal.main_arg2)
          ∧ r.2.mem ((c.tc : Thread Cert.OddMixRefIdeal.nD Cert.OddMixRefIdeal.τ).loc Cert.OddMixRefIdeal.main_arg3) = m' ((c.tc : Thread Cert.OddMixRefIdeal.nD Cert.OddMixRefIdeal.τ).loc Cert.OddMixRefIdeal.main_arg3)
          ∧ r.2.mem ((c.tc : Thread Cert.OddMixRefIdeal.nD Cert.OddMixRefIdeal.τ).loc Cert.OddMixRefIdeal.main_arg4) = m' ((c.tc : Thread Cert.OddMixRefIdeal.nD Cert.OddMixRefIdeal.τ).loc Cert.OddMixRefIdeal.main_arg4)
          ∧ r.2.mem ((c.tc : Thread Cert.OddMixRefIdeal.nD Cert.OddMixRefIdeal.τ).loc Cert.OddMixRefIdeal.main_arg5) = m' ((c.tc : Thread Cert.OddMixRefIdeal.nD Cert.OddMixRefIdeal.τ).loc Cert.OddMixRefIdeal.main_arg5)
          ∧ r.2.mem ((c.tc : Thread Cert.OddMixRefIdeal.nD Cert.OddMixRefIdeal.τ).loc Cert.OddMixRefIdeal.main_arg6) = m' ((c.tc : Thread Cert.OddMixRefIdeal.nD Cert.OddMixRefIdeal.τ).loc Cert.OddMixRefIdeal.main_arg6))

def preserves_OddProj_OddProjIdeal : Prop :=
  True

def algebraic_OddProjIdeal_OddProjRefIdeal [hOddProjIdeal : Cert.OddProjIdeal.Facts] [hOddProjRefIdeal : Cert.OddProjRefIdeal.Facts] : Prop :=
  ∀ (m : (ℓ : Loc Cert.OddProjIdeal.nD Cert.OddProjIdeal.τ Cert.OddProjIdeal.sig) → Buf (Elt Ideal) ℓ) (g : Dev Cert.OddProjIdeal.nD → PrngReg)
    (m' : (ℓ : Loc Cert.OddProjRefIdeal.nD Cert.OddProjRefIdeal.τ Cert.OddProjRefIdeal.sig) → Buf (Elt Ideal) ℓ) (g' : Dev Cert.OddProjRefIdeal.nD → PrngReg), Pre_OddProjIdeal m →
    (∀ c : Dev Cert.OddProjIdeal.nD,
      m' ((c.tc : Thread Cert.OddProjRefIdeal.nD Cert.OddProjRefIdeal.τ).loc Cert.OddProjRefIdeal.main_arg0) = m ((c.tc : Thread Cert.OddProjIdeal.nD Cert.OddProjIdeal.τ).loc Cert.OddProjIdeal.main_arg0)
      ∧ m' ((c.tc : Thread Cert.OddProjRefIdeal.nD Cert.OddProjRefIdeal.τ).loc Cert.OddProjRefIdeal.main_arg1) = m ((c.tc : Thread Cert.OddProjIdeal.nD Cert.OddProjIdeal.τ).loc Cert.OddProjIdeal.main_arg1)
      ∧ m' ((c.tc : Thread Cert.OddProjRefIdeal.nD Cert.OddProjRefIdeal.τ).loc Cert.OddProjRefIdeal.main_arg2) = m ((c.tc : Thread Cert.OddProjIdeal.nD Cert.OddProjIdeal.τ).loc Cert.OddProjIdeal.main_arg2)) →
    ∃ (v0 : (c : Dev Cert.OddProjIdeal.nD) → Buf (Elt Ideal) ((c.tc : Thread Cert.OddProjIdeal.nD Cert.OddProjIdeal.τ).loc Cert.OddProjIdeal.main_v27_0)) (v1 : (c : Dev Cert.OddProjIdeal.nD) → Buf (Elt Ideal) ((c.tc : Thread Cert.OddProjIdeal.nD Cert.OddProjIdeal.τ).loc Cert.OddProjIdeal.main_v27_1)) (v2 : (c : Dev Cert.OddProjIdeal.nD) → Buf (Elt Ideal) ((c.tc : Thread Cert.OddProjIdeal.nD Cert.OddProjIdeal.τ).loc Cert.OddProjIdeal.main_v27_2)) (v3 : (c : Dev Cert.OddProjIdeal.nD) → Buf (Elt Ideal) ((c.tc : Thread Cert.OddProjIdeal.nD Cert.OddProjIdeal.τ).loc Cert.OddProjIdeal.main_v27_3)) (v4 : (c : Dev Cert.OddProjIdeal.nD) → Buf (Elt Ideal) ((c.tc : Thread Cert.OddProjIdeal.nD Cert.OddProjIdeal.τ).loc Cert.OddProjIdeal.main_v27_4)) (v5 : (c : Dev Cert.OddProjIdeal.nD) → Buf (Elt Ideal) ((c.tc : Thread Cert.OddProjIdeal.nD Cert.OddProjIdeal.τ).loc Cert.OddProjIdeal.main_v27_5)) (v6 : (c : Dev Cert.OddProjIdeal.nD) → Buf (Elt Ideal) ((c.tc : Thread Cert.OddProjIdeal.nD Cert.OddProjIdeal.τ).loc Cert.OddProjIdeal.main_v27_6)),
      θ_run (Cert.OddProjIdeal.defs (F := Ideal)) (onTc (τ := Cert.OddProjIdeal.τ) (Cert.OddProjIdeal.main (F := Ideal))) ⟨m, fun _ => 0, g⟩ (fun r => ∀ c : Dev Cert.OddProjIdeal.nD,
          r.2.mem ((c.tc : Thread Cert.OddProjIdeal.nD Cert.OddProjIdeal.τ).loc Cert.OddProjIdeal.main_v27_0) = v0 c
          ∧ r.2.mem ((c.tc : Thread Cert.OddProjIdeal.nD Cert.OddProjIdeal.τ).loc Cert.OddProjIdeal.main_v27_1) = v1 c
          ∧ r.2.mem ((c.tc : Thread Cert.OddProjIdeal.nD Cert.OddProjIdeal.τ).loc Cert.OddProjIdeal.main_v27_2) = v2 c
          ∧ r.2.mem ((c.tc : Thread Cert.OddProjIdeal.nD Cert.OddProjIdeal.τ).loc Cert.OddProjIdeal.main_v27_3) = v3 c
          ∧ r.2.mem ((c.tc : Thread Cert.OddProjIdeal.nD Cert.OddProjIdeal.τ).loc Cert.OddProjIdeal.main_v27_4) = v4 c
          ∧ r.2.mem ((c.tc : Thread Cert.OddProjIdeal.nD Cert.OddProjIdeal.τ).loc Cert.OddProjIdeal.main_v27_5) = v5 c
          ∧ r.2.mem ((c.tc : Thread Cert.OddProjIdeal.nD Cert.OddProjIdeal.τ).loc Cert.OddProjIdeal.main_v27_6) = v6 c
          ∧ r.2.mem ((c.tc : Thread Cert.OddProjIdeal.nD Cert.OddProjIdeal.τ).loc Cert.OddProjIdeal.main_arg0) = m ((c.tc : Thread Cert.OddProjIdeal.nD Cert.OddProjIdeal.τ).loc Cert.OddProjIdeal.main_arg0)
          ∧ r.2.mem ((c.tc : Thread Cert.OddProjIdeal.nD Cert.OddProjIdeal.τ).loc Cert.OddProjIdeal.main_arg1) = m ((c.tc : Thread Cert.OddProjIdeal.nD Cert.OddProjIdeal.τ).loc Cert.OddProjIdeal.main_arg1)
          ∧ r.2.mem ((c.tc : Thread Cert.OddProjIdeal.nD Cert.OddProjIdeal.τ).loc Cert.OddProjIdeal.main_arg2) = m ((c.tc : Thread Cert.OddProjIdeal.nD Cert.OddProjIdeal.τ).loc Cert.OddProjIdeal.main_arg2))
      ∧ θ_run (Cert.OddProjRefIdeal.defs (F := Ideal)) (onTc (τ := Cert.OddProjRefIdeal.τ) (Cert.OddProjRefIdeal.main (F := Ideal))) ⟨m', fun _ => 0, g'⟩ (fun r => ∀ c : Dev Cert.OddProjRefIdeal.nD,
          r.2.mem ((c.tc : Thread Cert.OddProjRefIdeal.nD Cert.OddProjRefIdeal.τ).loc Cert.OddProjRefIdeal.main_v14) = v0 c
          ∧ r.2.mem ((c.tc : Thread Cert.OddProjRefIdeal.nD Cert.OddProjRefIdeal.τ).loc Cert.OddProjRefIdeal.main_v136) = v1 c
          ∧ r.2.mem ((c.tc : Thread Cert.OddProjRefIdeal.nD Cert.OddProjRefIdeal.τ).loc Cert.OddProjRefIdeal.main_v99) = v2 c
          ∧ r.2.mem ((c.tc : Thread Cert.OddProjRefIdeal.nD Cert.OddProjRefIdeal.τ).loc Cert.OddProjRefIdeal.main_v100) = v3 c
          ∧ r.2.mem ((c.tc : Thread Cert.OddProjRefIdeal.nD Cert.OddProjRefIdeal.τ).loc Cert.OddProjRefIdeal.main_v25) = v4 c
          ∧ r.2.mem ((c.tc : Thread Cert.OddProjRefIdeal.nD Cert.OddProjRefIdeal.τ).loc Cert.OddProjRefIdeal.main_v26) = v5 c
          ∧ r.2.mem ((c.tc : Thread Cert.OddProjRefIdeal.nD Cert.OddProjRefIdeal.τ).loc Cert.OddProjRefIdeal.main_v137) = v6 c
          ∧ r.2.mem ((c.tc : Thread Cert.OddProjRefIdeal.nD Cert.OddProjRefIdeal.τ).loc Cert.OddProjRefIdeal.main_arg0) = m' ((c.tc : Thread Cert.OddProjRefIdeal.nD Cert.OddProjRefIdeal.τ).loc Cert.OddProjRefIdeal.main_arg0)
          ∧ r.2.mem ((c.tc : Thread Cert.OddProjRefIdeal.nD Cert.OddProjRefIdeal.τ).loc Cert.OddProjRefIdeal.main_arg1) = m' ((c.tc : Thread Cert.OddProjRefIdeal.nD Cert.OddProjRefIdeal.τ).loc Cert.OddProjRefIdeal.main_arg1)
          ∧ r.2.mem ((c.tc : Thread Cert.OddProjRefIdeal.nD Cert.OddProjRefIdeal.τ).loc Cert.OddProjRefIdeal.main_arg2) = m' ((c.tc : Thread Cert.OddProjRefIdeal.nD Cert.OddProjRefIdeal.τ).loc Cert.OddProjRefIdeal.main_arg2))

def preserves_MemAttend_MemAttendIdeal : Prop :=
  True

def algebraic_MemAttendIdeal_MemAttendRefIdeal [hMemAttendIdeal : Cert.MemAttendIdeal.Facts] [hMemAttendRefIdeal : Cert.MemAttendRefIdeal.Facts] : Prop :=
  ∀ (m : (ℓ : Loc Cert.MemAttendIdeal.nD Cert.MemAttendIdeal.τ Cert.MemAttendIdeal.sig) → Buf (Elt Ideal) ℓ) (g : Dev Cert.MemAttendIdeal.nD → PrngReg)
    (m' : (ℓ : Loc Cert.MemAttendRefIdeal.nD Cert.MemAttendRefIdeal.τ Cert.MemAttendRefIdeal.sig) → Buf (Elt Ideal) ℓ) (g' : Dev Cert.MemAttendRefIdeal.nD → PrngReg), Pre_MemAttendIdeal m →
    (∀ c : Dev Cert.MemAttendIdeal.nD,
      m' ((c.tc : Thread Cert.MemAttendRefIdeal.nD Cert.MemAttendRefIdeal.τ).loc Cert.MemAttendRefIdeal.main_arg0) = m ((c.tc : Thread Cert.MemAttendIdeal.nD Cert.MemAttendIdeal.τ).loc Cert.MemAttendIdeal.main_arg0)
      ∧ m' ((c.tc : Thread Cert.MemAttendRefIdeal.nD Cert.MemAttendRefIdeal.τ).loc Cert.MemAttendRefIdeal.main_arg1) = m ((c.tc : Thread Cert.MemAttendIdeal.nD Cert.MemAttendIdeal.τ).loc Cert.MemAttendIdeal.main_arg1)
      ∧ m' ((c.tc : Thread Cert.MemAttendRefIdeal.nD Cert.MemAttendRefIdeal.τ).loc Cert.MemAttendRefIdeal.main_arg2) = m ((c.tc : Thread Cert.MemAttendIdeal.nD Cert.MemAttendIdeal.τ).loc Cert.MemAttendIdeal.main_arg2)) →
    ∃ (v0 : (c : Dev Cert.MemAttendIdeal.nD) → Buf (Elt Ideal) ((c.tc : Thread Cert.MemAttendIdeal.nD Cert.MemAttendIdeal.τ).loc Cert.MemAttendIdeal.main_v0)),
      θ_run (Cert.MemAttendIdeal.defs (F := Ideal)) (onTc (τ := Cert.MemAttendIdeal.τ) (Cert.MemAttendIdeal.main (F := Ideal))) ⟨m, fun _ => 0, g⟩ (fun r => ∀ c : Dev Cert.MemAttendIdeal.nD,
          r.2.mem ((c.tc : Thread Cert.MemAttendIdeal.nD Cert.MemAttendIdeal.τ).loc Cert.MemAttendIdeal.main_v0) = v0 c
          ∧ r.2.mem ((c.tc : Thread Cert.MemAttendIdeal.nD Cert.MemAttendIdeal.τ).loc Cert.MemAttendIdeal.main_arg0) = m ((c.tc : Thread Cert.MemAttendIdeal.nD Cert.MemAttendIdeal.τ).loc Cert.MemAttendIdeal.main_arg0)
          ∧ r.2.mem ((c.tc : Thread Cert.MemAttendIdeal.nD Cert.MemAttendIdeal.τ).loc Cert.MemAttendIdeal.main_arg1) = m ((c.tc : Thread Cert.MemAttendIdeal.nD Cert.MemAttendIdeal.τ).loc Cert.MemAttendIdeal.main_arg1)
          ∧ r.2.mem ((c.tc : Thread Cert.MemAttendIdeal.nD Cert.MemAttendIdeal.τ).loc Cert.MemAttendIdeal.main_arg2) = m ((c.tc : Thread Cert.MemAttendIdeal.nD Cert.MemAttendIdeal.τ).loc Cert.MemAttendIdeal.main_arg2))
      ∧ θ_run (Cert.MemAttendRefIdeal.defs (F := Ideal)) (onTc (τ := Cert.MemAttendRefIdeal.τ) (Cert.MemAttendRefIdeal.main (F := Ideal))) ⟨m', fun _ => 0, g'⟩ (fun r => ∀ c : Dev Cert.MemAttendRefIdeal.nD,
          r.2.mem ((c.tc : Thread Cert.MemAttendRefIdeal.nD Cert.MemAttendRefIdeal.τ).loc Cert.MemAttendRefIdeal.main_v25) = v0 c
          ∧ r.2.mem ((c.tc : Thread Cert.MemAttendRefIdeal.nD Cert.MemAttendRefIdeal.τ).loc Cert.MemAttendRefIdeal.main_arg0) = m' ((c.tc : Thread Cert.MemAttendRefIdeal.nD Cert.MemAttendRefIdeal.τ).loc Cert.MemAttendRefIdeal.main_arg0)
          ∧ r.2.mem ((c.tc : Thread Cert.MemAttendRefIdeal.nD Cert.MemAttendRefIdeal.τ).loc Cert.MemAttendRefIdeal.main_arg1) = m' ((c.tc : Thread Cert.MemAttendRefIdeal.nD Cert.MemAttendRefIdeal.τ).loc Cert.MemAttendRefIdeal.main_arg1)
          ∧ r.2.mem ((c.tc : Thread Cert.MemAttendRefIdeal.nD Cert.MemAttendRefIdeal.τ).loc Cert.MemAttendRefIdeal.main_arg2) = m' ((c.tc : Thread Cert.MemAttendRefIdeal.nD Cert.MemAttendRefIdeal.τ).loc Cert.MemAttendRefIdeal.main_arg2))

def preserves_EvenMix_EvenMixIdeal : Prop :=
  True

def algebraic_EvenMixIdeal_EvenMixRefIdeal [hEvenMixIdeal : Cert.EvenMixIdeal.Facts] [hEvenMixRefIdeal : Cert.EvenMixRefIdeal.Facts] : Prop :=
  ∀ (m : (ℓ : Loc Cert.EvenMixIdeal.nD Cert.EvenMixIdeal.τ Cert.EvenMixIdeal.sig) → Buf (Elt Ideal) ℓ) (g : Dev Cert.EvenMixIdeal.nD → PrngReg)
    (m' : (ℓ : Loc Cert.EvenMixRefIdeal.nD Cert.EvenMixRefIdeal.τ Cert.EvenMixRefIdeal.sig) → Buf (Elt Ideal) ℓ) (g' : Dev Cert.EvenMixRefIdeal.nD → PrngReg), Pre_EvenMixIdeal m →
    (∀ c : Dev Cert.EvenMixIdeal.nD,
      m' ((c.tc : Thread Cert.EvenMixRefIdeal.nD Cert.EvenMixRefIdeal.τ).loc Cert.EvenMixRefIdeal.main_arg0) = m ((c.tc : Thread Cert.EvenMixIdeal.nD Cert.EvenMixIdeal.τ).loc Cert.EvenMixIdeal.main_arg0)
      ∧ m' ((c.tc : Thread Cert.EvenMixRefIdeal.nD Cert.EvenMixRefIdeal.τ).loc Cert.EvenMixRefIdeal.main_arg1) = m ((c.tc : Thread Cert.EvenMixIdeal.nD Cert.EvenMixIdeal.τ).loc Cert.EvenMixIdeal.main_arg1)
      ∧ m' ((c.tc : Thread Cert.EvenMixRefIdeal.nD Cert.EvenMixRefIdeal.τ).loc Cert.EvenMixRefIdeal.main_arg2) = m ((c.tc : Thread Cert.EvenMixIdeal.nD Cert.EvenMixIdeal.τ).loc Cert.EvenMixIdeal.main_arg2)
      ∧ m' ((c.tc : Thread Cert.EvenMixRefIdeal.nD Cert.EvenMixRefIdeal.τ).loc Cert.EvenMixRefIdeal.main_arg3) = m ((c.tc : Thread Cert.EvenMixIdeal.nD Cert.EvenMixIdeal.τ).loc Cert.EvenMixIdeal.main_arg3)
      ∧ m' ((c.tc : Thread Cert.EvenMixRefIdeal.nD Cert.EvenMixRefIdeal.τ).loc Cert.EvenMixRefIdeal.main_arg4) = m ((c.tc : Thread Cert.EvenMixIdeal.nD Cert.EvenMixIdeal.τ).loc Cert.EvenMixIdeal.main_arg4)
      ∧ m' ((c.tc : Thread Cert.EvenMixRefIdeal.nD Cert.EvenMixRefIdeal.τ).loc Cert.EvenMixRefIdeal.main_arg5) = m ((c.tc : Thread Cert.EvenMixIdeal.nD Cert.EvenMixIdeal.τ).loc Cert.EvenMixIdeal.main_arg5)) →
    ∃ (v0 : (c : Dev Cert.EvenMixIdeal.nD) → Buf (Elt Ideal) ((c.tc : Thread Cert.EvenMixIdeal.nD Cert.EvenMixIdeal.τ).loc Cert.EvenMixIdeal.main_v2)),
      θ_run (Cert.EvenMixIdeal.defs (F := Ideal)) (onTc (τ := Cert.EvenMixIdeal.τ) (Cert.EvenMixIdeal.main (F := Ideal))) ⟨m, fun _ => 0, g⟩ (fun r => ∀ c : Dev Cert.EvenMixIdeal.nD,
          r.2.mem ((c.tc : Thread Cert.EvenMixIdeal.nD Cert.EvenMixIdeal.τ).loc Cert.EvenMixIdeal.main_v2) = v0 c
          ∧ r.2.mem ((c.tc : Thread Cert.EvenMixIdeal.nD Cert.EvenMixIdeal.τ).loc Cert.EvenMixIdeal.main_arg0) = m ((c.tc : Thread Cert.EvenMixIdeal.nD Cert.EvenMixIdeal.τ).loc Cert.EvenMixIdeal.main_arg0)
          ∧ r.2.mem ((c.tc : Thread Cert.EvenMixIdeal.nD Cert.EvenMixIdeal.τ).loc Cert.EvenMixIdeal.main_arg1) = m ((c.tc : Thread Cert.EvenMixIdeal.nD Cert.EvenMixIdeal.τ).loc Cert.EvenMixIdeal.main_arg1)
          ∧ r.2.mem ((c.tc : Thread Cert.EvenMixIdeal.nD Cert.EvenMixIdeal.τ).loc Cert.EvenMixIdeal.main_arg2) = m ((c.tc : Thread Cert.EvenMixIdeal.nD Cert.EvenMixIdeal.τ).loc Cert.EvenMixIdeal.main_arg2)
          ∧ r.2.mem ((c.tc : Thread Cert.EvenMixIdeal.nD Cert.EvenMixIdeal.τ).loc Cert.EvenMixIdeal.main_arg3) = m ((c.tc : Thread Cert.EvenMixIdeal.nD Cert.EvenMixIdeal.τ).loc Cert.EvenMixIdeal.main_arg3)
          ∧ r.2.mem ((c.tc : Thread Cert.EvenMixIdeal.nD Cert.EvenMixIdeal.τ).loc Cert.EvenMixIdeal.main_arg4) = m ((c.tc : Thread Cert.EvenMixIdeal.nD Cert.EvenMixIdeal.τ).loc Cert.EvenMixIdeal.main_arg4)
          ∧ r.2.mem ((c.tc : Thread Cert.EvenMixIdeal.nD Cert.EvenMixIdeal.τ).loc Cert.EvenMixIdeal.main_arg5) = m ((c.tc : Thread Cert.EvenMixIdeal.nD Cert.EvenMixIdeal.τ).loc Cert.EvenMixIdeal.main_arg5))
      ∧ θ_run (Cert.EvenMixRefIdeal.defs (F := Ideal)) (onTc (τ := Cert.EvenMixRefIdeal.τ) (Cert.EvenMixRefIdeal.main (F := Ideal))) ⟨m', fun _ => 0, g'⟩ (fun r => ∀ c : Dev Cert.EvenMixRefIdeal.nD,
          r.2.mem ((c.tc : Thread Cert.EvenMixRefIdeal.nD Cert.EvenMixRefIdeal.τ).loc Cert.EvenMixRefIdeal.main_v4) = v0 c
          ∧ r.2.mem ((c.tc : Thread Cert.EvenMixRefIdeal.nD Cert.EvenMixRefIdeal.τ).loc Cert.EvenMixRefIdeal.main_arg0) = m' ((c.tc : Thread Cert.EvenMixRefIdeal.nD Cert.EvenMixRefIdeal.τ).loc Cert.EvenMixRefIdeal.main_arg0)
          ∧ r.2.mem ((c.tc : Thread Cert.EvenMixRefIdeal.nD Cert.EvenMixRefIdeal.τ).loc Cert.EvenMixRefIdeal.main_arg1) = m' ((c.tc : Thread Cert.EvenMixRefIdeal.nD Cert.EvenMixRefIdeal.τ).loc Cert.EvenMixRefIdeal.main_arg1)
          ∧ r.2.mem ((c.tc : Thread Cert.EvenMixRefIdeal.nD Cert.EvenMixRefIdeal.τ).loc Cert.EvenMixRefIdeal.main_arg2) = m' ((c.tc : Thread Cert.EvenMixRefIdeal.nD Cert.EvenMixRefIdeal.τ).loc Cert.EvenMixRefIdeal.main_arg2)
          ∧ r.2.mem ((c.tc : Thread Cert.EvenMixRefIdeal.nD Cert.EvenMixRefIdeal.τ).loc Cert.EvenMixRefIdeal.main_arg3) = m' ((c.tc : Thread Cert.EvenMixRefIdeal.nD Cert.EvenMixRefIdeal.τ).loc Cert.EvenMixRefIdeal.main_arg3)
          ∧ r.2.mem ((c.tc : Thread Cert.EvenMixRefIdeal.nD Cert.EvenMixRefIdeal.τ).loc Cert.EvenMixRefIdeal.main_arg4) = m' ((c.tc : Thread Cert.EvenMixRefIdeal.nD Cert.EvenMixRefIdeal.τ).loc Cert.EvenMixRefIdeal.main_arg4)
          ∧ r.2.mem ((c.tc : Thread Cert.EvenMixRefIdeal.nD Cert.EvenMixRefIdeal.τ).loc Cert.EvenMixRefIdeal.main_arg5) = m' ((c.tc : Thread Cert.EvenMixRefIdeal.nD Cert.EvenMixRefIdeal.τ).loc Cert.EvenMixRefIdeal.main_arg5))

def preserves_MemProj_MemProjIdeal : Prop :=
  True

def algebraic_MemProjIdeal_MemProjRefIdeal [hMemProjIdeal : Cert.MemProjIdeal.Facts] [hMemProjRefIdeal : Cert.MemProjRefIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjRefIdeal.nD Cert.MemProjRefIdeal.τ Cert.MemProjRefIdeal.sig) → Buf (Elt Ideal) ℓ) (g' : Dev Cert.MemProjRefIdeal.nD → PrngReg), Pre_MemProjIdeal m →
    (∀ c : Dev Cert.MemProjIdeal.nD,
      m' ((c.tc : Thread Cert.MemProjRefIdeal.nD Cert.MemProjRefIdeal.τ).loc Cert.MemProjRefIdeal.main_arg0) = m ((c.tc : Thread Cert.MemProjIdeal.nD Cert.MemProjIdeal.τ).loc Cert.MemProjIdeal.main_arg0)
      ∧ m' ((c.tc : Thread Cert.MemProjRefIdeal.nD Cert.MemProjRefIdeal.τ).loc Cert.MemProjRefIdeal.main_arg1) = m ((c.tc : Thread Cert.MemProjIdeal.nD Cert.MemProjIdeal.τ).loc Cert.MemProjIdeal.main_arg1)
      ∧ m' ((c.tc : Thread Cert.MemProjRefIdeal.nD Cert.MemProjRefIdeal.τ).loc Cert.MemProjRefIdeal.main_arg2) = m ((c.tc : Thread Cert.MemProjIdeal.nD Cert.MemProjIdeal.τ).loc Cert.MemProjIdeal.main_arg2)) →
    ∃ (v0 : (c : Dev Cert.MemProjIdeal.nD) → Buf (Elt Ideal) ((c.tc : Thread Cert.MemProjIdeal.nD Cert.MemProjIdeal.τ).loc Cert.MemProjIdeal.main_v23)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v23) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1)
          ∧ r.2.mem ((c.tc : Thread Cert.MemProjIdeal.nD Cert.MemProjIdeal.τ).loc Cert.MemProjIdeal.main_arg2) = m ((c.tc : Thread Cert.MemProjIdeal.nD Cert.MemProjIdeal.τ).loc Cert.MemProjIdeal.main_arg2))
      ∧ θ_run (Cert.MemProjRefIdeal.defs (F := Ideal)) (onTc (τ := Cert.MemProjRefIdeal.τ) (Cert.MemProjRefIdeal.main (F := Ideal))) ⟨m', fun _ => 0, g'⟩ (fun r => ∀ c : Dev Cert.MemProjRefIdeal.nD,
          r.2.mem ((c.tc : Thread Cert.MemProjRefIdeal.nD Cert.MemProjRefIdeal.τ).loc Cert.MemProjRefIdeal.main_v13) = v0 c
          ∧ r.2.mem ((c.tc : Thread Cert.MemProjRefIdeal.nD Cert.MemProjRefIdeal.τ).loc Cert.MemProjRefIdeal.main_arg0) = m' ((c.tc : Thread Cert.MemProjRefIdeal.nD Cert.MemProjRefIdeal.τ).loc Cert.MemProjRefIdeal.main_arg0)
          ∧ r.2.mem ((c.tc : Thread Cert.MemProjRefIdeal.nD Cert.MemProjRefIdeal.τ).loc Cert.MemProjRefIdeal.main_arg1) = m' ((c.tc : Thread Cert.MemProjRefIdeal.nD Cert.MemProjRefIdeal.τ).loc Cert.MemProjRefIdeal.main_arg1)
          ∧ r.2.mem ((c.tc : Thread Cert.MemProjRefIdeal.nD Cert.MemProjRefIdeal.τ).loc Cert.MemProjRefIdeal.main_arg2) = m' ((c.tc : Thread Cert.MemProjRefIdeal.nD Cert.MemProjRefIdeal.τ).loc Cert.MemProjRefIdeal.main_arg2))

def preserves_RetStep_RetStepIdeal : Prop :=
  True

def algebraic_RetStepIdeal_RetStepRefIdeal_pre_finite_step [hRetStepIdeal : Cert.RetStepIdeal.Facts] [hRetStepRefIdeal : Cert.RetStepRefIdeal.Facts] [hPre_finite_step : Cert.Pre_finite_step.Facts] : Prop :=
  ∀ (m : (ℓ : Loc Cert.RetStepIdeal.nD Cert.RetStepIdeal.τ Cert.RetStepIdeal.sig) → Buf (Elt Ideal) ℓ) (g : Dev Cert.RetStepIdeal.nD → PrngReg)
    (m' : (ℓ : Loc Cert.RetStepRefIdeal.nD Cert.RetStepRefIdeal.τ Cert.RetStepRefIdeal.sig) → Buf (Elt Ideal) ℓ) (g' : Dev Cert.RetStepRefIdeal.nD → PrngReg), Pre_RetStepIdeal_finite_step m →
    (∀ c : Dev Cert.RetStepIdeal.nD,
      m' ((c.tc : Thread Cert.RetStepRefIdeal.nD Cert.RetStepRefIdeal.τ).loc Cert.RetStepRefIdeal.main_arg0) = m ((c.tc : Thread Cert.RetStepIdeal.nD Cert.RetStepIdeal.τ).loc Cert.RetStepIdeal.main_arg0)
      ∧ m' ((c.tc : Thread Cert.RetStepRefIdeal.nD Cert.RetStepRefIdeal.τ).loc Cert.RetStepRefIdeal.main_arg1) = m ((c.tc : Thread Cert.RetStepIdeal.nD Cert.RetStepIdeal.τ).loc Cert.RetStepIdeal.main_arg1)
      ∧ m' ((c.tc : Thread Cert.RetStepRefIdeal.nD Cert.RetStepRefIdeal.τ).loc Cert.RetStepRefIdeal.main_arg2) = m ((c.tc : Thread Cert.RetStepIdeal.nD Cert.RetStepIdeal.τ).loc Cert.RetStepIdeal.main_arg2)
      ∧ m' ((c.tc : Thread Cert.RetStepRefIdeal.nD Cert.RetStepRefIdeal.τ).loc Cert.RetStepRefIdeal.main_arg3) = m ((c.tc : Thread Cert.RetStepIdeal.nD Cert.RetStepIdeal.τ).loc Cert.RetStepIdeal.main_arg3)) →
    ∃ (v0 : (c : Dev Cert.RetStepIdeal.nD) → Buf (Elt Ideal) ((c.tc : Thread Cert.RetStepIdeal.nD Cert.RetStepIdeal.τ).loc Cert.RetStepIdeal.main_v14_0)) (v1 : (c : Dev Cert.RetStepIdeal.nD) → Buf (Elt Ideal) ((c.tc : Thread Cert.RetStepIdeal.nD Cert.RetStepIdeal.τ).loc Cert.RetStepIdeal.main_v14_1)),
      θ_run (Cert.RetStepIdeal.defs (F := Ideal)) (onTc (τ := Cert.RetStepIdeal.τ) (Cert.RetStepIdeal.main (F := Ideal))) ⟨m, fun _ => 0, g⟩ (fun r => ∀ c : Dev Cert.RetStepIdeal.nD,
          r.2.mem ((c.tc : Thread Cert.RetStepIdeal.nD Cert.RetStepIdeal.τ).loc Cert.RetStepIdeal.main_v14_0) = v0 c
          ∧ r.2.mem ((c.tc : Thread Cert.RetStepIdeal.nD Cert.RetStepIdeal.τ).loc Cert.RetStepIdeal.main_v14_1) = v1 c
          ∧ r.2.mem ((c.tc : Thread Cert.RetStepIdeal.nD Cert.RetStepIdeal.τ).loc Cert.RetStepIdeal.main_arg0) = m ((c.tc : Thread Cert.RetStepIdeal.nD Cert.RetStepIdeal.τ).loc Cert.RetStepIdeal.main_arg0)
          ∧ r.2.mem ((c.tc : Thread Cert.RetStepIdeal.nD Cert.RetStepIdeal.τ).loc Cert.RetStepIdeal.main_arg1) = m ((c.tc : Thread Cert.RetStepIdeal.nD Cert.RetStepIdeal.τ).loc Cert.RetStepIdeal.main_arg1)
          ∧ r.2.mem ((c.tc : Thread Cert.RetStepIdeal.nD Cert.RetStepIdeal.τ).loc Cert.RetStepIdeal.main_arg2) = m ((c.tc : Thread Cert.RetStepIdeal.nD Cert.RetStepIdeal.τ).loc Cert.RetStepIdeal.main_arg2)
          ∧ r.2.mem ((c.tc : Thread Cert.RetStepIdeal.nD Cert.RetStepIdeal.τ).loc Cert.RetStepIdeal.main_arg3) = m ((c.tc : Thread Cert.RetStepIdeal.nD Cert.RetStepIdeal.τ).loc Cert.RetStepIdeal.main_arg3))
      ∧ θ_run (Cert.RetStepRefIdeal.defs (F := Ideal)) (onTc (τ := Cert.RetStepRefIdeal.τ) (Cert.RetStepRefIdeal.main (F := Ideal))) ⟨m', fun _ => 0, g'⟩ (fun r => ∀ c : Dev Cert.RetStepRefIdeal.nD,
          r.2.mem ((c.tc : Thread Cert.RetStepRefIdeal.nD Cert.RetStepRefIdeal.τ).loc Cert.RetStepRefIdeal.main_v48) = v0 c
          ∧ r.2.mem ((c.tc : Thread Cert.RetStepRefIdeal.nD Cert.RetStepRefIdeal.τ).loc Cert.RetStepRefIdeal.main_v49) = v1 c
          ∧ r.2.mem ((c.tc : Thread Cert.RetStepRefIdeal.nD Cert.RetStepRefIdeal.τ).loc Cert.RetStepRefIdeal.main_arg0) = m' ((c.tc : Thread Cert.RetStepRefIdeal.nD Cert.RetStepRefIdeal.τ).loc Cert.RetStepRefIdeal.main_arg0)
          ∧ r.2.mem ((c.tc : Thread Cert.RetStepRefIdeal.nD Cert.RetStepRefIdeal.τ).loc Cert.RetStepRefIdeal.main_arg1) = m' ((c.tc : Thread Cert.RetStepRefIdeal.nD Cert.RetStepRefIdeal.τ).loc Cert.RetStepRefIdeal.main_arg1)
          ∧ r.2.mem ((c.tc : Thread Cert.RetStepRefIdeal.nD Cert.RetStepRefIdeal.τ).loc Cert.RetStepRefIdeal.main_arg2) = m' ((c.tc : Thread Cert.RetStepRefIdeal.nD Cert.RetStepRefIdeal.τ).loc Cert.RetStepRefIdeal.main_arg2)
          ∧ r.2.mem ((c.tc : Thread Cert.RetStepRefIdeal.nD Cert.RetStepRefIdeal.τ).loc Cert.RetStepRefIdeal.main_arg3) = m' ((c.tc : Thread Cert.RetStepRefIdeal.nD Cert.RetStepRefIdeal.τ).loc Cert.RetStepRefIdeal.main_arg3))

def preserves_HgrnStep_HgrnStepIdeal : Prop :=
  True

def algebraic_HgrnStepIdeal_HgrnStepRefIdeal_pre_finite_hgrn [hHgrnStepIdeal : Cert.HgrnStepIdeal.Facts] [hHgrnStepRefIdeal : Cert.HgrnStepRefIdeal.Facts] [hPre_finite_hgrn : Cert.Pre_finite_hgrn.Facts] : Prop :=
  ∀ (m : (ℓ : Loc Cert.HgrnStepIdeal.nD Cert.HgrnStepIdeal.τ Cert.HgrnStepIdeal.sig) → Buf (Elt Ideal) ℓ) (g : Dev Cert.HgrnStepIdeal.nD → PrngReg)
    (m' : (ℓ : Loc Cert.HgrnStepRefIdeal.nD Cert.HgrnStepRefIdeal.τ Cert.HgrnStepRefIdeal.sig) → Buf (Elt Ideal) ℓ) (g' : Dev Cert.HgrnStepRefIdeal.nD → PrngReg), Pre_HgrnStepIdeal_finite_hgrn m →
    (∀ c : Dev Cert.HgrnStepIdeal.nD,
      m' ((c.tc : Thread Cert.HgrnStepRefIdeal.nD Cert.HgrnStepRefIdeal.τ).loc Cert.HgrnStepRefIdeal.main_arg0) = m ((c.tc : Thread Cert.HgrnStepIdeal.nD Cert.HgrnStepIdeal.τ).loc Cert.HgrnStepIdeal.main_arg0)
      ∧ m' ((c.tc : Thread Cert.HgrnStepRefIdeal.nD Cert.HgrnStepRefIdeal.τ).loc Cert.HgrnStepRefIdeal.main_arg1) = m ((c.tc : Thread Cert.HgrnStepIdeal.nD Cert.HgrnStepIdeal.τ).loc Cert.HgrnStepIdeal.main_arg1)
      ∧ m' ((c.tc : Thread Cert.HgrnStepRefIdeal.nD Cert.HgrnStepRefIdeal.τ).loc Cert.HgrnStepRefIdeal.main_arg2) = m ((c.tc : Thread Cert.HgrnStepIdeal.nD Cert.HgrnStepIdeal.τ).loc Cert.HgrnStepIdeal.main_arg2)
      ∧ m' ((c.tc : Thread Cert.HgrnStepRefIdeal.nD Cert.HgrnStepRefIdeal.τ).loc Cert.HgrnStepRefIdeal.main_arg3) = m ((c.tc : Thread Cert.HgrnStepIdeal.nD Cert.HgrnStepIdeal.τ).loc Cert.HgrnStepIdeal.main_arg3)
      ∧ m' ((c.tc : Thread Cert.HgrnStepRefIdeal.nD Cert.HgrnStepRefIdeal.τ).loc Cert.HgrnStepRefIdeal.main_arg4) = m ((c.tc : Thread Cert.HgrnStepIdeal.nD Cert.HgrnStepIdeal.τ).loc Cert.HgrnStepIdeal.main_arg4)) →
    ∃ (v0 : (c : Dev Cert.HgrnStepIdeal.nD) → Buf (Elt Ideal) ((c.tc : Thread Cert.HgrnStepIdeal.nD Cert.HgrnStepIdeal.τ).loc Cert.HgrnStepIdeal.main_v15_0)) (v1 : (c : Dev Cert.HgrnStepIdeal.nD) → Buf (Elt Ideal) ((c.tc : Thread Cert.HgrnStepIdeal.nD Cert.HgrnStepIdeal.τ).loc Cert.HgrnStepIdeal.main_v15_1)),
      θ_run (Cert.HgrnStepIdeal.defs (F := Ideal)) (onTc (τ := Cert.HgrnStepIdeal.τ) (Cert.HgrnStepIdeal.main (F := Ideal))) ⟨m, fun _ => 0, g⟩ (fun r => ∀ c : Dev Cert.HgrnStepIdeal.nD,
          r.2.mem ((c.tc : Thread Cert.HgrnStepIdeal.nD Cert.HgrnStepIdeal.τ).loc Cert.HgrnStepIdeal.main_v15_0) = v0 c
          ∧ r.2.mem ((c.tc : Thread Cert.HgrnStepIdeal.nD Cert.HgrnStepIdeal.τ).loc Cert.HgrnStepIdeal.main_v15_1) = v1 c
          ∧ r.2.mem ((c.tc : Thread Cert.HgrnStepIdeal.nD Cert.HgrnStepIdeal.τ).loc Cert.HgrnStepIdeal.main_arg0) = m ((c.tc : Thread Cert.HgrnStepIdeal.nD Cert.HgrnStepIdeal.τ).loc Cert.HgrnStepIdeal.main_arg0)
          ∧ r.2.mem ((c.tc : Thread Cert.HgrnStepIdeal.nD Cert.HgrnStepIdeal.τ).loc Cert.HgrnStepIdeal.main_arg1) = m ((c.tc : Thread Cert.HgrnStepIdeal.nD Cert.HgrnStepIdeal.τ).loc Cert.HgrnStepIdeal.main_arg1)
          ∧ r.2.mem ((c.tc : Thread Cert.HgrnStepIdeal.nD Cert.HgrnStepIdeal.τ).loc Cert.HgrnStepIdeal.main_arg2) = m ((c.tc : Thread Cert.HgrnStepIdeal.nD Cert.HgrnStepIdeal.τ).loc Cert.HgrnStepIdeal.main_arg2)
          ∧ r.2.mem ((c.tc : Thread Cert.HgrnStepIdeal.nD Cert.HgrnStepIdeal.τ).loc Cert.HgrnStepIdeal.main_arg3) = m ((c.tc : Thread Cert.HgrnStepIdeal.nD Cert.HgrnStepIdeal.τ).loc Cert.HgrnStepIdeal.main_arg3)
          ∧ r.2.mem ((c.tc : Thread Cert.HgrnStepIdeal.nD Cert.HgrnStepIdeal.τ).loc Cert.HgrnStepIdeal.main_arg4) = m ((c.tc : Thread Cert.HgrnStepIdeal.nD Cert.HgrnStepIdeal.τ).loc Cert.HgrnStepIdeal.main_arg4))
      ∧ θ_run (Cert.HgrnStepRefIdeal.defs (F := Ideal)) (onTc (τ := Cert.HgrnStepRefIdeal.τ) (Cert.HgrnStepRefIdeal.main (F := Ideal))) ⟨m', fun _ => 0, g'⟩ (fun r => ∀ c : Dev Cert.HgrnStepRefIdeal.nD,
          r.2.mem ((c.tc : Thread Cert.HgrnStepRefIdeal.nD Cert.HgrnStepRefIdeal.τ).loc Cert.HgrnStepRefIdeal.main_v48) = v0 c
          ∧ r.2.mem ((c.tc : Thread Cert.HgrnStepRefIdeal.nD Cert.HgrnStepRefIdeal.τ).loc Cert.HgrnStepRefIdeal.main_v49) = v1 c
          ∧ r.2.mem ((c.tc : Thread Cert.HgrnStepRefIdeal.nD Cert.HgrnStepRefIdeal.τ).loc Cert.HgrnStepRefIdeal.main_arg0) = m' ((c.tc : Thread Cert.HgrnStepRefIdeal.nD Cert.HgrnStepRefIdeal.τ).loc Cert.HgrnStepRefIdeal.main_arg0)
          ∧ r.2.mem ((c.tc : Thread Cert.HgrnStepRefIdeal.nD Cert.HgrnStepRefIdeal.τ).loc Cert.HgrnStepRefIdeal.main_arg1) = m' ((c.tc : Thread Cert.HgrnStepRefIdeal.nD Cert.HgrnStepRefIdeal.τ).loc Cert.HgrnStepRefIdeal.main_arg1)
          ∧ r.2.mem ((c.tc : Thread Cert.HgrnStepRefIdeal.nD Cert.HgrnStepRefIdeal.τ).loc Cert.HgrnStepRefIdeal.main_arg2) = m' ((c.tc : Thread Cert.HgrnStepRefIdeal.nD Cert.HgrnStepRefIdeal.τ).loc Cert.HgrnStepRefIdeal.main_arg2)
          ∧ r.2.mem ((c.tc : Thread Cert.HgrnStepRefIdeal.nD Cert.HgrnStepRefIdeal.τ).loc Cert.HgrnStepRefIdeal.main_arg3) = m' ((c.tc : Thread Cert.HgrnStepRefIdeal.nD Cert.HgrnStepRefIdeal.τ).loc Cert.HgrnStepRefIdeal.main_arg3)
          ∧ r.2.mem ((c.tc : Thread Cert.HgrnStepRefIdeal.nD Cert.HgrnStepRefIdeal.τ).loc Cert.HgrnStepRefIdeal.main_arg4) = m' ((c.tc : Thread Cert.HgrnStepRefIdeal.nD Cert.HgrnStepRefIdeal.τ).loc Cert.HgrnStepRefIdeal.main_arg4))

def Claim : Prop :=
  ∃ (hKernel : Cert.Kernel.Facts) (hKernelIdeal : Cert.KernelIdeal.Facts) (hReferenceIdeal : Cert.ReferenceIdeal.Facts) (hEvenProj : Cert.EvenProj.Facts) (hEvenProjIdeal : Cert.EvenProjIdeal.Facts) (hEvenProjRefIdeal : Cert.EvenProjRefIdeal.Facts) (hOddMix : Cert.OddMix.Facts) (hOddMixIdeal : Cert.OddMixIdeal.Facts) (hOddMixRefIdeal : Cert.OddMixRefIdeal.Facts) (hOddProj : Cert.OddProj.Facts) (hOddProjIdeal : Cert.OddProjIdeal.Facts) (hOddProjRefIdeal : Cert.OddProjRefIdeal.Facts) (hMemAttend : Cert.MemAttend.Facts) (hMemAttendIdeal : Cert.MemAttendIdeal.Facts) (hMemAttendRefIdeal : Cert.MemAttendRefIdeal.Facts) (hEvenMix : Cert.EvenMix.Facts) (hEvenMixIdeal : Cert.EvenMixIdeal.Facts) (hEvenMixRefIdeal : Cert.EvenMixRefIdeal.Facts) (hMemProj : Cert.MemProj.Facts) (hMemProjIdeal : Cert.MemProjIdeal.Facts) (hMemProjRefIdeal : Cert.MemProjRefIdeal.Facts) (hRetStep : Cert.RetStep.Facts) (hRetStepIdeal : Cert.RetStepIdeal.Facts) (hRetStepRefIdeal : Cert.RetStepRefIdeal.Facts) (hHgrnStep : Cert.HgrnStep.Facts) (hHgrnStepIdeal : Cert.HgrnStepIdeal.Facts) (hHgrnStepRefIdeal : Cert.HgrnStepRefIdeal.Facts) (hPre_finite : Cert.Pre_finite.Facts) (hPre_finite_step : Cert.Pre_finite_step.Facts) (hPre_finite_hgrn : Cert.Pre_finite_hgrn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_EvenProj (hEvenProj := hEvenProj)
    ∧ quiescent_EvenProjIdeal (hEvenProjIdeal := hEvenProjIdeal)
    ∧ quiescent_EvenProjRefIdeal (hEvenProjRefIdeal := hEvenProjRefIdeal)
    ∧ quiescent_OddMix (hOddMix := hOddMix)
    ∧ quiescent_OddMixIdeal (hOddMixIdeal := hOddMixIdeal)
    ∧ quiescent_OddMixRefIdeal (hOddMixRefIdeal := hOddMixRefIdeal)
    ∧ quiescent_OddProj (hOddProj := hOddProj)
    ∧ quiescent_OddProjIdeal (hOddProjIdeal := hOddProjIdeal)
    ∧ quiescent_OddProjRefIdeal (hOddProjRefIdeal := hOddProjRefIdeal)
    ∧ quiescent_MemAttend (hMemAttend := hMemAttend)
    ∧ quiescent_MemAttendIdeal (hMemAttendIdeal := hMemAttendIdeal)
    ∧ quiescent_MemAttendRefIdeal (hMemAttendRefIdeal := hMemAttendRefIdeal)
    ∧ quiescent_EvenMix (hEvenMix := hEvenMix)
    ∧ quiescent_EvenMixIdeal (hEvenMixIdeal := hEvenMixIdeal)
    ∧ quiescent_EvenMixRefIdeal (hEvenMixRefIdeal := hEvenMixRefIdeal)
    ∧ quiescent_MemProj (hMemProj := hMemProj)
    ∧ quiescent_MemProjIdeal (hMemProjIdeal := hMemProjIdeal)
    ∧ quiescent_MemProjRefIdeal (hMemProjRefIdeal := hMemProjRefIdeal)
    ∧ quiescent_RetStep (hRetStep := hRetStep)
    ∧ quiescent_RetStepIdeal (hRetStepIdeal := hRetStepIdeal)
    ∧ quiescent_RetStepIdeal_pre_finite_step (hRetStepIdeal := hRetStepIdeal) (hPre_finite_step := hPre_finite_step)
    ∧ quiescent_RetStepRefIdeal (hRetStepRefIdeal := hRetStepRefIdeal)
    ∧ quiescent_RetStepRefIdeal_pre_finite_step (hRetStepRefIdeal := hRetStepRefIdeal) (hPre_finite_step := hPre_finite_step)
    ∧ quiescent_HgrnStep (hHgrnStep := hHgrnStep)
    ∧ quiescent_HgrnStepIdeal (hHgrnStepIdeal := hHgrnStepIdeal)
    ∧ quiescent_HgrnStepIdeal_pre_finite_hgrn (hHgrnStepIdeal := hHgrnStepIdeal) (hPre_finite_hgrn := hPre_finite_hgrn)
    ∧ quiescent_HgrnStepRefIdeal (hHgrnStepRefIdeal := hHgrnStepRefIdeal)
    ∧ quiescent_HgrnStepRefIdeal_pre_finite_hgrn (hHgrnStepRefIdeal := hHgrnStepRefIdeal) (hPre_finite_hgrn := hPre_finite_hgrn)
    ∧ preserves_Kernel_KernelIdeal
    ∧ algebraic_KernelIdeal_ReferenceIdeal_pre_finite (hKernelIdeal := hKernelIdeal) (hReferenceIdeal := hReferenceIdeal) (hPre_finite := hPre_finite)
    ∧ preserves_EvenProj_EvenProjIdeal
    ∧ algebraic_EvenProjIdeal_EvenProjRefIdeal (hEvenProjIdeal := hEvenProjIdeal) (hEvenProjRefIdeal := hEvenProjRefIdeal)
    ∧ preserves_OddMix_OddMixIdeal
    ∧ algebraic_OddMixIdeal_OddMixRefIdeal (hOddMixIdeal := hOddMixIdeal) (hOddMixRefIdeal := hOddMixRefIdeal)
    ∧ preserves_OddProj_OddProjIdeal
    ∧ algebraic_OddProjIdeal_OddProjRefIdeal (hOddProjIdeal := hOddProjIdeal) (hOddProjRefIdeal := hOddProjRefIdeal)
    ∧ preserves_MemAttend_MemAttendIdeal
    ∧ algebraic_MemAttendIdeal_MemAttendRefIdeal (hMemAttendIdeal := hMemAttendIdeal) (hMemAttendRefIdeal := hMemAttendRefIdeal)
    ∧ preserves_EvenMix_EvenMixIdeal
    ∧ algebraic_EvenMixIdeal_EvenMixRefIdeal (hEvenMixIdeal := hEvenMixIdeal) (hEvenMixRefIdeal := hEvenMixRefIdeal)
    ∧ preserves_MemProj_MemProjIdeal
    ∧ algebraic_MemProjIdeal_MemProjRefIdeal (hMemProjIdeal := hMemProjIdeal) (hMemProjRefIdeal := hMemProjRefIdeal)
    ∧ preserves_RetStep_RetStepIdeal
    ∧ algebraic_RetStepIdeal_RetStepRefIdeal_pre_finite_step (hRetStepIdeal := hRetStepIdeal) (hRetStepRefIdeal := hRetStepRefIdeal) (hPre_finite_step := hPre_finite_step)
    ∧ preserves_HgrnStep_HgrnStepIdeal
    ∧ algebraic_HgrnStepIdeal_HgrnStepRefIdeal_pre_finite_hgrn (hHgrnStepIdeal := hHgrnStepIdeal) (hHgrnStepRefIdeal := hHgrnStepRefIdeal) (hPre_finite_hgrn := hPre_finite_hgrn)
-- ==== Pre_finite.lean ====
abbrev S16384x1152 : Shape := ⟨2, ![16384, 1152]⟩
abbrev S_ : Shape := ⟨0, ![]⟩

class Facts : Prop where
  bcast_S_S16384x1152 : S_.BroadcastsInDim S16384x1152 (![] : Fin 0 → Fin S16384x1152.rank)

variable [Facts]

def fn {F : FTy → Type} [FloatOps F] (main_arg0 : FVec F S16384x1152 .f32) : IVec S16384x1152 1 :=
  let main_v0 : FVec F S16384x1152 .f32 := Host.absf main_arg0
  let main_cst : FVec F S_ .f32 := constant S_ .f32 0x7F800000#32
  let main_v1 : FVec F S16384x1152 .f32 := broadcastInDim S16384x1152 ![] bcast_S_S16384x1152 main_cst
  let main_v2 : IVec S16384x1152 1 := cmpf .olt main_v0 main_v1
  main_v2
-- ==== Pre_finite_hgrn.lean ====
abbrev S32x4x64x64 : Shape := ⟨4, ![32, 4, 64, 64]⟩
abbrev S32x256 : Shape := ⟨2, ![32, 256]⟩
abbrev S256 : Shape := ⟨1, ![256]⟩
abbrev S_ : Shape := ⟨0, ![]⟩
abbrev S1x4x64x1 : Shape := ⟨4, ![1, 4, 64, 1]⟩
abbrev S32x4x64 : Shape := ⟨3, ![32, 4, 64]⟩
abbrev S32x4x64x1 : Shape := ⟨4, ![32, 4, 64, 1]⟩
abbrev S32x4x1x64 : Shape := ⟨4, ![32, 4, 1, 64]⟩

class Facts : Prop where
  bcast_S_S256 : S_.BroadcastsInDim S256 (![] : Fin 0 → Fin S256.rank)
  shapeCasts_S256_S1x4x64x1 : S256.ShapeCasts S1x4x64x1
  bcast_S_S32x256 : S_.BroadcastsInDim S32x256 (![] : Fin 0 → Fin S32x256.rank)
  shapeCasts_S32x256_S32x4x64 : S32x256.ShapeCasts S32x4x64
  bcast_S32x4x64_S32x4x64x1_0_1_2 : S32x4x64.BroadcastsInDim S32x4x64x1 (![0, 1, 2] : Fin 3 → Fin S32x4x64x1.rank)
  bcast_S32x4x64_S32x4x1x64_0_1_3 : S32x4x64.BroadcastsInDim S32x4x1x64 (![0, 1, 3] : Fin 3 → Fin S32x4x1x64.rank)
  bcast_S32x4x64x1_S32x4x64x64_0_1_2_3 : S32x4x64x1.BroadcastsInDim S32x4x64x64 (![0, 1, 2, 3] : Fin 4 → Fin S32x4x64x64.rank)
  bcast_S32x4x1x64_S32x4x64x64_0_1_2_3 : S32x4x1x64.BroadcastsInDim S32x4x64x64 (![0, 1, 2, 3] : Fin 4 → Fin S32x4x64x64.rank)
  bcast_S1x4x64x1_S32x4x64x64_0_1_2_3 : S1x4x64x1.BroadcastsInDim S32x4x64x64 (![0, 1, 2, 3] : Fin 4 → Fin S32x4x64x64.rank)

variable [Facts]

def fn_part1 {F : FTy → Type} [FloatOps F] (main_v18 : IVec S32x4x64x64 1) (main_v19 : IVec S32x4x64x64 1) : IVec S32x4x64x64 1 :=
  let main_v20 : IVec S32x4x64x64 1 := andi main_v18 main_v19
  main_v20

def fn {F : FTy → Type} [FloatOps F] (main_arg0 : FVec F S32x4x64x64 .f32) (main_arg1 : FVec F S32x256 .f32) (main_arg2 : FVec F S32x256 .f32) (main_arg3 : FVec F S32x256 .f32) (main_arg4 : FVec F S256 .f32) : IVec S32x4x64x64 1 :=
  let main_cst : FVec F S_ .f32 := constant S_ .f32 0x00000000#32
  let main_v0 : FVec F S256 .f32 := broadcastInDim S256 ![] bcast_S_S256 main_cst
  let main_v1 : IVec S256 1 := cmpf .oge main_arg4 main_v0
  let main_cst_0 : FVec F S_ .f32 := constant S_ .f32 0x7F800000#32
  let main_v2 : FVec F S256 .f32 := broadcastInDim S256 ![] bcast_S_S256 main_cst_0
  let main_v3 : IVec S256 1 := cmpf .olt main_arg4 main_v2
  let main_v4 : IVec S256 1 := andi main_v1 main_v3
  let main_v5 : IVec S1x4x64x1 1 := shapeCast S1x4x64x1 main_v4 shapeCasts_S256_S1x4x64x1
  let main_v6 : FVec F S32x256 .f32 := Host.absf main_arg1
  let main_cst_1 : FVec F S_ .f32 := constant S_ .f32 0x7F800000#32
  let main_v7 : FVec F S32x256 .f32 := broadcastInDim S32x256 ![] bcast_S_S32x256 main_cst_1
  let main_v8 : IVec S32x256 1 := cmpf .olt main_v6 main_v7
  let main_v9 : IVec S32x4x64 1 := shapeCast S32x4x64 main_v8 shapeCasts_S32x256_S32x4x64
  let main_v10 : IVec S32x4x64x1 1 := broadcastInDim S32x4x64x1 ![0, 1, 2] bcast_S32x4x64_S32x4x64x1_0_1_2 main_v9
  let main_v11 : FVec F S32x256 .f32 := Host.absf main_arg3
  let main_cst_2 : FVec F S_ .f32 := constant S_ .f32 0x7F800000#32
  let main_v12 : FVec F S32x256 .f32 := broadcastInDim S32x256 ![] bcast_S_S32x256 main_cst_2
  let main_v13 : IVec S32x256 1 := cmpf .olt main_v11 main_v12
  let main_v14 : IVec S32x4x64 1 := shapeCast S32x4x64 main_v13 shapeCasts_S32x256_S32x4x64
  let main_v15 : IVec S32x4x1x64 1 := broadcastInDim S32x4x1x64 ![0, 1, 3] bcast_S32x4x64_S32x4x1x64_0_1_3 main_v14
  let main_v16 : IVec S32x4x64x64 1 := broadcastInDim S32x4x64x64 ![0, 1, 2, 3] bcast_S32x4x64x1_S32x4x64x64_0_1_2_3 main_v10
  let main_v17 : IVec S32x4x64x64 1 := broadcastInDim S32x4x64x64 ![0, 1, 2, 3] bcast_S32x4x1x64_S32x4x64x64_0_1_2_3 main_v15
  let main_v18 : IVec S32x4x64x64 1 := andi main_v16 main_v17
  let main_v19 : IVec S32x4x64x64 1 := broadcastInDim S32x4x64x64 ![0, 1, 2, 3] bcast_S1x4x64x1_S32x4x64x64_0_1_2_3 main_v5
  fn_part1 (F := F) main_v18 main_v19
-- ==== Pre_finite_step.lean ====
abbrev S32x6x64x64 : Shape := ⟨4, ![32, 6, 64, 64]⟩
abbrev S32x384 : Shape := ⟨2, ![32, 384]⟩
abbrev S_ : Shape := ⟨0, ![]⟩
abbrev S32x6x64 : Shape := ⟨3, ![32, 6, 64]⟩
abbrev S32x6x64x1 : Shape := ⟨4, ![32, 6, 64, 1]⟩
abbrev S32x6x1x64 : Shape := ⟨4, ![32, 6, 1, 64]⟩

class Facts : Prop where
  bcast_S_S32x384 : S_.BroadcastsInDim S32x384 (![] : Fin 0 → Fin S32x384.rank)
  shapeCasts_S32x384_S32x6x64 : S32x384.ShapeCasts S32x6x64
  bcast_S32x6x64_S32x6x64x1_0_1_2 : S32x6x64.BroadcastsInDim S32x6x64x1 (![0, 1, 2] : Fin 3 → Fin S32x6x64x1.rank)
  bcast_S32x6x64_S32x6x1x64_0_1_3 : S32x6x64.BroadcastsInDim S32x6x1x64 (![0, 1, 3] : Fin 3 → Fin S32x6x1x64.rank)
  bcast_S32x6x64x1_S32x6x64x64_0_1_2_3 : S32x6x64x1.BroadcastsInDim S32x6x64x64 (![0, 1, 2, 3] : Fin 4 → Fin S32x6x64x64.rank)
  bcast_S32x6x1x64_S32x6x64x64_0_1_2_3 : S32x6x1x64.BroadcastsInDim S32x6x64x64 (![0, 1, 2, 3] : Fin 4 → Fin S32x6x64x64.rank)

variable [Facts]

def fn {F : FTy → Type} [FloatOps F] (main_arg0 : FVec F S32x6x64x64 .f32) (main_arg1 : FVec F S32x384 .f32) (main_arg2 : FVec F S32x384 .f32) (main_arg3 : FVec F S32x384 .f32) : IVec S32x6x64x64 1 :=
  let main_v0 : FVec F S32x384 .f32 := Host.absf main_arg1
  let main_cst : FVec F S_ .f32 := constant S_ .f32 0x7F800000#32
  let main_v1 : FVec F S32x384 .f32 := broadcastInDim S32x384 ![] bcast_S_S32x384 main_cst
  let main_v2 : IVec S32x384 1 := cmpf .olt main_v0 main_v1
  let main_v3 : IVec S32x6x64 1 := shapeCast S32x6x64 main_v2 shapeCasts_S32x384_S32x6x64
  let main_v4 : IVec S32x6x64x1 1 := broadcastInDim S32x6x64x1 ![0, 1, 2] bcast_S32x6x64_S32x6x64x1_0_1_2 main_v3
  let main_v5 : FVec F S32x384 .f32 := Host.absf main_arg2
  let main_cst_0 : FVec F S_ .f32 := constant S_ .f32 0x7F800000#32
  let main_v6 : FVec F S32x384 .f32 := broadcastInDim S32x384 ![] bcast_S_S32x384 main_cst_0
  let main_v7 : IVec S32x384 1 := cmpf .olt main_v5 main_v6
  let main_v8 : IVec S32x6x64 1 := shapeCast S32x6x64 main_v7 shapeCasts_S32x384_S32x6x64
  let main_v9 : IVec S32x6x64x1 1 := broadcastInDim S32x6x64x1 ![0, 1, 2] bcast_S32x6x64_S32x6x64x1_0_1_2 main_v8
  let main_v10 : IVec S32x6x64x1 1 := andi main_v4 main_v9
  let main_v11 : FVec F S32x384 .f32 := Host.absf main_arg3
  let main_cst_1 : FVec F S_ .f32 := constant S_ .f32 0x7F800000#32
  let main_v12 : FVec F S32x384 .f32 := broadcastInDim S32x384 ![] bcast_S_S32x384 main_cst_1
  let main_v13 : IVec S32x384 1 := cmpf .olt main_v11 main_v12
  let main_v14 : IVec S32x6x64 1 := shapeCast S32x6x64 main_v13 shapeCasts_S32x384_S32x6x64
  let main_v15 : IVec S32x6x1x64 1 := broadcastInDim S32x6x1x64 ![0, 1, 3] bcast_S32x6x64_S32x6x1x64_0_1_3 main_v14
  let main_v16 : IVec S32x6x64x64 1 := broadcastInDim S32x6x64x64 ![0, 1, 2, 3] bcast_S32x6x64x1_S32x6x64x64_0_1_2_3 main_v10
  let main_v17 : IVec S32x6x64x64 1 := broadcastInDim S32x6x64x64 ![0, 1, 2, 3] bcast_S32x6x1x64_S32x6x64x64_0_1_2_3 main_v15
  let main_v18 : IVec S32x6x64x64 1 := andi main_v16 main_v17
  main_v18
-- ==== Kernel.lean ====
abbrev S16384x1152 : Shape := ⟨2, ![16384, 1152]⟩
abbrev S6 : Shape := ⟨1, ![6]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S1x6 : Shape := ⟨2, ![1, 6]⟩
abbrev S128x6 : Shape := ⟨2, ![128, 6]⟩
abbrev S128x6x64 : Shape := ⟨3, ![128, 6, 64]⟩
abbrev S128x384 : Shape := ⟨2, ![128, 384]⟩
abbrev S6x64 : Shape := ⟨2, ![6, 64]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S16384x384 : Shape := ⟨2, ![16384, 384]⟩

abbrev nBuf : Space → Nat
  | .hbm => 97
  | .vmem => 14
  | .smem => 0
  | _ => 0

abbrev bufTy : (tb : Table) → Fin (tcTables nBuf tb) → BufTy
  | .hbm, ⟨0, _⟩ => ⟨S16384x1152, .f32⟩
  | .hbm, ⟨1, _⟩ => ⟨S6, .f32⟩
  | .hbm, ⟨2, _⟩ => ⟨S_, .f32⟩
  | .hbm, ⟨3, _⟩ => ⟨S6, .f32⟩
  | .hbm, ⟨4, _⟩ => ⟨S6, .f32⟩
  | .hbm, ⟨5, _⟩ => ⟨S_, .f32⟩
  | .hbm, ⟨6, _⟩ => ⟨S6, .f32⟩
  | .hbm, ⟨7, _⟩ => ⟨S6, .f32⟩
  | .hbm, ⟨8, _⟩ => ⟨S_, .f32⟩
  | .hbm, ⟨9, _⟩ => ⟨S6, .f32⟩
  | .hbm, ⟨10, _⟩ => ⟨S6, .f32⟩
  | .hbm, ⟨11, _⟩ => ⟨S6, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .i1⟩
  | .hbm, ⟨18, _⟩ => ⟨S1x128x128, .i1⟩
  | .hbm, ⟨19, _⟩ => ⟨S128x1, .f32⟩
  | .hbm, ⟨20, _⟩ => ⟨S1x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S_, .f32⟩
  | .hbm, ⟨26, _⟩ => ⟨S128x128, .f32⟩
  | .hbm, ⟨27, _⟩ => ⟨S128x128, .f32⟩
  | .hbm, ⟨28, _⟩ => ⟨S1x128x128, .f32⟩
  | .hbm, ⟨29, _⟩ => ⟨S6x1x1, .f32⟩
  | .hbm, ⟨30, _⟩ => ⟨S6x128x128, .f32⟩
  | .hbm, ⟨31, _⟩ => ⟨S6x128x128, .f32⟩
  | .hbm, ⟨32, _⟩ => ⟨S6x128x128, .f32⟩
  | .hbm, ⟨33, _⟩ => ⟨S6x128x128, .f32⟩
  | .hbm, ⟨34, _⟩ => ⟨S_, .f32⟩
  | .hbm, ⟨35, _⟩ => ⟨S_, .f32⟩
  | .hbm, ⟨36, _⟩ => ⟨S6x128x128, .i1⟩
  | .hbm, ⟨37, _⟩ => ⟨S6x128x128, .f32⟩
  | .hbm, ⟨38, _⟩ => ⟨S6x128x128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S1x6, .f32⟩
  | .hbm, ⟨44, _⟩ => ⟨S128x6, .f32⟩
  | .hbm, ⟨45, _⟩ => ⟨S128x6, .f32⟩
  | .hbm, ⟨46, _⟩ => ⟨S128x6, .f32⟩
  | .hbm, ⟨47, _⟩ => ⟨S128x6, .f32⟩
  | .hbm, ⟨48, _⟩ => ⟨S128x6x64, .f32⟩
  | .hbm, ⟨49, _⟩ => ⟨S128x384, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128x1, .f32⟩
  | .hbm, ⟨54, _⟩ => ⟨S1x6, .f32⟩
  | .hbm, ⟨55, _⟩ => ⟨S128x6, .f32⟩
  | .hbm, ⟨56, _⟩ => ⟨S128x6, .f32⟩
  | .hbm, ⟨57, _⟩ => ⟨S128x6, .f32⟩
  | .hbm, ⟨58, _⟩ => ⟨S128x6, .f32⟩
  | .hbm, ⟨59, _⟩ => ⟨S128x6x64, .f32⟩
  | .hbm, ⟨60, _⟩ => ⟨S128x384, .f32⟩
  | .hbm, ⟨61, _⟩ => ⟨S_, .f32⟩
  | .hbm, ⟨62, _⟩ => ⟨S6, .f32⟩
  | .hbm, ⟨63, _⟩ => ⟨S6, .f32⟩
  | .hbm, ⟨64, _⟩ => ⟨S6, .f32⟩
  | .hbm, ⟨65, _⟩ => ⟨S6x64, .f32⟩
  | .hbm, ⟨66, _⟩ => ⟨S384, .f32⟩
  | .hbm, ⟨67, _⟩ => ⟨S384, .i32⟩
  | .hbm, ⟨68, _⟩ => ⟨S_, .i32⟩
  | .hbm, ⟨69, _⟩ => ⟨S_, .i32⟩
  | .hbm, ⟨70, _⟩ => ⟨S384, .i32⟩
  | .hbm, ⟨71, _⟩ => ⟨S384, .i32⟩
  | .hbm, ⟨72, _⟩ => ⟨S384, .i32⟩
  | .hbm, ⟨73, _⟩ => ⟨S_, .i32⟩
  | .hbm, ⟨74, _⟩ => ⟨S384, .i32⟩
  | .hbm, ⟨75, _⟩ => ⟨S384, .i1⟩
  | .hbm, ⟨76, _⟩ => ⟨S384, .i32⟩
  | .hbm, ⟨77, _⟩ => ⟨S384, .i32⟩
  | .hbm, ⟨78, _⟩ => ⟨S_, .i32⟩
  | .hbm, ⟨79, _⟩ => ⟨S384, .i32⟩
  | .hbm, ⟨80, _⟩ => ⟨S384, .i1⟩
  | .hbm, ⟨81, _⟩ => ⟨S384, .i1⟩
  | .hbm, ⟨82, _⟩ => ⟨S_, .i32⟩
  | .hbm, ⟨83, _⟩ => ⟨S384, .i32⟩
  | .hbm, ⟨84, _⟩ => ⟨S384, .i32⟩
  | .hbm, ⟨85, _⟩ => ⟨S384, .i32⟩
  | .hbm, ⟨86, _⟩ => ⟨S384x1, .i32⟩
  | .hbm, ⟨87, _⟩ => ⟨S1x384, .i32⟩
  | .hbm, ⟨88, _⟩ => ⟨S384x384, .i32⟩
  | .hbm, ⟨89, _⟩ => ⟨S384x384, .i32⟩
  | .hbm, ⟨90, _⟩ => ⟨S384x384, .i1⟩
  | .hbm, ⟨91, _⟩ => ⟨S384x384, .f32⟩
  | .hbm, ⟨92, _⟩ => ⟨S384x1, .f32⟩
  | .hbm, ⟨93, _⟩ => ⟨S384x384, .f32⟩
  | .hbm, ⟨94, _⟩ => ⟨S384x384, .f32⟩
  | .hbm, ⟨95, _⟩ => ⟨S16384x384, .f32⟩
  | .hbm, ⟨96, _⟩ => ⟨S384x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S6x128x128, .f32⟩
  | .local _ .vmem, ⟨7, _⟩ => ⟨S128x384, .f32⟩
  | .local _ .vmem, ⟨8, _⟩ => ⟨S128x384, .f32⟩
  | .local _ .vmem, ⟨9, _⟩ => ⟨S384x384, .f32⟩
  | .local _ .vmem, ⟨10, _⟩ => ⟨S384x384, .f32⟩
  | .local _ .vmem, ⟨11, _⟩ => ⟨S128x384, .f32⟩
  | .local _ .vmem, ⟨12, _⟩ => ⟨S128x384, .f32⟩
  | .local _ .vmem, ⟨13, _⟩ => ⟨S384x384, .f32⟩
  | _, _ => ⟨S16384x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_c : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_0 : Ref sig .tc := ⟨.hbm, 82, rfl⟩
abbrev main_call2_v12 : Ref sig .tc := ⟨.hbm, 83, rfl⟩
abbrev main_call2_v13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64_0 : Ref sig .tc := ⟨.hbm, 95, rfl⟩
abbrev main_v64_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S384x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16384x1152 : Shape := ⟨2, ![16384, 1152]⟩
abbrev S16384x384 : Shape := ⟨2, ![16384, 384]⟩
abbrev S1x16384x6x64 : Shape := ⟨4, ![1, 16384, 6, 64]⟩
abbrev S6 : Shape := ⟨1, ![6]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S6x1x1 : Shape := ⟨3, ![6, 1, 1]⟩
abbrev S6x128x128 : Shape := ⟨3, ![6, 128, 128]⟩
abbrev S1x6 : Shape := ⟨2, ![1, 6]⟩
abbrev S128x6 : Shape := ⟨2, ![128, 6]⟩
abbrev S1x6x64x64 : Shape := ⟨4, ![1, 6, 64, 64]⟩
abbrev S1x128x128x6x64 : Shape := ⟨5, ![1, 128, 128, 6, 64]⟩
abbrev S128x1x128x6x64 : Shape := ⟨5, ![128, 1, 128, 6, 64]⟩
abbrev S1x1x128x6x64 : Shape := ⟨5, ![1, 1, 128, 6, 64]⟩
abbrev S1x128x6x64 : Shape := ⟨4, ![1, 128, 6, 64]⟩
abbrev S1x6x128x128 : Shape := ⟨4, ![1, 6, 128, 128]⟩
abbrev S1x6x64x128 : Shape := ⟨4, ![1, 6, 64, 128]⟩
abbrev S1x128x6x1 : Shape := ⟨4, ![1, 128, 6, 1]⟩
abbrev S1x6x1x1 : Shape := ⟨4, ![1, 6, 1, 1]⟩
abbrev S1x16384x6 : Shape := ⟨3, ![1, 16384, 6]⟩
abbrev S1x16384x6x1 : Shape := ⟨4, ![1, 16384, 6, 1]⟩
abbrev S6x6 : Shape := ⟨2, ![6, 6]⟩
abbrev S6x1x6x1 : Shape := ⟨4, ![6, 1, 6, 1]⟩
abbrev S6x64x64 : Shape := ⟨3, ![6, 64, 64]⟩
abbrev S6x64x1x64 : Shape := ⟨4, ![6, 64, 1, 64]⟩
abbrev S6x64x6x64 : Shape := ⟨4, ![6, 64, 6, 64]⟩
abbrev S384x384 : Shape := ⟨2, ![384, 384]⟩

abbrev nBuf : Space → Nat
  | .hbm => 176
  | .vmem => 0
  | .smem => 0
  | _ => 0

abbrev hbmTy0_0 (i : Nat) : BufTy := match i % 128 with
  | 0 => ⟨S16384x1152, .f32⟩
  | 1 => ⟨S16384x384, .f32⟩
  | 2 => ⟨S1x16384x6x64, .f32⟩
  | 3 => ⟨S16384x384, .f32⟩
  | 4 => ⟨S1x16384x6x64, .f32⟩
  | 5 => ⟨S16384x384, .f32⟩
  | 6 => ⟨S1x16384x6x64, .f32⟩
  | 7 => ⟨S6, .f32⟩
  | 8 => ⟨S_, .f32⟩
  | 9 => ⟨S6, .f32⟩
  | 10 => ⟨S6, .f32⟩
  | 11 => ⟨S_, .f32⟩
  | 12 => ⟨S6, .f32⟩
  | 13 => ⟨S6, .f32⟩
  | 14 => ⟨S_, .f32⟩
  | 15 => ⟨S6, .f32⟩
  | 16 => ⟨S6, .f32⟩
  | 17 => ⟨S6, .f32⟩
  | 18 => ⟨S128, .f32⟩
  | 19 => ⟨S128x1, .f32⟩
  | 20 => ⟨S1x128, .f32⟩
  | 21 => ⟨S128x128, .f32⟩
  | 22 => ⟨S128x128, .f32⟩
  | 23 => ⟨S128x128, .i1⟩
  | 24 => ⟨S1x128x128, .i1⟩
  | 25 => ⟨S128x1, .f32⟩
  | 26 => ⟨S1x128, .f32⟩
  | 27 => ⟨S128x128, .f32⟩
  | 28 => ⟨S128x128, .f32⟩
  | 29 => ⟨S128x128, .f32⟩
  | 30 => ⟨S_, .f32⟩
  | 31 => ⟨S_, .f32⟩
  | 32 => ⟨S128x128, .f32⟩
  | 33 => ⟨S128x128, .f32⟩
  | 34 => ⟨S1x128x128, .f32⟩
  | 35 => ⟨S6x1x1, .f32⟩
  | 36 => ⟨S6x128x128, .f32⟩
  | 37 => ⟨S6x128x128, .f32⟩
  | 38 => ⟨S6x128x128, .f32⟩
  | 39 => ⟨S6x128x128, .f32⟩
  | 40 => ⟨S_, .f32⟩
  | 41 => ⟨S_, .f32⟩
  | 42 => ⟨S6x128x128, .i1⟩
  | 43 => ⟨S6x128x128, .f32⟩
  | 44 => ⟨S6x128x128, .f32⟩
  | 45 => ⟨S128x1, .f32⟩
  | 46 => ⟨S_, .f32⟩
  | 47 => ⟨S128x1, .f32⟩
  | 48 => ⟨S128x1, .f32⟩
  | 49 => ⟨S1x6, .f32⟩
  | 50 => ⟨S128x6, .f32⟩
  | 51 => ⟨S128x6, .f32⟩
  | 52 => ⟨S128x6, .f32⟩
  | 53 => ⟨S128x6, .f32⟩
  | 54 => ⟨S_, .f32⟩
  | 55 => ⟨S128, .f32⟩
  | 56 => ⟨S128, .f32⟩
  | 57 => ⟨S128x1, .f32⟩
  | 58 => ⟨S1x6, .f32⟩
  | 59 => ⟨S128x6, .f32⟩
  | 60 => ⟨S128x6, .f32⟩
  | 61 => ⟨S128x6, .f32⟩
  | 62 => ⟨S128x6, .f32⟩
  | 63 => ⟨S_, .f32⟩
  | 64 => ⟨S6, .f32⟩
  | 65 => ⟨S6, .f32⟩
  | 66 => ⟨S6, .f32⟩
  | 67 => ⟨S_, .f32⟩
  | 68 => ⟨S1x16384x6x64, .f32⟩
  | 69 => ⟨S1x16384x6x64, .f32⟩
  | 70 => ⟨S_, .f32⟩
  | 71 => ⟨S1x6x64x64, .f32⟩
  | 72 => ⟨S1x128x128x6x64, .f32⟩
  | 73 => ⟨S128x1x128x6x64, .f32⟩
  | 74 => ⟨S1x128x128x6x64, .f32⟩
  | 75 => ⟨S128x1x128x6x64, .f32⟩
  | 76 => ⟨S1x128x128x6x64, .f32⟩
  | 77 => ⟨S128x1x128x6x64, .f32⟩
  | 78 => ⟨S_, .f32⟩
  | 79 => ⟨S128x1x128x6x64, .f32⟩
  | 80 => ⟨S_, .i32⟩
  | 81 => ⟨S128x1x128x6x64, .f32⟩
  | 82 => ⟨S128x1x128x6x64, .f32⟩
  | 83 => ⟨S128x1x128x6x64, .f32⟩
  | 84 => ⟨S6x128x128, .f32⟩
  | 85 => ⟨S128x6, .f32⟩
  | 86 => ⟨S6, .f32⟩
  | 87 => ⟨S128x6, .f32⟩
  | 88 => ⟨S_, .i32⟩
  | 89 => ⟨S1x6x64x64, .f32⟩
  | 90 => ⟨S128x1x128x6x64, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x1x128x6x64, .f32⟩
  | 98 => ⟨S1x128x6x64, .f32⟩
  | 99 => ⟨S_, .i32⟩
  | 100 => ⟨S_, .i32⟩
  | 101 => ⟨S_, .i32⟩
  | 102 => ⟨S_, .i32⟩
  | 103 => ⟨S1x1x128x6x64, .f32⟩
  | 104 => ⟨S1x128x6x64, .f32⟩
  | 105 => ⟨S_, .i32⟩
  | 106 => ⟨S_, .i32⟩
  | 107 => ⟨S_, .i32⟩
  | 108 => ⟨S_, .i32⟩
  | 109 => ⟨S1x1x128x6x64, .f32⟩
  | 110 => ⟨S1x128x6x64, .f32⟩
  | 111 => ⟨S1x6x128x128, .f32⟩
  | 112 => ⟨S1x6x128x128, .f32⟩
  | 113 => ⟨S1x6x128x128, .f32⟩
  | 114 => ⟨S1x6x64x128, .f32⟩
  | 115 => ⟨S1x128x6x64, .f32⟩
  | 116 => ⟨S1x6x64x128, .f32⟩
  | 117 => ⟨S1x128x6x64, .f32⟩
  | 118 => ⟨S1x128x6x1, .f32⟩
  | 119 => ⟨S1x128x6x64, .f32⟩
  | 120 => ⟨S1x128x6x64, .f32⟩
  | 121 => ⟨S1x128x6x64, .f32⟩
  | 122 => ⟨S1x6x1x1, .f32⟩
  | 123 => ⟨S1x6x64x64, .f32⟩
  | 124 => ⟨S1x6x64x64, .f32⟩
  | 125 => ⟨S1x128x6x1, .f32⟩
  | 126 => ⟨S1x128x6x64, .f32⟩
  | 127 => ⟨S1x128x6x64, .f32⟩
  | _ => ⟨S16384x1152, .f32⟩

abbrev hbmTy0_1 (i : Nat) : BufTy := match i % 128 with
  | 0 => ⟨S1x6x64x64, .f32⟩
  | 1 => ⟨S1x6x64x64, .f32⟩
  | 2 => ⟨S1x1x128x6x64, .f32⟩
  | 3 => ⟨S_, .i32⟩
  | 4 => ⟨S_, .i32⟩
  | 5 => ⟨S_, .i32⟩
  | 6 => ⟨S_, .i32⟩
  | 7 => ⟨S128x1x128x6x64, .f32⟩
  | 8 => ⟨S_, .i32⟩
  | 9 => ⟨S_, .i32⟩
  | 10 => ⟨S1x128x128x6x64, .f32⟩
  | 11 => ⟨S1x16384x6x64, .f32⟩
  | 12 => ⟨S_, .f32⟩
  | 13 => ⟨S1x16384x6, .f32⟩
  | 14 => ⟨S1x16384x6x1, .f32⟩
  | 15 => ⟨S_, .f32⟩
  | 16 => ⟨S1x16384x6x1, .f32⟩
  | 17 => ⟨S1x16384x6x1, .f32⟩
  | 18 => ⟨S1x16384x6x64, .f32⟩
  | 19 => ⟨S1x16384x6x64, .f32⟩
  | 20 => ⟨S1x16384x6x64, .f32⟩
  | 21 => ⟨S_, .f32⟩
  | 22 => ⟨S1x16384x6, .f32⟩
  | 23 => ⟨S1x16384x6x1, .f32⟩
  | 24 => ⟨S_, .f32⟩
  | 25 => ⟨S1x16384x6x1, .f32⟩
  | 26 => ⟨S1x16384x6x1, .f32⟩
  | 27 => ⟨S_, .f32⟩
  | 28 => ⟨S1x16384x6x1, .f32⟩
  | 29 => ⟨S1x16384x6x1, .f32⟩
  | 30 => ⟨S1x16384x6x1, .f32⟩
  | 31 => ⟨S1x16384x6x64, .f32⟩
  | 32 => ⟨S1x16384x6x64, .f32⟩
  | 33 => ⟨S6x6, .i32⟩
  | 34 => ⟨S6x6, .i32⟩
  | 35 => ⟨S_, .i32⟩
  | 36 => ⟨S6x6, .i32⟩
  | 37 => ⟨S6x6, .i32⟩
  | 38 => ⟨S6x6, .i1⟩
  | 39 => ⟨S6x6, .f32⟩
  | 40 => ⟨S6x1x6x1, .f32⟩
  | 41 => ⟨S16384x384, .f32⟩
  | 42 => ⟨S6x64x64, .f32⟩
  | 43 => ⟨S6x64x1x64, .f32⟩
  | 44 => ⟨S6x64x6x64, .f32⟩
  | 45 => ⟨S6x64x6x64, .f32⟩
  | 46 => ⟨S6x64x6x64, .f32⟩
  | 47 => ⟨S384x384, .f32⟩
  | _ => ⟨S16384x1152, .f32⟩

abbrev hbmTy (i : Nat) : BufTy := match i / 128 with
  | 0 => hbmTy0_0 i
  | 1 => hbmTy0_1 i
  | _ => ⟨S16384x1152, .f32⟩

abbrev bufTy : (tb : Table) → Fin (tcTables nBuf tb) → BufTy
  | .hbm, ⟨i, _⟩ => hbmTy i
  | _, _ => ⟨S16384x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_c : Ref sig .tc := ⟨.hbm, 80, rfl⟩
abbrev main_v63_0 : Ref sig .tc := ⟨.hbm, 81, rfl⟩
abbrev main_v63_1 : Ref sig .tc := ⟨.hbm, 82, rfl⟩
abbrev main_v63_2 : Ref sig .tc := ⟨.hbm, 83, rfl⟩
abbrev main_v63_3 : Ref sig .tc := ⟨.hbm, 84, rfl⟩
abbrev main_v63_4 : Ref sig .tc := ⟨.hbm, 85, rfl⟩
abbrev main_v63_5 : Ref sig .tc := ⟨.hbm, 86, rfl⟩
abbrev main_v63_6 : Ref sig .tc := ⟨.hbm, 87, rfl⟩
abbrev main_v63_7 : Ref sig .tc := ⟨.hbm, 88, rfl⟩
abbrev main_v63_8 : Ref sig .tc := ⟨.hbm, 89, rfl⟩
abbrev main_v63_9 : Ref sig .tc := ⟨.hbm, 90, rfl⟩
abbrev main_while0c_c_25 : Ref sig .tc := ⟨.hbm, 91, rfl⟩
abbrev main_while0c_v96 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v96 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v97 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v98 : Ref sig .tc := ⟨.hbm, 110, rfl⟩
abbrev main_while0b_v99 : Ref sig .tc := ⟨.hbm, 111, rfl⟩
abbrev main_while0b_v100 : Ref sig .tc := ⟨.hbm, 112, rfl⟩
abbrev main_while0b_v101 : Ref sig .tc := ⟨.hbm, 113, rfl⟩
abbrev main_while0b_v102 : Ref sig .tc := ⟨.hbm, 114, rfl⟩
abbrev main_while0b_v103 : Ref sig .tc := ⟨.hbm, 115, rfl⟩
abbrev main_while0b_v104 : Ref sig .tc := ⟨.hbm, 116, rfl⟩
abbrev main_while0b_v105 : Ref sig .tc := ⟨.hbm, 117, rfl⟩
abbrev main_while0b_v106 : Ref sig .tc := ⟨.hbm, 118, rfl⟩
abbrev main_while0b_v107 : Ref sig .tc := ⟨.hbm, 119, rfl⟩
abbrev main_while0b_v108 : Ref sig .tc := ⟨.hbm, 120, rfl⟩
abbrev main_while0b_v109 : Ref sig .tc := ⟨.hbm, 121, rfl⟩
abbrev main_while0b_v110 : Ref sig .tc := ⟨.hbm, 122, rfl⟩
abbrev main_while0b_v111 : Ref sig .tc := ⟨.hbm, 123, rfl⟩
abbrev main_while0b_v112 : Ref sig .tc := ⟨.hbm, 124, rfl⟩
abbrev main_while0b_v113 : Ref sig .tc := ⟨.hbm, 125, rfl⟩
abbrev main_while0b_v114 : Ref sig .tc := ⟨.hbm, 126, rfl⟩
abbrev main_while0b_v115 : Ref sig .tc := ⟨.hbm, 127, rfl⟩
abbrev main_while0b_v116 : Ref sig .tc := ⟨.hbm, 128, rfl⟩
abbrev main_while0b_v117 : Ref sig .tc := ⟨.hbm, 129, rfl⟩
abbrev main_while0b_call5_v0 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_c_2 : Ref sig .tc := ⟨.hbm, 134, rfl⟩
abbrev main_while0b_v118 : Ref sig .tc := ⟨.hbm, 135, rfl⟩
abbrev main_while0b_c_25 : Ref sig .tc := ⟨.hbm, 136, rfl⟩
abbrev main_while0b_v119 : Ref sig .tc := ⟨.hbm, 137, rfl⟩
abbrev main_v64 : Ref sig .tc := ⟨.hbm, 138, rfl⟩
abbrev main_v65 : Ref sig .tc := ⟨.hbm, 139, rfl⟩
abbrev main_cst_10 : Ref sig .tc := ⟨.hbm, 140, rfl⟩
abbrev main_v66 : Ref sig .tc := ⟨.hbm, 141, rfl⟩
abbrev main_v67 : Ref sig .tc := ⟨.hbm, 142, rfl⟩
abbrev main_cst_11 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_cst_12 : Ref sig .tc := ⟨.hbm, 149, rfl⟩
abbrev main_v73 : Ref sig .tc := ⟨.hbm, 150, rfl⟩
abbrev main_v74 : Ref sig .tc := ⟨.hbm, 151, rfl⟩
abbrev main_cst_13 : Ref sig .tc := ⟨.hbm, 152, rfl⟩
abbrev main_v75 : Ref sig .tc := ⟨.hbm, 153, rfl⟩
abbrev main_v76 : Ref sig .tc := ⟨.hbm, 154, rfl⟩
abbrev main_cst_14 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_c_15 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩

abbrev nD : Nat := 1
abbrev τ : Topo := Topo.v7x

variable {F : FTy → Type} [FloatOps F]

abbrev main_while0_count : Scf.Loop 32 := ⟨0#32, 128#32, 1#32⟩
-- ==== EvenProj.lean ====
abbrev S16384x1024 : Shape := ⟨2, ![16384, 1024]⟩
abbrev S1024 : Shape := ⟨1, ![1024]⟩
abbrev S1024x3584 : Shape := ⟨2, ![1024, 3584]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1x1024 : Shape := ⟨2, ![1, 1024]⟩
abbrev S16384x1152 : Shape := ⟨2, ![16384, 1152]⟩
abbrev S16384x256 : Shape := ⟨2, ![16384, 256]⟩
abbrev S256x1024 : Shape := ⟨2, ![256, 1024]⟩
abbrev S256x128 : Shape := ⟨2, ![256, 128]⟩
abbrev S256x1152 : Shape := ⟨2, ![256, 1152]⟩
abbrev S256x256 : Shape := ⟨2, ![256, 256]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 30
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S16384, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x128, .f32⟩
  | .hbm, ⟨21, _⟩ => ⟨S16384x32, .f32⟩
  | .hbm, ⟨22, _⟩ => ⟨S16384x32, .f32⟩
  | .hbm, ⟨23, _⟩ => ⟨S16384x128, .f32⟩
  | .hbm, ⟨24, _⟩ => ⟨S1024x3584, .bf16⟩
  | .hbm, ⟨25, _⟩ => ⟨S1x1024, .f32⟩
  | .hbm, ⟨26, _⟩ => ⟨S16384x1152, .f32⟩
  | .hbm, ⟨27, _⟩ => ⟨S16384x1152, .f32⟩
  | .hbm, ⟨28, _⟩ => ⟨S16384x256, .f32⟩
  | .hbm, ⟨29, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3584, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev main_v21_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== EvenProjRefIdeal.lean ====
abbrev S16384x1024 : Shape := ⟨2, ![16384, 1024]⟩
abbrev S1024 : Shape := ⟨1, ![1024]⟩
abbrev S1024x3584 : Shape := ⟨2, ![1024, 3584]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩
abbrev S16384x384 : Shape := ⟨2, ![16384, 384]⟩
abbrev S16384x256 : Shape := ⟨2, ![16384, 256]⟩
abbrev S1x16384x6x64 : Shape := ⟨4, ![1, 16384, 6, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S1x16384x6x32 : Shape := ⟨4, ![1, 16384, 6, 32]⟩
abbrev S1x16384x1x32 : Shape := ⟨4, ![1, 16384, 1, 32]⟩
abbrev S16384x1152 : Shape := ⟨2, ![16384, 1152]⟩

abbrev nBuf : Space → Nat
  | .hbm => 182
  | .vmem => 0
  | .smem => 0
  | _ => 0

abbrev hbmTy0_0 (i : Nat) : BufTy := match i % 128 with
  | 0 => ⟨S16384x1024, .f32⟩
  | 1 => ⟨S1024, .f32⟩
  | 2 => ⟨S1024x3584, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x3584, .f32⟩
  | 20 => ⟨S16384x384, .f32⟩
  | 21 => ⟨S16384x384, .f32⟩
  | 22 => ⟨S16384x384, .f32⟩
  | 23 => ⟨S16384x384, .f32⟩
  | 24 => ⟨S16384x384, .f32⟩
  | 25 => ⟨S16384x384, .f32⟩
  | 26 => ⟨S16384x256, .f32⟩
  | 27 => ⟨S16384x1024, .f32⟩
  | 28 => ⟨S16384, .i32⟩
  | 29 => ⟨S1x16384x6x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S16384, .f32⟩
  | 39 => ⟨S16384x1, .f32⟩
  | 40 => ⟨S1x32, .f32⟩
  | 41 => ⟨S16384x32, .f32⟩
  | 42 => ⟨S16384x32, .f32⟩
  | 43 => ⟨S16384x32, .f32⟩
  | 44 => ⟨S16384x32, .f32⟩
  | 45 => ⟨S16384x1x32, .f32⟩
  | 46 => ⟨S16384x32, .f32⟩
  | 47 => ⟨S16384x1x32, .f32⟩
  | 48 => ⟨S1x16384x6x32, .f32⟩
  | 49 => ⟨S1x16384x6x32, .f32⟩
  | 50 => ⟨S1x16384x1x32, .f32⟩
  | 51 => ⟨S1x16384x6x32, .f32⟩
  | 52 => ⟨S1x16384x6x32, .f32⟩
  | 53 => ⟨S1x16384x1x32, .f32⟩
  | 54 => ⟨S1x16384x6x32, .f32⟩
  | 55 => ⟨S1x16384x6x32, .f32⟩
  | 56 => ⟨S1x16384x6x32, .f32⟩
  | 57 => ⟨S1x16384x1x32, .f32⟩
  | 58 => ⟨S1x16384x6x32, .f32⟩
  | 59 => ⟨S1x16384x6x32, .f32⟩
  | 60 => ⟨S1x16384x1x32, .f32⟩
  | 61 => ⟨S1x16384x6x32, .f32⟩
  | 62 => ⟨S1x16384x6x32, .f32⟩
  | 63 => ⟨S1x16384x6x32, .f32⟩
  | 64 => ⟨S1x16384x6x64, .f32⟩
  | 65 => ⟨S16384x384, .f32⟩
  | 66 => ⟨S16384, .i32⟩
  | 67 => ⟨S1x16384x6x64, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S16384, .f32⟩
  | 77 => ⟨S16384x1, .f32⟩
  | 78 => ⟨S1x32, .f32⟩
  | 79 => ⟨S16384x32, .f32⟩
  | 80 => ⟨S16384x32, .f32⟩
  | 81 => ⟨S16384x32, .f32⟩
  | 82 => ⟨S16384x32, .f32⟩
  | 83 => ⟨S16384x1x32, .f32⟩
  | 84 => ⟨S16384x32, .f32⟩
  | 85 => ⟨S16384x1x32, .f32⟩
  | 86 => ⟨S1x16384x6x32, .f32⟩
  | 87 => ⟨S1x16384x6x32, .f32⟩
  | 88 => ⟨S1x16384x1x32, .f32⟩
  | 89 => ⟨S1x16384x6x32, .f32⟩
  | 90 => ⟨S1x16384x6x32, .f32⟩
  | 91 => ⟨S1x16384x1x32, .f32⟩
  | 92 => ⟨S1x16384x6x32, .f32⟩
  | 93 => ⟨S1x16384x6x32, .f32⟩
  | 94 => ⟨S1x16384x6x32, .f32⟩
  | 95 => ⟨S1x16384x1x32, .f32⟩
  | 96 => ⟨S1x16384x6x32, .f32⟩
  | 97 => ⟨S1x16384x6x32, .f32⟩
  | 98 => ⟨S1x16384x1x32, .f32⟩
  | 99 => ⟨S1x16384x6x32, .f32⟩
  | 100 => ⟨S1x16384x6x32, .f32⟩
  | 101 => ⟨S1x16384x6x32, .f32⟩
  | 102 => ⟨S1x16384x6x64, .f32⟩
  | 103 => ⟨S16384x384, .f32⟩
  | 104 => ⟨S16384x1152, .f32⟩
  | 105 => ⟨S16384, .i32⟩
  | 106 => ⟨S1x16384x6x64, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S16384, .f32⟩
  | 116 => ⟨S16384x1, .f32⟩
  | 117 => ⟨S1x32, .f32⟩
  | 118 => ⟨S16384x32, .f32⟩
  | 119 => ⟨S16384x32, .f32⟩
  | 120 => ⟨S16384x32, .f32⟩
  | 121 => ⟨S16384x32, .f32⟩
  | 122 => ⟨S16384x1x32, .f32⟩
  | 123 => ⟨S16384x32, .f32⟩
  | 124 => ⟨S16384x1x32, .f32⟩
  | 125 => ⟨S1x16384x6x32, .f32⟩
  | 126 => ⟨S1x16384x6x32, .f32⟩
  | 127 => ⟨S1x16384x1x32, .f32⟩
  | _ => ⟨S16384x1024, .f32⟩

abbrev hbmTy0_1 (i : Nat) : BufTy := match i % 128 with
  | 0 => ⟨S1x16384x6x32, .f32⟩
  | 1 => ⟨S1x16384x6x32, .f32⟩
  | 2 => ⟨S1x16384x1x32, .f32⟩
  | 3 => ⟨S1x16384x6x32, .f32⟩
  | 4 => ⟨S1x16384x6x32, .f32⟩
  | 5 => ⟨S1x16384x6x32, .f32⟩
  | 6 => ⟨S1x16384x1x32, .f32⟩
  | 7 => ⟨S1x16384x6x32, .f32⟩
  | 8 => ⟨S1x16384x6x32, .f32⟩
  | 9 => ⟨S1x16384x1x32, .f32⟩
  | 10 => ⟨S1x16384x6x32, .f32⟩
  | 11 => ⟨S1x16384x6x32, .f32⟩
  | 12 => ⟨S1x16384x6x32, .f32⟩
  | 13 => ⟨S1x16384x6x64, .f32⟩
  | 14 => ⟨S16384x384, .f32⟩
  | 15 => ⟨S16384, .i32⟩
  | 16 => ⟨S1x16384x6x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S16384, .f32⟩
  | 26 => ⟨S16384x1, .f32⟩
  | 27 => ⟨S1x32, .f32⟩
  | 28 => ⟨S16384x32, .f32⟩
  | 29 => ⟨S16384x32, .f32⟩
  | 30 => ⟨S16384x32, .f32⟩
  | 31 => ⟨S16384x32, .f32⟩
  | 32 => ⟨S16384x1x32, .f32⟩
  | 33 => ⟨S16384x32, .f32⟩
  | 34 => ⟨S16384x1x32, .f32⟩
  | 35 => ⟨S1x16384x6x32, .f32⟩
  | 36 => ⟨S1x16384x6x32, .f32⟩
  | 37 => ⟨S1x16384x1x32, .f32⟩
  | 38 => ⟨S1x16384x6x32, .f32⟩
  | 39 => ⟨S1x16384x6x32, .f32⟩
  | 40 => ⟨S1x16384x1x32, .f32⟩
  | 41 => ⟨S1x16384x6x32, .f32⟩
  | 42 => ⟨S1x16384x6x32, .f32⟩
  | 43 => ⟨S1x16384x6x32, .f32⟩
  | 44 => ⟨S1x16384x1x32, .f32⟩
  | 45 => ⟨S1x16384x6x32, .f32⟩
  | 46 => ⟨S1x16384x6x32, .f32⟩
  | 47 => ⟨S1x16384x1x32, .f32⟩
  | 48 => ⟨S1x16384x6x32, .f32⟩
  | 49 => ⟨S1x16384x6x32, .f32⟩
  | 50 => ⟨S1x16384x6x32, .f32⟩
  | 51 => ⟨S1x16384x6x64, .f32⟩
  | 52 => ⟨S16384x384, .f32⟩
  | 53 => ⟨S16384x1152, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_cst_6 : Ref sig .tc := ⟨.hbm, 109, rfl⟩
abbrev main_v99 : Ref sig .tc := ⟨.hbm, 110, rfl⟩
abbrev main_v100 : Ref sig .tc := ⟨.hbm, 111, rfl⟩
abbrev main_cst_7 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_cst_8 : Ref sig .tc := ⟨.hbm, 147, rfl⟩
abbrev main_v135 : Ref sig .tc := ⟨.hbm, 148, rfl⟩
abbrev main_v136 : Ref sig .tc := ⟨.hbm, 149, rfl⟩
abbrev main_cst_9 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩

abbrev nD : Nat := 1
abbrev τ : Topo := Topo.v7x

variable {F : FTy → Type} [FloatOps F]
-- ==== OddMix.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x512 : Shape := ⟨2, ![256, 512]⟩
abbrev S256x256 : Shape := ⟨2, ![256, 256]⟩
abbrev S512x1024 : Shape := ⟨2, ![512, 1024]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OddMixRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩

abbrev nD : Nat := 1
abbrev τ : Topo := Topo.v7x

variable {F : FTy → Type} [FloatOps F]
-- ==== OddProj.lean ====
abbrev S16384x1024 : Shape := ⟨2, ![16384, 1024]⟩
abbrev S1024 : Shape := ⟨1, ![1024]⟩
abbrev S1024x3352 : Shape := ⟨2, ![1024, 3352]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1024x512 : Shape := ⟨2, ![1024, 512]⟩
abbrev S1024x768 : Shape := ⟨2, ![1024, 768]⟩
abbrev S1024x24 : Shape := ⟨2, ![1024, 24]⟩
abbrev S1024x2048 : Shape := ⟨2, ![1024, 2048]⟩
abbrev S1024x232 : Shape := ⟨2, ![1024, 232]⟩
abbrev S1024x4096 : Shape := ⟨2, ![1024, 4096]⟩
abbrev S1x1024 : Shape := ⟨2, ![1, 1024]⟩
abbrev S16384x512 : Shape := ⟨2, ![16384, 512]⟩
abbrev S16384x768 : Shape := ⟨2, ![16384, 768]⟩
abbrev S16384x256 : Shape := ⟨2, ![16384, 256]⟩
abbrev S256x1024 : Shape := ⟨2, ![256, 1024]⟩
abbrev S256x128 : Shape := ⟨2, ![256, 128]⟩
abbrev S256x512 : Shape := ⟨2, ![256, 512]⟩
abbrev S256x768 : Shape := ⟨2, ![256, 768]⟩
abbrev S256x256 : Shape := ⟨2, ![256, 256]⟩
abbrev S256 : Shape := ⟨1, ![256]⟩
abbrev S256x1 : Shape := ⟨2, ![256, 1]⟩

abbrev nBuf : Space → Nat
  | .hbm => 40
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3352, .f32⟩
  | .hbm, ⟨3, _⟩ => ⟨S16384, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x128, .f32⟩
  | .hbm, ⟨21, _⟩ => ⟨S16384x32, .f32⟩
  | .hbm, ⟨22, _⟩ => ⟨S16384x32, .f32⟩
  | .hbm, ⟨23, _⟩ => ⟨S16384x128, .f32⟩
  | .hbm, ⟨24, _⟩ => ⟨S1024x512, .f32⟩
  | .hbm, ⟨25, _⟩ => ⟨S1024x768, .f32⟩
  | .hbm, ⟨26, _⟩ => ⟨S1024x24, .f32⟩
  | .hbm, ⟨27, _⟩ => ⟨S1024x2048, .f32⟩
  | .hbm, ⟨28, _⟩ => ⟨S_, .f32⟩
  | .hbm, ⟨29, _⟩ => ⟨S1024x232, .f32⟩
  | .hbm, ⟨30, _⟩ => ⟨S1024x4096, .f32⟩
  | .hbm, ⟨31, _⟩ => ⟨S1024x4096, .bf16⟩
  | .hbm, ⟨32, _⟩ => ⟨S1x1024, .f32⟩
  | .hbm, ⟨33, _⟩ => ⟨S16384x512, .f32⟩
  | .hbm, ⟨34, _⟩ => ⟨S16384x512, .f32⟩
  | .hbm, ⟨35, _⟩ => ⟨S16384x768, .f32⟩
  | .hbm, ⟨36, _⟩ => ⟨S16384x768, .f32⟩
  | .hbm, ⟨37, _⟩ => ⟨S16384x256, .f32⟩
  | .hbm, ⟨38, _⟩ => ⟨S16384x1024, .f32⟩
  | .hbm, ⟨39, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x256, .f32⟩
  | .local _ .vmem, ⟨17, _⟩ => ⟨S256x256, .f32⟩
  | .local _ .vmem, ⟨18, _⟩ => ⟨S256x1024, .f32⟩
  | .local _ .vmem, ⟨19, _⟩ => ⟨S256x1024, .f32⟩
  | .local _ .vmem, ⟨20, _⟩ => ⟨S256x128, .f32⟩
  | .local _ .vmem, ⟨21, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OddProjRefIdeal.lean ====
abbrev S16384x1024 : Shape := ⟨2, ![16384, 1024]⟩
abbrev S1024 : Shape := ⟨1, ![1024]⟩
abbrev S1024x3352 : Shape := ⟨2, ![1024, 3352]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3352 : Shape := ⟨2, ![16384, 3352]⟩
abbrev S16384x512 : Shape := ⟨2, ![16384, 512]⟩
abbrev S16384x128 : Shape := ⟨2, ![16384, 128]⟩
abbrev S16384x24 : Shape := ⟨2, ![16384, 24]⟩
abbrev S16384x256 : Shape := ⟨2, ![16384, 256]⟩
abbrev S1x16384x2x64 : Shape := ⟨4, ![1, 16384, 2, 64]⟩
abbrev S32 : Shape := ⟨1, ![32]⟩
abbrev S1x32 : Shape := ⟨2, ![1, 32]⟩
abbrev S16384x32 : Shape := ⟨2, ![16384, 32]⟩
abbrev S16384x1x32 : Shape := ⟨3, ![16384, 1, 32]⟩
abbrev S1x16384x2x32 : Shape := ⟨4, ![1, 16384, 2, 32]⟩
abbrev S1x16384x1x32 : Shape := ⟨4, ![1, 16384, 1, 32]⟩
abbrev S16384x768 : Shape := ⟨2, ![16384, 768]⟩
abbrev S1x16384x8x64 : Shape := ⟨4, ![1, 16384, 8, 64]⟩
abbrev S1x16384x8x32 : Shape := ⟨4, ![1, 16384, 8, 32]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S1024, .f32⟩
  | 2 => ⟨S1024x3352, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S16384x3352, .f32⟩
  | 20 => ⟨S16384x512, .f32⟩
  | 21 => ⟨S16384x128, .f32⟩
  | 22 => ⟨S16384x128, .f32⟩
  | 23 => ⟨S16384x128, .f32⟩
  | 24 => ⟨S16384x128, .f32⟩
  | 25 => ⟨S16384x128, .f32⟩
  | 26 => ⟨S16384x128, .f32⟩
  | 27 => ⟨S16384x24, .f32⟩
  | 28 => ⟨S16384x256, .f32⟩
  | 29 => ⟨S16384x256, .f32⟩
  | 30 => ⟨S16384x256, .f32⟩
  | 31 => ⟨S16384x256, .f32⟩
  | 32 => ⟨S16384x1024, .f32⟩
  | 33 => ⟨S16384, .i32⟩
  | 34 => ⟨S1x16384x2x64, .f32⟩
  | 35 => ⟨S32, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S16384, .f32⟩
  | 44 => ⟨S16384x1, .f32⟩
  | 45 => ⟨S1x32, .f32⟩
  | 46 => ⟨S16384x32, .f32⟩
  | 47 => ⟨S16384x32, .f32⟩
  | 48 => ⟨S16384x32, .f32⟩
  | 49 => ⟨S16384x32, .f32⟩
  | 50 => ⟨S16384x1x32, .f32⟩
  | 51 => ⟨S16384x32, .f32⟩
  | 52 => ⟨S16384x1x32, .f32⟩
  | 53 => ⟨S1x16384x2x32, .f32⟩
  | 54 => ⟨S1x16384x2x32, .f32⟩
  | 55 => ⟨S1x16384x1x32, .f32⟩
  | 56 => ⟨S1x16384x2x32, .f32⟩
  | 57 => ⟨S1x16384x2x32, .f32⟩
  | 58 => ⟨S1x16384x1x32, .f32⟩
  | 59 => ⟨S1x16384x2x32, .f32⟩
  | 60 => ⟨S1x16384x2x32, .f32⟩
  | 61 => ⟨S1x16384x2x32, .f32⟩
  | 62 => ⟨S1x16384x1x32, .f32⟩
  | 63 => ⟨S1x16384x2x32, .f32⟩
  | 64 => ⟨S1x16384x2x32, .f32⟩
  | 65 => ⟨S1x16384x1x32, .f32⟩
  | 66 => ⟨S1x16384x2x32, .f32⟩
  | 67 => ⟨S1x16384x2x32, .f32⟩
  | 68 => ⟨S1x16384x2x32, .f32⟩
  | 69 => ⟨S1x16384x2x64, .f32⟩
  | 70 => ⟨S16384x128, .f32⟩
  | 71 => ⟨S16384, .i32⟩
  | 72 => ⟨S1x16384x2x64, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S16384, .f32⟩
  | 82 => ⟨S16384x1, .f32⟩
  | 83 => ⟨S1x32, .f32⟩
  | 84 => ⟨S16384x32, .f32⟩
  | 85 => ⟨S16384x32, .f32⟩
  | 86 => ⟨S16384x32, .f32⟩
  | 87 => ⟨S16384x32, .f32⟩
  | 88 => ⟨S16384x1x32, .f32⟩
  | 89 => ⟨S16384x32, .f32⟩
  | 90 => ⟨S16384x1x32, .f32⟩
  | 91 => ⟨S1x16384x2x32, .f32⟩
  | 92 => ⟨S1x16384x2x32, .f32⟩
  | 93 => ⟨S1x16384x1x32, .f32⟩
  | 94 => ⟨S1x16384x2x32, .f32⟩
  | 95 => ⟨S1x16384x2x32, .f32⟩
  | 96 => ⟨S1x16384x1x32, .f32⟩
  | 97 => ⟨S1x16384x2x32, .f32⟩
  | 98 => ⟨S1x16384x2x32, .f32⟩
  | 99 => ⟨S1x16384x2x32, .f32⟩
  | 100 => ⟨S1x16384x1x32, .f32⟩
  | 101 => ⟨S1x16384x2x32, .f32⟩
  | 102 => ⟨S1x16384x2x32, .f32⟩
  | 103 => ⟨S1x16384x1x32, .f32⟩
  | 104 => ⟨S1x16384x2x32, .f32⟩
  | 105 => ⟨S1x16384x2x32, .f32⟩
  | 106 => ⟨S1x16384x2x32, .f32⟩
  | 107 => ⟨S1x16384x2x64, .f32⟩
  | 108 => ⟨S16384x128, .f32⟩
  | 109 => ⟨S16384x768, .f32⟩
  | 110 => ⟨S16384x768, .f32⟩
  | 111 => ⟨S16384, .i32⟩
  | 112 => ⟨S1x16384x8x64, .f32⟩
  | 113 => ⟨S32, .f32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S16384, .f32⟩
  | 122 => ⟨S16384x1, .f32⟩
  | 123 => ⟨S1x32, .f32⟩
  | 124 => ⟨S16384x32, .f32⟩
  | 125 => ⟨S16384x32, .f32⟩
  | 126 => ⟨S16384x32, .f32⟩
  | 127 => ⟨S16384x32, .f32⟩
  | _ => ⟨S16384x1024, .f32⟩

abbrev hbmTy0_1 (i : Nat) : BufTy := match i % 128 with
  | 0 => ⟨S16384x1x32, .f32⟩
  | 1 => ⟨S16384x32, .f32⟩
  | 2 => ⟨S16384x1x32, .f32⟩
  | 3 => ⟨S1x16384x8x32, .f32⟩
  | 4 => ⟨S1x16384x8x32, .f32⟩
  | 5 => ⟨S1x16384x1x32, .f32⟩
  | 6 => ⟨S1x16384x8x32, .f32⟩
  | 7 => ⟨S1x16384x8x32, .f32⟩
  | 8 => ⟨S1x16384x1x32, .f32⟩
  | 9 => ⟨S1x16384x8x32, .f32⟩
  | 10 => ⟨S1x16384x8x32, .f32⟩
  | 11 => ⟨S1x16384x8x32, .f32⟩
  | 12 => ⟨S1x16384x1x32, .f32⟩
  | 13 => ⟨S1x16384x8x32, .f32⟩
  | 14 => ⟨S1x16384x8x32, .f32⟩
  | 15 => ⟨S1x16384x1x32, .f32⟩
  | 16 => ⟨S1x16384x8x32, .f32⟩
  | 17 => ⟨S1x16384x8x32, .f32⟩
  | 18 => ⟨S1x16384x8x32, .f32⟩
  | 19 => ⟨S1x16384x8x64, .f32⟩
  | 20 => ⟨S16384x512, .f32⟩
  | 21 => ⟨S_, .i32⟩
  | 22 => ⟨S_, .f32⟩
  | 23 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_4 : Ref sig .tc := ⟨.hbm, 75, rfl⟩
abbrev main_v67 : Ref sig .tc := ⟨.hbm, 76, rfl⟩
abbrev main_v68 : Ref sig .tc := ⟨.hbm, 77, rfl⟩
abbrev main_cst_5 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_cst_6 : Ref sig .tc := ⟨.hbm, 115, rfl⟩
abbrev main_v105 : Ref sig .tc := ⟨.hbm, 116, rfl⟩
abbrev main_v106 : Ref sig .tc := ⟨.hbm, 117, rfl⟩
abbrev main_cst_7 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_c : Ref sig .tc := ⟨.hbm, 149, rfl⟩
abbrev main_call0_v0 : Ref sig .tc := ⟨.hbm, 150, rfl⟩
abbrev main_v137 : Ref sig .tc := ⟨.hbm, 151, rfl⟩

abbrev nD : Nat := 1
abbrev τ : Topo := Topo.v7x

variable {F : FTy → Type} [FloatOps F]
-- ==== MemAttend.lean ====
abbrev S16384x256 : Shape := ⟨2, ![16384, 256]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256x256, .f32⟩
  | .hbm, ⟨3, _⟩ => ⟨S16384x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemAttendRefIdeal.lean ====
abbrev S16384x256 : Shape := ⟨2, ![16384, 256]⟩
abbrev S256x256 : Shape := ⟨2, ![256, 256]⟩
abbrev S1x16384x4x64 : Shape := ⟨4, ![1, 16384, 4, 64]⟩
abbrev S256x1x256 : Shape := ⟨3, ![256, 1, 256]⟩
abbrev S256x2x256 : Shape := ⟨3, ![256, 2, 256]⟩
abbrev S1x256x2x4x64 : Shape := ⟨5, ![1, 256, 2, 4, 64]⟩
abbrev S1x256x1x4x64 : Shape := ⟨5, ![1, 256, 1, 4, 64]⟩
abbrev S1x256x4x64 : Shape := ⟨4, ![1, 256, 4, 64]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x64x16384 : Shape := ⟨4, ![1, 4, 64, 16384]⟩

abbrev nBuf : Space → Nat
  | .hbm => 33
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x256, .f32⟩
  | .hbm, ⟨2, _⟩ => ⟨S256x256, .f32⟩
  | .hbm, ⟨3, _⟩ => ⟨S1x16384x4x64, .f32⟩
  | .hbm, ⟨4, _⟩ => ⟨S256x1x256, .f32⟩
  | .hbm, ⟨5, _⟩ => ⟨S256x1x256, .f32⟩
  | .hbm, ⟨6, _⟩ => ⟨S256x2x256, .f32⟩
  | .hbm, ⟨7, _⟩ => ⟨S1x256x2x4x64, .f32⟩
  | .hbm, ⟨8, _⟩ => ⟨S1x256x1x4x64, .f32⟩
  | .hbm, ⟨9, _⟩ => ⟨S1x256x4x64, .f32⟩
  | .hbm, ⟨10, _⟩ => ⟨S1x4x16384x256, .f32⟩
  | .hbm, ⟨11, _⟩ => ⟨S_, .f32⟩
  | .hbm, ⟨12, _⟩ => ⟨S1x4x16384x256, .f32⟩
  | .hbm, ⟨13, _⟩ => ⟨S1x4x16384x256, .f32⟩
  | .hbm, ⟨14, _⟩ => ⟨S_, .f32⟩
  | .hbm, ⟨15, _⟩ => ⟨S1x4x16384, .f32⟩
  | .hbm, ⟨16, _⟩ => ⟨S_, .f32⟩
  | .hbm, ⟨17, _⟩ => ⟨S1x4x16384, .f32⟩
  | .hbm, ⟨18, _⟩ => ⟨S1x4x16384, .f32⟩
  | .hbm, ⟨19, _⟩ => ⟨S1x4x16384x1, .f32⟩
  | .hbm, ⟨20, _⟩ => ⟨S1x4x16384x256, .f32⟩
  | .hbm, ⟨21, _⟩ => ⟨S1x4x16384x256, .f32⟩
  | .hbm, ⟨22, _⟩ => ⟨S1x4x16384x256, .f32⟩
  | .hbm, ⟨23, _⟩ => ⟨S_, .f32⟩
  | .hbm, ⟨24, _⟩ => ⟨S1x4x16384, .f32⟩
  | .hbm, ⟨25, _⟩ => ⟨S1x4x16384x1, .f32⟩
  | .hbm, ⟨26, _⟩ => ⟨S1x4x16384x256, .f32⟩
  | .hbm, ⟨27, _⟩ => ⟨S1x4x16384x256, .f32⟩
  | .hbm, ⟨28, _⟩ => ⟨S1x256x1x4x64, .f32⟩
  | .hbm, ⟨29, _⟩ => ⟨S1x256x4x64, .f32⟩
  | .hbm, ⟨30, _⟩ => ⟨S1x4x64x16384, .f32⟩
  | .hbm, ⟨31, _⟩ => ⟨S1x16384x4x64, .f32⟩
  | .hbm, ⟨32, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== EvenMix.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S_ : Shape := ⟨0, ![]⟩
abbrev S1x1024 : Shape := ⟨2, ![1, 1024]⟩
abbrev S256x1024 : Shape := ⟨2, ![256, 1024]⟩
abbrev S256x384 : Shape := ⟨2, ![256, 384]⟩
abbrev S256x256 : Shape := ⟨2, ![256, 256]⟩
abbrev S384x1024 : Shape := ⟨2, ![384, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S16384x384, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S_, .f32⟩
  | .hbm, ⟨8, _⟩ => ⟨S1x1024, .f32⟩
  | .hbm, ⟨9, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenMixRefIdeal.lean ====
abbrev S16384x1024 : Shape := ⟨2, ![16384, 1024]⟩
abbrev S16384x384 : Shape := ⟨2, ![16384, 384]⟩
abbrev S16384x256 : Shape := ⟨2, ![16384, 256]⟩
abbrev S1024x1024 : Shape := ⟨2, ![1024, 1024]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S16384x384, .f32⟩
  | .hbm, ⟨3, _⟩ => ⟨S16384x256, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩

abbrev nD : Nat := 1
abbrev τ : Topo := Topo.v7x

variable {F : FTy → Type} [FloatOps F]
-- ==== MemProj.lean ====
abbrev S256x1024 : Shape := ⟨2, ![256, 1024]⟩
abbrev S1024 : Shape := ⟨1, ![1024]⟩
abbrev S1024x512 : Shape := ⟨2, ![1024, 512]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S256x128 : Shape := ⟨2, ![256, 128]⟩
abbrev S1x1024 : Shape := ⟨2, ![1, 1024]⟩
abbrev S256x512 : Shape := ⟨2, ![256, 512]⟩
abbrev S256 : Shape := ⟨1, ![256]⟩
abbrev S256x1 : Shape := ⟨2, ![256, 1]⟩

abbrev nBuf : Space → Nat
  | .hbm => 29
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S16384, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S16384, .f32⟩
  | .hbm, ⟨13, _⟩ => ⟨S16384x1, .f32⟩
  | .hbm, ⟨14, _⟩ => ⟨S1x32, .f32⟩
  | .hbm, ⟨15, _⟩ => ⟨S16384x32, .f32⟩
  | .hbm, ⟨16, _⟩ => ⟨S16384x32, .f32⟩
  | .hbm, ⟨17, _⟩ => ⟨S16384x32, .f32⟩
  | .hbm, ⟨18, _⟩ => ⟨S16384x32, .f32⟩
  | .hbm, ⟨19, _⟩ => ⟨S16384x32, .f32⟩
  | .hbm, ⟨20, _⟩ => ⟨S16384x128, .f32⟩
  | .hbm, ⟨21, _⟩ => ⟨S16384x32, .f32⟩
  | .hbm, ⟨22, _⟩ => ⟨S16384x32, .f32⟩
  | .hbm, ⟨23, _⟩ => ⟨S16384x128, .f32⟩
  | .hbm, ⟨24, _⟩ => ⟨S1024x512, .bf16⟩
  | .hbm, ⟨25, _⟩ => ⟨S256x128, .f32⟩
  | .hbm, ⟨26, _⟩ => ⟨S256x128, .f32⟩
  | .hbm, ⟨27, _⟩ => ⟨S1x1024, .f32⟩
  | .hbm, ⟨28, _⟩ => ⟨S256x512, .f32⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S256x128, .f32⟩
  | .local _ .vmem, ⟨4, _⟩ => ⟨S256x128, .f32⟩
  | .local _ .vmem, ⟨5, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== MemProjRefIdeal.lean ====
abbrev S256x1024 : Shape := ⟨2, ![256, 1024]⟩
abbrev S1024 : Shape := ⟨1, ![1024]⟩
abbrev S1024x512 : Shape := ⟨2, ![1024, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x512 : Shape := ⟨2, ![256, 512]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x512, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RetStep.lean ====
abbrev S32x6x64x64 : Shape := ⟨4, ![32, 6, 64, 64]⟩
abbrev S32x384 : Shape := ⟨2, ![32, 384]⟩
abbrev S384 : Shape := ⟨1, ![384]⟩
abbrev S32x6x1x64 : Shape := ⟨4, ![32, 6, 1, 64]⟩
abbrev S12288x64 : Shape := ⟨2, ![12288, 64]⟩
abbrev S32x6x64x1 : Shape := ⟨4, ![32, 6, 64, 1]⟩
abbrev S192x64 : Shape := ⟨2, ![192, 64]⟩
abbrev S3072x64 : Shape := ⟨2, ![3072, 64]⟩
abbrev S48x64 : Shape := ⟨2, ![48, 64]⟩
abbrev S48x64x64 : Shape := ⟨3, ![48, 64, 64]⟩
abbrev S48 : Shape := ⟨1, ![48]⟩
abbrev S48x1 : Shape := ⟨2, ![48, 1]⟩

abbrev nBuf : Space → Nat
  | .hbm => 21
  | .vmem => 14
  | .smem => 0
  | _ => 0

abbrev bufTy : (tb : Table) → Fin (tcTables nBuf tb) → BufTy
  | .hbm, ⟨0, _⟩ => ⟨S32x6x64x64, .f32⟩
  | .hbm, ⟨1, _⟩ => ⟨S32x384, .f32⟩
  | .hbm, ⟨2, _⟩ => ⟨S32x384, .f32⟩
  | .hbm, ⟨3, _⟩ => ⟨S32x384, .f32⟩
  | .hbm, ⟨4, _⟩ => ⟨S384, .f32⟩
  | .hbm, ⟨5, _⟩ => ⟨S32x384, .f32⟩
  | .hbm, ⟨6, _⟩ => ⟨S32x6x1x64, .f32⟩
  | .hbm, ⟨7, _⟩ => ⟨S32x6x64x64, .f32⟩
  | .hbm, ⟨8, _⟩ => ⟨S12288x64, .f32⟩
  | .hbm, ⟨9, _⟩ => ⟨S12288x64, .f32⟩
  | .hbm, ⟨10, _⟩ => ⟨S32x6x64x1, .f32⟩
  | .hbm, ⟨11, _⟩ => ⟨S32x6x64x64, .f32⟩
  | .hbm, ⟨12, _⟩ => ⟨S12288x64, .f32⟩
  | .hbm, ⟨13, _⟩ => ⟨S32x6x64x1, .f32⟩
  | .hbm, ⟨14, _⟩ => ⟨S32x6x64x64, .f32⟩
  | .hbm, ⟨15, _⟩ => ⟨S12288x64, .f32⟩
  | .hbm, ⟨16, _⟩ => ⟨S32x6x64x1, .f32⟩
  | .hbm, ⟨17, _⟩ => ⟨S32x6x64x64, .f32⟩
  | .hbm, ⟨18, _⟩ => ⟨S12288x64, .f32⟩
  | .hbm, ⟨19, _⟩ => ⟨S192x64, .f32⟩
  | .hbm, ⟨20, _⟩ => ⟨S12288x64, .f32⟩
  | .local _ .vmem, ⟨0, _⟩ => ⟨S3072x64, .f32⟩
  | .local _ .vmem, ⟨1, _⟩ => ⟨S3072x64, .f32⟩
  | .local _ .vmem, ⟨2, _⟩ => ⟨S3072x64, .f32⟩
  | .local _ .vmem, ⟨3, _⟩ => ⟨S3072x64, .f32⟩
  | .local _ .vmem, ⟨4, _⟩ => ⟨S3072x64, .f32⟩
  | .local _ .vmem, ⟨5, _⟩ => ⟨S3072x64, .f32⟩
  | .local _ .vmem, ⟨6, _⟩ => ⟨S3072x64, .f32⟩
  | .local _ .vmem, ⟨7, _⟩ => ⟨S3072x64, .f32⟩
  | .local _ .vmem, ⟨8, _⟩ => ⟨S3072x64, .f32⟩
  | .local _ .vmem, ⟨9, _⟩ => ⟨S3072x64, .f32⟩
  | .local _ .vmem, ⟨10, _⟩ => ⟨S48x64, .f32⟩
  | .local _ .vmem, ⟨11, _⟩ => ⟨S48x64, .f32⟩
  | .local _ .vmem, ⟨12, _⟩ => ⟨S3072x64, .f32⟩
  | .local _ .vmem, ⟨13, _⟩ => ⟨S3072x64, .f32⟩
  | _, _ => ⟨S32x6x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RetStepRefIdeal.lean ====
abbrev S32x6x64x64 : Shape := ⟨4, ![32, 6, 64, 64]⟩
abbrev S32x384 : Shape := ⟨2, ![32, 384]⟩
abbrev S32x6x64 : Shape := ⟨3, ![32, 6, 64]⟩
abbrev S6 : Shape := ⟨1, ![6]⟩
abbrev S_ : Shape := ⟨0, ![]⟩
abbrev S32x6 : Shape := ⟨2, ![32, 6]⟩
abbrev S32x6x1 : Shape := ⟨3, ![32, 6, 1]⟩
abbrev S1x6x1 : Shape := ⟨3, ![1, 6, 1]⟩
abbrev S1x6x1x1 : Shape := ⟨4, ![1, 6, 1, 1]⟩
abbrev S32x6x64x1 : Shape := ⟨4, ![32, 6, 64, 1]⟩
abbrev S32x6x1x64 : Shape := ⟨4, ![32, 6, 1, 64]⟩
abbrev S192x64 : Shape := ⟨2, ![192, 64]⟩
abbrev S12288x64 : Shape := ⟨2, ![12288, 64]⟩

abbrev nBuf : Space → Nat
  | .hbm => 63
  | .vmem => 0
  | .smem => 0
  | _ => 0

abbrev bufTy : (tb : Table) → Fin (tcTables nBuf tb) → BufTy
  | .hbm, ⟨0, _⟩ => ⟨S32x6x64x64, .f32⟩
  | .hbm, ⟨1, _⟩ => ⟨S32x384, .f32⟩
  | .hbm, ⟨2, _⟩ => ⟨S32x384, .f32⟩
  | .hbm, ⟨3, _⟩ => ⟨S32x384, .f32⟩
  | .hbm, ⟨4, _⟩ => ⟨S32x6x64, .f32⟩
  | .hbm, ⟨5, _⟩ => ⟨S32x6x64, .f32⟩
  | .hbm, ⟨6, _⟩ => ⟨S32x6x64, .f32⟩
  | .hbm, ⟨7, _⟩ => ⟨S6, .f32⟩
  | .hbm, ⟨8, _⟩ => ⟨S_, .f32⟩
  | .hbm, ⟨9, _⟩ => ⟨S6, .f32⟩
  | .hbm, ⟨10, _⟩ => ⟨S6, .f32⟩
  | .hbm, ⟨11, _⟩ => ⟨S_, .f32⟩
  | .hbm, ⟨12, _⟩ => ⟨S6, .f32⟩
  | .hbm, ⟨13, _⟩ => ⟨S6, .f32⟩
  | .hbm, ⟨14, _⟩ => ⟨S_, .f32⟩
  | .hbm, ⟨15, _⟩ => ⟨S6, .f32⟩
  | .hbm, ⟨16, _⟩ => ⟨S6, .f32⟩
  | .hbm, ⟨17, _⟩ => ⟨S6, .f32⟩
  | .hbm, ⟨18, _⟩ => ⟨S6, .f32⟩
  | .hbm, ⟨19, _⟩ => ⟨S_, .f32⟩
  | .hbm, ⟨20, _⟩ => ⟨S32x6x64, .f32⟩
  | .hbm, ⟨21, _⟩ => ⟨S32x6x64, .f32⟩
  | .hbm, ⟨22, _⟩ => ⟨S32x6, .f32⟩
  | .hbm, ⟨23, _⟩ => ⟨S32x6x1, .f32⟩
  | .hbm, ⟨24, _⟩ => ⟨S32x6x64, .f32⟩
  | .hbm, ⟨25, _⟩ => ⟨S32x6x64, .f32⟩
  | .hbm, ⟨26, _⟩ => ⟨S32x6x64, .f32⟩
  | .hbm, ⟨27, _⟩ => ⟨S1x6x1, .f32⟩
  | .hbm, ⟨28, _⟩ => ⟨S32x6x64, .f32⟩
  | .hbm, ⟨29, _⟩ => ⟨S32x6x64, .f32⟩
  | .hbm, ⟨30, _⟩ => ⟨S32x6x64, .f32⟩
  | .hbm, ⟨31, _⟩ => ⟨S1x6x1x1, .f32⟩
  | .hbm, ⟨32, _⟩ => ⟨S32x6x64x64, .f32⟩
  | .hbm, ⟨33, _⟩ => ⟨S32x6x64x64, .f32⟩
  | .hbm, ⟨34, _⟩ => ⟨S32x6x64x1, .f32⟩
  | .hbm, ⟨35, _⟩ => ⟨S32x6x1x64, .f32⟩
  | .hbm, ⟨36, _⟩ => ⟨S32x6x64x64, .f32⟩
  | .hbm, ⟨37, _⟩ => ⟨S32x6x64x64, .f32⟩
  | .hbm, ⟨38, _⟩ => ⟨S32x6x64x64, .f32⟩
  | .hbm, ⟨39, _⟩ => ⟨S32x6x64x64, .f32⟩
  | .hbm, ⟨40, _⟩ => ⟨S_, .f32⟩
  | .hbm, ⟨41, _⟩ => ⟨S32x6, .f32⟩
  | .hbm, ⟨42, _⟩ => ⟨S32x6x1, .f32⟩
  | .hbm, ⟨43, _⟩ => ⟨S_, .f32⟩
  | .hbm, ⟨44, _⟩ => ⟨S32x6x1, .f32⟩
  | .hbm, ⟨45, _⟩ => ⟨S32x6x1, .f32⟩
  | .hbm, ⟨46, _⟩ => ⟨S32x6x64, .f32⟩
  | .hbm, ⟨47, _⟩ => ⟨S32x6x64, .f32⟩
  | .hbm, ⟨48, _⟩ => ⟨S32x6x64, .f32⟩
  | .hbm, ⟨49, _⟩ => ⟨S_, .f32⟩
  | .hbm, ⟨50, _⟩ => ⟨S32x6, .f32⟩
  | .hbm, ⟨51, _⟩ => ⟨S32x6x1, .f32⟩
  | .hbm, ⟨52, _⟩ => ⟨S_, .f32⟩
  | .hbm, ⟨53, _⟩ => ⟨S32x6x1, .f32⟩
  | .hbm, ⟨54, _⟩ => ⟨S32x6x1, .f32⟩
  | .hbm, ⟨55, _⟩ => ⟨S_, .f32⟩
  | .hbm, ⟨56, _⟩ => ⟨S32x6x1, .f32⟩
  | .hbm, ⟨57, _⟩ => ⟨S32x6x1, .f32⟩
  | .hbm, ⟨58, _⟩ => ⟨S32x6x1, .f32⟩
  | .hbm, ⟨59, _⟩ => ⟨S32x6x64, .f32⟩
  | .hbm, ⟨60, _⟩ => ⟨S32x6x64, .f32⟩
  | .hbm, ⟨61, _⟩ => ⟨S192x64, .f32⟩
  | .hbm, ⟨62, _⟩ => ⟨S12288x64, .f32⟩
  | _, _ => ⟨S32x6x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== HgrnStep.lean ====
abbrev S32x4x64x64 : Shape := ⟨4, ![32, 4, 64, 64]⟩
abbrev S32x256 : Shape := ⟨2, ![32, 256]⟩
abbrev S256 : Shape := ⟨1, ![256]⟩
abbrev S1x256 : Shape := ⟨2, ![1, 256]⟩
abbrev S32x4x1x64 : Shape := ⟨4, ![32, 4, 1, 64]⟩
abbrev S8192x64 : Shape := ⟨2, ![8192, 64]⟩
abbrev S32x4x64x1 : Shape := ⟨4, ![32, 4, 64, 1]⟩
abbrev S128x64 : Shape := ⟨2, ![128, 64]⟩
abbrev S2048x64 : Shape := ⟨2, ![2048, 64]⟩
abbrev S32x64 : Shape := ⟨2, ![32, 64]⟩
abbrev S32x64x64 : Shape := ⟨3, ![32, 64, 64]⟩
abbrev S32 : Shape := ⟨1, ![32]⟩
abbrev S32x1 : Shape := ⟨2, ![32, 1]⟩

abbrev nBuf : Space → Nat
  | .hbm => 22
  | .vmem => 14
  | .smem => 0
  | _ => 0

abbrev bufTy : (tb : Table) → Fin (tcTables nBuf tb) → BufTy
  | .hbm, ⟨0, _⟩ => ⟨S32x4x64x64, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S256, .f32⟩
  | .hbm, ⟨5, _⟩ => ⟨S1x256, .f32⟩
  | .hbm, ⟨6, _⟩ => ⟨S32x256, .f32⟩
  | .hbm, ⟨7, _⟩ => ⟨S32x4x1x64, .f32⟩
  | .hbm, ⟨8, _⟩ => ⟨S32x4x64x64, .f32⟩
  | .hbm, ⟨9, _⟩ => ⟨S8192x64, .f32⟩
  | .hbm, ⟨10, _⟩ => ⟨S8192x64, .f32⟩
  | .hbm, ⟨11, _⟩ => ⟨S32x4x64x1, .f32⟩
  | .hbm, ⟨12, _⟩ => ⟨S32x4x64x64, .f32⟩
  | .hbm, ⟨13, _⟩ => ⟨S8192x64, .f32⟩
  | .hbm, ⟨14, _⟩ => ⟨S32x4x64x1, .f32⟩
  | .hbm, ⟨15, _⟩ => ⟨S32x4x64x64, .f32⟩
  | .hbm, ⟨16, _⟩ => ⟨S8192x64, .f32⟩
  | .hbm, ⟨17, _⟩ => ⟨S32x4x64x1, .f32⟩
  | .hbm, ⟨18, _⟩ => ⟨S32x4x64x64, .f32⟩
  | .hbm, ⟨19, _⟩ => ⟨S8192x64, .f32⟩
  | .hbm, ⟨20, _⟩ => ⟨S128x64, .f32⟩
  | .hbm, ⟨21, _⟩ => ⟨S8192x64, .f32⟩
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S32x64, .f32⟩
  | .local _ .vmem, ⟨11, _⟩ => ⟨S32x64, .f32⟩
  | .local _ .vmem, ⟨12, _⟩ => ⟨S2048x64, .f32⟩
  | .local _ .vmem, ⟨13, _⟩ => ⟨S2048x64, .f32⟩
  | _, _ => ⟨S32x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HgrnStepRefIdeal.lean ====
abbrev S32x4x64x64 : Shape := ⟨4, ![32, 4, 64, 64]⟩
abbrev S32x256 : Shape := ⟨2, ![32, 256]⟩
abbrev S256 : Shape := ⟨1, ![256]⟩
abbrev S32x4x64 : Shape := ⟨3, ![32, 4, 64]⟩
abbrev S4x64 : Shape := ⟨2, ![4, 64]⟩
abbrev S1x4x64 : Shape := ⟨3, ![1, 4, 64]⟩
abbrev S_ : Shape := ⟨0, ![]⟩
abbrev S32x4 : Shape := ⟨2, ![32, 4]⟩
abbrev S32x4x1 : Shape := ⟨3, ![32, 4, 1]⟩
abbrev S32x4x64x1 : Shape := ⟨4, ![32, 4, 64, 1]⟩
abbrev S32x4x1x64 : Shape := ⟨4, ![32, 4, 1, 64]⟩
abbrev S128x64 : Shape := ⟨2, ![128, 64]⟩
abbrev S8192x64 : Shape := ⟨2, ![8192, 64]⟩

abbrev nBuf : Space → Nat
  | .hbm => 62
  | .vmem => 0
  | .smem => 0
  | _ => 0

abbrev bufTy : (tb : Table) → Fin (tcTables nBuf tb) → BufTy
  | .hbm, ⟨0, _⟩ => ⟨S32x4x64x64, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S256, .f32⟩
  | .hbm, ⟨5, _⟩ => ⟨S32x4x64, .f32⟩
  | .hbm, ⟨6, _⟩ => ⟨S32x4x64, .f32⟩
  | .hbm, ⟨7, _⟩ => ⟨S32x4x64, .f32⟩
  | .hbm, ⟨8, _⟩ => ⟨S4x64, .f32⟩
  | .hbm, ⟨9, _⟩ => ⟨S1x4x64, .f32⟩
  | .hbm, ⟨10, _⟩ => ⟨S1x4x64, .f32⟩
  | .hbm, ⟨11, _⟩ => ⟨S_, .f32⟩
  | .hbm, ⟨12, _⟩ => ⟨S1x4x64, .f32⟩
  | .hbm, ⟨13, _⟩ => ⟨S1x4x64, .f32⟩
  | .hbm, ⟨14, _⟩ => ⟨S32x4x64, .f32⟩
  | .hbm, ⟨15, _⟩ => ⟨S32x4x64, .f32⟩
  | .hbm, ⟨16, _⟩ => ⟨S_, .f32⟩
  | .hbm, ⟨17, _⟩ => ⟨S32x4x64, .f32⟩
  | .hbm, ⟨18, _⟩ => ⟨S32x4x64, .f32⟩
  | .hbm, ⟨19, _⟩ => ⟨S_, .f32⟩
  | .hbm, ⟨20, _⟩ => ⟨S32x4x64, .f32⟩
  | .hbm, ⟨21, _⟩ => ⟨S32x4x64, .f32⟩
  | .hbm, ⟨22, _⟩ => ⟨S32x4x64, .f32⟩
  | .hbm, ⟨23, _⟩ => ⟨S32x4x64, .f32⟩
  | .hbm, ⟨24, _⟩ => ⟨S32x4x64, .f32⟩
  | .hbm, ⟨25, _⟩ => ⟨S32x4x64, .f32⟩
  | .hbm, ⟨26, _⟩ => ⟨S32x4x64, .f32⟩
  | .hbm, ⟨27, _⟩ => ⟨S32x4x64, .f32⟩
  | .hbm, ⟨28, _⟩ => ⟨S_, .f32⟩
  | .hbm, ⟨29, _⟩ => ⟨S32x4x64, .f32⟩
  | .hbm, ⟨30, _⟩ => ⟨S32x4x64, .f32⟩
  | .hbm, ⟨31, _⟩ => ⟨S32x4, .f32⟩
  | .hbm, ⟨32, _⟩ => ⟨S32x4x1, .f32⟩
  | .hbm, ⟨33, _⟩ => ⟨S32x4x64, .f32⟩
  | .hbm, ⟨34, _⟩ => ⟨S32x4x64, .f32⟩
  | .hbm, ⟨35, _⟩ => ⟨S32x4x64, .f32⟩
  | .hbm, ⟨36, _⟩ => ⟨S32x4x64, .f32⟩
  | .hbm, ⟨37, _⟩ => ⟨S32x4x64, .f32⟩
  | .hbm, ⟨38, _⟩ => ⟨S32x4x64x1, .f32⟩
  | .hbm, ⟨39, _⟩ => ⟨S32x4x64x64, .f32⟩
  | .hbm, ⟨40, _⟩ => ⟨S32x4x64x64, .f32⟩
  | .hbm, ⟨41, _⟩ => ⟨S32x4x64x1, .f32⟩
  | .hbm, ⟨42, _⟩ => ⟨S32x4x1x64, .f32⟩
  | .hbm, ⟨43, _⟩ => ⟨S32x4x64x64, .f32⟩
  | .hbm, ⟨44, _⟩ => ⟨S32x4x64x64, .f32⟩
  | .hbm, ⟨45, _⟩ => ⟨S32x4x64x64, .f32⟩
  | .hbm, ⟨46, _⟩ => ⟨S32x4x64x64, .f32⟩
  | .hbm, ⟨47, _⟩ => ⟨S32x4x64, .f32⟩
  | .hbm, ⟨48, _⟩ => ⟨S_, .f32⟩
  | .hbm, ⟨49, _⟩ => ⟨S32x4, .f32⟩
  | .hbm, ⟨50, _⟩ => ⟨S32x4x1, .f32⟩
  | .hbm, ⟨51, _⟩ => ⟨S_, .f32⟩
  | .hbm, ⟨52, _⟩ => ⟨S32x4x1, .f32⟩
  | .hbm, ⟨53, _⟩ => ⟨S32x4x1, .f32⟩
  | .hbm, ⟨54, _⟩ => ⟨S_, .f32⟩
  | .hbm, ⟨55, _⟩ => ⟨S32x4x1, .f32⟩
  | .hbm, ⟨56, _⟩ => ⟨S32x4x1, .f32⟩
  | .hbm, ⟨57, _⟩ => ⟨S32x4x1, .f32⟩
  | .hbm, ⟨58, _⟩ => ⟨S32x4x64, .f32⟩
  | .hbm, ⟨59, _⟩ => ⟨S32x4x64, .f32⟩
  | .hbm, ⟨60, _⟩ => ⟨S128x64, .f32⟩
  | .hbm, ⟨61, _⟩ => ⟨S8192x64, .f32⟩
  | _, _ => ⟨S32x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Proof.Outs.lean ====
/-
  WHAT ONE GRID POINT OF THE RETENTION KERNEL LEAVES: the two output buffers after the body, as functions of the blocks
  the point finds. `stateNext` is the state buffer, `rowsOut` the 128 normalised rows; at the first point both read the
  zero state the body has just stored.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Ret

open Cert.KernelIdeal Cert.KernelIdeal.Gen Idealize.ShloMosaic Idealize.ShloMosaic.TcCoe Idealize.SL.Sem

variable {F : FTy → Type} [FloatOps F]

/-- Head `h`'s slab of the decay table, as the body loads it. -/
abbrev slab (d : Vec F S6x128x128 .f32) (off : Fin 3 → ℕ) (h : ∀ a, off a + S1x128x128.size a ≤ S6x128x128.size a) : Vec F S1x128x128 .f32 :=
  View.ld d (Rect.unit (s := S6x128x128) off S1x128x128.size h)

/-- The state after a chunk: the old one scaled by the chunk's decay, plus the keys' product with the values. -/
def stateNext (k v : Vec F S128x384 .f32) (kd : Vec F S128x384 .f32) (cm bd s : Vec F S384x384 .f32) : Vec F S384x384 .f32 :=
  k0_pay16 (k0_pay3 k) (k0_pay5 s) (k0_pay8 v) cm kd bd

/-- The rows a chunk adds up before the normalisation, without the last head's part. -/
def rowsFive (q k v : Vec F S128x384 .f32) (d : Vec F S6x128x128 .f32) (qd : Vec F S128x384 .f32) (s : Vec F S384x384 .f32) : Vec F S128x384 .f32 :=
  k0_pay13 k0_pay4 (k0_pay6 q) (k0_pay7 k) (k0_pay8 v)
    (k0_pay10 k0_pay4 (k0_pay6 q) (k0_pay7 k) (k0_pay8 v) (k0_pay9 s) (constant S128x384 .f32 0x00000000#32) qd
      (slab d ![0, 0, 0] inb_S6x128x128_S1x128x128_0_0_0) (slab d ![1, 0, 0] inb_S6x128x128_S1x128x128_1_0_0))
    (k0_pay11 k0_pay4) (k0_pay12 k0_pay4 (k0_pay6 q) (k0_pay7 k)) (slab d ![2, 0, 0] inb_S6x128x128_S1x128x128_2_0_0)
    (slab d ![3, 0, 0] inb_S6x128x128_S1x128x128_3_0_0) (slab d ![4, 0, 0] inb_S6x128x128_S1x128x128_4_0_0)

/-- The 128 rows a chunk writes, normalised head by head. -/
def rowsOut (q k v : Vec F S128x384 .f32) (d : Vec F S6x128x128 .f32) (qd : Vec F S128x384 .f32) (bd s : Vec F S384x384 .f32) : Vec F S128x384 .f32 :=
  k0_pay1 (k0_pay17 bd)
    (k0_pay18 (k0_pay8 v) (rowsFive q k v d qd s) (k0_pay14 k0_pay4) (k0_pay15 k0_pay4 (k0_pay6 q) (k0_pay7 k)) (slab d ![5, 0, 0] inb_S6x128x128_S1x128x128_5_0_0) bd)
    (k0_pay21 (k0_pay8 v) (rowsFive q k v d qd s) (k0_pay14 k0_pay4) (k0_pay15 k0_pay4 (k0_pay6 q) (k0_pay7 k)) (slab d ![5, 0, 0] inb_S6x128x128_S1x128x128_5_0_0) bd)
    (k0_pay22 (k0_pay8 v) (rowsFive q k v d qd s) (k0_pay14 k0_pay4) (k0_pay15 k0_pay4 (k0_pay6 q) (k0_pay7 k)) (slab d ![5, 0, 0] inb_S6x128x128_S1x128x128_5_0_0) bd)

theorem hz : (![0, 0] : Fin 2 → Nat) = fun _ => 0 := funext fun a => by fin_cases a <;> rfl

section Point
variable (c : Dev nD) (i : grid0.Coords)
  (a1 : Memref sig .tc .vmem S128x384 .f32) (h1 : a1.IsWhole) (a2 : Memref sig .tc .vmem S128x384 .f32) (h2 : a2.IsWhole)
  (a3 : Memref sig .tc .vmem S128x384 .f32) (h3 : a3.IsWhole) (a4 : Memref sig .tc .vmem S6x128x128 .f32) (h4 : a4.IsWhole)
  (a5 : Memref sig .tc .vmem S128x384 .f32) (h5 : a5.IsWhole) (a6 : Memref sig .tc .vmem S128x384 .f32) (h6 : a6.IsWhole)
  (a7 : Memref sig .tc .vmem S384x384 .f32) (h7 : a7.IsWhole) (a8 : Memref sig .tc .vmem S384x384 .f32) (h8 : a8.IsWhole)
  (a9 : Memref sig .tc .vmem S128x384 .f32) (h9 : a9.IsWhole) (a10 : Memref sig .tc .vmem S384x384 .f32) (h10 : a10.IsWhole)
  (x0 x1 x2 : Vec F S128x384 .f32) (x3 : Vec F S6x128x128 .f32) (x4 x5 : Vec F S128x384 .f32) (x6 x7 xo : Vec F S384x384 .f32)

/-- A later point's rows, over the state the point before left. -/
theorem out_B_8 (hc : ¬cond0_0 i) :
    out0_B_8 c i a1 h1 a2 h2 a3 h3 a4 h4 a5 h5 a6 h6 a7 h7 a8 h8 a9 h9 a10 h10 hc x0 x1 x2 x3 x4 x5 x6 x7 xo
      = rowsOut x0 x1 x2 x3 x4 x7 xo := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h10.read_unread, View.ld_unit_zero (S := S128x384) hz, View.ld_unit_zero (S := S384x384) hz]
  unfold rowsOut rowsFive slab
  rfl

/-- A later point's state. -/
theorem out_B_9 (hc : ¬cond0_0 i) :
    out0_B_9 c i a1 h1 a2 h2 a3 h3 a4 h4 a5 h5 a6 h6 a7 h7 a8 h8 a9 h9 a10 h10 hc x0 x1 x2 x3 x4 x5 x6 x7 xo
      = stateNext x1 x2 x5 x6 x7 xo := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 x7 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, h8.read_unread, h10.read_unread, View.ld_unit_zero (S := S128x384) hz, View.ld_unit_zero (S := S384x384) hz]
  unfold stateNext
  rfl

/-- The first point's rows, over the zero state it stores. -/
theorem out_A_8 (hc : cond0_0 i) :
    out0_A_8 c i a1 h1 a2 h2 a3 h3 a4 h4 a5 h5 a6 h6 a7 h7 a8 h8 a9 h9 a10 h10 hc x0 x1 x2 x3 x4 x5 x6 x7
      = rowsOut x0 x1 x2 x3 x4 x7 k0_pay2 := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, h8.read_unread, View.ld_unit_zero (S := S128x384) hz, View.ld_unit_zero (S := S384x384) hz,
    View.readCov_unit_zero (S := S384x384) _ hz]
  unfold rowsOut rowsFive slab
  rfl

/-- The first point's state. -/
theorem out_A_9 (hc : cond0_0 i) :
    out0_A_9 c i a1 h1 a2 h2 a3 h3 a4 h4 a5 h5 a6 h6 a7 h7 a8 h8 a9 h9 a10 h10 hc x0 x1 x2 x3 x4 x5 x6 x7
      = stateNext x1 x2 x5 x6 x7 k0_pay2 := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6 x7)]
  unfold kernelRun0_A
  dsimp only
  sl_unfold_words
  rw [View.canon_cons_unit_zero (S := S384x384) hz]
  simp only [View.readAt_eq_ld, h1.read_unread, h2.read_unread, h3.read_unread, h4.read_unread, h5.read_unread, h6.read_unread,
    h7.read_unread, h8.read_unread, View.ld_unit_zero (S := S128x384) hz, View.ld_unit_zero (S := S384x384) hz,
    View.readCov_unit_zero (S := S384x384) _ hz]
  unfold stateNext
  rfl

end Point

end Cert.KernelIdeal.Ret

end
-- ==== Proof.Rows.lean ====
/-
  ONE CHUNK OF THE RETENTION KERNEL OVER THE EXTENDED REALS, read element by element: the new state, the rows a chunk
  adds up from the state and from the six heads' masked products, and the normalisation of those rows.
-/
module

public import proofs.«01_k».proof.Proof.Outs
public import Idealize.ShloMosaic.Lib.Pointwise

@[expose] public section

set_option maxRecDepth 16384

noncomputable section

namespace Cert.KernelIdeal.Ret

open Cert.KernelIdeal Cert.KernelIdeal.Gen Idealize.ShloMosaic Idealize.ShloMosaic.TcCoe

/-- The scale of the keys, one eighth. -/
def e8 : EReal := Ideal.ofBits .f32 0x3E000000#32

/-- The weight of one lane in its head's mean, one sixty-fourth. -/
def e64 : EReal := Ideal.ofBits .f32 0x3C800000#32

/-- The number the variance is moved by. -/
def eps : EReal := Ideal.ofBits .f32 0x358637BD#32

/-- Lane `l` belongs to head `l / 64`. -/
theorem head_apply (r : Fin 128) (l : Fin 384) : k0_pay4 (ix2 r l) = BitVec.ofNat 32 (l.val / 64) := by
  pointwise [k0_pay4]
  revert l
  decide +kernel

/-- The state after a chunk, element by element. -/
theorem stateNext_apply (k v kd : Vec Ideal S128x384 .f32) (cm bd s : Vec Ideal S384x384 .f32) (i j : Fin 384) :
    stateNext k v kd cm bd s (ix2 i j)
      = s (ix2 i j) * cm (ix2 i j) + (∑ r : Fin 128, k (ix2 r i) * e8 * kd (ix2 r i) * v (ix2 r j)) * bd (ix2 i j) := by
  pointwise [stateNext, k0_pay16, k0_pay3, k0_pay5, k0_pay8]
  rfl

/-- A lane's head compared with a number, as a choice. -/
theorem select_head (l : Fin 384) (n : ℕ) (hn : n < 6) (a b : EReal) :
    Scalar.select (IntOp.cmpi .eq (BitVec.ofNat 32 (l.val / 64)) (BitVec.ofNat 32 n)) a b = if l.val / 64 = n then a else b := by
  have h2 : (BitVec.ofNat 32 (l.val / 64) = BitVec.ofNat 32 n) ↔ l.val / 64 = n := by
    constructor
    · intro h
      have := congrArg BitVec.toNat h
      simp only [BitVec.toNat_ofNat] at this
      have := l.isLt
      omega
    · intro h; rw [h]
  by_cases h : l.val / 64 = n
  · rw [if_pos h, h]; simp [Scalar.select, IntOp.cmpi]
  · rw [if_neg h]
    have hb : (BitVec.ofNat 32 (l.val / 64) == BitVec.ofNat 32 n) = false := by
      simpa only [beq_eq_false_iff_ne, ne_eq] using mt h2.1 h
    simp only [Scalar.select, IntOp.cmpi, hb]
    rfl

/-- What head `h`'s masked products add at row `r`, lane `l`. -/
def part (q k v : Vec Ideal S128x384 .f32) (d : Vec Ideal S6x128x128 .f32) (h : Fin 6) (r : Fin 128) (l : Fin 384) : EReal :=
  if l.val / 64 = h.val then
    ∑ u : Fin 128, (∑ i : Fin 384, if i.val / 64 = h.val then q (ix2 r i) * (k (ix2 u i) * e8) else 0) * d (ix3 h r u) * v (ix2 u l)
  else 0

/-- The rows before the normalisation. -/
def raw (q k v : Vec Ideal S128x384 .f32) (d : Vec Ideal S6x128x128 .f32) (qd : Vec Ideal S128x384 .f32) (s : Vec Ideal S384x384 .f32)
    (r : Fin 128) (l : Fin 384) : EReal :=
  (∑ i : Fin 384, q (ix2 r i) * s (ix2 i l)) * qd (ix2 r l) + part q k v d 0 r l + part q k v d 1 r l + part q k v d 2 r l
    + part q k v d 3 r l + part q k v d 4 r l + part q k v d 5 r l

theorem rowsFive_apply (q k v : Vec Ideal S128x384 .f32) (d : Vec Ideal S6x128x128 .f32) (qd : Vec Ideal S128x384 .f32)
    (s : Vec Ideal S384x384 .f32) (r : Fin 128) (l : Fin 384) :
    rowsFive q k v d qd s (ix2 r l) = (∑ i : Fin 384, q (ix2 r i) * s (ix2 i l)) * qd (ix2 r l) + part q k v d 0 r l + part q k v d 1 r l + part q k v d 2 r l
    + part q k v d 3 r l + part q k v d 4 r l := by
  pointwise [rowsFive, k0_pay13, k0_pay10, k0_pay11, k0_pay12, k0_pay6, k0_pay7, k0_pay8, k0_pay9, k0_pay3, k0_pay5, slab, head_apply, part]
  rw [select_head l 0 (by omega), select_head l 1 (by omega), select_head l 2 (by omega), select_head l 3 (by omega), select_head l 4 (by omega)]
  simp only [select_head _ 0 (by omega), select_head _ 1 (by omega), select_head _ 2 (by omega), select_head _ 3 (by omega), select_head _ 4 (by omega)]
  rfl

/-- The rows moved by their head's mean: the mean is taken of the rows and of what rounding them left. -/
def centred (y : Fin 128 → Fin 384 → EReal) (bd : Vec Ideal S384x384 .f32) (r : Fin 128) (l : Fin 384) : EReal :=
  y r l - ((∑ i : Fin 384, y r i * (bd (ix2 i l) * e64)) + ∑ i : Fin 384, (y r i - y r i) * (bd (ix2 i l) * e64))

/-- The rows over the root of their head's variance. -/
def normed (x : Fin 128 → Fin 384 → EReal) (bd : Vec Ideal S384x384 .f32) (r : Fin 128) (l : Fin 384) : EReal :=
  x r l * Ideal.rsqrt ((∑ i : Fin 384, x r i * x r i * (bd (ix2 i l) * e64))
    + (∑ i : Fin 384, (x r i * x r i - x r i * x r i) * (bd (ix2 i l) * e64)) + eps)

theorem centred_apply (q k v : Vec Ideal S128x384 .f32) (d : Vec Ideal S6x128x128 .f32) (qd : Vec Ideal S128x384 .f32)
    (bd s : Vec Ideal S384x384 .f32) (r : Fin 128) (l : Fin 384) :
    k0_pay18 (k0_pay8 v) (rowsFive q k v d qd s) (k0_pay14 k0_pay4) (k0_pay15 k0_pay4 (k0_pay6 q) (k0_pay7 k))
      (slab d ![5, 0, 0] inb_S6x128x128_S1x128x128_5_0_0) bd (ix2 r l) = centred (raw q k v d qd s) bd r l := by
  have hy : ∀ i : Fin 384, rowsFive q k v d qd s (ix2 r i)
      + Scalar.select (IntOp.cmpi CmpIPredicate.eq (BitVec.ofNat 32 (i.val / 64)) 5#32)
        (∑ x : Fin 128, (∑ x_1 : Fin 384, Scalar.select (IntOp.cmpi CmpIPredicate.eq (BitVec.ofNat 32 (x_1.val / 64)) 5#32)
          (q (ix2 r x_1) * (k (ix2 x x_1) * Ideal.ofBits FTy.f32 1040187392#32)) 0) * d (ix3 5 r x) * v (ix2 x i)) 0
      = raw q k v d qd s r i := by
    intro i
    rw [rowsFive_apply, select_head i 5 (by omega)]
    simp only [select_head _ 5 (by omega)]
    rfl
  pointwise [k0_pay18, k0_pay17, k0_pay15, k0_pay14, k0_pay6, k0_pay7, k0_pay8, k0_pay3, slab, head_apply]
  simp only [hy]
  rfl

theorem rowsOut_apply (q k v : Vec Ideal S128x384 .f32) (d : Vec Ideal S6x128x128 .f32) (qd : Vec Ideal S128x384 .f32)
    (bd s : Vec Ideal S384x384 .f32) (r : Fin 128) (l : Fin 384) :
    rowsOut q k v d qd bd s (ix2 r l) = normed (centred (raw q k v d qd s) bd) bd r l := by
  have h18 := centred_apply q k v d qd bd s
  unfold rowsOut k0_pay21 k0_pay22 k0_pay20 k0_pay19
  generalize k0_pay18 (F := Ideal) _ _ _ _ _ _ = x at h18 ⊢
  pointwise [k0_pay1, k0_pay17]
  simp only [h18]
  rfl

end Cert.KernelIdeal.Ret
-- ==== Proof.Fold.lean ====
/-
  THE KERNEL'S CHUNKS IN ORDER: the blocks the windows deliver are the argument's columns chunk by chunk and the whole
  tables; the buffers after chunk `n` are the rows and the state of the recurrence; the result arrays hold the rows of
  every chunk and the state after the last.
-/
module

public import proofs.«01_k».proof.Proof.Outs
public import Idealize.ShloMosaic.Lib.Pointwise

@[expose] public section

set_option maxRecDepth 16384

noncomputable section

namespace Cert.KernelIdeal.Ret

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ) (c : Dev nD)

/-- Chunk `n` (counted round) of 384 columns of the argument, from column `off`. -/
def chunk (a : Vec F S16384x1152 .f32) (off : ℕ) (ho : off + 384 ≤ 1152) (n : ℕ) : Vec F S128x384 .f32 :=
  fun j => a (ix2 ⟨128 * (n % 128) + (j 0).val, by have : (j 0).val < 128 := (j 0).isLt; omega⟩
    ⟨off + (j 1).val, by have : (j 1).val < 384 := (j 1).isLt; omega⟩)

/-- The argument. -/
abbrev arg : Vec F S16384x1152 .f32 := m ((c : Thread nD τ).loc main_arg0)

theorem index_q : ∀ t : Fin cfg0.N, win0_0.index t 0 = t.val ∧ win0_0.index t 1 = 0 :=
  (by decide +kernel : ∀ t : Fin grid0.N, win0_0.index t 0 = t.val ∧ win0_0.index t 1 = 0)
theorem index_k : ∀ t : Fin cfg0.N, win0_1.index t 0 = t.val ∧ win0_1.index t 1 = 1 :=
  (by decide +kernel : ∀ t : Fin grid0.N, win0_1.index t 0 = t.val ∧ win0_1.index t 1 = 1)
theorem index_v : ∀ t : Fin cfg0.N, win0_2.index t 0 = t.val ∧ win0_2.index t 1 = 2 :=
  (by decide +kernel : ∀ t : Fin grid0.N, win0_2.index t 0 = t.val ∧ win0_2.index t 1 = 2)

theorem lt128 (t : Fin cfg0.N) : t.val < 128 := lt_of_lt_of_eq t.isLt (show cfg0.N = 128 from N_0)

theorem block_q (t : Fin cfg0.N) : (iblk m c 0 t : Vec F S128x384 .f32) = chunk (arg m c) 0 (by omega) t.val := by
  have hi := index_q t
  have ht := lt128 t
  funext j
  unfold iblk chunk
  rw [View.read_apply]
  show V m c main_arg0 _ = _
  rw [V_main_arg0]
  show m _ _ = m _ _
  congr 1
  funext a
  apply Fin.ext
  match a with
  | ⟨0, _⟩ => show win0_0.index t 0 * 128 + 1 * (j 0).val = 128 * (t.val % 128) + (j 0).val; rw [hi.1]; omega
  | ⟨1, _⟩ => show win0_0.index t 1 * 384 + 1 * (j 1).val = 0 + (j 1).val; rw [hi.2]; omega

theorem block_k (t : Fin cfg0.N) : (iblk m c 1 t : Vec F S128x384 .f32) = chunk (arg m c) 384 (by omega) t.val := by
  have hi := index_k t
  have ht := lt128 t
  funext j
  unfold iblk chunk
  rw [View.read_apply]
  show V m c main_arg0 _ = _
  rw [V_main_arg0]
  show m _ _ = m _ _
  congr 1
  funext a
  apply Fin.ext
  match a with
  | ⟨0, _⟩ => show win0_1.index t 0 * 128 + 1 * (j 0).val = 128 * (t.val % 128) + (j 0).val; rw [hi.1]; omega
  | ⟨1, _⟩ => show win0_1.index t 1 * 384 + 1 * (j 1).val = 384 + (j 1).val; rw [hi.2]; omega

theorem block_v (t : Fin cfg0.N) : (iblk m c 2 t : Vec F S128x384 .f32) = chunk (arg m c) 768 (by omega) t.val := by
  have hi := index_v t
  have ht := lt128 t
  funext j
  unfold iblk chunk
  rw [View.read_apply]
  show V m c main_arg0 _ = _
  rw [V_main_arg0]
  show m _ _ = m _ _
  congr 1
  funext a
  apply Fin.ext
  match a with
  | ⟨0, _⟩ => show win0_2.index t 0 * 128 + 1 * (j 0).val = 128 * (t.val % 128) + (j 0).val; rw [hi.1]; omega
  | ⟨1, _⟩ => show win0_2.index t 1 * 384 + 1 * (j 1).val = 768 + (j 1).val; rw [hi.2]; omega

theorem block_d (t : Fin cfg0.N) : (iblk m c 3 t : Vec F S6x128x128 .f32) = V m c main_v27 := by
  have hz' : (fun a => win0_3.index t a * main_v27.ty.shape.size a) = fun _ => 0 := funext fun a => by fin_cases a <;> rfl
  exact Memref.read_access_unit_zero (Elt F) main_v27 hz' (fun a => by rw [congrFun hz' a]; simp) _

theorem block_qd (t : Fin cfg0.N) : (iblk m c 4 t : Vec F S128x384 .f32) = V m c main_v37 := by
  have hz' : (fun a => win0_4.index t a * main_v37.ty.shape.size a) = fun _ => 0 := funext fun a => by fin_cases a <;> rfl
  exact Memref.read_access_unit_zero (Elt F) main_v37 hz' (fun a => by rw [congrFun hz' a]; simp) _

theorem block_kd (t : Fin cfg0.N) : (iblk m c 5 t : Vec F S128x384 .f32) = V m c main_v47 := by
  have hz' : (fun a => win0_5.index t a * main_v47.ty.shape.size a) = fun _ => 0 := funext fun a => by fin_cases a <;> rfl
  exact Memref.read_access_unit_zero (Elt F) main_v47 hz' (fun a => by rw [congrFun hz' a]; simp) _

theorem block_cm (t : Fin cfg0.N) : (iblk m c 6 t : Vec F S384x384 .f32) = V m c main_v63 := by
  have hz' : (fun a => win0_6.index t a * main_v63.ty.shape.size a) = fun _ => 0 := funext fun a => by fin_cases a <;> rfl
  exact Memref.read_access_unit_zero (Elt F) main_v63 hz' (fun a => by rw [congrFun hz' a]; simp) _

theorem block_bd (t : Fin cfg0.N) : (iblk m c 7 t : Vec F S384x384 .f32) = V m c main_v60 := by
  have hz' : (fun a => win0_7.index t a * main_v60.ty.shape.size a) = fun _ => 0 := funext fun a => by fin_cases a <;> rfl
  exact Memref.read_access_unit_zero (Elt F) main_v60 hz' (fun a => by rw [congrFun hz' a]; simp) _

/-- The state before chunk `n`. -/
def state (kd : Vec F S128x384 .f32) (cm bd : Vec F S384x384 .f32) (a : Vec F S16384x1152 .f32) : ℕ → Vec F S384x384 .f32
  | 0 => k0_pay2
  | n + 1 => stateNext (chunk a 384 (by omega) n) (chunk a 768 (by omega) n) kd cm bd (state kd cm bd a n)

/-- The state before chunk `n` of the run. -/
abbrev st (n : ℕ) : Vec F S384x384 .f32 := state (V m c main_v47) (V m c main_v63) (V m c main_v60) (arg m c) n

/-- The rows of chunk `n` of the run. -/
abbrev rows (n : ℕ) : Vec F S128x384 .f32 :=
  rowsOut (chunk (arg m c) 0 (by omega) n) (chunk (arg m c) 384 (by omega) n) (chunk (arg m c) 768 (by omega) n)
    (V m c main_v27) (V m c main_v37) (V m c main_v60) (st m c n)

/-- The buffers after chunk `n`. -/
theorem outs_eq : ∀ (n : ℕ) (hn : n < cfg0.N), outsAt0 m c n hn = (rows m c n, st m c (n + 1)) := by
  intro n
  induction n with
  | zero =>
    intro hn
    rw [outsAt0_A m c ⟨0, hn⟩ rfl, out_A_8, out_A_9]
    simp only [block_q, block_k, block_v, block_d, block_qd, block_kd, block_cm, block_bd]
    rfl
  | succ n ih =>
    intro hn
    have hN : n + 1 < 128 := lt128 ⟨n + 1, hn⟩
    rw [outsAt0_B m c ⟨n + 1, hn⟩ (show ¬ (n + 1) % 128 = 0 by omega), out_B_8, out_B_9]
    simp only [block_q, block_k, block_v, block_d, block_qd, block_kd, block_cm, block_bd, Nat.add_sub_cancel, ih]
    rfl

/-- The array of the rows. -/
def outRows (f : ℕ → Vec F S128x384 .f32) : Vec F S16384x384 .f32 :=
  fun j => f ((j 0).val / 128) (ix2 ⟨(j 0).val % 128, Nat.mod_lt _ (by omega)⟩ (j 1))

theorem index_o : ∀ t : Fin cfg0.N, win0_8.index t 0 = t.val ∧ win0_8.index t 1 = 0 :=
  (by decide +kernel : ∀ t : Fin grid0.N, win0_8.index t 0 = t.val ∧ win0_8.index t 1 = 0)

theorem flushed_rows (t : Fin cfg0.N) (hf : (cfg0.win 8).flush t = true) :
    (dats m 0 c).flushed 8 t = ((cfg0.win 8).blk t).view.read (Elt F) (outRows (rows m c)) := by
  rw [flushed8, outs_eq]
  generalize rows m c = f
  have hi := index_o t
  have ht := lt128 t
  funext j
  rw [View.read_apply]
  have h0 : (j 0).val < 128 := (j 0).isLt
  have h1 : (j 1).val < 384 := (j 1).isLt
  have he : (((cfg0.win 8).blk t).view.emb j : S16384x384.Idx) = ix2 ⟨t.val * 128 + (j 0).val, by omega⟩ ⟨(j 1).val, h1⟩ := by
    funext a
    apply Fin.ext
    match a with
    | ⟨0, _⟩ => show win0_8.index t 0 * 128 + 1 * (j 0).val = _; rw [hi.1]; simp
    | ⟨1, _⟩ => show win0_8.index t 1 * 384 + 1 * (j 1).val = _; rw [hi.2]; simp
  show f t.val j = outRows f (((cfg0.win 8).blk t).view.emb j)
  rw [he]
  show f t.val j = f ((t.val * 128 + (j 0).val) / 128) (ix2 ⟨(t.val * 128 + (j 0).val) % 128, _⟩ ⟨(j 1).val, h1⟩)
  have e : (t.val * 128 + (j 0).val) / 128 = t.val := by omega
  rw [e]
  congr 1
  funext a
  apply Fin.ext
  match a with
  | ⟨0, _⟩ => show (j 0).val = (t.val * 128 + (j 0).val) % 128; omega
  | ⟨1, _⟩ => rfl

theorem final_rows : (dats m 0 c).arrAt 8 cfg0.N = outRows (rows m c) :=
  (dats m 0 c).arrAt_eq_of_cover 8 (outRows (rows m c)) (flushed_rows m c) fun i => by
    have h0 : (i 0 : Nat) < 16384 := (i 0).isLt
    have h1 : (i 1 : Nat) < 384 := (i 1).isLt
    have hN : cfg0.N = 128 := N_0
    obtain ⟨t, ht⟩ : ∃ t : Fin cfg0.N, t.val = (i 0 : Nat) / 128 := ⟨⟨(i 0 : Nat) / 128, by omega⟩, rfl⟩
    refine ⟨t, flush0_8 _, ?_⟩
    show i ∈ ((View.whole main_v64_0).slice (win0_8.rect t)).set
    rw [View.set_slice_whole, Rect.mem_set_unit]
    have hi := index_o t
    intro a
    match a with
    | ⟨0, _⟩ =>
      show win0_8.index _ 0 * 128 ≤ (i 0 : Nat) ∧ (i 0 : Nat) < win0_8.index _ 0 * 128 + 128
      rw [hi.1, ht]; omega
    | ⟨1, _⟩ =>
      show win0_8.index _ 1 * 384 ≤ (i 1 : Nat) ∧ (i 1 : Nat) < win0_8.index _ 1 * 384 + 384
      rw [hi.2]; omega

theorem flushed_state (t : Fin cfg0.N) (hf : (cfg0.win 9).flush t = true) :
    (dats m 0 c).flushed 9 t = ((cfg0.win 9).blk t).view.read (Elt F) (st m c 128) := by
  have h127 : t.val = 127 := by have := (flush0_9 t).mp hf; have := lt128 t; omega
  rw [flushed9, outs_eq, h127]
  have hz' : (fun a => win0_9.index t a * main_v64_1.ty.shape.size a) = fun _ => 0 := funext fun a => by fin_cases a <;> rfl
  exact (Memref.read_access_unit_zero (Elt F) main_v64_1 hz' (fun a => by rw [congrFun hz' a]; simp) (st m c 128)).symm

theorem final_state : (dats m 0 c).arrAt 9 cfg0.N = st m c 128 :=
  (dats m 0 c).arrAt_eq_of_cover 9 (st m c 128) (flushed_state m c) fun i => by
    have h0 : (i 0 : Nat) < 384 := (i 0).isLt
    have h1 : (i 1 : Nat) < 384 := (i 1).isLt
    have hN : cfg0.N = 128 := N_0
    obtain ⟨t, ht⟩ : ∃ t : Fin cfg0.N, t.val = 127 := ⟨⟨127, by omega⟩, rfl⟩
    refine ⟨t, (flush0_9 _).mpr (by rw [ht]), ?_⟩
    show i ∈ ((View.whole main_v64_1).slice (win0_9.rect t)).set
    rw [View.set_slice_whole, Rect.mem_set_unit]
    intro a
    match a with
    | ⟨0, _⟩ =>
      show 0 * 384 ≤ (i 0 : Nat) ∧ (i 0 : Nat) < 0 * 384 + 384
      omega
    | ⟨1, _⟩ =>
      show 0 * 384 ≤ (i 1 : Nat) ∧ (i 1 : Nat) < 0 * 384 + 384
      omega

/-- The run: the rows of every chunk, the state after the last, the argument unchanged. -/
theorem run (ρ : Dev nD → PrngReg) : θ_run defs (onTc (τ := τ) (main (F := F))) ⟨m, fun _ => 0, ρ⟩ fun r => ∀ c : Dev nD,
      r.2.mem ((c : Thread nD τ).loc main_v64_0) = outRows (rows m c)
      ∧ r.2.mem ((c : Thread nD τ).loc main_v64_1) = st m c 128
      ∧ r.2.mem ((c : Thread nD τ).loc main_arg0) = m ((c : Thread nD τ).loc main_arg0) :=
  (θ_run defs _ _).mono (fun _ h c => ⟨(h c).1.trans (final_rows m c), (h c).2.1.trans (final_state m c), (h c).2.2⟩)
    (run_blocks m ρ)

end Cert.KernelIdeal.Ret
-- ==== Proof.Tables.lean ====
/-
  THE KERNEL'S TABLES: what the host operations before the call leave in the decay tables, in terms of the tables the
  reference makes for itself, and the 0/1 table of the heads' diagonal blocks.
-/
module

public import proofs.«01_k».proof.Proof.Gen.KernelIdeal.Value
public import proofs.«01_k».proof.Proof.Gen.ReferenceIdeal.Step
public import Idealize.ShloMosaic.Lib.Pointwise
public import Idealize.ShloMosaic.Lib.Tactic
public import Idealize.ShloMosaic.Lib.StableHlo.ReadAt

@[expose] public section

set_option maxRecDepth 16384
set_option maxHeartbeats 1000000

noncomputable section

namespace Cert.KernelIdeal.Ret

open Cert.KernelIdeal Cert.KernelIdeal.Gen Idealize.ShloMosaic Idealize.ShloMosaic.TcCoe
open Cert.ReferenceIdeal.Step (K_main_v33 K_main_v41 K_main_v49 K_main_v52)

variable (m : (ℓ : Loc nD τ sig) → Buf (Elt Ideal) ℓ) (c : Dev nD)

/-- The decay table inside a chunk, as the kernel finds it. -/
abbrev tabD : Vec Ideal S6x128x128 .f32 := V m c main_v27
/-- The rows' decay. -/
abbrev tabQD : Vec Ideal S128x384 .f32 := V m c main_v37
/-- The keys' decay. -/
abbrev tabKD : Vec Ideal S128x384 .f32 := V m c main_v47
/-- The lanes' heads, as the host counts them. -/
abbrev tabHead : IVec S384 32 := V m c main_v54
/-- The diagonal blocks. -/
abbrev tabBD : Vec Ideal S384x384 .f32 := V m c main_v60
/-- The state's decay. -/
abbrev tabCM : Vec Ideal S384x384 .f32 := V m c main_v63

/-- The decay table inside a chunk. -/
theorem table_d : tabD m c = K_main_v33 (F := Ideal) := by
  show (V m c _) = _; unfold V
  simp only [hostOps0, hostOps0_1, hostOps0_2, hostOps0_3, hostOps0_4, hostOps0_5, hostOps0_6, List.flatten_cons, List.flatten_nil, List.append_nil, List.cons_append, List.nil_append]
  after_reads_simp
  rfl

/-- The rows' decay, one column a head, spread over the head's lanes. -/
theorem table_qd (r : Fin 128) (l : Fin 384) :
    tabQD m c (ix2 r l) = K_main_v41 (F := Ideal) (ix2 r ⟨l.val / 64, by omega⟩) := by
  have h : tabQD m c
      = shapeCast S128x384 (broadcastInDim S128x6x64 ![0, 1] bcast_S128x6_S128x6x64_0_1 (K_main_v41 (F := Ideal))) shapeCasts_S128x6x64_S128x384 := by
    show (V m c _) = _; unfold V
    simp only [hostOps0, hostOps0_1, hostOps0_2, hostOps0_3, hostOps0_4, hostOps0_5, hostOps0_6, List.flatten_cons, List.flatten_nil, List.append_nil, List.cons_append, List.nil_append]
    after_reads_simp
    rfl
  rw [h]
  pointwise

/-- The keys' decay, spread likewise. -/
theorem table_kd (r : Fin 128) (l : Fin 384) :
    tabKD m c (ix2 r l) = K_main_v49 (F := Ideal) (ix2 r ⟨l.val / 64, by omega⟩) := by
  have h : tabKD m c
      = shapeCast S128x384 (broadcastInDim S128x6x64 ![0, 1] bcast_S128x6_S128x6x64_0_1 (K_main_v49 (F := Ideal))) shapeCasts_S128x6x64_S128x384 := by
    show (V m c _) = _; unfold V
    simp only [hostOps0, hostOps0_1, hostOps0_2, hostOps0_3, hostOps0_4, hostOps0_5, hostOps0_6, List.flatten_cons, List.flatten_nil, List.append_nil, List.cons_append, List.nil_append]
    after_reads_simp
    rfl
  rw [h]
  pointwise

/-- The 0/1 table of the heads' diagonal blocks. -/
theorem table_bd (i j : Fin 384) :
    (tabBD m c) (ix2 i j) = if i.val / 64 = j.val / 64 then 1 else 0 := by
  have h : ∀ l : Fin 384, (tabHead m c) (ix1 l) = BitVec.ofNat 32 (l.val / 64) := by
    intro l
    show (V m c main_v54) _ = _; unfold V
    simp only [hostOps0, hostOps0_1, hostOps0_2, hostOps0_3, hostOps0_4, hostOps0_5, hostOps0_6, List.flatten_cons, List.flatten_nil, List.append_nil, List.cons_append, List.nil_append]
    after_reads_at
    revert l
    decide +kernel
  have h2 : (tabBD m c)
      = uitofp (F := Ideal) .f32 (cmpi .eq (broadcastInDim S384x384 ![0, 1] bcast_S384x1_S384x384_0_1 (broadcastInDim S384x1 ![0] bcast_S384_S384x1_0 (tabHead m c)))
          (broadcastInDim S384x384 ![0, 1] bcast_S1x384_S384x384_0_1 (broadcastInDim S1x384 ![1] bcast_S384_S1x384_1 (tabHead m c)))) := by
    show (V m c _) = _; unfold V
    simp only [hostOps0, hostOps0_1, hostOps0_2, hostOps0_3, hostOps0_4, hostOps0_5, hostOps0_6, List.flatten_cons, List.flatten_nil, List.append_nil, List.cons_append, List.nil_append]
    after_reads_simp
  rw [h2]
  pointwise [h]
  by_cases e : i.val / 64 = j.val / 64
  · rw [if_pos e, e]
    show (((IntOp.cmpi CmpIPredicate.eq (BitVec.ofNat 32 (j.val / 64)) (BitVec.ofNat 32 (j.val / 64))).toNat : ℝ) : EReal) = 1
    simp [IntOp.cmpi]
  · rw [if_neg e]
    have hb : (BitVec.ofNat 32 (i.val / 64) == BitVec.ofNat 32 (j.val / 64)) = false := by
      simp only [beq_eq_false_iff_ne, ne_eq]
      intro h'
      have := congrArg BitVec.toNat h'
      simp only [BitVec.toNat_ofNat] at this
      have := i.isLt
      have := j.isLt
      omega
    show (((IntOp.cmpi CmpIPredicate.eq (BitVec.ofNat 32 (i.val / 64)) (BitVec.ofNat 32 (j.val / 64))).toNat : ℝ) : EReal) = 0
    simp only [IntOp.cmpi, hb]
    simp

/-- The state's decay on the diagonal blocks. -/
theorem table_cm (i j : Fin 384) :
    (tabCM m c) (ix2 i j)
      = (if i.val / 64 = j.val / 64 then (1 : EReal) else 0) * K_main_v52 (F := Ideal) (ix1 ⟨i.val / 64, by omega⟩) := by
  have h2 : (tabCM m c)
      = mulf (F := Ideal) (φ := .f32) (tabBD m c) (broadcastInDim S384x384 ![0, 1] bcast_S384x1_S384x384_0_1 (broadcastInDim S384x1 ![0] bcast_S384_S384x1_0
          (shapeCast S384 (broadcastInDim S6x64 ![0] bcast_S6_S6x64_0 (K_main_v52 (F := Ideal))) shapeCasts_S6x64_S384))) := by
    show (V m c _) = _; unfold V
    simp only [hostOps0, hostOps0_1, hostOps0_2, hostOps0_3, hostOps0_4, hostOps0_5, hostOps0_6, List.flatten_cons, List.flatten_nil, List.append_nil, List.cons_append, List.nil_append]
    after_reads_simp
    rfl
  rw [h2]
  pointwise
  rw [table_bd]

end Cert.KernelIdeal.Ret
-- ==== Proof.RefChunk.lean ====
/-
  THE REFERENCE'S RECURRENCE, read element by element: one trip of its loop over the chunks, the state and the rows after
  `n` trips, and what the operations after the loop make of them.
-/
module

public import proofs.«01_k».proof.Proof.Gen.ReferenceIdeal.Step
public import Idealize.ShloMosaic.Lib.Pointwise

@[expose] public section

set_option maxRecDepth 16384

noncomputable section

namespace Cert.ReferenceIdeal.Ret

open Cert.ReferenceIdeal Cert.ReferenceIdeal.Gen Cert.ReferenceIdeal.Step Idealize.ShloMosaic

/-- The scale of the keys, one eighth. -/
def e8 : EReal := Ideal.ofBits .f32 0x3E000000#32

variable (a : Vec Ideal S16384x1152 .f32)

theorem q_apply (n : Fin 128) (r : Fin 128) (h : Fin 6) (d : Fin 64) :
    A_main_v57 a (ix5 n 0 r h d) = a (ix2 ⟨n.val * 128 + r.val, by omega⟩ ⟨h.val * 64 + d.val, by omega⟩) := by
  pointwise [A_main_v57, A_main_v56, A_main_v1, A_main_v0]

theorem k_apply (n : Fin 128) (r : Fin 128) (h : Fin 6) (d : Fin 64) :
    A_main_v59 a (ix5 n 0 r h d) = a (ix2 ⟨n.val * 128 + r.val, by omega⟩ ⟨384 + (h.val * 64 + d.val), by omega⟩) * e8 := by
  pointwise [A_main_v59, A_main_v58, A_main_v54, A_main_v3, A_main_v2, K_main_v53, K_main_cst_7]
  rfl

theorem v_apply (n : Fin 128) (r : Fin 128) (h : Fin 6) (d : Fin 64) :
    A_main_v61 a (ix5 n 0 r h d) = a (ix2 ⟨n.val * 128 + r.val, by omega⟩ ⟨768 + (h.val * 64 + d.val), by omega⟩) := by
  pointwise [A_main_v61, A_main_v60, A_main_v5, A_main_v4]

/-! Where the reference's slices of chunk `j` begin. -/

theorem start0 (hr : S1x1x128x6x64.rank = S128x1x128x6x64.rank) (j : Fin 128) :
    Host.clampedStart S128x1x128x6x64 S1x1x128x6x64 hr
      (fun k => BitVec.toInt ((![constantI S_ 32 (BitVec.ofNat 32 j.val), constantI S_ 32 0#32, constantI S_ 32 0#32, constantI S_ 32 0#32, constantI S_ 32 0#32] : Fin 5 → IVec S_ 32) k (Shape.Idx.first h_S_))) 0 = j.val := by
  revert hr j
  decide +kernel

theorem start1 (hr : S1x1x128x6x64.rank = S128x1x128x6x64.rank) (j : Fin 128) :
    Host.clampedStart S128x1x128x6x64 S1x1x128x6x64 hr
      (fun k => BitVec.toInt ((![constantI S_ 32 (BitVec.ofNat 32 j.val), constantI S_ 32 0#32, constantI S_ 32 0#32, constantI S_ 32 0#32, constantI S_ 32 0#32] : Fin 5 → IVec S_ 32) k (Shape.Idx.first h_S_))) 1 = 0 := by
  revert hr j
  decide +kernel

theorem start2 (hr : S1x1x128x6x64.rank = S128x1x128x6x64.rank) (j : Fin 128) :
    Host.clampedStart S128x1x128x6x64 S1x1x128x6x64 hr
      (fun k => BitVec.toInt ((![constantI S_ 32 (BitVec.ofNat 32 j.val), constantI S_ 32 0#32, constantI S_ 32 0#32, constantI S_ 32 0#32, constantI S_ 32 0#32] : Fin 5 → IVec S_ 32) k (Shape.Idx.first h_S_))) 2 = 0 := by
  revert hr j
  decide +kernel

theorem start3 (hr : S1x1x128x6x64.rank = S128x1x128x6x64.rank) (j : Fin 128) :
    Host.clampedStart S128x1x128x6x64 S1x1x128x6x64 hr
      (fun k => BitVec.toInt ((![constantI S_ 32 (BitVec.ofNat 32 j.val), constantI S_ 32 0#32, constantI S_ 32 0#32, constantI S_ 32 0#32, constantI S_ 32 0#32] : Fin 5 → IVec S_ 32) k (Shape.Idx.first h_S_))) 3 = 0 := by
  revert hr j
  decide +kernel

theorem start4 (hr : S1x1x128x6x64.rank = S128x1x128x6x64.rank) (j : Fin 128) :
    Host.clampedStart S128x1x128x6x64 S1x1x128x6x64 hr
      (fun k => BitVec.toInt ((![constantI S_ 32 (BitVec.ofNat 32 j.val), constantI S_ 32 0#32, constantI S_ 32 0#32, constantI S_ 32 0#32, constantI S_ 32 0#32] : Fin 5 → IVec S_ 32) k (Shape.Idx.first h_S_))) 4 = 0 := by
  revert hr j
  decide +kernel

theorem b5_apply (j : Fin 128) (s : State Ideal) (r : Fin 128) (h : Fin 6) (d : Fin 64) :
    b5 j.val s (ix4 0 r h d) = s.main_v63_0 (ix5 j 0 r h d) := by
  pointwise [b5, b4, b0, b1, b2, b3]
  simp only [start0, start1, start2, start3, start4, Nat.zero_add]
  rfl

theorem b11_apply (j : Fin 128) (s : State Ideal) (r : Fin 128) (h : Fin 6) (d : Fin 64) :
    b11 j.val s (ix4 0 r h d) = s.main_v63_1 (ix5 j 0 r h d) := by
  pointwise [b11, b10, b6, b7, b8, b9]
  simp only [start0, start1, start2, start3, start4, Nat.zero_add]
  rfl

theorem b17_apply (j : Fin 128) (s : State Ideal) (r : Fin 128) (h : Fin 6) (d : Fin 64) :
    b17 j.val s (ix4 0 r h d) = s.main_v63_2 (ix5 j 0 r h d) := by
  pointwise [b17, b16, b12, b13, b14, b15]
  simp only [start0, start1, start2, start3, start4, Nat.zero_add]
  rfl

/-- A trip replaces its own chunk of the rows and keeps the others. -/
theorem b42_apply (j : Fin 128) (s : State Ideal) (n r : Fin 128) (h : Fin 6) (d : Fin 64) :
    b42 j.val s (ix5 n 0 r h d) = if n = j then b28 j.val s (ix4 0 r h d) else s.main_v63_9 (ix5 n 0 r h d) := by
  pointwise [b42, b37, b38, b39, b40, b41]
  simp only [start0, start1, start2, start3, start4, Nat.sub_zero, Nat.zero_le, Nat.zero_add, and_true, true_and, Nat.lt_irrefl, le_refl]
  by_cases e : n = j
  · subst e
    rw [dif_pos (by omega), if_pos rfl]
  · rw [dif_neg (fun hh => e (Fin.ext (by omega))), if_neg e]

/-- The rows a trip makes. -/
theorem b28_apply (j : Fin 128) (s : State Ideal) (r : Fin 128) (h : Fin 6) (e : Fin 64) :
    b28 j.val s (ix4 0 r h e)
      = (∑ u : Fin 128, s.main_v63_2 (ix5 j 0 u h e) * ((∑ d : Fin 64, s.main_v63_0 (ix5 j 0 r h d) * s.main_v63_1 (ix5 j 0 u h d)) * K_main_v33 (F := Ideal) (ix3 h r u)))
        + (∑ d : Fin 64, s.main_v63_8 (ix4 0 h d e) * s.main_v63_0 (ix5 j 0 r h d)) * K_main_v41 (F := Ideal) (ix2 r h) := by
  pointwise [b28, b22, b21, b20, b19, b18, b27, b24, b23, b26, b25]
  simp only [b5_apply, b11_apply, b17_apply]

/-- The state a trip makes. -/
theorem b36_apply (j : Fin 128) (s : State Ideal) (h : Fin 6) (d e : Fin 64) :
    b36 j.val s (ix4 0 h d e) = s.main_v63_8 (ix4 0 h d e) * K_main_v52 (F := Ideal) (ix1 h)
      + ∑ r : Fin 128, s.main_v63_1 (ix5 j 0 r h d) * K_main_v49 (F := Ideal) (ix2 r h) * s.main_v63_2 (ix5 j 0 r h e) := by
  pointwise [b36, b31, b30, b29, b35, b34, b33, b32]
  simp only [b11_apply, b17_apply]

/-- The number of lanes of a head, as the reference divides by it. -/
def c64 : EReal := Ideal.ofBits .f32 0x42800000#32

/-- The number the variance is moved by. -/
def eps : EReal := Ideal.ofBits .f32 0x358637BD#32

/-- One head's row moved by its mean. -/
def centred (o : Fin 64 → EReal) (e : Fin 64) : EReal := o e - Ideal.div (∑ x : Fin 64, o x) c64

/-- One head's row over the root of its variance. -/
def normed (x : Fin 64 → EReal) (e : Fin 64) : EReal := x e * Ideal.rsqrt (Ideal.div (∑ i : Fin 64, x i * x i) c64 + eps)

/-- The rows after the loop, normalised head by head. -/
theorem R_main_v89_apply (s : State Ideal) (n r : Fin 128) (h : Fin 6) (e : Fin 64) :
    R_main_v89 s (ix2 ⟨n.val * 128 + r.val, by omega⟩ ⟨h.val * 64 + e.val, by omega⟩)
      = normed (centred fun x => s.main_v63_9 (ix5 n 0 r h x)) e := by
  pointwise [R_main_v89]
  rfl

/-- The state after the loop, laid out block-diagonally. -/
theorem R_main_v95_apply (s : State Ideal) (h h' : Fin 6) (d e : Fin 64) :
    R_main_v95 s (ix2 ⟨h.val * 64 + d.val, by omega⟩ ⟨h'.val * 64 + e.val, by omega⟩) = if h = h' then s.main_v63_8 (ix4 0 h d e) else 0 := by
  pointwise [R_main_v95]
  have hb : (IntOp.cmpi CmpIPredicate.eq (IntOp.addi (BitVec.ofNat 32 h.val) 0#32) (BitVec.ofNat 32 h'.val)).toNat = if h = h' then 1 else 0 := by
    revert h h'
    decide +kernel
  show (((IntOp.cmpi CmpIPredicate.eq (IntOp.addi (BitVec.ofNat 32 h.val) 0#32) (BitVec.ofNat 32 h'.val)).toNat : ℝ) : EReal) * _ = _
  rw [hb]
  split <;> simp

/-! ## The loop -/

/-- What the loop holds after `n` trips. -/
def after : ℕ → State Ideal
  | 0 => init a
  | n + 1 => step n (after n)

theorem after_q (n : ℕ) : (after a n).main_v63_0 = A_main_v57 a := by
  induction n with
  | zero => rfl
  | succ n ih => exact ih
theorem after_k (n : ℕ) : (after a n).main_v63_1 = A_main_v59 a := by
  induction n with
  | zero => rfl
  | succ n ih => exact ih
theorem after_v (n : ℕ) : (after a n).main_v63_2 = A_main_v61 a := by
  induction n with
  | zero => rfl
  | succ n ih => exact ih

/-- Chunk `n`'s query, key and value of head `h`, and the state before chunk `n`. -/
def q (n r : Fin 128) (h : Fin 6) (d : Fin 64) : EReal := a (ix2 ⟨n.val * 128 + r.val, by omega⟩ ⟨h.val * 64 + d.val, by omega⟩)
def k (n r : Fin 128) (h : Fin 6) (d : Fin 64) : EReal := a (ix2 ⟨n.val * 128 + r.val, by omega⟩ ⟨384 + (h.val * 64 + d.val), by omega⟩) * e8
def v (n r : Fin 128) (h : Fin 6) (d : Fin 64) : EReal := a (ix2 ⟨n.val * 128 + r.val, by omega⟩ ⟨768 + (h.val * 64 + d.val), by omega⟩)
def st (n : ℕ) (h : Fin 6) (d e : Fin 64) : EReal := (after a n).main_v63_8 (ix4 0 h d e)

/-- The rows of chunk `n` before the normalisation. -/
def o (n r : Fin 128) (h : Fin 6) (e : Fin 64) : EReal :=
  (∑ u : Fin 128, v a n u h e * ((∑ d : Fin 64, q a n r h d * k a n u h d) * K_main_v33 (F := Ideal) (ix3 h r u)))
    + (∑ d : Fin 64, st a n.val h d e * q a n r h d) * K_main_v41 (F := Ideal) (ix2 r h)

theorem st_zero (h : Fin 6) (d e : Fin 64) : st a 0 h d e = 0 := by
  show K_main_v55 (F := Ideal) (ix4 0 h d e) = 0
  pointwise [K_main_v55, K_main_cst_8]

theorem st_succ (n : Fin 128) (h : Fin 6) (d e : Fin 64) :
    st a (n.val + 1) h d e = st a n.val h d e * K_main_v52 (F := Ideal) (ix1 h)
      + ∑ r : Fin 128, k a n r h d * K_main_v49 (F := Ideal) (ix2 r h) * v a n r h e := by
  show b36 n.val (after a n.val) (ix4 0 h d e) = _
  rw [b36_apply]
  simp only [after_k, after_v, k_apply, v_apply]
  rfl

theorem rows_after (n : Fin 128) (r : Fin 128) (h : Fin 6) (e : Fin 64) :
    ∀ t : ℕ, t ≤ 128 → n.val < t → (after a t).main_v63_9 (ix5 n 0 r h e) = o a n r h e := by
  intro t
  induction t with
  | zero => intro _ hn; omega
  | succ t ih =>
    intro ht hn
    show b42 (⟨t, by omega⟩ : Fin 128).val (after a t) (ix5 n 0 r h e) = _
    rw [b42_apply]
    by_cases hh : n = ⟨t, by omega⟩
    · rw [if_pos hh, b28_apply]
      obtain ⟨n, hn'⟩ := n
      obtain rfl : n = t := congrArg Fin.val hh
      simp only [after_q, after_k, after_v, q_apply, k_apply, v_apply]
      rfl
    · rw [if_neg hh]
      exact ih (by omega) (by have : n.val ≠ t := fun hc => hh (Fin.ext hc); omega)

/-- The first result of the reference. -/
theorem result_rows (n r : Fin 128) (h : Fin 6) (e : Fin 64) :
    R_main_v89 (after a 128) (ix2 ⟨n.val * 128 + r.val, by omega⟩ ⟨h.val * 64 + e.val, by omega⟩)
      = normed (centred (o a n r h)) e := by
  rw [R_main_v89_apply]
  have : (fun x => (after a 128).main_v63_9 (ix5 n 0 r h x)) = o a n r h := funext fun x => rows_after a n r h x 128 le_rfl n.isLt
  rw [this]

/-- The second. -/
theorem result_state (h h' : Fin 6) (d e : Fin 64) :
    R_main_v95 (after a 128) (ix2 ⟨h.val * 64 + d.val, by omega⟩ ⟨h'.val * 64 + e.val, by omega⟩) = if h = h' then st a 128 h d e else 0 :=
  R_main_v95_apply _ _ _ _ _

end Cert.ReferenceIdeal.Ret
-- ==== Proof.Finite.lean ====
/-
  REAL VALUES. The decay tables of the reference, its constants, and with them its rows and its state are real numbers when
  the argument's elements are.
-/
module

public import proofs.«01_k».proof.Proof.RefChunk

@[expose] public section

set_option maxRecDepth 16384

noncomputable section

namespace Cert.ReferenceIdeal.Ret

open Cert.ReferenceIdeal Cert.ReferenceIdeal.Gen Cert.ReferenceIdeal.Step Idealize.ShloMosaic

/-- A value that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.sum {ι : Type} (s : Finset ι) {f : ι → EReal} (hf : ∀ i, IsReal (f i)) : IsReal (∑ i ∈ s, f i) := by
  classical
  induction s using Finset.induction_on with
  | empty => simpa using IsReal.zero
  | insert i s hi ih => rw [Finset.sum_insert hi]; exact (hf i).add ih
theorem IsReal.exp {x : EReal} : IsReal x → IsReal (Ideal.exp x) := by
  rintro ⟨a, rfl⟩; exact ⟨Real.exp a, rfl⟩

theorem five_eq : Ideal.ofBits .f32 0xC0A00000#32 = ((-5 : ℝ) : EReal) := by
  simp [Ideal.ofBits, Ideal.ieee]; norm_num [← EReal.coe_mul]
theorem two_eq : Ideal.ofBits .f32 0x40000000#32 = ((2 : ℝ) : EReal) := by
  simp [Ideal.ofBits, Ideal.ieee]; norm_num [← EReal.coe_mul]
theorem c64_eq : Ideal.ofBits .f32 0x42800000#32 = ((64 : ℝ) : EReal) := by
  simp [Ideal.ofBits, Ideal.ieee]; norm_num [← EReal.coe_mul]
theorem e64_eq : Ideal.ofBits .f32 0x3C800000#32 = ((1 / 64 : ℝ) : EReal) := by
  simp [Ideal.ofBits, Ideal.ieee]; norm_num [← EReal.coe_mul]
theorem e8_real : IsReal e8 := by
  unfold e8; simp only [Ideal.ofBits, Ideal.ieee]; rw [if_neg (by decide), if_neg (by decide)]; exact ⟨_, rfl⟩
theorem c127_real : IsReal (Ideal.ofBits .f32 0x42FE0000#32) := by
  simp only [Ideal.ofBits, Ideal.ieee]; rw [if_neg (by decide), if_neg (by decide)]; exact ⟨_, rfl⟩
theorem c128_real : IsReal (Ideal.ofBits .f32 0x43000000#32) := by
  simp only [Ideal.ofBits, Ideal.ieee]; rw [if_neg (by decide), if_neg (by decide)]; exact ⟨_, rfl⟩

theorem one_real : IsReal 1 := ⟨1, rfl⟩
theorem int_real (b : BitVec 32) : IsReal (FloatOps.sitofp (F := Ideal) FTy.f32 b) := ⟨(b.toInt : ℝ), rfl⟩

/-- The logarithm of a head's decay is a real number: the decay is positive. -/
theorem lg_real (h : Fin 6) : IsReal (K_main_v13 (F := Ideal) (ix1 h)) := by
  pointwise [K_main_v13, K_main_v12, K_main_v11, K_main_v10, K_main_v9, K_main_v8, K_main_v7, K_main_v6, K_main_cst, K_main_cst_0, K_main_cst_1]
  rw [two_eq, five_eq]
  have hx : FloatOps.sitofp (F := Ideal) FTy.f32 (BitVec.ofNat 32 h.val) = ((h.val : ℝ) : EReal) := by
    have : (BitVec.ofNat 32 h.val).toInt = (h.val : ℤ) := by
      revert h; decide
    show (((BitVec.ofNat 32 h.val).toInt : ℝ) : EReal) = _
    rw [this]; norm_cast
  rw [hx, ← EReal.coe_sub]
  have hp : Ideal.pow ((2 : ℝ) : EReal) ((-5 - (h.val : ℝ) : ℝ) : EReal) = ((Real.rpow 2 (-5 - (h.val : ℝ)) : ℝ) : EReal) := rfl
  rw [hp, ← EReal.coe_one, ← EReal.coe_sub]
  have hlt : Real.rpow 2 (-5 - (h.val : ℝ)) < 1 :=
    Real.rpow_lt_one_of_one_lt_of_neg (by norm_num) (by have : (0 : ℝ) ≤ (h.val : ℝ) := Nat.cast_nonneg _; linarith)
  have : ∀ x : ℝ, 0 < x → IsReal (Ideal.log (x : EReal)) := fun x hx0 => by
    refine ⟨Real.log x, ?_⟩
    show (if x ≤ 0 then ⊥ else ((Real.log x : ℝ) : EReal)) = _
    rw [if_neg (not_le.mpr hx0)]
  exact this _ (by linarith)

theorem kd_real (r : Fin 128) (h : Fin 6) : IsReal (K_main_v49 (F := Ideal) (ix2 r h)) := by
  have := lg_real h
  revert this
  generalize hg : K_main_v13 (F := Ideal) = g
  intro this
  pointwise [K_main_v49, K_main_v48, K_main_v47, K_main_v46, K_main_v45, K_main_v44, K_main_v43, K_main_v42, K_main_cst_5, hg, K_main_v14]
  exact ((c127_real.sub (int_real _)).mul this).exp

theorem qd_real (r : Fin 128) (h : Fin 6) : IsReal (K_main_v41 (F := Ideal) (ix2 r h)) := by
  have := lg_real h
  revert this
  generalize hg : K_main_v13 (F := Ideal) = g
  intro this
  pointwise [K_main_v41, K_main_v40, K_main_v39, K_main_v38, K_main_v37, K_main_v36, K_main_v35, K_main_cst_4, K_main_v34, hg, K_main_v14]
  exact (((int_real _).add one_real).mul this).exp

theorem cd_real (h : Fin 6) : IsReal (K_main_v52 (F := Ideal) (ix1 h)) := by
  have := lg_real h
  revert this
  generalize hg : K_main_v13 (F := Ideal) = g
  intro this
  pointwise [K_main_v52, K_main_v51, K_main_v50, K_main_cst_6, hg]
  exact (c128_real.mul this).exp

theorem d_real (h : Fin 6) (r u : Fin 128) : IsReal (K_main_v33 (F := Ideal) (ix3 h r u)) := by
  have := lg_real h
  revert this
  generalize hg : K_main_v13 (F := Ideal) = g
  intro this
  pointwise [K_main_v33, K_main_v32, K_main_v31, K_main_v30, K_main_v29, K_main_v28, K_main_v27, K_main_v26, hg, K_main_v25, K_main_v24, K_main_v23, K_main_v22, K_main_v21, K_main_v14, K_main_v20, K_main_v19, K_main_v18, K_main_v17, K_main_v16, K_main_v15, K_main_cst_2, K_main_cst_3, K_main_call0_v0, K_main_call1_v0, K_main_call0_v1, K_main_call1_v1, K_main_call1_v2]
  have hz : IsReal (id (constant (F := Ideal) S_ FTy.f32 0#32) ix0) := by
    show IsReal (Ideal.ofBits .f32 0x00000000#32)
    simp only [Ideal.ofBits, Ideal.ieee]; rw [if_neg (by decide), if_pos (by decide)]; exact ⟨_, rfl⟩
  split
  · exact (((int_real _).sub (int_real _)).mul this).exp
  · exact hz

variable (a : Vec Ideal S16384x1152 .f32) (ha : ∀ i, IsReal (a i))
include ha

theorem q_real (n r : Fin 128) (h : Fin 6) (d : Fin 64) : IsReal (q a n r h d) := ha _
theorem k_real (n r : Fin 128) (h : Fin 6) (d : Fin 64) : IsReal (k a n r h d) := (ha _).mul e8_real
theorem v_real (n r : Fin 128) (h : Fin 6) (d : Fin 64) : IsReal (v a n r h d) := ha _

/-- The state after any number of chunks is real. -/
theorem st_real : ∀ (n : ℕ) (_ : n ≤ 128) (h : Fin 6) (d e : Fin 64), IsReal (st a n h d e)
  | 0, _, h, d, e => by rw [st_zero]; exact IsReal.zero
  | n + 1, hn, h, d, e => by
    rw [st_succ a ⟨n, hn⟩]
    exact ((st_real n (by omega) h d e).mul (cd_real h)).add
      (IsReal.sum _ fun r => ((k_real a ha _ _ _ _).mul (kd_real _ _)).mul (v_real a ha _ _ _ _))

/-- The rows before the group norm are real. -/
theorem o_real (n r : Fin 128) (h : Fin 6) (e : Fin 64) : IsReal (o a n r h e) :=
  (IsReal.sum _ fun u => (v_real a ha _ _ _ _).mul
    ((IsReal.sum _ fun d => (q_real a ha _ _ _ _).mul (k_real a ha _ _ _ _)).mul (d_real _ _ _))).add
    ((IsReal.sum _ fun d => (st_real a ha _ (by have := n.isLt; omega) _ _ _).mul (q_real a ha _ _ _ _)).mul (qd_real _ _))

omit ha in
/-- A sum of real numbers, each times 1/64, is their sum divided by 64. -/
theorem mean_eq (f : Fin 64 → EReal) (hf : ∀ i, IsReal (f i)) :
    ∑ i : Fin 64, f i * ((1 / 64 : ℝ) : EReal) = Ideal.div (∑ i : Fin 64, f i) c64 := by
  choose g hg using hf
  have hs : ∀ (s : Finset (Fin 64)) (w : Fin 64 → ℝ), ∑ i ∈ s, ((w i : ℝ) : EReal) = ((∑ i ∈ s, w i : ℝ) : EReal) := fun s w => by
    classical
    induction s using Finset.induction_on with
    | empty => simp
    | insert i s hi ih => rw [Finset.sum_insert hi, Finset.sum_insert hi, ih, EReal.coe_add]
  show _ = Ideal.div _ (Ideal.ofBits .f32 0x42800000#32)
  rw [c64_eq, Ideal.div_coe (by norm_num)]
  simp only [hg, ← EReal.coe_mul]
  rw [hs, hs, ← EReal.coe_mul, Finset.sum_mul]

end Cert.ReferenceIdeal.Ret

end
-- ==== Proof.Equation.lean ====
/-
  THE TWO PROGRAMS' RESULTS ARE EQUAL. The kernel keeps the six heads side by side in 384 lanes and multiplies by a 0/1
  table of the diagonal blocks; here every sum over the lanes falls apart into the heads, and only the lane's own head is left.
-/
module

public import proofs.«01_k».proof.Proof.Rows
public import proofs.«01_k».proof.Proof.Fold
public import proofs.«01_k».proof.Proof.Tables
public import proofs.«01_k».proof.Proof.Finite
public import Idealize.ShloMosaic.Lib.Pipeline.ValueKit.Acc

@[expose] public section

set_option maxRecDepth 16384

noncomputable section

namespace Cert.KernelIdeal.Ret

open Cert.KernelIdeal Cert.KernelIdeal.Gen Idealize.ShloMosaic Idealize.ShloMosaic.TcCoe
open Cert.ReferenceIdeal.Step (K_main_v33 K_main_v41 K_main_v49 K_main_v52 R_main_v89 R_main_v95)
open Cert.ReferenceIdeal.Ret (IsReal after)

/-- Lane `d` of head `h`. -/
def lane (h : Fin 6) (d : Fin 64) : Fin 384 := ⟨h.val * 64 + d.val, by omega⟩

theorem lane_div (h : Fin 6) (d : Fin 64) : (lane h d).val / 64 = h.val := by
  show (h.val * 64 + d.val) / 64 = h.val; omega

theorem lane_div_eq (h h' : Fin 6) (d e : Fin 64) : ((lane h d).val / 64 = (lane h' e).val / 64) ↔ h = h' := by
  rw [lane_div, lane_div]; exact Fin.ext_iff.symm

theorem lane_head (h : Fin 6) (d : Fin 64) (hl : (lane h d).val / 64 < 6) : (⟨(lane h d).val / 64, hl⟩ : Fin 6) = h :=
  Fin.ext (lane_div h d)

/-- A sum over the lanes, head by head. -/
theorem sum_lanes (f : Fin 384 → EReal) : ∑ i : Fin 384, f i = ∑ h : Fin 6, ∑ d : Fin 64, f (lane h d) :=
  (Fin.sum_mul_add_fin 6 64 f).symm

/-- A sum over the lanes of which one head's are left. -/
theorem sum_lanes_head (f : Fin 384 → EReal) (h : Fin 6) (hf : ∀ h' d, h' ≠ h → f (lane h' d) = 0) :
    ∑ i : Fin 384, f i = ∑ d : Fin 64, f (lane h d) := by
  rw [sum_lanes]
  exact Finset.sum_eq_single h (fun h' _ hne => Finset.sum_eq_zero fun d _ => hf h' d hne)
    (fun hn => absurd (Finset.mem_univ h) hn)

variable (m : (ℓ : Loc nD τ sig) → Buf (Elt Ideal) ℓ) (c : Dev nD)

theorem chunk_q (a : Vec Ideal S16384x1152 .f32) (n r : Fin 128) (h : Fin 6) (d : Fin 64) :
    chunk a 0 (by omega) n.val (ix2 r (lane h d)) = ReferenceIdeal.Ret.q a n r h d := by
  have hn : 128 * (n.val % 128) + r.val = n.val * 128 + r.val := by have := n.isLt; omega
  have h0 : 0 + (h.val * 64 + d.val) = h.val * 64 + d.val := by omega
  show a (ix2 ⟨128 * (n.val % 128) + r.val, _⟩ ⟨0 + (h.val * 64 + d.val), _⟩) = a _
  simp only [hn, h0]

theorem chunk_k (a : Vec Ideal S16384x1152 .f32) (n r : Fin 128) (h : Fin 6) (d : Fin 64) :
    chunk a 384 (by omega) n.val (ix2 r (lane h d)) * e8 = ReferenceIdeal.Ret.k a n r h d := by
  have hn : 128 * (n.val % 128) + r.val = n.val * 128 + r.val := by have := n.isLt; omega
  show a (ix2 ⟨128 * (n.val % 128) + r.val, _⟩ ⟨384 + (h.val * 64 + d.val), _⟩) * e8 = a _ * e8
  simp only [hn]

theorem chunk_v (a : Vec Ideal S16384x1152 .f32) (n r : Fin 128) (h : Fin 6) (d : Fin 64) :
    chunk a 768 (by omega) n.val (ix2 r (lane h d)) = ReferenceIdeal.Ret.v a n r h d := by
  have hn : 128 * (n.val % 128) + r.val = n.val * 128 + r.val := by have := n.isLt; omega
  show a (ix2 ⟨128 * (n.val % 128) + r.val, _⟩ ⟨768 + (h.val * 64 + d.val), _⟩) = a _
  simp only [hn]

/-- The kernel's state is the reference's heads on the diagonal, zero off it. -/
theorem state_eq : ∀ (n : ℕ) (_ : n ≤ 128) (h h' : Fin 6) (d e : Fin 64),
    st m c n (ix2 (lane h d) (lane h' e)) = if h = h' then ReferenceIdeal.Ret.st (arg m c) n h d e else 0
  | 0, _, h, h', d, e => by
    rw [ReferenceIdeal.Ret.st_zero, ite_self]
    show k0_pay2 (F := Ideal) _ = _
    pointwise [k0_pay2]
  | n + 1, hn, h, h', d, e => by
    have ih := state_eq n (by omega) h h' d e
    rw [ReferenceIdeal.Ret.st_succ (arg m c) ⟨n, hn⟩]
    show stateNext (chunk (arg m c) 384 _ n) (chunk (arg m c) 768 _ n) (tabKD m c) (tabCM m c) (tabBD m c) (st m c n) _ = _
    rw [stateNext_apply, ih, table_cm, table_bd]
    simp only [table_kd, lane_head, lane_div_eq]
    by_cases hh : h = h'
    · subst hh
      simp only [if_true, one_mul, mul_one]
      congr 1
      refine Finset.sum_congr rfl fun r _ => ?_
      rw [← chunk_k, ← chunk_v, table_kd, lane_head]
    · simp only [if_neg hh, zero_mul, mul_zero, add_zero]

/-- The six parts of a row: the lane's own head's is left. -/
theorem parts_eq (q k v : Vec Ideal S128x384 .f32) (d : Vec Ideal S6x128x128 .f32) (r : Fin 128) (h : Fin 6) (e : Fin 64) (x : EReal) :
    x + part q k v d 0 r (lane h e) + part q k v d 1 r (lane h e) + part q k v d 2 r (lane h e)
      + part q k v d 3 r (lane h e) + part q k v d 4 r (lane h e) + part q k v d 5 r (lane h e)
    = x + ∑ u : Fin 128, (∑ i : Fin 64, q (ix2 r (lane h i)) * (k (ix2 u (lane h i)) * e8)) * d (ix3 h r u) * v (ix2 u (lane h e)) := by
  have hp : ∀ g : Fin 6, part q k v d g r (lane h e)
      = if h = g then ∑ u : Fin 128, (∑ i : Fin 64, q (ix2 r (lane h i)) * (k (ix2 u (lane h i)) * e8)) * d (ix3 h r u) * v (ix2 u (lane h e)) else 0 := by
    intro g
    unfold part
    rw [lane_div]
    by_cases hg : h = g
    · subst hg
      rw [if_pos rfl, if_pos rfl]
      refine Finset.sum_congr rfl fun u _ => ?_
      rw [sum_lanes_head _ h (fun h' i hne => by rw [lane_div, if_neg (fun hv => hne (Fin.ext hv))])]
      simp only [lane_div, if_true]
    · rw [if_neg (fun hv => hg (Fin.ext hv)), if_neg hg]
  simp only [hp]
  generalize (∑ u : Fin 128, (∑ i : Fin 64, q (ix2 r (lane h i)) * (k (ix2 u (lane h i)) * e8)) * d (ix3 h r u) * v (ix2 u (lane h e))) = y
  fin_cases h <;> simp

/-- A row before the normalisation is the reference's. -/
theorem raw_eq (n r : Fin 128) (h : Fin 6) (e : Fin 64) :
    raw (chunk (arg m c) 0 (by omega) n.val) (chunk (arg m c) 384 (by omega) n.val) (chunk (arg m c) 768 (by omega) n.val)
      (tabD m c) (tabQD m c) (st m c n.val) r (lane h e) = ReferenceIdeal.Ret.o (arg m c) n r h e := by
  unfold raw ReferenceIdeal.Ret.o
  rw [parts_eq, table_qd, table_d, lane_head,
    sum_lanes_head _ h (fun h' d hne => by rw [state_eq m c _ n.isLt.le, if_neg hne, mul_zero])]
  simp only [state_eq m c _ n.isLt.le, if_true, chunk_q, chunk_k, chunk_v]
  rw [add_comm]
  congr 1
  · refine Finset.sum_congr rfl fun u _ => Eq.trans ?_ (mul_comm _ _)
    exact congrArg (fun x : EReal => x * _ * _) (Finset.sum_congr rfl fun d _ => congrArg _ (chunk_k _ _ _ _ _))
  · congr 1
    exact Finset.sum_congr rfl fun u _ => mul_comm _ _

theorem real_sub_self {x : EReal} (hx : IsReal x) : x - x = 0 := by
  obtain ⟨r, rfl⟩ := hx
  rw [← EReal.coe_sub, sub_self]; rfl

/-- The kernel's mean over a head's lanes, a product with the table of the diagonal blocks and a correction that is zero, is
    the reference's mean. -/
theorem mean_lanes (y : Fin 384 → EReal) (hy : ∀ i, IsReal (y i)) (h : Fin 6) (e : Fin 64) :
    (∑ i : Fin 384, y i * (tabBD m c (ix2 i (lane h e)) * e64)) + (∑ i : Fin 384, (y i - y i) * (tabBD m c (ix2 i (lane h e)) * e64))
      = Ideal.div (∑ d : Fin 64, y (lane h d)) ReferenceIdeal.Ret.c64 := by
  have h2 : (∑ i : Fin 384, (y i - y i) * (tabBD m c (ix2 i (lane h e)) * e64)) = 0 :=
    Finset.sum_eq_zero fun i _ => by rw [real_sub_self (hy i), zero_mul]
  rw [h2, add_zero, sum_lanes_head _ h (fun h' d hne => by
    rw [table_bd, if_neg (fun hh => hne ((lane_div_eq _ _ _ _).mp hh)), zero_mul, mul_zero])]
  rw [← ReferenceIdeal.Ret.mean_eq _ (fun d => hy _)]
  refine Finset.sum_congr rfl fun d _ => ?_
  rw [table_bd, if_pos ((lane_div_eq _ _ _ _).mpr rfl), one_mul]
  exact congrArg _ ReferenceIdeal.Ret.e64_eq

/-- Every lane is a lane of a head. -/
theorem lane_of (i : Fin 384) : i = lane ⟨i.val / 64, by omega⟩ ⟨i.val % 64, by omega⟩ :=
  Fin.ext (by show i.val = i.val / 64 * 64 + i.val % 64; omega)

variable (ha : ∀ i, IsReal (arg m c i))
include ha

/-- A row of the kernel is the reference's. -/
theorem rows_eq (n r : Fin 128) (h : Fin 6) (e : Fin 64) :
    rows m c n.val (ix2 r (lane h e))
      = ReferenceIdeal.Ret.normed (ReferenceIdeal.Ret.centred (ReferenceIdeal.Ret.o (arg m c) n r h)) e := by
  show rowsOut _ _ _ (tabD m c) (tabQD m c) (tabBD m c) (st m c n.val) _ = _
  rw [rowsOut_apply]
  set y := raw (chunk (arg m c) 0 (by omega) n.val) (chunk (arg m c) 384 (by omega) n.val) (chunk (arg m c) 768 (by omega) n.val)
    (tabD m c) (tabQD m c) (st m c n.val) with hydef
  have hy : ∀ h e, y r (lane h e) = ReferenceIdeal.Ret.o (arg m c) n r h e := fun h e => raw_eq m c n r h e
  have hyr : ∀ i, IsReal (y r i) := fun i => by
    rw [lane_of i, hy]; exact ReferenceIdeal.Ret.o_real _ ha _ _ _ _
  have hx : ∀ h e, centred y (tabBD m c) r (lane h e) = ReferenceIdeal.Ret.centred (ReferenceIdeal.Ret.o (arg m c) n r h) e := by
    intro h e
    unfold centred ReferenceIdeal.Ret.centred
    rw [mean_lanes m c (y r) hyr h e]
    simp only [hy]
  have hxr : ∀ i, IsReal (centred y (tabBD m c) r i) := fun i => by
    rw [lane_of i, hx]
    unfold ReferenceIdeal.Ret.centred
    rw [← ReferenceIdeal.Ret.mean_eq _ (fun d => ReferenceIdeal.Ret.o_real _ ha _ _ _ _)]
    exact (ReferenceIdeal.Ret.o_real _ ha _ _ _ _).sub
      (IsReal.sum _ fun d => (ReferenceIdeal.Ret.o_real _ ha _ _ _ _).mul (IsReal.coe _))
  unfold normed ReferenceIdeal.Ret.normed
  rw [mean_lanes m c (fun i => centred y (tabBD m c) r i * centred y (tabBD m c) r i) (fun i => (hxr i).mul (hxr i)) h e]
  simp only [hx]
  rfl

/-- THE ROWS: the array the kernel writes is the array the reference computes. -/
theorem out_rows : outRows (rows m c) = R_main_v89 (F := Ideal) (after (arg m c) 128) := by
  funext j
  have h0 : (j 0).val < 16384 := (j 0).isLt
  have h1 : (j 1).val < 384 := (j 1).isLt
  have hr := rows_eq m c ha ⟨(j 0).val / 128, by omega⟩ ⟨(j 0).val % 128, by omega⟩ ⟨(j 1).val / 64, by omega⟩ ⟨(j 1).val % 64, by omega⟩
  rw [← ReferenceIdeal.Ret.result_rows] at hr
  have hl : (lane ⟨(j 1).val / 64, by omega⟩ ⟨(j 1).val % 64, by omega⟩ : Fin 384) = j 1 := (lane_of (j 1)).symm
  rw [hl] at hr
  refine Eq.trans ?_ (hr.trans ?_)
  · rfl
  · congr 1
    funext a
    apply Fin.ext
    match a with
    | ⟨0, _⟩ => show (j 0).val / 128 * 128 + (j 0).val % 128 = (j 0).val; omega
    | ⟨1, _⟩ => show (j 1).val / 64 * 64 + (j 1).val % 64 = (j 1).val; omega

omit ha in
/-- THE STATE: likewise. -/
theorem out_state : st m c 128 = R_main_v95 (F := Ideal) (after (arg m c) 128) := by
  funext j
  have h0 : (j 0).val < 384 := (j 0).isLt
  have h1 : (j 1).val < 384 := (j 1).isLt
  have hs := state_eq m c 128 le_rfl ⟨(j 0).val / 64, by omega⟩ ⟨(j 1).val / 64, by omega⟩ ⟨(j 0).val % 64, by omega⟩ ⟨(j 1).val % 64, by omega⟩
  rw [← ReferenceIdeal.Ret.result_state] at hs
  have e : (ix2 (lane ⟨(j 0).val / 64, by omega⟩ ⟨(j 0).val % 64, by omega⟩) (lane ⟨(j 1).val / 64, by omega⟩ ⟨(j 1).val % 64, by omega⟩) : S384x384.Idx) = j := by
    funext a
    apply Fin.ext
    match a with
    | ⟨0, _⟩ => show (j 0).val / 64 * 64 + (j 0).val % 64 = (j 0).val; omega
    | ⟨1, _⟩ => show (j 1).val / 64 * 64 + (j 1).val % 64 = (j 1).val; omega
  rw [← e]
  exact hs

end Cert.KernelIdeal.Ret

end
-- ==== Proof.Loop.lean ====
/-
  THE REFERENCE'S RUN, its loop's results read as the step of the recurrence iterated from its start.
-/
module

public import proofs.«01_k».proof.Proof.Gen.ReferenceIdeal.Run
public import proofs.«01_k».proof.Proof.RefChunk

@[expose] public section

set_option maxRecDepth 16384

noncomputable section

namespace Cert.ReferenceIdeal.Ret

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init K_main_v33 K_main_v41 K_main_v49 K_main_v52 R_main_v89 R_main_v95)

variable {F : FTy → Type} [FloatOps F]

/-- The buffers the loop carries hold the recurrence's state `s` before trip `j`, and the decay tables. -/
structure At (W : Valuation τ sig (Elt F)) (s : State F) (j : ℕ) : Prop where
  queries : W (Proc.devRef .tc main_v63_0) = s.main_v63_0
  keys : W (Proc.devRef .tc main_v63_1) = s.main_v63_1
  values : W (Proc.devRef .tc main_v63_2) = s.main_v63_2
  inside : W (Proc.devRef .tc main_v63_3) = K_main_v33 (F := F)
  rowDecay : W (Proc.devRef .tc main_v63_4) = K_main_v41 (F := F)
  stateDecay : W (Proc.devRef .tc main_v63_5) = K_main_v52 (F := F)
  keyDecay : W (Proc.devRef .tc main_v63_6) = K_main_v49 (F := F)
  trip : W (Proc.devRef .tc main_v63_7) = constantI S_ 32 (BitVec.ofNat 32 j)
  heads : W (Proc.devRef .tc main_v63_8) = s.main_v63_8
  written : W (Proc.devRef .tc main_v63_9) = s.main_v63_9

variable {W : Valuation τ sig (Elt F)} {s : State F} {j : ℕ}

/-- A trip's new state. -/
theorem At.next_heads (h : At W s j) : step_main_v63_8 W = (step j s).main_v63_8 := by
  unfold step_main_v63_8 res_main_while0b_v97 res_main_while0b_v98
  rw [h.keys, h.values, h.stateDecay, h.keyDecay, h.trip, h.heads]
  rfl

/-- A trip's rows, written into its chunk. -/
theorem At.next_written (h : At W s j) : step_main_v63_9 W = (step j s).main_v63_9 := by
  unfold step_main_v63_9 res_main_while0b_v96 res_main_while0b_v97 res_main_while0b_v98
  rw [h.queries, h.keys, h.values, h.inside, h.rowDecay, h.trip, h.heads, h.written]
  rfl

/-- The next trip's number. -/
theorem At.next_trip (h : At W s j) : step_main_v63_7 W = constantI S_ 32 (BitVec.ofNat 32 (j + 1)) := by
  unfold step_main_v63_7
  rw [h.trip]
  funext i
  show BitVec.ofNat 32 j + 1#32 = BitVec.ofNat 32 (j + 1)
  simp only [BitVec.ofNat_add]

/-- One trip. -/
theorem At.next (h : At W s j) : At (STEP W) (step j s) (j + 1) where
  queries := (STEP_main_v63_0 W).trans h.queries
  keys := (STEP_main_v63_1 W).trans h.keys
  values := (STEP_main_v63_2 W).trans h.values
  inside := (STEP_main_v63_3 W).trans h.inside
  rowDecay := (STEP_main_v63_4 W).trans h.rowDecay
  stateDecay := (STEP_main_v63_5 W).trans h.stateDecay
  keyDecay := (STEP_main_v63_6 W).trans h.keyDecay
  trip := (STEP_main_v63_7 W).trans h.next_trip
  heads := (STEP_main_v63_8 W).trans h.next_heads
  written := (STEP_main_v63_9 W).trans h.next_written

/-- The rows after the loop, normalised. -/
theorem At.rows (h : At W s j) : out_main_v89 W = R_main_v89 s := by
  unfold out_main_v89
  rw [h.written]
  rfl

/-- The state after the loop, its heads on the diagonal. -/
theorem At.heads_out (h : At W s j) : out_main_v95 W = R_main_v95 s := by
  unfold out_main_v95
  rw [h.heads]
  rfl

set_option maxRecDepth 65536 in
set_option maxHeartbeats 600000 in
/-- What the operations before the loop leave. -/
theorem at_start (m : (ℓ : Loc nD τ sig) → Buf (Elt Ideal) ℓ) (c : Dev nD) :
    At (entryContents preI m c) (after (m (c.tc.loc main_arg0)) 0) 0 := by
  constructor <;> (simp only [entryContents, afterL_cons, afterL_nil]; after_reads_simp) <;> rfl

theorem at_trip (m : (ℓ : Loc nD τ sig) → Buf (Elt Ideal) ℓ) (c : Dev nD) :
    ∀ n, At (STEP^[n] (entryContents preI m c)) (after (m (c.tc.loc main_arg0)) n) n
  | 0 => at_start m c
  | n + 1 => by rw [Function.iterate_succ_apply']; exact (at_trip m c n).next

/-- THE REFERENCE'S RUN: its results are made of the state after 128 chunks; the argument is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem (c.tc.loc main_v89) = R_main_v89 (after (m (c.tc.loc main_arg0)) 128)
      ∧ r.2.mem (c.tc.loc main_v95) = R_main_v95 (after (m (c.tc.loc main_arg0)) 128)
      ∧ r.2.mem (c.tc.loc main_arg0) = m (c.tc.loc main_arg0) :=
  (θ_run defs _ _).mono (fun _ h c => ⟨(h c).1.trans (at_trip m c 128).rows, (h c).2.1.trans (at_trip m c 128).heads_out, (h c).2.2⟩)
    (Value.run m ρ)

end Cert.ReferenceIdeal.Ret

end
-- ==== Proof.Retention.lean ====
/-
  THE CLAIMS ABOUT RETENTION: the frames of its programs and the equality of their results.
-/
module

public import proofs.«01_k».proof.Defs
public import proofs.«01_k».proof.Proof.Equation
public import proofs.«01_k».proof.Proof.Gen.Kernel.Frame
public import proofs.«01_k».proof.Proof.Gen.KernelIdeal.Frame
public import proofs.«01_k».proof.Proof.Loop
public import Idealize.ShloMosaic.Lib.Quiescent

@[expose] public section

set_option maxRecDepth 16384

noncomputable section

namespace Cert.Proof

open Idealize.ShloMosaic Idealize.SL.Sem Idealize.ShloMosaic.TcCoe

/-- The side condition the precondition's text states: a scalar fills the argument's shape. -/
instance pre_facts : Cert.Pre_finite.Facts := ⟨by decide⟩

/-- The reference runs, leaves its argument alone and ends quiescent. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Ret.run m ρ)

/-- The precondition says that the argument's elements are real numbers. -/
theorem real_of_pre {m : (ℓ : Loc Cert.KernelIdeal.nD Cert.KernelIdeal.τ Cert.KernelIdeal.sig) → Buf (Elt Ideal) ℓ}
    (h : Cert.Pre_KernelIdeal_finite m) (c : Dev Cert.KernelIdeal.nD) (i : Cert.KernelIdeal.S16384x1152.Idx) :
    Cert.ReferenceIdeal.Ret.IsReal (Cert.KernelIdeal.Ret.arg m c i) := by
  have hc := congrFun (h c) i
  have hlt : max (Cert.KernelIdeal.Ret.arg m c i) (-Cert.KernelIdeal.Ret.arg m c i) < Ideal.ofBits .f32 0x7F800000#32 := by
    have : Ideal.cmp .olt (max (Cert.KernelIdeal.Ret.arg m c i) (-Cert.KernelIdeal.Ret.arg m c i)) (Ideal.ofBits .f32 0x7F800000#32) = 1#1 := hc
    by_contra hn
    simp [Ideal.cmp, hn] at this
  have ht : Ideal.ofBits .f32 0x7F800000#32 = ⊤ := by simp [Ideal.ofBits, Ideal.ieee]
  rw [ht] at hlt
  induction hx : Cert.KernelIdeal.Ret.arg m c i using EReal.rec with
  | bot => rw [hx] at hlt; simp at hlt
  | top => rw [hx] at hlt; simp at hlt
  | coe r => exact ⟨r, rfl⟩

/-- The kernel's two arrays are the reference's. -/
theorem equal : Cert.algebraic_KernelIdeal_ReferenceIdeal_pre_finite := by
  intro m ρ m' ρ' hpre hagree
  refine ⟨fun c => Cert.KernelIdeal.Ret.outRows (Cert.KernelIdeal.Ret.rows m c), fun c => Cert.KernelIdeal.Ret.st m c 128,
    Cert.KernelIdeal.Ret.run m ρ, ?_⟩
  refine (θ_run _ _ _).mono (fun _ h c => ⟨(h c).1.trans ?_, (h c).2.1.trans ?_, (h c).2.2⟩) (Cert.ReferenceIdeal.Ret.run m' ρ')
  · rw [hagree c]; exact (Cert.KernelIdeal.Ret.out_rows m c (real_of_pre hpre c)).symm
  · rw [hagree c]; exact (Cert.KernelIdeal.Ret.out_state m c).symm

end Cert.Proof

end
-- ==== Proof.EvenProj.lean ====
/-
  THE EVEN LAYER'S PROJECTION: a normalised row times the weights, the columns of queries and keys turned by their position, for the
  kernel in tiles of 128 columns and for the reference by heads.
-/
module

public import proofs.«01_k».proof.Proof.Gen.EvenProj
public import proofs.«01_k».proof.Proof.Gen.EvenProjIdeal.Value
public import proofs.«01_k».proof.Proof.Gen.EvenProjRefIdeal.Run
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs

@[expose] public section

set_option maxRecDepth 16384

noncomputable section

namespace Cert.EvenProjIdeal.Proj

open Cert.EvenProjIdeal Cert.EvenProjIdeal.Gen Cert.EvenProjIdeal.Value Idealize.ShloMosaic Idealize.ShloMosaic.TcCoe Idealize.SL.Sem

/-- A row divided by its root mean square, scaled. -/
def rms (x : Fin 1024 → EReal) (g : Fin 1024 → EReal) (k : Fin 1024) : EReal :=
  x k * Ideal.rsqrt (Ideal.div (∑ l : Fin 1024, x l * x l) (Ideal.ofBits .f32 0x44800000#32) + Ideal.ofBits .f32 0x358637BD#32) * g k

/-- Column `n` of a row's product with the weights (zero past the last column). -/
def lin (a : Fin 1024 → EReal) (w : Fin 1024 → Fin 3584 → EReal) (n : Nat) : EReal :=
  if h : n < 3584 then ∑ k : Fin 1024, a k * w k ⟨n, h⟩ else 0

/-- The columns whose heads are turned by their position. -/
def turning (n : Nat) : Prop := (0 ≤ n ∧ n < 768) ∨ (1152 ≤ n ∧ n < 1920)

instance (n : Nat) : Decidable (turning n) := by unfold turning; infer_instance

/-- Column `n` of heads of 64 columns turned by their position: column `i` of a head's first half is paired with
    column `i` of its second. -/
def turn (f : Nat → EReal) (cs sn : Fin 128 → EReal) (n : Nat) : EReal :=
  f n * cs ⟨n % 128, Nat.mod_lt _ (by decide)⟩
    + (if n % 64 < 32 then f (n + 32) else f (n - 32)) * sn ⟨n % 128, Nat.mod_lt _ (by decide)⟩

/-- Column `n` of a projected row. -/
def projAt (a : Fin 1024 → EReal) (w : Fin 1024 → Fin 3584 → EReal) (cs sn : Fin 128 → EReal) (n : Nat) : EReal :=
  if turning n then turn (lin a w) cs sn n else lin a w n

theorem proj_turned (a : Fin 1024 → EReal) (w : Fin 1024 → Fin 3584 → EReal) (cs sn : Fin 128 → EReal) (n : Nat) (h : turning n) :
    projAt a w cs sn n = turn (lin a w) cs sn n := if_pos h

theorem proj_plain (a : Fin 1024 → EReal) (w : Fin 1024 → Fin 3584 → EReal) (cs sn : Fin 128 → EReal) (n : Nat) (h : ¬ turning n) :
    projAt a w cs sn n = lin a w n := if_neg h

theorem mask_at (r : Fin 256) (l : Fin 128) : k0_pay2 (ix2 r l) = if l.val % 64 < 32 then 1#1 else 0#1 := by
  pointwise [k0_pay2]
  revert l
  decide +kernel

/-- A chunk of 512 columns of the product. -/
def chunk (y : FVec Ideal S256x1024 .bf16) (w : Vec Ideal S1024x512 .bf16) : FVec Ideal S256x512 .f32 :=
  matmul dot_S256x1024_S1024x512_S256x512_1_0_0_1_n_n none y
    (shapeCast S1024x512 w shapeCasts_S1024x512_S1024x512 : FVec Ideal S1024x512 .bf16) (constant S256x512 .f32 0x00000000#32)

theorem chunk_at (y : FVec Ideal S256x1024 .bf16) (w : Vec Ideal S1024x512 .bf16) (r : Fin 256) (n : Fin 512) :
    chunk y w (ix2 r n) = ∑ k : Fin 1024, y (ix2 r k) * w (ix2 k n) := by
  pointwise [chunk]

/-- A tile of 128 columns of a chunk. -/
def tile (a : FVec Ideal S256x512 .f32) (o : Nat) (hs : S256x512.Slices ![0, o] S256x128) : FVec Ideal S256x128 .f32 :=
  extractStridedSlice S256x128 ![0, o] a hs

theorem tile_at (a : FVec Ideal S256x512 .f32) (o : Nat) (hs : S256x512.Slices ![0, o] S256x128) (ho : o + 128 ≤ 512) (r : Fin 256) (l : Fin 128) :
    tile a o hs (ix2 r l) = a (ix2 r ⟨o + l.val, by omega⟩) := by
  show a _ = a _
  congr 1
  funext i
  apply Fin.ext
  match i with
  | ⟨0, _⟩ => show 0 + r.val = r.val; omega
  | ⟨1, _⟩ => rfl

/-- A tile turned by the positions of its rows. -/
def turned (t : FVec Ideal S256x128 .f32) (c s : Vec Ideal S256x128 .f32) : FVec Ideal S256x128 .f32 :=
  addf (mulf t (shapeCast S256x128 c shapeCasts_S256x128_S256x128))
    (mulf (select (k0_pay2 : IVec S256x128 1) (dynamicRotate 1 96#32 none t rotates_S256x128_d1) (dynamicRotate 1 32#32 none t rotates_S256x128_d1))
      (shapeCast S256x128 s shapeCasts_S256x128_S256x128))

theorem turned_at (t : FVec Ideal S256x128 .f32) (c s : Vec Ideal S256x128 .f32) (r : Fin 256) (l : Fin 128) :
    turned t c s (ix2 r l) = t (ix2 r l) * c (ix2 r l)
      + (if l.val % 64 < 32 then t (ix2 r ⟨(l.val + 32) % 128, Nat.mod_lt _ (by decide)⟩)
          else t (ix2 r ⟨(l.val + 96) % 128, Nat.mod_lt _ (by decide)⟩)) * s (ix2 r l) := by
  have hm := mask_at r l
  pointwise [turned]
  rw [hm]
  split <;> rfl

/-- Columns `b` to `b + 512` of the weights. -/
theorem ld_at (w : Vec Ideal S1024x3584 .bf16) (b : Nat) (hb : ∀ a, (![0, b] : Fin 2 → Nat) a + S1024x512.size a ≤ S1024x3584.size a) (k : Fin 1024) (n : Fin 512)
    (h : b + n.val < 3584) : View.ld w (Rect.unit (s := S1024x3584) ![0, b] S1024x512.size hb) (ix2 k n) = w (ix2 k ⟨b + n.val, h⟩) := by
  show w _ = w _
  congr 1
  funext a
  apply Fin.ext
  match a with
  | ⟨0, _⟩ => show 0 + 1 * k.val = k.val; omega
  | ⟨1, _⟩ => show b + 1 * n.val = b + n.val; omega

theorem chunk_col (y : FVec Ideal S256x1024 .bf16) (w : Vec Ideal S1024x3584 .bf16) (b : Nat)
    (hb : ∀ a, (![0, b] : Fin 2 → Nat) a + S1024x512.size a ≤ S1024x3584.size a) (hw : b + 512 ≤ 3584) (o : Nat)
    (hs : S256x512.Slices ![0, o] S256x128) (ho : o + 128 ≤ 512) (r : Fin 256) (l : Fin 128) :
    tile (chunk y (View.ld w (Rect.unit (s := S1024x3584) ![0, b] S1024x512.size hb))) o hs (ix2 r l)
      = lin (fun k => y (ix2 r k)) (fun k n => w (ix2 k n)) (b + o + l.val) := by
  rw [tile_at _ o hs ho, chunk_at]
  unfold lin
  rw [dif_pos (by omega)]
  refine Finset.sum_congr rfl fun k _ => congrArg _ ?_
  rw [ld_at w b hb k ⟨o + l.val, by omega⟩ (by show b + (o + l.val) < 3584; omega)]
  congr 2
  exact Fin.ext (by show b + (o + l.val) = b + o + l.val; omega)

theorem turned_col (t : FVec Ideal S256x128 .f32) (c s : Vec Ideal S256x128 .f32) (f : Nat → EReal) (b : Nat) (hb : b % 128 = 0)
    (r : Fin 256) (ht : ∀ l : Fin 128, t (ix2 r l) = f (b + l.val)) (l : Fin 128) :
    turned t c s (ix2 r l) = turn f (fun k => c (ix2 r k)) (fun k => s (ix2 r k)) (b + l.val) := by
  have hl : (⟨(b + l.val) % 128, Nat.mod_lt _ (by decide)⟩ : Fin 128) = l := Fin.ext (by show (b + l.val) % 128 = l.val; omega)
  rw [turned_at]
  unfold turn
  simp only [hl, ht]
  by_cases h : l.val % 64 < 32
  · rw [if_pos h, if_pos (by omega), show b + (l.val + 32) % 128 = b + l.val + 32 by omega]
  · rw [if_neg h, if_neg (by omega), show b + (l.val + 96) % 128 = b + l.val - 32 by omega]

/-- What a tile that isn't turned writes. -/
theorem plain_piece (y : FVec Ideal S256x1024 .bf16) (w : Vec Ideal S1024x3584 .bf16) (c s : Vec Ideal S256x128 .f32) (b : Nat)
    (hb : ∀ a, (![0, b] : Fin 2 → Nat) a + S1024x512.size a ≤ S1024x3584.size a) (hw : b + 512 ≤ 3584) (o : Nat)
    (hs : S256x512.Slices ![0, o] S256x128) (ho : o + 128 ≤ 512) (hn : ∀ l : Fin 128, ¬ turning (b + o + l.val)) (x : S256x128.Idx)
    (r : Fin 256) (n : Nat) (hr : (x 0).val = r.val) (hx : b + o + (x 1).val = n) :
    tile (chunk y (View.ld w (Rect.unit (s := S1024x3584) ![0, b] S1024x512.size hb))) o hs x
      = projAt (fun k => y (ix2 r k)) (fun k n => w (ix2 k n)) (fun l => c (ix2 r l)) (fun l => s (ix2 r l)) n := by
  obtain ⟨r', l, rfl⟩ : ∃ (r : Fin 256) (l : Fin 128), x = ix2 r l :=
    ⟨x 0, x 1, funext fun a => by match a with | ⟨0, _⟩ => rfl | ⟨1, _⟩ => rfl⟩
  obtain rfl : r' = r := Fin.ext hr
  obtain rfl : b + o + l.val = n := hx
  rw [proj_plain _ _ _ _ _ (hn l)]
  exact chunk_col y w b hb hw o hs ho r' l

/-- What a turned tile writes. -/
theorem turned_piece (y : FVec Ideal S256x1024 .bf16) (w : Vec Ideal S1024x3584 .bf16) (c s : Vec Ideal S256x128 .f32) (b : Nat)
    (hb : ∀ a, (![0, b] : Fin 2 → Nat) a + S1024x512.size a ≤ S1024x3584.size a) (hw : b + 512 ≤ 3584) (o : Nat)
    (hs : S256x512.Slices ![0, o] S256x128) (ho : o + 128 ≤ 512) (h0 : (b + o) % 128 = 0) (hn : ∀ l : Fin 128, turning (b + o + l.val)) (x : S256x128.Idx)
    (r : Fin 256) (n : Nat) (hr : (x 0).val = r.val) (hx : b + o + (x 1).val = n) :
    turned (tile (chunk y (View.ld w (Rect.unit (s := S1024x3584) ![0, b] S1024x512.size hb))) o hs) c s x
      = projAt (fun k => y (ix2 r k)) (fun k n => w (ix2 k n)) (fun l => c (ix2 r l)) (fun l => s (ix2 r l)) n := by
  obtain ⟨r', l, rfl⟩ : ∃ (r : Fin 256) (l : Fin 128), x = ix2 r l :=
    ⟨x 0, x 1, funext fun a => by match a with | ⟨0, _⟩ => rfl | ⟨1, _⟩ => rfl⟩
  obtain rfl : r' = r := Fin.ext hr
  obtain rfl : b + o + l.val = n := hx
  rw [proj_turned _ _ _ _ _ (hn l)]
  exact turned_col _ c s _ (b + o) h0 r' (fun l => chunk_col y w b hb hw o hs ho r' l) l

theorem hz : (![0, 0] : Fin 2 → Nat) = fun _ => 0 := funext fun a => by fin_cases a <;> rfl

theorem out_5_at (x0 : Vec Ideal S256x1024 .f32) (x1 : Vec Ideal S1x1024 .f32) (x2 : Vec Ideal S1024x3584 .bf16) (x3 x4 : Vec Ideal S256x128 .f32)
    (r : Fin 256) (n : Fin 1152) :
    out0_5 x0 x1 x2 x3 x4 (ix2 r n)
      = projAt (fun k => k0_pay1 x0 x1 (ix2 r k)) (fun k n => x2 (ix2 k n)) (fun l => x3 (ix2 r l)) (fun l => x4 (ix2 r l)) (0 + n.val) := by
  unfold_out out0_5
  simp only [View.ld_unit_zero (S := S256x1024) hz, View.ld_unit_zero (S := S256x128) hz, View.ld_unit_zero (S := S1x1024) hz]
  canon_tiles x h
  · have e0 : r.val = (x 0).val := h0
    have e1 : n.val = 1024 + (x 1).val := by have h : n.val = 1024 + (x 1).val := h1; omega
    exact plain_piece (k0_pay1 x0 x1) x2 x3 x4 1024 inb_S1024x3584_S1024x512_0_1024 (by decide) 0 slices_S256x512_o0_0_S256x128 (by decide)
      (fun l => by unfold turning; omega) x r _ e0.symm (by omega)
  · have e0 : r.val = (x 0).val := h0
    have e1 : n.val = 896 + (x 1).val := by have h : n.val = 896 + (x 1).val := h1; omega
    exact plain_piece (k0_pay1 x0 x1) x2 x3 x4 512 inb_S1024x3584_S1024x512_0_512 (by decide) 384 slices_S256x512_o0_384_S256x128 (by decide)
      (fun l => by unfold turning; omega) x r _ e0.symm (by omega)
  · have e0 : r.val = (x 0).val := h0
    have e1 : n.val = 768 + (x 1).val := by have h : n.val = 768 + (x 1).val := h1; omega
    exact plain_piece (k0_pay1 x0 x1) x2 x3 x4 512 inb_S1024x3584_S1024x512_0_512 (by decide) 256 slices_S256x512_o0_256_S256x128 (by decide)
      (fun l => by unfold turning; omega) x r _ e0.symm (by omega)
  · have e0 : r.val = (x 0).val := h0
    have e1 : n.val = 640 + (x 1).val := by have h : n.val = 640 + (x 1).val := h1; omega
    exact turned_piece (k0_pay1 x0 x1) x2 x3 x4 512 inb_S1024x3584_S1024x512_0_512 (by decide) 128 slices_S256x512_o0_128_S256x128 (by decide) (by decide)
      (fun l => by unfold turning; omega) x r _ e0.symm (by omega)
  · have e0 : r.val = (x 0).val := h0
    have e1 : n.val = 512 + (x 1).val := by have h : n.val = 512 + (x 1).val := h1; omega
    exact turned_piece (k0_pay1 x0 x1) x2 x3 x4 512 inb_S1024x3584_S1024x512_0_512 (by decide) 0 slices_S256x512_o0_0_S256x128 (by decide) (by decide)
      (fun l => by unfold turning; omega) x r _ e0.symm (by omega)
  · have e0 : r.val = (x 0).val := h0
    have e1 : n.val = 384 + (x 1).val := by have h : n.val = 384 + (x 1).val := h1; omega
    exact turned_piece (k0_pay1 x0 x1) x2 x3 x4 0 inb_S1024x3584_S1024x512_0_0 (by decide) 384 slices_S256x512_o0_384_S256x128 (by decide) (by decide)
      (fun l => by unfold turning; omega) x r _ e0.symm (by omega)
  · have e0 : r.val = (x 0).val := h0
    have e1 : n.val = 256 + (x 1).val := by have h : n.val = 256 + (x 1).val := h1; omega
    exact turned_piece (k0_pay1 x0 x1) x2 x3 x4 0 inb_S1024x3584_S1024x512_0_0 (by decide) 256 slices_S256x512_o0_256_S256x128 (by decide) (by decide)
      (fun l => by unfold turning; omega) x r _ e0.symm (by omega)
  · have e0 : r.val = (x 0).val := h0
    have e1 : n.val = 128 + (x 1).val := by have h : n.val = 128 + (x 1).val := h1; omega
    exact turned_piece (k0_pay1 x0 x1) x2 x3 x4 0 inb_S1024x3584_S1024x512_0_0 (by decide) 128 slices_S256x512_o0_128_S256x128 (by decide) (by decide)
      (fun l => by unfold turning; omega) x r _ e0.symm (by omega)
  · have e0 : r.val = (x 0).val := h0
    have e1 : n.val = 0 + (x 1).val := by have h : n.val = (x 1).val := h1; omega
    exact turned_piece (k0_pay1 x0 x1) x2 x3 x4 0 inb_S1024x3584_S1024x512_0_0 (by decide) 0 slices_S256x512_o0_0_S256x128 (by decide) (by decide)
      (fun l => by unfold turning; omega) x r _ e0.symm (by omega)

theorem out_6_at (x0 : Vec Ideal S256x1024 .f32) (x1 : Vec Ideal S1x1024 .f32) (x2 : Vec Ideal S1024x3584 .bf16) (x3 x4 : Vec Ideal S256x128 .f32)
    (r : Fin 256) (n : Fin 1152) :
    out0_6 x0 x1 x2 x3 x4 (ix2 r n)
      = projAt (fun k => k0_pay1 x0 x1 (ix2 r k)) (fun k n => x2 (ix2 k n)) (fun l => x3 (ix2 r l)) (fun l => x4 (ix2 r l)) (1152 + n.val) := by
  unfold_out out0_6
  simp only [View.ld_unit_zero (S := S256x1024) hz, View.ld_unit_zero (S := S256x128) hz, View.ld_unit_zero (S := S1x1024) hz]
  canon_tiles x h
  · have e0 : r.val = (x 0).val := h0
    have e1 : n.val = 1024 + (x 1).val := by have h : n.val = 1024 + (x 1).val := h1; omega
    exact plain_piece (k0_pay1 x0 x1) x2 x3 x4 2048 inb_S1024x3584_S1024x512_0_2048 (by decide) 128 slices_S256x512_o0_128_S256x128 (by decide)
      (fun l => by unfold turning; omega) x r _ e0.symm (by omega)
  · have e0 : r.val = (x 0).val := h0
    have e1 : n.val = 896 + (x 1).val := by have h : n.val = 896 + (x 1).val := h1; omega
    exact plain_piece (k0_pay1 x0 x1) x2 x3 x4 2048 inb_S1024x3584_S1024x512_0_2048 (by decide) 0 slices_S256x512_o0_0_S256x128 (by decide)
      (fun l => by unfold turning; omega) x r _ e0.symm (by omega)
  · have e0 : r.val = (x 0).val := h0
    have e1 : n.val = 768 + (x 1).val := by have h : n.val = 768 + (x 1).val := h1; omega
    exact plain_piece (k0_pay1 x0 x1) x2 x3 x4 1536 inb_S1024x3584_S1024x512_0_1536 (by decide) 384 slices_S256x512_o0_384_S256x128 (by decide)
      (fun l => by unfold turning; omega) x r _ e0.symm (by omega)
  · have e0 : r.val = (x 0).val := h0
    have e1 : n.val = 640 + (x 1).val := by have h : n.val = 640 + (x 1).val := h1; omega
    exact turned_piece (k0_pay1 x0 x1) x2 x3 x4 1536 inb_S1024x3584_S1024x512_0_1536 (by decide) 256 slices_S256x512_o0_256_S256x128 (by decide) (by decide)
      (fun l => by unfold turning; omega) x r _ e0.symm (by omega)
  · have e0 : r.val = (x 0).val := h0
    have e1 : n.val = 512 + (x 1).val := by have h : n.val = 512 + (x 1).val := h1; omega
    exact turned_piece (k0_pay1 x0 x1) x2 x3 x4 1536 inb_S1024x3584_S1024x512_0_1536 (by decide) 128 slices_S256x512_o0_128_S256x128 (by decide) (by decide)
      (fun l => by unfold turning; omega) x r _ e0.symm (by omega)
  · have e0 : r.val = (x 0).val := h0
    have e1 : n.val = 384 + (x 1).val := by have h : n.val = 384 + (x 1).val := h1; omega
    exact turned_piece (k0_pay1 x0 x1) x2 x3 x4 1536 inb_S1024x3584_S1024x512_0_1536 (by decide) 0 slices_S256x512_o0_0_S256x128 (by decide) (by decide)
      (fun l => by unfold turning; omega) x r _ e0.symm (by omega)
  · have e0 : r.val = (x 0).val := h0
    have e1 : n.val = 256 + (x 1).val := by have h : n.val = 256 + (x 1).val := h1; omega
    exact turned_piece (k0_pay1 x0 x1) x2 x3 x4 1024 inb_S1024x3584_S1024x512_0_1024 (by decide) 384 slices_S256x512_o0_384_S256x128 (by decide) (by decide)
      (fun l => by unfold turning; omega) x r _ e0.symm (by omega)
  · have e0 : r.val = (x 0).val := h0
    have e1 : n.val = 128 + (x 1).val := by have h : n.val = 128 + (x 1).val := h1; omega
    exact turned_piece (k0_pay1 x0 x1) x2 x3 x4 1024 inb_S1024x3584_S1024x512_0_1024 (by decide) 256 slices_S256x512_o0_256_S256x128 (by decide) (by decide)
      (fun l => by unfold turning; omega) x r _ e0.symm (by omega)
  · have e0 : r.val = (x 0).val := h0
    have e1 : n.val = 0 + (x 1).val := by have h : n.val = (x 1).val := h1; omega
    exact turned_piece (k0_pay1 x0 x1) x2 x3 x4 1024 inb_S1024x3584_S1024x512_0_1024 (by decide) 128 slices_S256x512_o0_128_S256x128 (by decide) (by decide)
      (fun l => by unfold turning; omega) x r _ e0.symm (by omega)

theorem out_7_at (x0 : Vec Ideal S256x1024 .f32) (x1 : Vec Ideal S1x1024 .f32) (x2 : Vec Ideal S1024x3584 .bf16) (x3 x4 : Vec Ideal S256x128 .f32)
    (r : Fin 256) (n : Fin 256) :
    out0_7 x0 x1 x2 x3 x4 (ix2 r n)
      = projAt (fun k => k0_pay1 x0 x1 (ix2 r k)) (fun k n => x2 (ix2 k n)) (fun l => x3 (ix2 r l)) (fun l => x4 (ix2 r l)) (2304 + n.val) := by
  unfold_out out0_7
  simp only [View.ld_unit_zero (S := S256x1024) hz, View.ld_unit_zero (S := S256x128) hz, View.ld_unit_zero (S := S1x1024) hz]
  canon_tiles x h
  · have e0 : r.val = (x 0).val := h0
    have e1 : n.val = 128 + (x 1).val := by have h : n.val = 128 + (x 1).val := h1; omega
    exact plain_piece (k0_pay1 x0 x1) x2 x3 x4 2048 inb_S1024x3584_S1024x512_0_2048 (by decide) 384 slices_S256x512_o0_384_S256x128 (by decide)
      (fun l => by unfold turning; omega) x r _ e0.symm (by omega)
  · have e0 : r.val = (x 0).val := h0
    have e1 : n.val = 0 + (x 1).val := by have h : n.val = (x 1).val := h1; omega
    exact plain_piece (k0_pay1 x0 x1) x2 x3 x4 2048 inb_S1024x3584_S1024x512_0_2048 (by decide) 256 slices_S256x512_o0_256_S256x128 (by decide)
      (fun l => by unfold turning; omega) x r _ e0.symm (by omega)

theorem out_8_at (x0 : Vec Ideal S256x1024 .f32) (x1 : Vec Ideal S1x1024 .f32) (x2 : Vec Ideal S1024x3584 .bf16) (x3 x4 : Vec Ideal S256x128 .f32)
    (r : Fin 256) (n : Fin 1024) :
    out0_8 x0 x1 x2 x3 x4 (ix2 r n)
      = projAt (fun k => k0_pay1 x0 x1 (ix2 r k)) (fun k n => x2 (ix2 k n)) (fun l => x3 (ix2 r l)) (fun l => x4 (ix2 r l)) (2560 + n.val) := by
  unfold_out out0_8
  simp only [View.ld_unit_zero (S := S256x1024) hz, View.ld_unit_zero (S := S256x128) hz, View.ld_unit_zero (S := S1x1024) hz]
  canon_tiles x h
  · have e0 : r.val = (x 0).val := h0
    have e1 : n.val = 896 + (x 1).val := by have h : n.val = 896 + (x 1).val := h1; omega
    exact plain_piece (k0_pay1 x0 x1) x2 x3 x4 3072 inb_S1024x3584_S1024x512_0_3072 (by decide) 384 slices_S256x512_o0_384_S256x128 (by decide)
      (fun l => by unfold turning; omega) x r _ e0.symm (by omega)
  · have e0 : r.val = (x 0).val := h0
    have e1 : n.val = 768 + (x 1).val := by have h : n.val = 768 + (x 1).val := h1; omega
    exact plain_piece (k0_pay1 x0 x1) x2 x3 x4 3072 inb_S1024x3584_S1024x512_0_3072 (by decide) 256 slices_S256x512_o0_256_S256x128 (by decide)
      (fun l => by unfold turning; omega) x r _ e0.symm (by omega)
  · have e0 : r.val = (x 0).val := h0
    have e1 : n.val = 640 + (x 1).val := by have h : n.val = 640 + (x 1).val := h1; omega
    exact plain_piece (k0_pay1 x0 x1) x2 x3 x4 3072 inb_S1024x3584_S1024x512_0_3072 (by decide) 128 slices_S256x512_o0_128_S256x128 (by decide)
      (fun l => by unfold turning; omega) x r _ e0.symm (by omega)
  · have e0 : r.val = (x 0).val := h0
    have e1 : n.val = 512 + (x 1).val := by have h : n.val = 512 + (x 1).val := h1; omega
    exact plain_piece (k0_pay1 x0 x1) x2 x3 x4 3072 inb_S1024x3584_S1024x512_0_3072 (by decide) 0 slices_S256x512_o0_0_S256x128 (by decide)
      (fun l => by unfold turning; omega) x r _ e0.symm (by omega)
  · have e0 : r.val = (x 0).val := h0
    have e1 : n.val = 384 + (x 1).val := by have h : n.val = 384 + (x 1).val := h1; omega
    exact plain_piece (k0_pay1 x0 x1) x2 x3 x4 2560 inb_S1024x3584_S1024x512_0_2560 (by decide) 384 slices_S256x512_o0_384_S256x128 (by decide)
      (fun l => by unfold turning; omega) x r _ e0.symm (by omega)
  · have e0 : r.val = (x 0).val := h0
    have e1 : n.val = 256 + (x 1).val := by have h : n.val = 256 + (x 1).val := h1; omega
    exact plain_piece (k0_pay1 x0 x1) x2 x3 x4 2560 inb_S1024x3584_S1024x512_0_2560 (by decide) 256 slices_S256x512_o0_256_S256x128 (by decide)
      (fun l => by unfold turning; omega) x r _ e0.symm (by omega)
  · have e0 : r.val = (x 0).val := h0
    have e1 : n.val = 128 + (x 1).val := by have h : n.val = 128 + (x 1).val := h1; omega
    exact plain_piece (k0_pay1 x0 x1) x2 x3 x4 2560 inb_S1024x3584_S1024x512_0_2560 (by decide) 128 slices_S256x512_o0_128_S256x128 (by decide)
      (fun l => by unfold turning; omega) x r _ e0.symm (by omega)
  · have e0 : r.val = (x 0).val := h0
    have e1 : n.val = 0 + (x 1).val := by have h : n.val = (x 1).val := h1; omega
    exact plain_piece (k0_pay1 x0 x1) x2 x3 x4 2560 inb_S1024x3584_S1024x512_0_2560 (by decide) 0 slices_S256x512_o0_0_S256x128 (by decide)
      (fun l => by unfold turning; omega) x r _ e0.symm (by omega)

theorem norm_at (x : Vec Ideal S256x1024 .f32) (g : Vec Ideal S1x1024 .f32) (r : Fin 256) (k : Fin 1024) :
    k0_pay1 x g (ix2 r k) = rms (fun l => x (ix2 r l)) (fun l => g (ix2 0 l)) k := by
  unfold rms
  pointwise [k0_pay1]

/-- The angle of position `p` at frequency `i`. -/
def angleAt (p : Fin 16384) (i : Nat) : EReal :=
  FloatOps.sitofp (F := Ideal) FTy.f32 (BitVec.ofNat 32 p.val) *
    Ideal.pow (Ideal.ofBits FTy.f32 0x461C4000#32)
      (Ideal.div (-FloatOps.sitofp (F := Ideal) FTy.f32 (BitVec.ofNat 32 i)) (Ideal.ofBits FTy.f32 0x42000000#32))

/-- The cosines for two heads side by side. -/
def cosAt (p : Fin 16384) (l : Fin 128) : EReal := Ideal.cos (angleAt p (l.val % 32))

/-- The sines for two heads side by side, negated in a head's first half. -/
def sinAt (p : Fin 16384) (l : Fin 128) : EReal :=
  if l.val % 64 < 32 then -Ideal.sin (angleAt p (l.val % 32))
  else Ideal.sin (angleAt p (l.val % 32))

variable (m : (ℓ : Loc nD τ sig) → Buf (Elt Ideal) ℓ) (c : Dev nD)

/-- The angles of the positions. -/
def angles : Vec Ideal S16384x32 .f32 :=
  mulf (F := Ideal) (φ := .f32) (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem angles_at (p : Fin 16384) (i : Fin 32) : angles (ix2 p i) = angleAt p i.val := by
  unfold angleAt
  pointwise [angles]

/-- Four groups of 32 columns side by side. -/
def side (a b : Vec Ideal S16384x32 .f32) : Vec Ideal S16384x128 .f32 :=
  concatenate S16384x128 1 [⟨S16384x32, a⟩, ⟨S16384x32, b⟩, ⟨S16384x32, a⟩, ⟨S16384x32, b⟩] concatenates_S16384x32_S16384x32_S16384x32_S16384x32_S16384x128_d1

theorem side_at (a b : Vec Ideal S16384x32 .f32) (p : Fin 16384) (l : Fin 128) :
    side a b (ix2 p l) = if l.val % 64 < 32 then a (ix2 p ⟨l.val % 32, Nat.mod_lt _ (by decide)⟩)
      else b (ix2 p ⟨l.val % 32, Nat.mod_lt _ (by decide)⟩) := by
  pointwise [side]
  split
  · exact (congrArg (fun i => a (ix2 p i)) (Fin.ext (by show l.val = l.val % 32; omega))).trans (if_pos (by omega)).symm
  split
  · exact (congrArg (fun i => b (ix2 p i)) (Fin.ext (by show l.val - 32 = l.val % 32; omega))).trans (if_neg (by omega)).symm
  split
  · exact (congrArg (fun i => a (ix2 p i)) (Fin.ext (by show l.val - 32 - 32 = l.val % 32; omega))).trans (if_pos (by omega)).symm
  · exact (congrArg (fun i => b (ix2 p i)) (Fin.ext (by show l.val - 32 - 32 - 32 = l.val % 32; omega))).trans (if_neg (by omega)).symm

/-- The cosines, as the kernel is handed them. -/
abbrev cosTab : Vec Ideal S16384x128 .f32 := V m c main_v15

theorem cosTab_eq (p : Fin 16384) (l : Fin 128) : cosTab m c (ix2 p l) = cosAt p l := by
  have h : cosTab m c = side (Host.cos (F := Ideal) (φ := .f32) angles) (Host.cos (F := Ideal) (φ := .f32) angles) := by
    unfold cosTab V
    simp only [hostOps0, List.flatten_cons, List.flatten_nil, List.append_nil, List.cons_append, List.nil_append]
    after_reads_simp
    change side _ _ = side _ _
    refine congrArg₂ side ?_ ?_
    · after_reads_simp
      rfl
    · after_reads_simp
      rfl
  rw [h, side_at, ite_self]
  show Ideal.cos (angles _) = Ideal.cos _
  rw [angles_at]

/-- The sines, as the kernel is handed them. -/
abbrev sinTab : Vec Ideal S16384x128 .f32 := V m c main_v18

theorem sinTab_eq (p : Fin 16384) (l : Fin 128) : sinTab m c (ix2 p l) = sinAt p l := by
  have h : sinTab m c = side (Host.negf (F := Ideal) (φ := .f32) (Host.sin (F := Ideal) (φ := .f32) angles)) (Host.sin (F := Ideal) (φ := .f32) angles) := by
    unfold sinTab V
    simp only [hostOps0, List.flatten_cons, List.flatten_nil, List.append_nil, List.cons_append, List.nil_append]
    after_reads_simp
    change side _ _ = side _ _
    refine congrArg₂ side ?_ ?_
    · after_reads_simp
      rfl
    · after_reads_simp
      rfl
  rw [h, side_at]
  show (if _ then -Ideal.sin (angles _) else Ideal.sin (angles _)) = _
  rw [angles_at]
  rfl

/-- The weights, as the kernel is handed them. -/
abbrev weights : Vec Ideal S1024x3584 .bf16 := V m c main_v19

/-- The columns of the weights. -/
def cols (w : Vec Ideal S1024x3584 .f32) (k : Fin 1024) (n : Fin 3584) : EReal := w (ix2 k n)

theorem weights_cols : (fun k n => weights m c (ix2 k n)) = cols (m ((c : Thread nD τ).loc main_arg2)) := by
  funext k n
  unfold weights V cols
  simp only [hostOps0, List.flatten_cons, List.flatten_nil, List.append_nil, List.cons_append, List.nil_append]
  after_reads_simp
  rfl

/-- The scales, as the kernel is handed them. -/
abbrev scales : Vec Ideal S1x1024 .f32 := V m c main_v20

theorem scales_eq (n : Fin 1024) : scales m c (ix2 0 n) = (m ((c : Thread nD τ).loc main_arg1) : Vec Ideal S1024 .f32) (ix1 n) := by
  have h : scales m c = shapeCast S1x1024 (m ((c : Thread nD τ).loc main_arg1) : Vec Ideal S1024 .f32) shapeCasts_S1024_S1x1024 := by
    unfold scales V
    simp only [hostOps0, List.flatten_cons, List.flatten_nil, List.append_nil, List.cons_append, List.nil_append]
    after_reads_simp
    rfl
  rw [h]
  pointwise []

theorem lt64 (t : Fin cfg0.N) : t.val < 64 := lt_of_lt_of_eq t.isLt (show cfg0.N = 64 from N_0)

/-- Row `r` of block `t`. -/
def row (t : Fin cfg0.N) (r : Fin 256) : Fin 16384 := ⟨t.val * 256 + r.val, by have := lt64 t; omega⟩

theorem block_1 (t : Fin cfg0.N) : (iblk m c 1 t : Vec Ideal S1x1024 .f32) = scales m c := by
  have hz' : (fun a => win0_1.index t a * main_v20.ty.shape.size a) = fun _ => 0 := funext fun a => by fin_cases a <;> rfl
  exact Memref.read_access_unit_zero (Elt Ideal) main_v20 hz' (fun a => by rw [congrFun hz' a]; simp) _

theorem block_2 (t : Fin cfg0.N) : (iblk m c 2 t : Vec Ideal S1024x3584 .bf16) = weights m c := by
  have hz' : (fun a => win0_2.index t a * main_v19.ty.shape.size a) = fun _ => 0 := funext fun a => by fin_cases a <;> rfl
  exact Memref.read_access_unit_zero (Elt Ideal) main_v19 hz' (fun a => by rw [congrFun hz' a]; simp) _

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 256) (n : Fin 1024) :
    (iblk m c 0 t : Vec Ideal S256x1024 .f32) (ix2 r n) = (m ((c : Thread nD τ).loc main_arg0) : Vec Ideal S16384x1024 .f32) (ix2 (row t r) n) := by
  have hi := index_0 t
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * n.val = n.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 256) (n : Fin 128) :
    (iblk m c 3 t : Vec Ideal S256x128 .f32) (ix2 r n) = cosTab m c (ix2 (row t r) n) := by
  have hi := index_3 t
  unfold iblk
  rw [View.read_apply]
  show V m c main_v15 _ = V m c main_v15 _
  congr 1
  funext a
  apply Fin.ext
  match a with
  | ⟨0, _⟩ => show win0_3.index t 0 * 256 + 1 * r.val = t.val * 256 + r.val; rw [hi.1]; omega
  | ⟨1, _⟩ => show win0_3.index t 1 * 128 + 1 * n.val = n.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 256) (n : Fin 128) :
    (iblk m c 4 t : Vec Ideal S256x128 .f32) (ix2 r n) = sinTab m c (ix2 (row t r) n) := by
  have hi := index_4 t
  unfold iblk
  rw [View.read_apply]
  show V m c main_v18 _ = V m c main_v18 _
  congr 1
  funext a
  apply Fin.ext
  match a with
  | ⟨0, _⟩ => show win0_4.index t 0 * 256 + 1 * r.val = t.val * 256 + r.val; rw [hi.1]; omega
  | ⟨1, _⟩ => show win0_4.index t 1 * 128 + 1 * n.val = n.val; rw [hi.2]; omega

/-- The result array of columns 0 to 1152 of the projected rows. -/
def result_5 (x : Vec Ideal S16384x1024 .f32) (g : Vec Ideal S1024 .f32) (w : Fin 1024 → Fin 3584 → EReal) : Vec Ideal S16384x1152 .f32 :=
  fun j => projAt (rms (fun l => x (ix2 (j 0) l)) fun l => g (ix1 l)) w (cosAt (j 0)) (sinAt (j 0)) (0 + (j 1).val)

/-- The same, from the arguments. -/
abbrev out_5 : Vec Ideal S16384x1152 .f32 :=
  result_5 (m ((c : Thread nD τ).loc main_arg0)) (m ((c : Thread nD τ).loc main_arg1)) (cols (m ((c : Thread nD τ).loc main_arg2)))

theorem block_5 (t : Fin cfg0.N) (r : Fin 256) (n : Fin 1152) :
    out0_5 (iblk m c 0 t) (iblk m c 1 t) (iblk m c 2 t) (iblk m c 3 t) (iblk m c 4 t) (ix2 r n) = out_5 m c (ix2 (row t r) n) := by
  rw [out_5_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (0 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_5 : ∀ t : Fin cfg0.N, win0_5.index t 0 = t.val ∧ win0_5.index t 1 = 0 :=
  (by decide +kernel : ∀ t : Fin grid0.N, win0_5.index t 0 = t.val ∧ win0_5.index t 1 = 0)

theorem flushed_5 (t : Fin cfg0.N) (hf : (cfg0.win 5).flush t = true) :
    (dats m 0 c).flushed 5 t = ((cfg0.win 5).blk t).view.read (Elt Ideal) (out_5 m c) := by
  rw [flushed5]
  have hi := index_5 t
  funext j
  rw [View.read_apply]
  have h0 : (j 0).val < 256 := (j 0).isLt
  have h1 : (j 1).val < 1152 := (j 1).isLt
  have he : (((cfg0.win 5).blk t).view.emb j : S16384x1152.Idx) = ix2 (row t ⟨(j 0).val, h0⟩) ⟨(j 1).val, h1⟩ := by
    funext a
    apply Fin.ext
    match a with
    | ⟨0, _⟩ => show win0_5.index t 0 * 256 + 1 * (j 0).val = t.val * 256 + (j 0).val; rw [hi.1]; omega
    | ⟨1, _⟩ => show win0_5.index t 1 * 1152 + 1 * (j 1).val = (j 1).val; rw [hi.2]; omega
  have hj : (j : S256x1152.Idx) = ix2 ⟨(j 0).val, h0⟩ ⟨(j 1).val, h1⟩ := by
    funext a
    match a with
    | ⟨0, _⟩ => rfl
    | ⟨1, _⟩ => rfl
  show out0_5 (iblk m c 0 t) (iblk m c 1 t) (iblk m c 2 t) (iblk m c 3 t) (iblk m c 4 t) j = out_5 m c (((cfg0.win 5).blk t).view.emb j)
  rw [he]
  exact (congrArg (out0_5 (iblk m c 0 t) (iblk m c 1 t) (iblk m c 2 t) (iblk m c 3 t) (iblk m c 4 t)) hj).trans <| block_5 m c t ⟨(j 0).val, h0⟩ ⟨(j 1).val, h1⟩

theorem final_5 : (dats m 0 c).arrAt 5 cfg0.N = out_5 m c :=
  (dats m 0 c).arrAt_eq_of_cover 5 (out_5 m c) (flushed_5 m c) fun i => by
    have h0 : (i 0 : Nat) < 16384 := (i 0).isLt
    have h1 : (i 1 : Nat) < 1152 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_5 _, ?_⟩
    show i ∈ ((View.whole main_v21_0).slice (win0_5.rect t)).set
    rw [View.set_slice_whole, Rect.mem_set_unit]
    have hi := index_5 t
    intro a
    match a with
    | ⟨0, _⟩ =>
      show win0_5.index _ 0 * 256 ≤ (i 0 : Nat) ∧ (i 0 : Nat) < win0_5.index _ 0 * 256 + 256
      rw [hi.1, ht]; omega
    | ⟨1, _⟩ =>
      show win0_5.index _ 1 * 1152 ≤ (i 1 : Nat) ∧ (i 1 : Nat) < win0_5.index _ 1 * 1152 + 1152
      rw [hi.2]; omega

/-- The result array of columns 1152 to 2304 of the projected rows. -/
def result_6 (x : Vec Ideal S16384x1024 .f32) (g : Vec Ideal S1024 .f32) (w : Fin 1024 → Fin 3584 → EReal) : Vec Ideal S16384x1152 .f32 :=
  fun j => projAt (rms (fun l => x (ix2 (j 0) l)) fun l => g (ix1 l)) w (cosAt (j 0)) (sinAt (j 0)) (1152 + (j 1).val)

/-- The same, from the arguments. -/
abbrev out_6 : Vec Ideal S16384x1152 .f32 :=
  result_6 (m ((c : Thread nD τ).loc main_arg0)) (m ((c : Thread nD τ).loc main_arg1)) (cols (m ((c : Thread nD τ).loc main_arg2)))

theorem block_6 (t : Fin cfg0.N) (r : Fin 256) (n : Fin 1152) :
    out0_6 (iblk m c 0 t) (iblk m c 1 t) (iblk m c 2 t) (iblk m c 3 t) (iblk m c 4 t) (ix2 r n) = out_6 m c (ix2 (row t r) n) := by
  rw [out_6_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (1152 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_6 : ∀ t : Fin cfg0.N, win0_6.index t 0 = t.val ∧ win0_6.index t 1 = 0 :=
  (by decide +kernel : ∀ t : Fin grid0.N, win0_6.index t 0 = t.val ∧ win0_6.index t 1 = 0)

theorem flushed_6 (t : Fin cfg0.N) (hf : (cfg0.win 6).flush t = true) :
    (dats m 0 c).flushed 6 t = ((cfg0.win 6).blk t).view.read (Elt Ideal) (out_6 m c) := by
  rw [flushed6]
  have hi := index_6 t
  funext j
  rw [View.read_apply]
  have h0 : (j 0).val < 256 := (j 0).isLt
  have h1 : (j 1).val < 1152 := (j 1).isLt
  have he : (((cfg0.win 6).blk t).view.emb j : S16384x1152.Idx) = ix2 (row t ⟨(j 0).val, h0⟩) ⟨(j 1).val, h1⟩ := by
    funext a
    apply Fin.ext
    match a with
    | ⟨0, _⟩ => show win0_6.index t 0 * 256 + 1 * (j 0).val = t.val * 256 + (j 0).val; rw [hi.1]; omega
    | ⟨1, _⟩ => show win0_6.index t 1 * 1152 + 1 * (j 1).val = (j 1).val; rw [hi.2]; omega
  have hj : (j : S256x1152.Idx) = ix2 ⟨(j 0).val, h0⟩ ⟨(j 1).val, h1⟩ := by
    funext a
    match a with
    | ⟨0, _⟩ => rfl
    | ⟨1, _⟩ => rfl
  show out0_6 (iblk m c 0 t) (iblk m c 1 t) (iblk m c 2 t) (iblk m c 3 t) (iblk m c 4 t) j = out_6 m c (((cfg0.win 6).blk t).view.emb j)
  rw [he]
  exact (congrArg (out0_6 (iblk m c 0 t) (iblk m c 1 t) (iblk m c 2 t) (iblk m c 3 t) (iblk m c 4 t)) hj).trans <| block_6 m c t ⟨(j 0).val, h0⟩ ⟨(j 1).val, h1⟩

theorem final_6 : (dats m 0 c).arrAt 6 cfg0.N = out_6 m c :=
  (dats m 0 c).arrAt_eq_of_cover 6 (out_6 m c) (flushed_6 m c) fun i => by
    have h0 : (i 0 : Nat) < 16384 := (i 0).isLt
    have h1 : (i 1 : Nat) < 1152 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_6 _, ?_⟩
    show i ∈ ((View.whole main_v21_1).slice (win0_6.rect t)).set
    rw [View.set_slice_whole, Rect.mem_set_unit]
    have hi := index_6 t
    intro a
    match a with
    | ⟨0, _⟩ =>
      show win0_6.index _ 0 * 256 ≤ (i 0 : Nat) ∧ (i 0 : Nat) < win0_6.index _ 0 * 256 + 256
      rw [hi.1, ht]; omega
    | ⟨1, _⟩ =>
      show win0_6.index _ 1 * 1152 ≤ (i 1 : Nat) ∧ (i 1 : Nat) < win0_6.index _ 1 * 1152 + 1152
      rw [hi.2]; omega

/-- The result array of columns 2304 to 2560 of the projected rows. -/
def result_7 (x : Vec Ideal S16384x1024 .f32) (g : Vec Ideal S1024 .f32) (w : Fin 1024 → Fin 3584 → EReal) : Vec Ideal S16384x256 .f32 :=
  fun j => projAt (rms (fun l => x (ix2 (j 0) l)) fun l => g (ix1 l)) w (cosAt (j 0)) (sinAt (j 0)) (2304 + (j 1).val)

/-- The same, from the arguments. -/
abbrev out_7 : Vec Ideal S16384x256 .f32 :=
  result_7 (m ((c : Thread nD τ).loc main_arg0)) (m ((c : Thread nD τ).loc main_arg1)) (cols (m ((c : Thread nD τ).loc main_arg2)))

theorem block_7 (t : Fin cfg0.N) (r : Fin 256) (n : Fin 256) :
    out0_7 (iblk m c 0 t) (iblk m c 1 t) (iblk m c 2 t) (iblk m c 3 t) (iblk m c 4 t) (ix2 r n) = out_7 m c (ix2 (row t r) n) := by
  rw [out_7_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (2304 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_7 : ∀ t : Fin cfg0.N, win0_7.index t 0 = t.val ∧ win0_7.index t 1 = 0 :=
  (by decide +kernel : ∀ t : Fin grid0.N, win0_7.index t 0 = t.val ∧ win0_7.index t 1 = 0)

theorem flushed_7 (t : Fin cfg0.N) (hf : (cfg0.win 7).flush t = true) :
    (dats m 0 c).flushed 7 t = ((cfg0.win 7).blk t).view.read (Elt Ideal) (out_7 m c) := by
  rw [flushed7]
  have hi := index_7 t
  funext j
  rw [View.read_apply]
  have h0 : (j 0).val < 256 := (j 0).isLt
  have h1 : (j 1).val < 256 := (j 1).isLt
  have he : (((cfg0.win 7).blk t).view.emb j : S16384x256.Idx) = ix2 (row t ⟨(j 0).val, h0⟩) ⟨(j 1).val, h1⟩ := by
    funext a
    apply Fin.ext
    match a with
    | ⟨0, _⟩ => show win0_7.index t 0 * 256 + 1 * (j 0).val = t.val * 256 + (j 0).val; rw [hi.1]; omega
    | ⟨1, _⟩ => show win0_7.index t 1 * 256 + 1 * (j 1).val = (j 1).val; rw [hi.2]; omega
  have hj : (j : S256x256.Idx) = ix2 ⟨(j 0).val, h0⟩ ⟨(j 1).val, h1⟩ := by
    funext a
    match a with
    | ⟨0, _⟩ => rfl
    | ⟨1, _⟩ => rfl
  show out0_7 (iblk m c 0 t) (iblk m c 1 t) (iblk m c 2 t) (iblk m c 3 t) (iblk m c 4 t) j = out_7 m c (((cfg0.win 7).blk t).view.emb j)
  rw [he]
  exact (congrArg (out0_7 (iblk m c 0 t) (iblk m c 1 t) (iblk m c 2 t) (iblk m c 3 t) (iblk m c 4 t)) hj).trans <| block_7 m c t ⟨(j 0).val, h0⟩ ⟨(j 1).val, h1⟩

theorem final_7 : (dats m 0 c).arrAt 7 cfg0.N = out_7 m c :=
  (dats m 0 c).arrAt_eq_of_cover 7 (out_7 m c) (flushed_7 m c) fun i => by
    have h0 : (i 0 : Nat) < 16384 := (i 0).isLt
    have h1 : (i 1 : Nat) < 256 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_7 _, ?_⟩
    show i ∈ ((View.whole main_v21_2).slice (win0_7.rect t)).set
    rw [View.set_slice_whole, Rect.mem_set_unit]
    have hi := index_7 t
    intro a
    match a with
    | ⟨0, _⟩ =>
      show win0_7.index _ 0 * 256 ≤ (i 0 : Nat) ∧ (i 0 : Nat) < win0_7.index _ 0 * 256 + 256
      rw [hi.1, ht]; omega
    | ⟨1, _⟩ =>
      show win0_7.index _ 1 * 256 ≤ (i 1 : Nat) ∧ (i 1 : Nat) < win0_7.index _ 1 * 256 + 256
      rw [hi.2]; omega

/-- The result array of columns 2560 to 3584 of the projected rows. -/
def result_8 (x : Vec Ideal S16384x1024 .f32) (g : Vec Ideal S1024 .f32) (w : Fin 1024 → Fin 3584 → EReal) : Vec Ideal S16384x1024 .f32 :=
  fun j => projAt (rms (fun l => x (ix2 (j 0) l)) fun l => g (ix1 l)) w (cosAt (j 0)) (sinAt (j 0)) (2560 + (j 1).val)

/-- The same, from the arguments. -/
abbrev out_8 : Vec Ideal S16384x1024 .f32 :=
  result_8 (m ((c : Thread nD τ).loc main_arg0)) (m ((c : Thread nD τ).loc main_arg1)) (cols (m ((c : Thread nD τ).loc main_arg2)))

theorem block_8 (t : Fin cfg0.N) (r : Fin 256) (n : Fin 1024) :
    out0_8 (iblk m c 0 t) (iblk m c 1 t) (iblk m c 2 t) (iblk m c 3 t) (iblk m c 4 t) (ix2 r n) = out_8 m c (ix2 (row t r) n) := by
  rw [out_8_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (2560 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_8 : ∀ t : Fin cfg0.N, win0_8.index t 0 = t.val ∧ win0_8.index t 1 = 0 :=
  (by decide +kernel : ∀ t : Fin grid0.N, win0_8.index t 0 = t.val ∧ win0_8.index t 1 = 0)

theorem flushed_8 (t : Fin cfg0.N) (hf : (cfg0.win 8).flush t = true) :
    (dats m 0 c).flushed 8 t = ((cfg0.win 8).blk t).view.read (Elt Ideal) (out_8 m c) := by
  rw [flushed8]
  have hi := index_8 t
  funext j
  rw [View.read_apply]
  have h0 : (j 0).val < 256 := (j 0).isLt
  have h1 : (j 1).val < 1024 := (j 1).isLt
  have he : (((cfg0.win 8).blk t).view.emb j : S16384x1024.Idx) = ix2 (row t ⟨(j 0).val, h0⟩) ⟨(j 1).val, h1⟩ := by
    funext a
    apply Fin.ext
    match a with
    | ⟨0, _⟩ => show win0_8.index t 0 * 256 + 1 * (j 0).val = t.val * 256 + (j 0).val; rw [hi.1]; omega
    | ⟨1, _⟩ => show win0_8.index t 1 * 1024 + 1 * (j 1).val = (j 1).val; rw [hi.2]; omega
  have hj : (j : S256x1024.Idx) = ix2 ⟨(j 0).val, h0⟩ ⟨(j 1).val, h1⟩ := by
    funext a
    match a with
    | ⟨0, _⟩ => rfl
    | ⟨1, _⟩ => rfl
  show out0_8 (iblk m c 0 t) (iblk m c 1 t) (iblk m c 2 t) (iblk m c 3 t) (iblk m c 4 t) j = out_8 m c (((cfg0.win 8).blk t).view.emb j)
  rw [he]
  exact (congrArg (out0_8 (iblk m c 0 t) (iblk m c 1 t) (iblk m c 2 t) (iblk m c 3 t) (iblk m c 4 t)) hj).trans <| block_8 m c t ⟨(j 0).val, h0⟩ ⟨(j 1).val, h1⟩

theorem final_8 : (dats m 0 c).arrAt 8 cfg0.N = out_8 m c :=
  (dats m 0 c).arrAt_eq_of_cover 8 (out_8 m c) (flushed_8 m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_8 _, ?_⟩
    show i ∈ ((View.whole main_v21_3).slice (win0_8.rect t)).set
    rw [View.set_slice_whole, Rect.mem_set_unit]
    have hi := index_8 t
    intro a
    match a with
    | ⟨0, _⟩ =>
      show win0_8.index _ 0 * 256 ≤ (i 0 : Nat) ∧ (i 0 : Nat) < win0_8.index _ 0 * 256 + 256
      rw [hi.1, ht]; omega
    | ⟨1, _⟩ =>
      show win0_8.index _ 1 * 1024 ≤ (i 1 : Nat) ∧ (i 1 : Nat) < win0_8.index _ 1 * 1024 + 1024
      rw [hi.2]; omega

end Cert.EvenProjIdeal.Proj

namespace Cert.EvenProjRefIdeal.Proj

open Cert.EvenProjRefIdeal Cert.EvenProjRefIdeal.Gen Idealize.ShloMosaic Idealize.ShloMosaic.TcCoe Idealize.SL.Sem

/-- The angles of the positions. -/
def angle : Vec Ideal S16384x32 .f32 :=
  mulf (F := Ideal) (φ := .f32) (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Six heads turned by their positions. -/
def heads (x : Vec Ideal S16384x384 .f32) : Vec Ideal S16384x384 .f32 :=
  shapeCast S16384x384 (concatenate S1x16384x6x64 3 [
    ⟨S1x16384x6x32, (subf (mulf (F := Ideal) (φ := .f32) (extractStridedSlice S1x16384x6x32 ![0, 0, 0, 0] (shapeCast S1x16384x6x64 x shapeCasts_S16384x384_S1x16384x6x64) slices_S1x16384x6x64_S1x16384x6x32_0_0_0_0)
      (broadcastInDim S1x16384x6x32 ![0, 1, 2, 3] bcast_S1x16384x1x32_S1x16384x6x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x6x32 ![0, 0, 0, 32] (shapeCast S1x16384x6x64 x shapeCasts_S16384x384_S1x16384x6x64) slices_S1x16384x6x64_S1x16384x6x32_0_0_0_32)
      (broadcastInDim S1x16384x6x32 ![0, 1, 2, 3] bcast_S1x16384x1x32_S1x16384x6x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x6x32 .f32)⟩,
    ⟨S1x16384x6x32, (addf (mulf (F := Ideal) (φ := .f32) (extractStridedSlice S1x16384x6x32 ![0, 0, 0, 32] (shapeCast S1x16384x6x64 x shapeCasts_S16384x384_S1x16384x6x64) slices_S1x16384x6x64_S1x16384x6x32_0_0_0_32)
      (broadcastInDim S1x16384x6x32 ![0, 1, 2, 3] bcast_S1x16384x1x32_S1x16384x6x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x6x32 ![0, 0, 0, 0] (shapeCast S1x16384x6x64 x shapeCasts_S16384x384_S1x16384x6x64) slices_S1x16384x6x64_S1x16384x6x32_0_0_0_0)
      (broadcastInDim S1x16384x6x32 ![0, 1, 2, 3] bcast_S1x16384x1x32_S1x16384x6x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x6x32 .f32)⟩]
    concatenates_S1x16384x6x32_S1x16384x6x32_S1x16384x6x64_d3 : Vec Ideal S1x16384x6x64 .f32) shapeCasts_S1x16384x6x64_S16384x384

theorem angle_at (p : Fin 16384) (i : Fin 32) : angle (ix2 p i) = Cert.EvenProjIdeal.Proj.angleAt p i.val := by
  unfold Cert.EvenProjIdeal.Proj.angleAt
  pointwise [angle]

theorem heads_at (x : Vec Ideal S16384x384 .f32) (f : Nat → EReal) (b : Nat) (hb : b % 128 = 0) (p : Fin 16384)
    (hx : ∀ k : Fin 384, x (ix2 p k) = f (b + k.val)) (n : Fin 384) :
    heads x (ix2 p n) = Cert.EvenProjIdeal.Proj.turn f (Cert.EvenProjIdeal.Proj.cosAt p) (Cert.EvenProjIdeal.Proj.sinAt p) (b + n.val) := by
  pointwise [heads]
  unfold Cert.EvenProjIdeal.Proj.turn Cert.EvenProjIdeal.Proj.cosAt Cert.EvenProjIdeal.Proj.sinAt
  simp only [angle_at, hx]
  split
  · rw [if_pos (by omega), if_pos (by omega), sub_eq_add_neg, mul_neg,
      show b + (n.val / 64 * 64 + (32 + n.val % 64)) = b + n.val + 32 by omega,
      show (b + n.val) % 128 % 32 = n.val % 64 by omega]
  · rw [if_neg (by omega), if_neg (by omega),
      show b + (n.val / 64 * 64 + (32 + (n.val % 64 - 32))) = b + n.val by omega,
      show b + (n.val / 64 * 64 + (n.val % 64 - 32)) = b + n.val - 32 by omega,
      show (b + n.val) % 128 % 32 = n.val % 64 - 32 by omega]

/-- The reference's normalised rows. -/
def normed (x : Vec Ideal S16384x1024 .f32) (g : Vec Ideal S1024 .f32) : Vec Ideal S16384x1024 .f32 :=
  mulf (F := Ideal) (φ := .f32) (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem normed_at (x : Vec Ideal S16384x1024 .f32) (g : Vec Ideal S1024 .f32) (p : Fin 16384) (k : Fin 1024) :
    normed x g (ix2 p k) = Cert.EvenProjIdeal.Proj.rms (fun l => x (ix2 p l)) (fun l => g (ix1 l)) k := by
  unfold Cert.EvenProjIdeal.Proj.rms
  pointwise [normed]

/-- The reference's projected rows, before any head is turned. -/
def prod (x : Vec Ideal S16384x1024 .f32) (g : Vec Ideal S1024 .f32) (w : Vec Ideal S1024x3584 .f32) : Vec Ideal S16384x3584 .f32 :=
  Host.dotGeneral (F := Ideal) (φ₁ := .f32) (φ₂ := .f32) dot_S16384x1024_S1024x3584_S16384x3584_1_0_0_1_n_n none (normed x g) w

theorem prod_sum (x : Vec Ideal S16384x1024 .f32) (g : Vec Ideal S1024 .f32) (w : Vec Ideal S1024x3584 .f32) (p : Fin 16384) (n : Fin 3584) :
    prod x g w (ix2 p n) = ∑ k : Fin 1024, normed x g (ix2 p k) * w (ix2 k n) := by
  pointwise [prod]

theorem prod_at (x : Vec Ideal S16384x1024 .f32) (g : Vec Ideal S1024 .f32) (w : Vec Ideal S1024x3584 .f32) (p : Fin 16384) (n : Fin 3584) (n' : Nat)
    (h : n.val = n') : prod x g w (ix2 p n)
      = Cert.EvenProjIdeal.Proj.lin (Cert.EvenProjIdeal.Proj.rms (fun l => x (ix2 p l)) fun l => g (ix1 l)) (Cert.EvenProjIdeal.Proj.cols w) n' := by
  subst h
  rw [prod_sum]
  unfold Cert.EvenProjIdeal.Proj.lin
  rw [dif_pos n.isLt]
  exact Finset.sum_congr rfl fun k _ => congrArg (· * _) (normed_at x g p k)

/-- Three groups of six heads side by side, the first two turned. -/
def three (a b e : Vec Ideal S16384x384 .f32) : Vec Ideal S16384x1152 .f32 :=
  concatenate S16384x1152 1 [⟨S16384x384, heads a⟩, ⟨S16384x384, heads b⟩, ⟨S16384x384, e⟩] concatenates_S16384x384_S16384x384_S16384x384_S16384x1152_d1

theorem three_at (a b e : Vec Ideal S16384x384 .f32) (p : Fin 16384) (f : Nat → EReal) (o : Nat) (ho : o % 128 = 0)
    (ha : ∀ k : Fin 384, a (ix2 p k) = f (o + k.val)) (hb : ∀ k : Fin 384, b (ix2 p k) = f (o + 384 + k.val))
    (he : ∀ k : Fin 384, e (ix2 p k) = f (o + 768 + k.val)) (n : Fin 1152) :
    three a b e (ix2 p n) = if n.val < 768 then Cert.EvenProjIdeal.Proj.turn f (Cert.EvenProjIdeal.Proj.cosAt p) (Cert.EvenProjIdeal.Proj.sinAt p) (o + n.val)
      else f (o + n.val) := by
  pointwise [three]
  split
  · exact (heads_at a f o ho p ha _).trans (if_pos (by omega)).symm
  split
  · exact (heads_at b f (o + 384) (by omega) p hb _).trans ((congrArg (Cert.EvenProjIdeal.Proj.turn f _ _)
      (by show o + 384 + (n.val - 384) = o + n.val; omega)).trans (if_pos (by omega)).symm)
  · exact (he _).trans ((congrArg f (by show o + 768 + (n.val - 384 - 384) = o + n.val; omega)).trans (if_neg (by omega)).symm)

/-- The reference's two arrays of three groups. -/
theorem result_5 (x : Vec Ideal S16384x1024 .f32) (g : Vec Ideal S1024 .f32) (w : Vec Ideal S1024x3584 .f32) :
    three (extractStridedSlice S16384x384 ![0, 0] (prod x g w) slices_S16384x3584_S16384x384_0_0)
      (extractStridedSlice S16384x384 ![0, 384] (prod x g w) slices_S16384x3584_S16384x384_0_384)
      (extractStridedSlice S16384x384 ![0, 768] (prod x g w) slices_S16384x3584_S16384x384_0_768)
      = Cert.EvenProjIdeal.Proj.result_5 x g (Cert.EvenProjIdeal.Proj.cols w) := by
  funext j
  obtain ⟨p, n, rfl⟩ : ∃ (p : Fin 16384) (n : Fin 1152), j = ix2 p n :=
    ⟨j 0, j 1, funext fun a => by match a with | ⟨0, _⟩ => rfl | ⟨1, _⟩ => rfl⟩
  rw [three_at _ _ _ p (Cert.EvenProjIdeal.Proj.lin (Cert.EvenProjIdeal.Proj.rms (fun l => x (ix2 p l)) fun l => g (ix1 l)) (Cert.EvenProjIdeal.Proj.cols w)) 0 (by decide)
    (fun k => by pointwise []; exact prod_at x g w p _ _ (by show k.val = _; omega))
    (fun k => by pointwise []; exact prod_at x g w p _ _ (by show 384 + k.val = _; omega))
    (fun k => by pointwise []; exact prod_at x g w p _ _ (by show 768 + k.val = _; omega))]
  show _ = Cert.EvenProjIdeal.Proj.projAt _ _ (Cert.EvenProjIdeal.Proj.cosAt p) (Cert.EvenProjIdeal.Proj.sinAt p) (0 + n.val)
  by_cases h : n.val < 768
  · rw [if_pos h]
    exact (Cert.EvenProjIdeal.Proj.proj_turned _ _ _ _ _ (by unfold Cert.EvenProjIdeal.Proj.turning; omega)).symm
  · rw [if_neg h]
    exact (Cert.EvenProjIdeal.Proj.proj_plain _ _ _ _ _ (by unfold Cert.EvenProjIdeal.Proj.turning; omega)).symm

theorem result_6 (x : Vec Ideal S16384x1024 .f32) (g : Vec Ideal S1024 .f32) (w : Vec Ideal S1024x3584 .f32) :
    three (extractStridedSlice S16384x384 ![0, 1152] (prod x g w) slices_S16384x3584_S16384x384_0_1152)
      (extractStridedSlice S16384x384 ![0, 1536] (prod x g w) slices_S16384x3584_S16384x384_0_1536)
      (extractStridedSlice S16384x384 ![0, 1920] (prod x g w) slices_S16384x3584_S16384x384_0_1920)
      = Cert.EvenProjIdeal.Proj.result_6 x g (Cert.EvenProjIdeal.Proj.cols w) := by
  funext j
  obtain ⟨p, n, rfl⟩ : ∃ (p : Fin 16384) (n : Fin 1152), j = ix2 p n :=
    ⟨j 0, j 1, funext fun a => by match a with | ⟨0, _⟩ => rfl | ⟨1, _⟩ => rfl⟩
  rw [three_at _ _ _ p (Cert.EvenProjIdeal.Proj.lin (Cert.EvenProjIdeal.Proj.rms (fun l => x (ix2 p l)) fun l => g (ix1 l)) (Cert.EvenProjIdeal.Proj.cols w)) 1152 (by decide)
    (fun k => by pointwise []; exact prod_at x g w p _ _ (by show 1152 + k.val = _; omega))
    (fun k => by pointwise []; exact prod_at x g w p _ _ (by show 1536 + k.val = _; omega))
    (fun k => by pointwise []; exact prod_at x g w p _ _ (by show 1920 + k.val = _; omega))]
  show _ = Cert.EvenProjIdeal.Proj.projAt _ _ (Cert.EvenProjIdeal.Proj.cosAt p) (Cert.EvenProjIdeal.Proj.sinAt p) (1152 + n.val)
  by_cases h : n.val < 768
  · rw [if_pos h]
    exact (Cert.EvenProjIdeal.Proj.proj_turned _ _ _ _ _ (by unfold Cert.EvenProjIdeal.Proj.turning; omega)).symm
  · rw [if_neg h]
    exact (Cert.EvenProjIdeal.Proj.proj_plain _ _ _ _ _ (by unfold Cert.EvenProjIdeal.Proj.turning; omega)).symm

/-- The reference's columns that aren't turned. -/
theorem result_7 (x : Vec Ideal S16384x1024 .f32) (g : Vec Ideal S1024 .f32) (w : Vec Ideal S1024x3584 .f32) :
    extractStridedSlice S16384x256 ![0, 2304] (prod x g w) slices_S16384x3584_S16384x256_0_2304 = Cert.EvenProjIdeal.Proj.result_7 x g (Cert.EvenProjIdeal.Proj.cols w) := by
  funext j
  obtain ⟨p, n, rfl⟩ : ∃ (p : Fin 16384) (n : Fin 256), j = ix2 p n :=
    ⟨j 0, j 1, funext fun a => by match a with | ⟨0, _⟩ => rfl | ⟨1, _⟩ => rfl⟩
  show _ = Cert.EvenProjIdeal.Proj.projAt _ _ (Cert.EvenProjIdeal.Proj.cosAt p) (Cert.EvenProjIdeal.Proj.sinAt p) (2304 + n.val)
  rw [Cert.EvenProjIdeal.Proj.proj_plain _ _ _ _ _ (by unfold Cert.EvenProjIdeal.Proj.turning; omega)]
  pointwise []
  exact prod_at x g w p _ _ rfl

theorem result_8 (x : Vec Ideal S16384x1024 .f32) (g : Vec Ideal S1024 .f32) (w : Vec Ideal S1024x3584 .f32) :
    extractStridedSlice S16384x1024 ![0, 2560] (prod x g w) slices_S16384x3584_S16384x1024_0_2560 = Cert.EvenProjIdeal.Proj.result_8 x g (Cert.EvenProjIdeal.Proj.cols w) := by
  funext j
  obtain ⟨p, n, rfl⟩ : ∃ (p : Fin 16384) (n : Fin 1024), j = ix2 p n :=
    ⟨j 0, j 1, funext fun a => by match a with | ⟨0, _⟩ => rfl | ⟨1, _⟩ => rfl⟩
  show _ = Cert.EvenProjIdeal.Proj.projAt _ _ (Cert.EvenProjIdeal.Proj.cosAt p) (Cert.EvenProjIdeal.Proj.sinAt p) (2560 + n.val)
  rw [Cert.EvenProjIdeal.Proj.proj_plain _ _ _ _ _ (by unfold Cert.EvenProjIdeal.Proj.turning; omega)]
  pointwise []
  exact prod_at x g w p _ _ rfl

end Cert.EvenProjRefIdeal.Proj

namespace Cert.Proof

open Idealize.ShloMosaic Idealize.SL.Sem Idealize.ShloMosaic.TcCoe

/-- Both programs' results are columns of `projAt` of the arguments. -/
theorem equal_EvenProj : Cert.algebraic_EvenProjIdeal_EvenProjRefIdeal := by
  intro m ρ m' ρ' _ hagree
  refine ⟨fun c => Cert.EvenProjIdeal.Proj.out_5 m c, fun c => Cert.EvenProjIdeal.Proj.out_6 m c, fun c => Cert.EvenProjIdeal.Proj.out_7 m c,
    fun c => Cert.EvenProjIdeal.Proj.out_8 m c, ?_, ?_⟩
  · exact (θ_run _ _ _).mono (fun _ h c => ⟨(h c).1.trans (Cert.EvenProjIdeal.Proj.final_5 m c), (h c).2.1.trans (Cert.EvenProjIdeal.Proj.final_6 m c),
      (h c).2.2.1.trans (Cert.EvenProjIdeal.Proj.final_7 m c), (h c).2.2.2.1.trans (Cert.EvenProjIdeal.Proj.final_8 m c), (h c).2.2.2.2⟩)
      (Cert.EvenProjIdeal.Value.run_blocks m ρ)
  · refine (θ_run _ _ _).mono (fun _ h c => ⟨(h c).1.trans ?_, (h c).2.1.trans ?_, (h c).2.2.1.trans ?_, (h c).2.2.2.1.trans ?_, (h c).2.2.2.2⟩)
      (Cert.EvenProjRefIdeal.Value.run m' ρ')
    all_goals obtain ⟨h0, h1, h2⟩ := hagree c
    · unfold Cert.EvenProjRefIdeal.Value.res_main_v94
      rw [h0, h1, h2]
      exact Cert.EvenProjRefIdeal.Proj.result_5 _ _ _
    · unfold Cert.EvenProjRefIdeal.Value.res_main_v167
      rw [h0, h1, h2]
      exact Cert.EvenProjRefIdeal.Proj.result_6 _ _ _
    · rw [h0, h1, h2]
      exact Cert.EvenProjRefIdeal.Proj.result_7 _ _ _
    · rw [h0, h1, h2]
      exact Cert.EvenProjRefIdeal.Proj.result_8 _ _ _

theorem frame_EvenProjRef : Cert.quiescent_EvenProjRefIdeal := fun m ρ _ =>
  (θ_run Cert.EvenProjRefIdeal.defs _ _).mono (fun r h => ⟨fun c => (h c).2.2.2.2, sem_eq_zero_of_no_sems (by decide) r.2⟩)
    (Cert.EvenProjRefIdeal.Value.run m ρ)

theorem frame_EvenProjIdeal : Cert.quiescent_EvenProjIdeal := fun m ρ _ => Cert.EvenProjIdeal.Gen.frame m ρ

/-- The two programs' bodies are one text. -/
theorem defs_EvenProj : Cert.EvenProj.defs (F := Bits) = Cert.EvenProjIdeal.defs (F := Bits) := by
  have h : Cert.EvenProj.defs₀ (F := Bits) = Cert.EvenProjIdeal.defs₀ (F := Bits) := by
    unfold Cert.EvenProj.defs₀ Cert.EvenProjIdeal.defs₀
    refine congrArg Defs.onTc ?_
    funext l x
    match l, x with
    | 0, (t, s) => rfl
    | ⟨n + 1, h⟩, _ => exact absurd h (Nat.not_lt.2 (Nat.le_add_left _ _))
  unfold Cert.EvenProj.defs Cert.EvenProjIdeal.defs
  exact congrArg _ h

theorem frame_EvenProj : Cert.quiescent_EvenProj := fun m ρ _ => by
  rw [defs_EvenProj]
  exact Cert.EvenProjIdeal.Gen.frame (F := Bits) m ρ

end Cert.Proof
-- ==== Proof.OddMix.lean ====
/-
  THE ODD LAYER'S MIX: the residual plus the gated outputs of the three mixers times their rows of the weights, then the last norm, for
  the kernel block by block and for the reference in one product.
-/
module

public import proofs.«01_k».proof.Proof.Gen.OddMix
public import proofs.«01_k».proof.Proof.Gen.OddMixIdeal.Value
public import proofs.«01_k».proof.Proof.Gen.OddMixRefIdeal.Run
public import Idealize.ShloMosaic.Lib.Pipeline.Value
public import Idealize.ShloMosaic.Lib.Pointwise
public import Idealize.ShloMosaic.Lib.Tactic
public import Idealize.ShloMosaic.Lib.Quiescent
public import proofs.«01_k».proof.Defs
public import Idealize.ShloMosaic.Lib.StableHlo.ReadAt

@[expose] public section

set_option maxRecDepth 16384

noncomputable section

namespace Cert.OddMixIdeal.Mix

open Cert.OddMixIdeal Cert.OddMixIdeal.Gen Cert.OddMixIdeal.Value Idealize.ShloMosaic Idealize.ShloMosaic.TcCoe Idealize.SL.Sem

variable (m : (ℓ : Loc nD τ sig) → Buf (Elt Ideal) ℓ) (c : Dev nD)

/-- The gate's weight at one place. -/
def silu (g : EReal) : EReal := g * Ideal.logistic g

/-- The mixed row times one column of the weights, added to the residual: head group by head group. -/
def mixAt (x : Vec Ideal S16384x1024 .f32) (a : Vec Ideal S16384x512 .f32) (b e : Vec Ideal S16384x256 .f32)
    (g : Vec Ideal S16384x1024 .f32) (w : Vec Ideal S1024x1024 .f32) (r : Fin 16384) (n : Fin 1024) : EReal :=
  x (ix2 r n) + (∑ k : Fin 512, a (ix2 r k) * silu (g (ix2 r ⟨k.val, by omega⟩)) * w (ix2 ⟨k.val, by omega⟩ n) : EReal)
    + (∑ k : Fin 256, b (ix2 r k) * silu (g (ix2 r ⟨512 + k.val, by omega⟩)) * w (ix2 ⟨512 + k.val, by omega⟩ n) : EReal)
    + (∑ k : Fin 256, e (ix2 r k) * silu (g (ix2 r ⟨768 + k.val, by omega⟩)) * w (ix2 ⟨768 + k.val, by omega⟩ n) : EReal)

/-- A row divided by its root mean square. -/
def rms (y : Fin 1024 → EReal) (n : Fin 1024) : EReal :=
  y n * Ideal.rsqrt (Ideal.div (∑ k : Fin 1024, y k * y k) (Ideal.ofBits .f32 0x44800000#32) + Ideal.ofBits .f32 0x358637BD#32)

/-- The result array of a layer's mix, normalised and scaled. -/
def mixed (x : Vec Ideal S16384x1024 .f32) (a : Vec Ideal S16384x512 .f32) (b e : Vec Ideal S16384x256 .f32)
    (g : Vec Ideal S16384x1024 .f32) (w : Vec Ideal S1024x1024 .f32) (f : Vec Ideal S1024 .f32) : Vec Ideal S16384x1024 .f32 :=
  fun j => rms (mixAt x a b e g w (j 0)) (j 1) * f (ix1 (j 1))

theorem lt64 (t : Fin cfg0.N) : t.val < 64 := lt_of_lt_of_eq t.isLt (show cfg0.N = 64 from N_0)

/-- Row `r` of block `t`. -/
def row (t : Fin cfg0.N) (r : Fin 256) : Fin 16384 := ⟨t.val * 256 + r.val, by have := lt64 t; omega⟩

theorem hz : (![0, 0] : Fin 2 → Nat) = fun _ => 0 := funext fun a => by fin_cases a <;> rfl

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 256) (n : Fin 1024) :
    (iblk m c 0 t : Vec Ideal S256x1024 .f32) (ix2 r n) = (m ((c : Thread nD τ).loc main_arg0) : Vec Ideal S16384x1024 .f32) (ix2 (row t r) n) := by
  have hi := index_0 t
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * n.val = n.val; rw [hi.2]; omega

theorem index_1 : ∀ t : Fin cfg0.N, win0_1.index t 0 = t.val ∧ win0_1.index t 1 = 0 :=
  (by decide +kernel : ∀ t : Fin grid0.N, win0_1.index t 0 = t.val ∧ win0_1.index t 1 = 0)

theorem block_1 (t : Fin cfg0.N) (r : Fin 256) (n : Fin 512) :
    (iblk m c 1 t : Vec Ideal S256x512 .f32) (ix2 r n) = (m ((c : Thread nD τ).loc main_arg1) : Vec Ideal S16384x512 .f32) (ix2 (row t r) n) := by
  have hi := index_1 t
  unfold iblk
  rw [View.read_apply]
  show V m c main_arg1 _ = _
  rw [V_main_arg1]
  show m _ _ = m _ _
  congr 1
  funext a
  apply Fin.ext
  match a with
  | ⟨0, _⟩ => show win0_1.index t 0 * 256 + 1 * r.val = t.val * 256 + r.val; rw [hi.1]; omega
  | ⟨1, _⟩ => show win0_1.index t 1 * 512 + 1 * n.val = n.val; rw [hi.2]; omega

theorem index_2 : ∀ t : Fin cfg0.N, win0_2.index t 0 = t.val ∧ win0_2.index t 1 = 0 :=
  (by decide +kernel : ∀ t : Fin grid0.N, win0_2.index t 0 = t.val ∧ win0_2.index t 1 = 0)

theorem block_2 (t : Fin cfg0.N) (r : Fin 256) (n : Fin 256) :
    (iblk m c 2 t : Vec Ideal S256x256 .f32) (ix2 r n) = (m ((c : Thread nD τ).loc main_arg2) : Vec Ideal S16384x256 .f32) (ix2 (row t r) n) := by
  have hi := index_2 t
  unfold iblk
  rw [View.read_apply]
  show V m c main_arg2 _ = _
  rw [V_main_arg2]
  show m _ _ = m _ _
  congr 1
  funext a
  apply Fin.ext
  match a with
  | ⟨0, _⟩ => show win0_2.index t 0 * 256 + 1 * r.val = t.val * 256 + r.val; rw [hi.1]; omega
  | ⟨1, _⟩ => show win0_2.index t 1 * 256 + 1 * n.val = n.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 256) (n : Fin 256) :
    (iblk m c 3 t : Vec Ideal S256x256 .f32) (ix2 r n) = (m ((c : Thread nD τ).loc main_arg3) : Vec Ideal S16384x256 .f32) (ix2 (row t r) n) := by
  have hi := index_3 t
  unfold iblk
  rw [View.read_apply]
  show V m c main_arg3 _ = _
  rw [V_main_arg3]
  show m _ _ = m _ _
  congr 1
  funext a
  apply Fin.ext
  match a with
  | ⟨0, _⟩ => show win0_3.index t 0 * 256 + 1 * r.val = t.val * 256 + r.val; rw [hi.1]; omega
  | ⟨1, _⟩ => show win0_3.index t 1 * 256 + 1 * n.val = n.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 256) (n : Fin 1024) :
    (iblk m c 4 t : Vec Ideal S256x1024 .f32) (ix2 r n) = (m ((c : Thread nD τ).loc main_arg4) : Vec Ideal S16384x1024 .f32) (ix2 (row t r) n) := by
  have hi := index_4 t
  unfold iblk
  rw [View.read_apply]
  show V m c main_arg4 _ = _
  rw [V_main_arg4]
  show m _ _ = m _ _
  congr 1
  funext a
  apply Fin.ext
  match a with
  | ⟨0, _⟩ => show win0_4.index t 0 * 256 + 1 * r.val = t.val * 256 + r.val; rw [hi.1]; omega
  | ⟨1, _⟩ => show win0_4.index t 1 * 1024 + 1 * n.val = n.val; rw [hi.2]; omega

/-- The weights, as the kernel is handed them. -/
abbrev weights : Vec Ideal S1024x1024 .bf16 := V m c main_v0

theorem weights_eq (j : S1024x1024.Idx) : weights m c j = (m ((c : Thread nD τ).loc main_arg5) : Vec Ideal S1024x1024 .f32) j := by
  unfold weights V
  simp only [hostOps0, List.flatten_cons, List.flatten_nil, List.append_nil, List.cons_append, List.nil_append]
  after_reads_simp
  rfl

/-- The scales, as the kernel is handed them. -/
abbrev scales : Vec Ideal S1x1024 .f32 := V m c main_v1

theorem scales_eq (n : Fin 1024) : scales m c (ix2 0 n) = (m ((c : Thread nD τ).loc main_arg6) : Vec Ideal S1024 .f32) (ix1 n) := by
  have h : scales m c = shapeCast S1x1024 (m ((c : Thread nD τ).loc main_arg6) : Vec Ideal S1024 .f32) shapeCasts_S1024_S1x1024 := by
    unfold scales V
    simp only [hostOps0, List.flatten_cons, List.flatten_nil, List.append_nil, List.cons_append, List.nil_append]
    after_reads_simp
    rfl
  rw [h]
  pointwise []

theorem block_6 (t : Fin cfg0.N) : (iblk m c 6 t : Vec Ideal S1x1024 .f32) = scales m c := by
  have hz' : (fun a => win0_6.index t a * main_v1.ty.shape.size a) = fun _ => 0 := funext fun a => by fin_cases a <;> rfl
  exact Memref.read_access_unit_zero (Elt Ideal) main_v1 hz' (fun a => by rw [congrFun hz' a]; simp) _

theorem block_5 (t : Fin cfg0.N) : (iblk m c 5 t : Vec Ideal S1024x1024 .bf16) = weights m c := by
  have hz' : (fun a => win0_5.index t a * main_v0.ty.shape.size a) = fun _ => 0 := funext fun a => by fin_cases a <;> rfl
  exact Memref.read_access_unit_zero (Elt Ideal) main_v0 hz' (fun a => by rw [congrFun hz' a]; simp) _

theorem ld_0 (w : Vec Ideal S1024x1024 .bf16) (k : Fin 512) (n : Fin 1024) :
    View.ld w r0_2 (ix2 k n) = w (ix2 ⟨k.val, by omega⟩ n) := by
  show w _ = w _
  congr 1
  funext a
  apply Fin.ext
  match a with
  | ⟨0, _⟩ => show 0 + 1 * k.val = k.val; omega
  | ⟨1, _⟩ => show 0 + 1 * n.val = n.val; omega

theorem ld_512 (w : Vec Ideal S1024x1024 .bf16) (k : Fin 256) (n : Fin 1024) :
    View.ld w r0_4 (ix2 k n) = w (ix2 ⟨512 + k.val, by omega⟩ n) := by
  show w _ = w _
  congr 1
  funext a
  apply Fin.ext
  match a with
  | ⟨0, _⟩ => show 512 + 1 * k.val = 512 + k.val; omega
  | ⟨1, _⟩ => show 0 + 1 * n.val = n.val; omega

theorem ld_768 (w : Vec Ideal S1024x1024 .bf16) (k : Fin 256) (n : Fin 1024) :
    View.ld w r0_5 (ix2 k n) = w (ix2 ⟨768 + k.val, by omega⟩ n) := by
  show w _ = w _
  congr 1
  funext a
  apply Fin.ext
  match a with
  | ⟨0, _⟩ => show 768 + 1 * k.val = 768 + k.val; omega
  | ⟨1, _⟩ => show 0 + 1 * n.val = n.val; omega

theorem pay_at (g x : Vec Ideal S256x1024 .f32) (a : Vec Ideal S256x512 .f32) (w0 : Vec Ideal S512x1024 .bf16) (b : Vec Ideal S256x256 .f32)
    (w1 : Vec Ideal S256x1024 .bf16) (e : Vec Ideal S256x256 .f32) (w2 : Vec Ideal S256x1024 .bf16) (r : Fin 256) (n : Fin 1024) :
    k0_pay2 g x a w0 b w1 e w2 (ix2 r n)
      = x (ix2 r n) + (∑ k : Fin 512, a (ix2 r k) * silu (g (ix2 r ⟨k.val, by omega⟩)) * w0 (ix2 k n) : EReal)
        + (∑ k : Fin 256, b (ix2 r k) * silu (g (ix2 r ⟨512 + k.val, by omega⟩)) * w1 (ix2 k n) : EReal)
        + (∑ k : Fin 256, e (ix2 r k) * silu (g (ix2 r ⟨768 + k.val, by omega⟩)) * w2 (ix2 k n) : EReal) := by
  unfold silu
  pointwise [k0_pay2]

theorem scale_at (g x : Vec Ideal S256x1024 .f32) (a : Vec Ideal S256x512 .f32) (w0 : Vec Ideal S512x1024 .bf16) (b : Vec Ideal S256x256 .f32)
    (w1 : Vec Ideal S256x1024 .bf16) (e : Vec Ideal S256x256 .f32) (w2 : Vec Ideal S256x1024 .bf16) (f : Vec Ideal S1x1024 .f32) (r : Fin 256) (n : Fin 1024) :
    k0_pay1 (k0_pay2 g x a w0 b w1 e w2) (k0_pay3 g x a w0 b w1 e w2) f (ix2 r n)
      = rms (fun k => k0_pay2 g x a w0 b w1 e w2 (ix2 r k)) n * f (ix2 0 n) := by
  unfold rms
  pointwise [k0_pay1, k0_pay3, k0_pay2]

/-- The result array, from the arguments. -/
abbrev out : Vec Ideal S16384x1024 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem mix_block (t : Fin cfg0.N) (r : Fin 256) (n : Fin 1024) :
    k0_pay2 (iblk m c 4 t) (iblk m c 0 t) (iblk m c 1 t) (View.ld (weights m c) r0_2) (iblk m c 2 t) (View.ld (weights m c) r0_4) (iblk m c 3 t)
        (View.ld (weights m c) r0_5) (ix2 r n)
      = mixAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (row t r) n := by
  rw [pay_at]
  simp only [block_0, block_1, block_2, block_3, block_4]
  unfold mixAt
  exact congrArg₂ (· + ·) (congrArg₂ (· + ·) (congrArg₂ (· + ·) rfl
    (Finset.sum_congr rfl fun k _ => congrArg _ ((ld_0 _ k n).trans (weights_eq m c _))))
    (Finset.sum_congr rfl fun k _ => congrArg _ ((ld_512 _ k n).trans (weights_eq m c _))))
    (Finset.sum_congr rfl fun k _ => congrArg _ ((ld_768 _ k n).trans (weights_eq m c _)))

theorem out_block (t : Fin cfg0.N) (r : Fin 256) (n : Fin 1024) :
    out0_7 (iblk m c 0 t) (iblk m c 1 t) (iblk m c 2 t) (iblk m c 3 t) (iblk m c 4 t) (iblk m c 5 t) (iblk m c 6 t) (ix2 r n)
      = out m c (ix2 (row t r) n) := by
  unfold out0_7
  rw [View.canon_unit_zero hz]
  simp only [View.ld_unit_zero (S := S256x1024) hz, View.ld_unit_zero (S := S256x512) hz, View.ld_unit_zero (S := S256x256) hz,
    View.ld_unit_zero (S := S1x1024) hz, block_5, block_6]
  rw [scale_at]
  show _ = rms (mixAt _ _ _ _ _ _ (row t r)) n * (m ((c : Thread nD τ).loc main_arg6) : Vec Ideal S1024 .f32) (ix1 n)
  rw [← scales_eq m c n]
  exact congrArg₂ (· * ·) (congrArg (fun y => rms y n) (funext fun k => mix_block m c t r k)) rfl

theorem index_7 : ∀ t : Fin cfg0.N, win0_7.index t 0 = t.val ∧ win0_7.index t 1 = 0 :=
  (by decide +kernel : ∀ t : Fin grid0.N, win0_7.index t 0 = t.val ∧ win0_7.index t 1 = 0)

theorem flushed_out (t : Fin cfg0.N) (hf : (cfg0.win 7).flush t = true) :
    (dats m 0 c).flushed 7 t = ((cfg0.win 7).blk t).view.read (Elt Ideal) (out m c) := by
  rw [flushed7]
  have hi := index_7 t
  funext j
  rw [View.read_apply]
  have h0 : (j 0).val < 256 := (j 0).isLt
  have h1 : (j 1).val < 1024 := (j 1).isLt
  have he : (((cfg0.win 7).blk t).view.emb j : S16384x1024.Idx) = ix2 (row t ⟨(j 0).val, h0⟩) ⟨(j 1).val, h1⟩ := by
    funext a
    apply Fin.ext
    match a with
    | ⟨0, _⟩ => show win0_7.index t 0 * 256 + 1 * (j 0).val = t.val * 256 + (j 0).val; rw [hi.1]; omega
    | ⟨1, _⟩ => show win0_7.index t 1 * 1024 + 1 * (j 1).val = (j 1).val; rw [hi.2]; omega
  have hj : (j : S256x1024.Idx) = ix2 ⟨(j 0).val, h0⟩ ⟨(j 1).val, h1⟩ := by
    funext a
    match a with
    | ⟨0, _⟩ => rfl
    | ⟨1, _⟩ => rfl
  show out0_7 (iblk m c 0 t) (iblk m c 1 t) (iblk m c 2 t) (iblk m c 3 t) (iblk m c 4 t) (iblk m c 5 t) (iblk m c 6 t) j
    = out m c (((cfg0.win 7).blk t).view.emb j)
  rw [he]
  exact (congrArg (out0_7 (iblk m c 0 t) (iblk m c 1 t) (iblk m c 2 t) (iblk m c 3 t) (iblk m c 4 t) (iblk m c 5 t) (iblk m c 6 t)) hj).trans
    <| out_block m c t ⟨(j 0).val, h0⟩ ⟨(j 1).val, h1⟩

theorem final_out : (dats m 0 c).arrAt 7 cfg0.N = out m c :=
  (dats m 0 c).arrAt_eq_of_cover 7 (out m c) (flushed_out m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_7 _, ?_⟩
    show i ∈ ((View.whole main_v2).slice (win0_7.rect t)).set
    rw [View.set_slice_whole, Rect.mem_set_unit]
    have hi := index_7 t
    intro a
    match a with
    | ⟨0, _⟩ =>
      show win0_7.index _ 0 * 256 ≤ (i 0 : Nat) ∧ (i 0 : Nat) < win0_7.index _ 0 * 256 + 256
      rw [hi.1, ht]; omega
    | ⟨1, _⟩ =>
      show win0_7.index _ 1 * 1024 ≤ (i 1 : Nat) ∧ (i 1 : Nat) < win0_7.index _ 1 * 1024 + 1024
      rw [hi.2]; omega

end Cert.OddMixIdeal.Mix

namespace Cert.OddMixRefIdeal.Mix

open Cert.OddMixRefIdeal Cert.OddMixRefIdeal.Gen Idealize.ShloMosaic Idealize.ShloMosaic.TcCoe Idealize.SL.Sem

/-- The reference's mixed rows: the concatenated heads times the gate's weights. -/
def gated (a : Vec Ideal S16384x512 .f32) (b e : Vec Ideal S16384x256 .f32) (g : Vec Ideal S16384x1024 .f32) : Vec Ideal S16384x1024 .f32 :=
  mulf (F := Ideal) (φ := .f32)
    ((concatenate S16384x1024 1 [⟨S16384x512, a⟩, ⟨S16384x256, b⟩, ⟨S16384x256, e⟩]
      concatenates_S16384x512_S16384x256_S16384x256_S16384x1024_d1) : Vec Ideal S16384x1024 .f32)
    (mulf (F := Ideal) (φ := .f32) g
      (Host.divf (broadcastInDim S16384x1024 ![] bcast_S_S16384x1024 (constant S_ FTy.f32 1065353216#32))
        (addf (broadcastInDim S16384x1024 ![] bcast_S_S16384x1024 (constant S_ FTy.f32 1065353216#32)) (Host.exp (Host.negf g)))))

/-- The reference's rows before the normalisation. -/
def summed (x : Vec Ideal S16384x1024 .f32) (a : Vec Ideal S16384x512 .f32)
    (b e : Vec Ideal S16384x256 .f32) (g : Vec Ideal S16384x1024 .f32) (w : Vec Ideal S1024x1024 .f32) : Vec Ideal S16384x1024 .f32 :=
  addf (F := Ideal) (φ := .f32) x (Host.dotGeneral (φ₁ := .f32) (φ₂ := .f32) dot_S16384x1024_S1024x1024_S16384x1024_1_0_0_1_n_n none (gated a b e g) w)

/-- The reference's normalisation. -/
def normed (y : Vec Ideal S16384x1024 .f32) (f : Vec Ideal S1024 .f32) : Vec Ideal S16384x1024 .f32 :=
  mulf (F := Ideal) (φ := .f32) (mulf y (broadcastInDim S16384x1024 ![0, 1] bcast_S16384x1_S16384x1024_0_1 (Host.rsqrt (addf (Host.divf
    (broadcastInDim S16384x1 ![0] bcast_S16384_S16384x1_0 (Host.reduceAdd (mulf y y) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 f))

theorem summed_at (x : Vec Ideal S16384x1024 .f32) (a : Vec Ideal S16384x512 .f32)
    (b e : Vec Ideal S16384x256 .f32) (g : Vec Ideal S16384x1024 .f32) (w : Vec Ideal S1024x1024 .f32) (r : Fin 16384) (n : Fin 1024) :
    summed x a b e g w (ix2 r n) = x (ix2 r n) + ∑ l : Fin 1024, gated a b e g (ix2 r l) * w (ix2 l n) := by
  pointwise [summed]

theorem normed_at (y : Vec Ideal S16384x1024 .f32) (f : Vec Ideal S1024 .f32) (r : Fin 16384) (n : Fin 1024) :
    normed y f (ix2 r n) = Cert.OddMixIdeal.Mix.rms (fun k => y (ix2 r k)) n * f (ix1 n) := by
  unfold Cert.OddMixIdeal.Mix.rms
  pointwise [normed]

theorem gated_first (a : Vec Ideal S16384x512 .f32) (b e : Vec Ideal S16384x256 .f32) (g : Vec Ideal S16384x1024 .f32)
    (r : Fin 16384) (k : Fin 512) :
    gated a b e g (ix2 r ⟨k.val, by omega⟩) = a (ix2 r k) * Cert.OddMixIdeal.Mix.silu (g (ix2 r ⟨k.val, by omega⟩)) := by
  pointwise [gated, Cert.OddMixIdeal.Mix.silu, Ideal.logistic]

theorem gated_second (a : Vec Ideal S16384x512 .f32) (b e : Vec Ideal S16384x256 .f32) (g : Vec Ideal S16384x1024 .f32)
    (r : Fin 16384) (k : Fin 256) :
    gated a b e g (ix2 r ⟨512 + k.val, by omega⟩) = b (ix2 r k) * Cert.OddMixIdeal.Mix.silu (g (ix2 r ⟨512 + k.val, by omega⟩)) := by
  pointwise [gated, Cert.OddMixIdeal.Mix.silu, Ideal.logistic]

theorem gated_third (a : Vec Ideal S16384x512 .f32) (b e : Vec Ideal S16384x256 .f32) (g : Vec Ideal S16384x1024 .f32)
    (r : Fin 16384) (k : Fin 256) :
    gated a b e g (ix2 r ⟨768 + k.val, by omega⟩) = e (ix2 r k) * Cert.OddMixIdeal.Mix.silu (g (ix2 r ⟨768 + k.val, by omega⟩)) := by
  pointwise [gated, Cert.OddMixIdeal.Mix.silu, Ideal.logistic]
  rw [dif_neg (by omega), dif_neg (by omega)]
  have h : 768 + k.val - 512 - 256 = k.val := by omega
  simp only [h]

/-- A sum over all columns, head group by head group. -/
theorem sum_groups (f : Fin 1024 → EReal) : ∑ l, f l
    = (∑ k : Fin 512, f ⟨k.val, by omega⟩) + (∑ k : Fin 256, f ⟨512 + k.val, by omega⟩) + ∑ k : Fin 256, f ⟨768 + k.val, by omega⟩ := by
  rw [show (∑ l, f l) = ∑ l : Fin (768 + 256), f l from rfl, Fin.sum_univ_add]
  congr 1
  rw [show (∑ l : Fin 768, f (Fin.castAdd 256 l)) = ∑ l : Fin (512 + 256), f (Fin.castAdd 256 l) from rfl, Fin.sum_univ_add]
  rfl

/-- The two results are one array. -/
theorem result_eq (x : Vec Ideal S16384x1024 .f32) (a : Vec Ideal S16384x512 .f32)
    (b e : Vec Ideal S16384x256 .f32) (g : Vec Ideal S16384x1024 .f32) (w : Vec Ideal S1024x1024 .f32) (f : Vec Ideal S1024 .f32) :
    normed (summed x a b e g w) f = Cert.OddMixIdeal.Mix.mixed x a b e g w f := by
  funext j
  obtain ⟨r, n, rfl⟩ : ∃ (r : Fin 16384) (n : Fin 1024), j = ix2 r n :=
    ⟨j 0, j 1, funext fun a => by match a with | ⟨0, _⟩ => rfl | ⟨1, _⟩ => rfl⟩
  rw [normed_at]
  show _ = Cert.OddMixIdeal.Mix.rms (Cert.OddMixIdeal.Mix.mixAt x a b e g w r) n * f (ix1 n)
  refine congrArg (fun y => Cert.OddMixIdeal.Mix.rms y n * f (ix1 n)) (funext fun k => ?_)
  rw [summed_at, sum_groups]
  simp only [gated_first, gated_second, gated_third]
  unfold Cert.OddMixIdeal.Mix.mixAt
  simp only [← add_assoc]

end Cert.OddMixRefIdeal.Mix

namespace Cert.Proof

open Idealize.ShloMosaic Idealize.SL.Sem Idealize.ShloMosaic.TcCoe

/-- Both programs' one result is `mixed` of the arguments. -/
theorem equal_OddMix : Cert.algebraic_OddMixIdeal_OddMixRefIdeal := by
  intro m ρ m' ρ' _ hagree
  refine ⟨fun c => Cert.OddMixIdeal.Mix.out m c, ?_, ?_⟩
  · exact (θ_run _ _ _).mono (fun _ h c => ⟨(h c).1.trans (Cert.OddMixIdeal.Mix.final_out m c), (h c).2⟩)
      (Cert.OddMixIdeal.Value.run_blocks m ρ)
  · refine (θ_run _ _ _).mono (fun _ h c => ⟨(h c).1.trans ?_, (h c).2⟩) (Cert.OddMixRefIdeal.Value.run m' ρ')
    obtain ⟨h0, h1, h2, h3, h4, h5, h6⟩ := hagree c
    rw [h0, h1, h2, h3, h4, h5, h6]
    exact Cert.OddMixRefIdeal.Mix.result_eq _ _ _ _ _ _ _

theorem frame_OddMixRef : Cert.quiescent_OddMixRefIdeal := fun m ρ _ =>
  (θ_run Cert.OddMixRefIdeal.defs _ _).mono (fun r h => ⟨fun c => (h c).2, sem_eq_zero_of_no_sems (by decide) r.2⟩)
    (Cert.OddMixRefIdeal.Value.run m ρ)

theorem frame_OddMixIdeal : Cert.quiescent_OddMixIdeal := fun m ρ _ => Cert.OddMixIdeal.Gen.frame m ρ

/-- The two programs' bodies are one text. -/
theorem defs_OddMix : Cert.OddMix.defs (F := Bits) = Cert.OddMixIdeal.defs (F := Bits) := by
  have h : Cert.OddMix.defs₀ (F := Bits) = Cert.OddMixIdeal.defs₀ (F := Bits) := by
    unfold Cert.OddMix.defs₀ Cert.OddMixIdeal.defs₀
    refine congrArg Defs.onTc ?_
    funext l x
    match l, x with
    | 0, (t, s) => rfl
    | ⟨n + 1, h⟩, _ => exact absurd h (Nat.not_lt.2 (Nat.le_add_left _ _))
  unfold Cert.OddMix.defs Cert.OddMixIdeal.defs
  exact congrArg _ h

theorem frame_OddMix : Cert.quiescent_OddMix := fun m ρ _ => by
  rw [defs_OddMix]
  exact Cert.OddMixIdeal.Gen.frame (F := Bits) m ρ

end Cert.Proof
-- ==== Proof.OddProj.lean ====
/-
  THE ODD LAYER'S PROJECTION: a normalised row times the weights, the columns of some queries and keys turned by their position, for
  the kernel in tiles of 128 columns of weights laid out anew, and for the reference by heads from the weights as given.
-/
module

public import proofs.«01_k».proof.Proof.Gen.OddProj
public import proofs.«01_k».proof.Proof.Gen.OddProjIdeal.Value
public import proofs.«01_k».proof.Proof.Gen.OddProjRefIdeal.Run
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs

@[expose] public section

set_option maxRecDepth 16384

noncomputable section

namespace Cert.OddProjIdeal.Proj

open Cert.OddProjIdeal Cert.OddProjIdeal.Gen Cert.OddProjIdeal.Value Idealize.ShloMosaic Idealize.ShloMosaic.TcCoe Idealize.SL.Sem

/-- A row divided by its root mean square, scaled. -/
def rms (x : Fin 1024 → EReal) (g : Fin 1024 → EReal) (k : Fin 1024) : EReal :=
  x k * Ideal.rsqrt (Ideal.div (∑ l : Fin 1024, x l * x l) (Ideal.ofBits .f32 0x44800000#32) + Ideal.ofBits .f32 0x358637BD#32) * g k

/-- Column `n` of a row's product with the weights (zero past the last column). -/
def lin (a : Fin 1024 → EReal) (w : Fin 1024 → Fin 4096 → EReal) (n : Nat) : EReal :=
  if h : n < 4096 then ∑ k : Fin 1024, a k * w k ⟨n, h⟩ else 0

/-- The columns whose heads are turned by their position. -/
def turning (n : Nat) : Prop := (512 ≤ n ∧ n < 1024) ∨ (1280 ≤ n ∧ n < 1408) ∨ (1536 ≤ n ∧ n < 1664)

instance (n : Nat) : Decidable (turning n) := by unfold turning; infer_instance

/-- Column `n` of heads of 64 columns turned by their position: column `i` of a head's first half is paired with
    column `i` of its second. -/
def turn (f : Nat → EReal) (cs sn : Fin 128 → EReal) (n : Nat) : EReal :=
  f n * cs ⟨n % 128, Nat.mod_lt _ (by decide)⟩
    + (if n % 64 < 32 then f (n + 32) else f (n - 32)) * sn ⟨n % 128, Nat.mod_lt _ (by decide)⟩

/-- Column `n` of a projected row. -/
def projAt (a : Fin 1024 → EReal) (w : Fin 1024 → Fin 4096 → EReal) (cs sn : Fin 128 → EReal) (n : Nat) : EReal :=
  if turning n then turn (lin a w) cs sn n else lin a w n

theorem proj_turned (a : Fin 1024 → EReal) (w : Fin 1024 → Fin 4096 → EReal) (cs sn : Fin 128 → EReal) (n : Nat) (h : turning n) :
    projAt a w cs sn n = turn (lin a w) cs sn n := if_pos h

theorem proj_plain (a : Fin 1024 → EReal) (w : Fin 1024 → Fin 4096 → EReal) (cs sn : Fin 128 → EReal) (n : Nat) (h : ¬ turning n) :
    projAt a w cs sn n = lin a w n := if_neg h

theorem mask_at (r : Fin 256) (l : Fin 128) : k0_pay11 (ix2 r l) = if l.val % 64 < 32 then 1#1 else 0#1 := by
  pointwise [k0_pay11]
  revert l
  decide +kernel

/-- A chunk of 512 columns of the product. -/
def chunk (y : FVec Ideal S256x1024 .bf16) (w : Vec Ideal S1024x512 .bf16) : FVec Ideal S256x512 .f32 :=
  matmul dot_S256x1024_S1024x512_S256x512_1_0_0_1_n_n none y
    (shapeCast S1024x512 w shapeCasts_S1024x512_S1024x512 : FVec Ideal S1024x512 .bf16) (constant S256x512 .f32 0x00000000#32)

theorem chunk_at (y : FVec Ideal S256x1024 .bf16) (w : Vec Ideal S1024x512 .bf16) (r : Fin 256) (n : Fin 512) :
    chunk y w (ix2 r n) = ∑ k : Fin 1024, y (ix2 r k) * w (ix2 k n) := by
  pointwise [chunk]

/-- A tile of 128 columns of a chunk. -/
def tile (a : FVec Ideal S256x512 .f32) (o : Nat) (hs : S256x512.Slices ![0, o] S256x128) : FVec Ideal S256x128 .f32 :=
  extractStridedSlice S256x128 ![0, o] a hs

theorem tile_at (a : FVec Ideal S256x512 .f32) (o : Nat) (hs : S256x512.Slices ![0, o] S256x128) (ho : o + 128 ≤ 512) (r : Fin 256) (l : Fin 128) :
    tile a o hs (ix2 r l) = a (ix2 r ⟨o + l.val, by omega⟩) := by
  show a _ = a _
  congr 1
  funext i
  apply Fin.ext
  match i with
  | ⟨0, _⟩ => show 0 + r.val = r.val; omega
  | ⟨1, _⟩ => rfl

/-- A tile turned by the positions of its rows. -/
def turned (t : FVec Ideal S256x128 .f32) (c s : Vec Ideal S256x128 .f32) : FVec Ideal S256x128 .f32 :=
  addf (mulf t (shapeCast S256x128 c shapeCasts_S256x128_S256x128))
    (mulf (select (k0_pay11 : IVec S256x128 1) (dynamicRotate 1 96#32 none t rotates_S256x128_d1) (dynamicRotate 1 32#32 none t rotates_S256x128_d1))
      (shapeCast S256x128 s shapeCasts_S256x128_S256x128))

theorem turned_at (t : FVec Ideal S256x128 .f32) (c s : Vec Ideal S256x128 .f32) (r : Fin 256) (l : Fin 128) :
    turned t c s (ix2 r l) = t (ix2 r l) * c (ix2 r l)
      + (if l.val % 64 < 32 then t (ix2 r ⟨(l.val + 32) % 128, Nat.mod_lt _ (by decide)⟩)
          else t (ix2 r ⟨(l.val + 96) % 128, Nat.mod_lt _ (by decide)⟩)) * s (ix2 r l) := by
  have hm := mask_at r l
  pointwise [turned]
  rw [hm]
  split <;> rfl

/-- Columns `b` to `b + 512` of the weights. -/
theorem ld_at (w : Vec Ideal S1024x4096 .bf16) (b : Nat) (hb : ∀ a, (![0, b] : Fin 2 → Nat) a + S1024x512.size a ≤ S1024x4096.size a) (k : Fin 1024) (n : Fin 512)
    (h : b + n.val < 4096) : View.ld w (Rect.unit (s := S1024x4096) ![0, b] S1024x512.size hb) (ix2 k n) = w (ix2 k ⟨b + n.val, h⟩) := by
  show w _ = w _
  congr 1
  funext a
  apply Fin.ext
  match a with
  | ⟨0, _⟩ => show 0 + 1 * k.val = k.val; omega
  | ⟨1, _⟩ => show b + 1 * n.val = b + n.val; omega

theorem chunk_col (y : FVec Ideal S256x1024 .bf16) (w : Vec Ideal S1024x4096 .bf16) (b : Nat)
    (hb : ∀ a, (![0, b] : Fin 2 → Nat) a + S1024x512.size a ≤ S1024x4096.size a) (hw : b + 512 ≤ 4096) (o : Nat)
    (hs : S256x512.Slices ![0, o] S256x128) (ho : o + 128 ≤ 512) (r : Fin 256) (l : Fin 128) :
    tile (chunk y (View.ld w (Rect.unit (s := S1024x4096) ![0, b] S1024x512.size hb))) o hs (ix2 r l)
      = lin (fun k => y (ix2 r k)) (fun k n => w (ix2 k n)) (b + o + l.val) := by
  rw [tile_at _ o hs ho, chunk_at]
  unfold lin
  rw [dif_pos (by omega)]
  refine Finset.sum_congr rfl fun k _ => congrArg _ ?_
  rw [ld_at w b hb k ⟨o + l.val, by omega⟩ (by show b + (o + l.val) < 4096; omega)]
  congr 2
  exact Fin.ext (by show b + (o + l.val) = b + o + l.val; omega)

theorem turned_col (t : FVec Ideal S256x128 .f32) (c s : Vec Ideal S256x128 .f32) (f : Nat → EReal) (b : Nat) (hb : b % 128 = 0)
    (r : Fin 256) (ht : ∀ l : Fin 128, t (ix2 r l) = f (b + l.val)) (l : Fin 128) :
    turned t c s (ix2 r l) = turn f (fun k => c (ix2 r k)) (fun k => s (ix2 r k)) (b + l.val) := by
  have hl : (⟨(b + l.val) % 128, Nat.mod_lt _ (by decide)⟩ : Fin 128) = l := Fin.ext (by show (b + l.val) % 128 = l.val; omega)
  rw [turned_at]
  unfold turn
  simp only [hl, ht]
  by_cases h : l.val % 64 < 32
  · rw [if_pos h, if_pos (by omega), show b + (l.val + 32) % 128 = b + l.val + 32 by omega]
  · rw [if_neg h, if_neg (by omega), show b + (l.val + 96) % 128 = b + l.val - 32 by omega]

/-- What a tile that isn't turned writes. -/
theorem plain_piece (y : FVec Ideal S256x1024 .bf16) (w : Vec Ideal S1024x4096 .bf16) (c s : Vec Ideal S256x128 .f32) (b : Nat)
    (hb : ∀ a, (![0, b] : Fin 2 → Nat) a + S1024x512.size a ≤ S1024x4096.size a) (hw : b + 512 ≤ 4096) (o : Nat)
    (hs : S256x512.Slices ![0, o] S256x128) (ho : o + 128 ≤ 512) (hn : ∀ l : Fin 128, ¬ turning (b + o + l.val)) (x : S256x128.Idx)
    (r : Fin 256) (n : Nat) (hr : (x 0).val = r.val) (hx : b + o + (x 1).val = n) :
    tile (chunk y (View.ld w (Rect.unit (s := S1024x4096) ![0, b] S1024x512.size hb))) o hs x
      = projAt (fun k => y (ix2 r k)) (fun k n => w (ix2 k n)) (fun l => c (ix2 r l)) (fun l => s (ix2 r l)) n := by
  obtain ⟨r', l, rfl⟩ : ∃ (r : Fin 256) (l : Fin 128), x = ix2 r l :=
    ⟨x 0, x 1, funext fun a => by match a with | ⟨0, _⟩ => rfl | ⟨1, _⟩ => rfl⟩
  obtain rfl : r' = r := Fin.ext hr
  obtain rfl : b + o + l.val = n := hx
  rw [proj_plain _ _ _ _ _ (hn l)]
  exact chunk_col y w b hb hw o hs ho r' l

/-- What a turned tile writes. -/
theorem turned_piece (y : FVec Ideal S256x1024 .bf16) (w : Vec Ideal S1024x4096 .bf16) (c s : Vec Ideal S256x128 .f32) (b : Nat)
    (hb : ∀ a, (![0, b] : Fin 2 → Nat) a + S1024x512.size a ≤ S1024x4096.size a) (hw : b + 512 ≤ 4096) (o : Nat)
    (hs : S256x512.Slices ![0, o] S256x128) (ho : o + 128 ≤ 512) (h0 : (b + o) % 128 = 0) (hn : ∀ l : Fin 128, turning (b + o + l.val)) (x : S256x128.Idx)
    (r : Fin 256) (n : Nat) (hr : (x 0).val = r.val) (hx : b + o + (x 1).val = n) :
    turned (tile (chunk y (View.ld w (Rect.unit (s := S1024x4096) ![0, b] S1024x512.size hb))) o hs) c s x
      = projAt (fun k => y (ix2 r k)) (fun k n => w (ix2 k n)) (fun l => c (ix2 r l)) (fun l => s (ix2 r l)) n := by
  obtain ⟨r', l, rfl⟩ : ∃ (r : Fin 256) (l : Fin 128), x = ix2 r l :=
    ⟨x 0, x 1, funext fun a => by match a with | ⟨0, _⟩ => rfl | ⟨1, _⟩ => rfl⟩
  obtain rfl : r' = r := Fin.ext hr
  obtain rfl : b + o + l.val = n := hx
  rw [proj_turned _ _ _ _ _ (hn l)]
  exact turned_col _ c s _ (b + o) h0 r' (fun l => chunk_col y w b hb hw o hs ho r' l) l

theorem hz : (![0, 0] : Fin 2 → Nat) = fun _ => 0 := funext fun a => by fin_cases a <;> rfl

theorem out_5_at (x0 : Vec Ideal S256x1024 .f32) (x1 : Vec Ideal S1x1024 .f32) (x2 : Vec Ideal S1024x4096 .bf16) (x3 x4 : Vec Ideal S256x128 .f32)
    (r : Fin 256) (n : Fin 512) :
    out0_5 x0 x1 x2 x3 x4 (ix2 r n)
      = projAt (fun k => k0_pay10 x0 x1 (ix2 r k)) (fun k n => x2 (ix2 k n)) (fun l => x3 (ix2 r l)) (fun l => x4 (ix2 r l)) (0 + n.val) := by
  unfold_out out0_5
  simp only [View.ld_unit_zero (S := S256x1024) hz, View.ld_unit_zero (S := S256x128) hz, View.ld_unit_zero (S := S1x1024) hz]
  canon_tiles x h
  · have e0 : r.val = (x 0).val := h0
    have e1 : n.val = 384 + (x 1).val := by have h : n.val = 384 + (x 1).val := h1; omega
    exact plain_piece (k0_pay10 x0 x1) x2 x3 x4 0 inb_S1024x4096_S1024x512_0_0 (by decide) 384 slices_S256x512_o0_384_S256x128 (by decide)
      (fun l => by unfold turning; omega) x r _ e0.symm (by omega)
  · have e0 : r.val = (x 0).val := h0
    have e1 : n.val = 256 + (x 1).val := by have h : n.val = 256 + (x 1).val := h1; omega
    exact plain_piece (k0_pay10 x0 x1) x2 x3 x4 0 inb_S1024x4096_S1024x512_0_0 (by decide) 256 slices_S256x512_o0_256_S256x128 (by decide)
      (fun l => by unfold turning; omega) x r _ e0.symm (by omega)
  · have e0 : r.val = (x 0).val := h0
    have e1 : n.val = 128 + (x 1).val := by have h : n.val = 128 + (x 1).val := h1; omega
    exact plain_piece (k0_pay10 x0 x1) x2 x3 x4 0 inb_S1024x4096_S1024x512_0_0 (by decide) 128 slices_S256x512_o0_128_S256x128 (by decide)
      (fun l => by unfold turning; omega) x r _ e0.symm (by omega)
  · have e0 : r.val = (x 0).val := h0
    have e1 : n.val = 0 + (x 1).val := by have h : n.val = (x 1).val := h1; omega
    exact plain_piece (k0_pay10 x0 x1) x2 x3 x4 0 inb_S1024x4096_S1024x512_0_0 (by decide) 0 slices_S256x512_o0_0_S256x128 (by decide)
      (fun l => by unfold turning; omega) x r _ e0.symm (by omega)

theorem out_6_at (x0 : Vec Ideal S256x1024 .f32) (x1 : Vec Ideal S1x1024 .f32) (x2 : Vec Ideal S1024x4096 .bf16) (x3 x4 : Vec Ideal S256x128 .f32)
    (r : Fin 256) (n : Fin 512) :
    out0_6 x0 x1 x2 x3 x4 (ix2 r n)
      = projAt (fun k => k0_pay10 x0 x1 (ix2 r k)) (fun k n => x2 (ix2 k n)) (fun l => x3 (ix2 r l)) (fun l => x4 (ix2 r l)) (512 + n.val) := by
  unfold_out out0_6
  simp only [View.ld_unit_zero (S := S256x1024) hz, View.ld_unit_zero (S := S256x128) hz, View.ld_unit_zero (S := S1x1024) hz]
  canon_tiles x h
  · have e0 : r.val = (x 0).val := h0
    have e1 : n.val = 384 + (x 1).val := by have h : n.val = 384 + (x 1).val := h1; omega
    exact turned_piece (k0_pay10 x0 x1) x2 x3 x4 512 inb_S1024x4096_S1024x512_0_512 (by decide) 384 slices_S256x512_o0_384_S256x128 (by decide) (by decide)
      (fun l => by unfold turning; omega) x r _ e0.symm (by omega)
  · have e0 : r.val = (x 0).val := h0
    have e1 : n.val = 256 + (x 1).val := by have h : n.val = 256 + (x 1).val := h1; omega
    exact turned_piece (k0_pay10 x0 x1) x2 x3 x4 512 inb_S1024x4096_S1024x512_0_512 (by decide) 256 slices_S256x512_o0_256_S256x128 (by decide) (by decide)
      (fun l => by unfold turning; omega) x r _ e0.symm (by omega)
  · have e0 : r.val = (x 0).val := h0
    have e1 : n.val = 128 + (x 1).val := by have h : n.val = 128 + (x 1).val := h1; omega
    exact turned_piece (k0_pay10 x0 x1) x2 x3 x4 512 inb_S1024x4096_S1024x512_0_512 (by decide) 128 slices_S256x512_o0_128_S256x128 (by decide) (by decide)
      (fun l => by unfold turning; omega) x r _ e0.symm (by omega)
  · have e0 : r.val = (x 0).val := h0
    have e1 : n.val = 0 + (x 1).val := by have h : n.val = (x 1).val := h1; omega
    exact turned_piece (k0_pay10 x0 x1) x2 x3 x4 512 inb_S1024x4096_S1024x512_0_512 (by decide) 0 slices_S256x512_o0_0_S256x128 (by decide) (by decide)
      (fun l => by unfold turning; omega) x r _ e0.symm (by omega)

theorem out_7_at (x0 : Vec Ideal S256x1024 .f32) (x1 : Vec Ideal S1x1024 .f32) (x2 : Vec Ideal S1024x4096 .bf16) (x3 x4 : Vec Ideal S256x128 .f32)
    (r : Fin 256) (n : Fin 768) :
    out0_7 x0 x1 x2 x3 x4 (ix2 r n)
      = projAt (fun k => k0_pay10 x0 x1 (ix2 r k)) (fun k n => x2 (ix2 k n)) (fun l => x3 (ix2 r l)) (fun l => x4 (ix2 r l)) (1024 + n.val) := by
  unfold_out out0_7
  simp only [View.ld_unit_zero (S := S256x1024) hz, View.ld_unit_zero (S := S256x128) hz, View.ld_unit_zero (S := S1x1024) hz]
  canon_tiles x h
  · have e0 : r.val = (x 0).val := h0
    have e1 : n.val = 640 + (x 1).val := by have h : n.val = 640 + (x 1).val := h1; omega
    exact plain_piece (k0_pay10 x0 x1) x2 x3 x4 1536 inb_S1024x4096_S1024x512_0_1536 (by decide) 128 slices_S256x512_o0_128_S256x128 (by decide)
      (fun l => by unfold turning; omega) x r _ e0.symm (by omega)
  · have e0 : r.val = (x 0).val := h0
    have e1 : n.val = 512 + (x 1).val := by have h : n.val = 512 + (x 1).val := h1; omega
    exact turned_piece (k0_pay10 x0 x1) x2 x3 x4 1536 inb_S1024x4096_S1024x512_0_1536 (by decide) 0 slices_S256x512_o0_0_S256x128 (by decide) (by decide)
      (fun l => by unfold turning; omega) x r _ e0.symm (by omega)
  · have e0 : r.val = (x 0).val := h0
    have e1 : n.val = 384 + (x 1).val := by have h : n.val = 384 + (x 1).val := h1; omega
    exact plain_piece (k0_pay10 x0 x1) x2 x3 x4 1024 inb_S1024x4096_S1024x512_0_1024 (by decide) 384 slices_S256x512_o0_384_S256x128 (by decide)
      (fun l => by unfold turning; omega) x r _ e0.symm (by omega)
  · have e0 : r.val = (x 0).val := h0
    have e1 : n.val = 256 + (x 1).val := by have h : n.val = 256 + (x 1).val := h1; omega
    exact turned_piece (k0_pay10 x0 x1) x2 x3 x4 1024 inb_S1024x4096_S1024x512_0_1024 (by decide) 256 slices_S256x512_o0_256_S256x128 (by decide) (by decide)
      (fun l => by unfold turning; omega) x r _ e0.symm (by omega)
  · have e0 : r.val = (x 0).val := h0
    have e1 : n.val = 128 + (x 1).val := by have h : n.val = 128 + (x 1).val := h1; omega
    exact plain_piece (k0_pay10 x0 x1) x2 x3 x4 1024 inb_S1024x4096_S1024x512_0_1024 (by decide) 128 slices_S256x512_o0_128_S256x128 (by decide)
      (fun l => by unfold turning; omega) x r _ e0.symm (by omega)
  · have e0 : r.val = (x 0).val := h0
    have e1 : n.val = 0 + (x 1).val := by have h : n.val = (x 1).val := h1; omega
    exact plain_piece (k0_pay10 x0 x1) x2 x3 x4 1024 inb_S1024x4096_S1024x512_0_1024 (by decide) 0 slices_S256x512_o0_0_S256x128 (by decide)
      (fun l => by unfold turning; omega) x r _ e0.symm (by omega)

theorem out_8_at (x0 : Vec Ideal S256x1024 .f32) (x1 : Vec Ideal S1x1024 .f32) (x2 : Vec Ideal S1024x4096 .bf16) (x3 x4 : Vec Ideal S256x128 .f32)
    (r : Fin 256) (n : Fin 768) :
    out0_8 x0 x1 x2 x3 x4 (ix2 r n)
      = projAt (fun k => k0_pay10 x0 x1 (ix2 r k)) (fun k n => x2 (ix2 k n)) (fun l => x3 (ix2 r l)) (fun l => x4 (ix2 r l)) (1792 + n.val) := by
  unfold_out out0_8
  simp only [View.ld_unit_zero (S := S256x1024) hz, View.ld_unit_zero (S := S256x128) hz, View.ld_unit_zero (S := S1x1024) hz]
  canon_tiles x h
  · have e0 : r.val = (x 0).val := h0
    have e1 : n.val = 640 + (x 1).val := by have h : n.val = 640 + (x 1).val := h1; omega
    exact plain_piece (k0_pay10 x0 x1) x2 x3 x4 2048 inb_S1024x4096_S1024x512_0_2048 (by decide) 384 slices_S256x512_o0_384_S256x128 (by decide)
      (fun l => by unfold turning; omega) x r _ e0.symm (by omega)
  · have e0 : r.val = (x 0).val := h0
    have e1 : n.val = 512 + (x 1).val := by have h : n.val = 512 + (x 1).val := h1; omega
    exact plain_piece (k0_pay10 x0 x1) x2 x3 x4 2048 inb_S1024x4096_S1024x512_0_2048 (by decide) 256 slices_S256x512_o0_256_S256x128 (by decide)
      (fun l => by unfold turning; omega) x r _ e0.symm (by omega)
  · have e0 : r.val = (x 0).val := h0
    have e1 : n.val = 384 + (x 1).val := by have h : n.val = 384 + (x 1).val := h1; omega
    exact plain_piece (k0_pay10 x0 x1) x2 x3 x4 2048 inb_S1024x4096_S1024x512_0_2048 (by decide) 128 slices_S256x512_o0_128_S256x128 (by decide)
      (fun l => by unfold turning; omega) x r _ e0.symm (by omega)
  · have e0 : r.val = (x 0).val := h0
    have e1 : n.val = 256 + (x 1).val := by have h : n.val = 256 + (x 1).val := h1; omega
    exact plain_piece (k0_pay10 x0 x1) x2 x3 x4 2048 inb_S1024x4096_S1024x512_0_2048 (by decide) 0 slices_S256x512_o0_0_S256x128 (by decide)
      (fun l => by unfold turning; omega) x r _ e0.symm (by omega)
  · have e0 : r.val = (x 0).val := h0
    have e1 : n.val = 128 + (x 1).val := by have h : n.val = 128 + (x 1).val := h1; omega
    exact plain_piece (k0_pay10 x0 x1) x2 x3 x4 1536 inb_S1024x4096_S1024x512_0_1536 (by decide) 384 slices_S256x512_o0_384_S256x128 (by decide)
      (fun l => by unfold turning; omega) x r _ e0.symm (by omega)
  · have e0 : r.val = (x 0).val := h0
    have e1 : n.val = 0 + (x 1).val := by have h : n.val = (x 1).val := h1; omega
    exact plain_piece (k0_pay10 x0 x1) x2 x3 x4 1536 inb_S1024x4096_S1024x512_0_1536 (by decide) 256 slices_S256x512_o0_256_S256x128 (by decide)
      (fun l => by unfold turning; omega) x r _ e0.symm (by omega)

theorem out_9_at (x0 : Vec Ideal S256x1024 .f32) (x1 : Vec Ideal S1x1024 .f32) (x2 : Vec Ideal S1024x4096 .bf16) (x3 x4 : Vec Ideal S256x128 .f32)
    (r : Fin 256) (n : Fin 256) :
    out0_9 x0 x1 x2 x3 x4 (ix2 r n)
      = projAt (fun k => k0_pay10 x0 x1 (ix2 r k)) (fun k n => x2 (ix2 k n)) (fun l => x3 (ix2 r l)) (fun l => x4 (ix2 r l)) (2560 + n.val) := by
  unfold_out out0_9
  simp only [View.ld_unit_zero (S := S256x1024) hz, View.ld_unit_zero (S := S256x128) hz, View.ld_unit_zero (S := S1x1024) hz]
  canon_tiles x h
  · have e0 : r.val = (x 0).val := h0
    have e1 : n.val = 128 + (x 1).val := by have h : n.val = 128 + (x 1).val := h1; omega
    exact plain_piece (k0_pay10 x0 x1) x2 x3 x4 2560 inb_S1024x4096_S1024x512_0_2560 (by decide) 128 slices_S256x512_o0_128_S256x128 (by decide)
      (fun l => by unfold turning; omega) x r _ e0.symm (by omega)
  · have e0 : r.val = (x 0).val := h0
    have e1 : n.val = 0 + (x 1).val := by have h : n.val = (x 1).val := h1; omega
    exact plain_piece (k0_pay10 x0 x1) x2 x3 x4 2560 inb_S1024x4096_S1024x512_0_2560 (by decide) 0 slices_S256x512_o0_0_S256x128 (by decide)
      (fun l => by unfold turning; omega) x r _ e0.symm (by omega)

theorem out_10_at (x0 : Vec Ideal S256x1024 .f32) (x1 : Vec Ideal S1x1024 .f32) (x2 : Vec Ideal S1024x4096 .bf16) (x3 x4 : Vec Ideal S256x128 .f32)
    (r : Fin 256) (n : Fin 1024) :
    out0_10 x0 x1 x2 x3 x4 (ix2 r n)
      = projAt (fun k => k0_pay10 x0 x1 (ix2 r k)) (fun k n => x2 (ix2 k n)) (fun l => x3 (ix2 r l)) (fun l => x4 (ix2 r l)) (2816 + n.val) := by
  unfold_out out0_10
  simp only [View.ld_unit_zero (S := S256x1024) hz, View.ld_unit_zero (S := S256x128) hz, View.ld_unit_zero (S := S1x1024) hz]
  canon_tiles x h
  · have e0 : r.val = (x 0).val := h0
    have e1 : n.val = 896 + (x 1).val := by have h : n.val = 896 + (x 1).val := h1; omega
    exact plain_piece (k0_pay10 x0 x1) x2 x3 x4 3584 inb_S1024x4096_S1024x512_0_3584 (by decide) 128 slices_S256x512_o0_128_S256x128 (by decide)
      (fun l => by unfold turning; omega) x r _ e0.symm (by omega)
  · have e0 : r.val = (x 0).val := h0
    have e1 : n.val = 768 + (x 1).val := by have h : n.val = 768 + (x 1).val := h1; omega
    exact plain_piece (k0_pay10 x0 x1) x2 x3 x4 3584 inb_S1024x4096_S1024x512_0_3584 (by decide) 0 slices_S256x512_o0_0_S256x128 (by decide)
      (fun l => by unfold turning; omega) x r _ e0.symm (by omega)
  · have e0 : r.val = (x 0).val := h0
    have e1 : n.val = 640 + (x 1).val := by have h : n.val = 640 + (x 1).val := h1; omega
    exact plain_piece (k0_pay10 x0 x1) x2 x3 x4 3072 inb_S1024x4096_S1024x512_0_3072 (by decide) 384 slices_S256x512_o0_384_S256x128 (by decide)
      (fun l => by unfold turning; omega) x r _ e0.symm (by omega)
  · have e0 : r.val = (x 0).val := h0
    have e1 : n.val = 512 + (x 1).val := by have h : n.val = 512 + (x 1).val := h1; omega
    exact plain_piece (k0_pay10 x0 x1) x2 x3 x4 3072 inb_S1024x4096_S1024x512_0_3072 (by decide) 256 slices_S256x512_o0_256_S256x128 (by decide)
      (fun l => by unfold turning; omega) x r _ e0.symm (by omega)
  · have e0 : r.val = (x 0).val := h0
    have e1 : n.val = 384 + (x 1).val := by have h : n.val = 384 + (x 1).val := h1; omega
    exact plain_piece (k0_pay10 x0 x1) x2 x3 x4 3072 inb_S1024x4096_S1024x512_0_3072 (by decide) 128 slices_S256x512_o0_128_S256x128 (by decide)
      (fun l => by unfold turning; omega) x r _ e0.symm (by omega)
  · have e0 : r.val = (x 0).val := h0
    have e1 : n.val = 256 + (x 1).val := by have h : n.val = 256 + (x 1).val := h1; omega
    exact plain_piece (k0_pay10 x0 x1) x2 x3 x4 3072 inb_S1024x4096_S1024x512_0_3072 (by decide) 0 slices_S256x512_o0_0_S256x128 (by decide)
      (fun l => by unfold turning; omega) x r _ e0.symm (by omega)
  · have e0 : r.val = (x 0).val := h0
    have e1 : n.val = 128 + (x 1).val := by have h : n.val = 128 + (x 1).val := h1; omega
    exact plain_piece (k0_pay10 x0 x1) x2 x3 x4 2560 inb_S1024x4096_S1024x512_0_2560 (by decide) 384 slices_S256x512_o0_384_S256x128 (by decide)
      (fun l => by unfold turning; omega) x r _ e0.symm (by omega)
  · have e0 : r.val = (x 0).val := h0
    have e1 : n.val = 0 + (x 1).val := by have h : n.val = (x 1).val := h1; omega
    exact plain_piece (k0_pay10 x0 x1) x2 x3 x4 2560 inb_S1024x4096_S1024x512_0_2560 (by decide) 256 slices_S256x512_o0_256_S256x128 (by decide)
      (fun l => by unfold turning; omega) x r _ e0.symm (by omega)

theorem out_11_at (x0 : Vec Ideal S256x1024 .f32) (x1 : Vec Ideal S1x1024 .f32) (x2 : Vec Ideal S1024x4096 .bf16) (x3 x4 : Vec Ideal S256x128 .f32)
    (r : Fin 256) (n : Fin 128) :
    out0_11 x0 x1 x2 x3 x4 (ix2 r n)
      = projAt (fun k => k0_pay10 x0 x1 (ix2 r k)) (fun k n => x2 (ix2 k n)) (fun l => x3 (ix2 r l)) (fun l => x4 (ix2 r l)) (3840 + n.val) := by
  unfold_out out0_11
  simp only [View.ld_unit_zero (S := S256x1024) hz, View.ld_unit_zero (S := S256x128) hz, View.ld_unit_zero (S := S1x1024) hz]
  canon_tiles x h
  · have e0 : r.val = (x 0).val := h0
    have e1 : n.val = 0 + (x 1).val := by have h : n.val = (x 1).val := h1; omega
    exact plain_piece (k0_pay10 x0 x1) x2 x3 x4 3584 inb_S1024x4096_S1024x512_0_3584 (by decide) 256 slices_S256x512_o0_256_S256x128 (by decide)
      (fun l => by unfold turning; omega) x r _ e0.symm (by omega)

theorem norm_at (x : Vec Ideal S256x1024 .f32) (g : Vec Ideal S1x1024 .f32) (r : Fin 256) (k : Fin 1024) :
    k0_pay10 x g (ix2 r k) = rms (fun l => x (ix2 r l)) (fun l => g (ix2 0 l)) k := by
  unfold rms
  pointwise [k0_pay10]

/-- The angle of position `p` at frequency `i`. -/
def angleAt (p : Fin 16384) (i : Nat) : EReal :=
  FloatOps.sitofp (F := Ideal) FTy.f32 (BitVec.ofNat 32 p.val) *
    Ideal.pow (Ideal.ofBits FTy.f32 0x461C4000#32)
      (Ideal.div (-FloatOps.sitofp (F := Ideal) FTy.f32 (BitVec.ofNat 32 i)) (Ideal.ofBits FTy.f32 0x42000000#32))

/-- The cosines for two heads side by side. -/
def cosAt (p : Fin 16384) (l : Fin 128) : EReal := Ideal.cos (angleAt p (l.val % 32))

/-- The sines for two heads side by side, negated in a head's first half. -/
def sinAt (p : Fin 16384) (l : Fin 128) : EReal :=
  if l.val % 64 < 32 then -Ideal.sin (angleAt p (l.val % 32))
  else Ideal.sin (angleAt p (l.val % 32))

variable (m : (ℓ : Loc nD τ sig) → Buf (Elt Ideal) ℓ) (c : Dev nD)

/-- The angles of the positions. -/
def angles : Vec Ideal S16384x32 .f32 :=
  mulf (F := Ideal) (φ := .f32) (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem angles_at (p : Fin 16384) (i : Fin 32) : angles (ix2 p i) = angleAt p i.val := by
  unfold angleAt
  pointwise [angles]

/-- Four groups of 32 columns side by side. -/
def side (a b : Vec Ideal S16384x32 .f32) : Vec Ideal S16384x128 .f32 :=
  concatenate S16384x128 1 [⟨S16384x32, a⟩, ⟨S16384x32, b⟩, ⟨S16384x32, a⟩, ⟨S16384x32, b⟩] concatenates_S16384x32_S16384x32_S16384x32_S16384x32_S16384x128_d1

theorem side_at (a b : Vec Ideal S16384x32 .f32) (p : Fin 16384) (l : Fin 128) :
    side a b (ix2 p l) = if l.val % 64 < 32 then a (ix2 p ⟨l.val % 32, Nat.mod_lt _ (by decide)⟩)
      else b (ix2 p ⟨l.val % 32, Nat.mod_lt _ (by decide)⟩) := by
  pointwise [side]
  split
  · exact (congrArg (fun i => a (ix2 p i)) (Fin.ext (by show l.val = l.val % 32; omega))).trans (if_pos (by omega)).symm
  split
  · exact (congrArg (fun i => b (ix2 p i)) (Fin.ext (by show l.val - 32 = l.val % 32; omega))).trans (if_neg (by omega)).symm
  split
  · exact (congrArg (fun i => a (ix2 p i)) (Fin.ext (by show l.val - 32 - 32 = l.val % 32; omega))).trans (if_pos (by omega)).symm
  · exact (congrArg (fun i => b (ix2 p i)) (Fin.ext (by show l.val - 32 - 32 - 32 = l.val % 32; omega))).trans (if_neg (by omega)).symm

/-- The cosines, as the kernel is handed them. -/
abbrev cosTab : Vec Ideal S16384x128 .f32 := V m c main_v15

theorem cosTab_eq (p : Fin 16384) (l : Fin 128) : cosTab m c (ix2 p l) = cosAt p l := by
  have h : cosTab m c = side (Host.cos (F := Ideal) (φ := .f32) angles) (Host.cos (F := Ideal) (φ := .f32) angles) := by
    unfold cosTab V
    simp only [hostOps0, List.flatten_cons, List.flatten_nil, List.append_nil, List.cons_append, List.nil_append]
    after_reads_simp
    change side _ _ = side _ _
    refine congrArg₂ side ?_ ?_
    · after_reads_simp
      rfl
    · after_reads_simp
      rfl
  rw [h, side_at, ite_self]
  show Ideal.cos (angles _) = Ideal.cos _
  rw [angles_at]

/-- The sines, as the kernel is handed them. -/
abbrev sinTab : Vec Ideal S16384x128 .f32 := V m c main_v18

theorem sinTab_eq (p : Fin 16384) (l : Fin 128) : sinTab m c (ix2 p l) = sinAt p l := by
  have h : sinTab m c = side (Host.negf (F := Ideal) (φ := .f32) (Host.sin (F := Ideal) (φ := .f32) angles)) (Host.sin (F := Ideal) (φ := .f32) angles) := by
    unfold sinTab V
    simp only [hostOps0, List.flatten_cons, List.flatten_nil, List.append_nil, List.cons_append, List.nil_append]
    after_reads_simp
    change side _ _ = side _ _
    refine congrArg₂ side ?_ ?_
    · after_reads_simp
      rfl
    · after_reads_simp
      rfl
  rw [h, side_at]
  show (if _ then -Ideal.sin (angles _) else Ideal.sin (angles _)) = _
  rw [angles_at]
  rfl

/-- The weights, as the kernel is handed them. -/
abbrev weights : Vec Ideal S1024x4096 .bf16 := V m c main_v25

/-- Column `n` of the weights that the kernel is handed is column `q` of the weights as given. -/
def source (n q : Nat) : Prop :=
  (n < 512 ∧ q = n) ∨ (512 ≤ n ∧ n < 1792 ∧ q + 512 = n) ∨ (1792 ≤ n ∧ n < 3840 ∧ q + 488 = n) ∨ (3840 ≤ n ∧ n < 3864 ∧ q + 2560 = n)

/-- The columns of the weights in the kernel's order: the first 512 twice, 24 of them moved to the end, zeros after these. -/
def cols (w : Vec Ideal S1024x3352 .f32) (k : Fin 1024) (n : Fin 4096) : EReal :=
  if h : n.val < 512 then w (ix2 k ⟨n.val, by omega⟩)
  else if h1 : n.val < 1792 then w (ix2 k ⟨n.val - 512, by omega⟩)
  else if h2 : n.val < 3840 then w (ix2 k ⟨n.val - 488, by omega⟩)
  else if h3 : n.val < 3864 then w (ix2 k ⟨n.val - 2560, by omega⟩)
  else 0

theorem cols_of (w : Vec Ideal S1024x3352 .f32) (k : Fin 1024) (n : Fin 4096) (q : Fin 3352) (h : source n.val q.val) :
    cols w k n = w (ix2 k q) := by
  unfold source at h
  unfold cols
  split
  · exact congrArg (fun i => w (ix2 k i)) (Fin.ext (by show n.val = q.val; omega))
  split
  · exact congrArg (fun i => w (ix2 k i)) (Fin.ext (by show n.val - 512 = q.val; omega))
  split
  · exact congrArg (fun i => w (ix2 k i)) (Fin.ext (by show n.val - 488 = q.val; omega))
  split
  · exact congrArg (fun i => w (ix2 k i)) (Fin.ext (by show n.val - 2560 = q.val; omega))
  · omega

theorem cols_zero (w : Vec Ideal S1024x3352 .f32) (k : Fin 1024) (n : Fin 4096) (h : 3864 ≤ n.val) : cols w k n = 0 := by
  unfold cols
  rw [dif_neg (by omega), dif_neg (by omega), dif_neg (by omega), dif_neg (by omega)]

/-- Six groups of columns side by side. -/
def six (a b : Vec Ideal S1024x512 .f32) (d : Vec Ideal S1024x768 .f32) (e : Vec Ideal S1024x2048 .f32) (f : Vec Ideal S1024x24 .f32)
    (g : Vec Ideal S1024x232 .f32) : Vec Ideal S1024x4096 .f32 :=
  concatenate S1024x4096 1 [⟨S1024x512, a⟩, ⟨S1024x512, b⟩, ⟨S1024x768, d⟩, ⟨S1024x2048, e⟩, ⟨S1024x24, f⟩, ⟨S1024x232, g⟩]
    concatenates_S1024x512_S1024x512_S1024x768_S1024x2048_S1024x24_S1024x232_S1024x4096_d1

theorem six_congr {a a' b b' : Vec Ideal S1024x512 .f32} {d d' : Vec Ideal S1024x768 .f32} {e e' : Vec Ideal S1024x2048 .f32}
    {f f' : Vec Ideal S1024x24 .f32} {g g' : Vec Ideal S1024x232 .f32} (ha : a = a') (hb : b = b') (hd : d = d') (he : e = e') (hf : f = f')
    (hg : g = g') : six a b d e f g = six a' b' d' e' f' g' := by
  rw [ha, hb, hd, he, hf, hg]

/-- The groups of the weights as given. -/
def wide (w : Vec Ideal S1024x3352 .f32) : Vec Ideal S1024x4096 .f32 :=
  six (extractStridedSlice S1024x512 ![0, 0] w slices_S1024x3352_S1024x512_0_0) (extractStridedSlice S1024x512 ![0, 0] w slices_S1024x3352_S1024x512_0_0)
    (extractStridedSlice S1024x768 ![0, 512] w slices_S1024x3352_S1024x768_0_512) (extractStridedSlice S1024x2048 ![0, 1304] w slices_S1024x3352_S1024x2048_0_1304)
    (extractStridedSlice S1024x24 ![0, 1280] w slices_S1024x3352_S1024x24_0_1280)
    (broadcastInDim S1024x232 ![] bcast_S_S1024x232 (constant (F := Ideal) S_ .f32 0x00000000#32))

theorem wide_at (w : Vec Ideal S1024x3352 .f32) (k : Fin 1024) (n : Fin 4096) : wide w (ix2 k n) = cols w k n := by
  pointwise [wide, six]
  split
  · exact (cols_of w k n _ (by unfold source; try dsimp only; omega)).symm
  split
  · exact (cols_of w k n _ (by unfold source; try dsimp only; omega)).symm
  split
  · exact (cols_of w k n _ (by unfold source; try dsimp only; omega)).symm
  split
  · exact (cols_of w k n _ (by unfold source; try dsimp only; omega)).symm
  split
  · exact (cols_of w k n _ (by unfold source; try dsimp only; omega)).symm
  · exact (cols_zero w k n (by omega)).symm

theorem weights_cols : (fun k n => weights m c (ix2 k n)) = cols (m ((c : Thread nD τ).loc main_arg2)) := by
  have h : weights m c = truncf (F := Ideal) .bf16 (wide (m ((c : Thread nD τ).loc main_arg2))) bitsLt_bf16_f32 := by
    unfold weights V
    simp only [hostOps0, List.flatten_cons, List.flatten_nil, List.append_nil, List.cons_append, List.nil_append]
    after_reads_simp
    change truncf (F := Ideal) .bf16 (six _ _ _ _ _ _) bitsLt_bf16_f32 = _
    refine congrArg (fun u : Vec Ideal S1024x4096 .f32 => truncf (F := Ideal) .bf16 u bitsLt_bf16_f32) (six_congr ?_ ?_ ?_ ?_ ?_ ?_)
    all_goals
      after_reads_simp
      rfl
  funext k n
  rw [h]
  exact wide_at _ k n

/-- The scales, as the kernel is handed them. -/
abbrev scales : Vec Ideal S1x1024 .f32 := V m c main_v26

theorem scales_eq (n : Fin 1024) : scales m c (ix2 0 n) = (m ((c : Thread nD τ).loc main_arg1) : Vec Ideal S1024 .f32) (ix1 n) := by
  have h : scales m c = shapeCast S1x1024 (m ((c : Thread nD τ).loc main_arg1) : Vec Ideal S1024 .f32) shapeCasts_S1024_S1x1024 := by
    unfold scales V
    simp only [hostOps0, List.flatten_cons, List.flatten_nil, List.append_nil, List.cons_append, List.nil_append]
    after_reads_simp
    rfl
  rw [h]
  pointwise []

theorem lt64 (t : Fin cfg0.N) : t.val < 64 := lt_of_lt_of_eq t.isLt (show cfg0.N = 64 from N_0)

/-- Row `r` of block `t`. -/
def row (t : Fin cfg0.N) (r : Fin 256) : Fin 16384 := ⟨t.val * 256 + r.val, by have := lt64 t; omega⟩

theorem block_1 (t : Fin cfg0.N) : (iblk m c 1 t : Vec Ideal S1x1024 .f32) = scales m c := by
  have hz' : (fun a => win0_1.index t a * main_v26.ty.shape.size a) = fun _ => 0 := funext fun a => by fin_cases a <;> rfl
  exact Memref.read_access_unit_zero (Elt Ideal) main_v26 hz' (fun a => by rw [congrFun hz' a]; simp) _

theorem block_2 (t : Fin cfg0.N) : (iblk m c 2 t : Vec Ideal S1024x4096 .bf16) = weights m c := by
  have hz' : (fun a => win0_2.index t a * main_v25.ty.shape.size a) = fun _ => 0 := funext fun a => by fin_cases a <;> rfl
  exact Memref.read_access_unit_zero (Elt Ideal) main_v25 hz' (fun a => by rw [congrFun hz' a]; simp) _

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 256) (n : Fin 1024) :
    (iblk m c 0 t : Vec Ideal S256x1024 .f32) (ix2 r n) = (m ((c : Thread nD τ).loc main_arg0) : Vec Ideal S16384x1024 .f32) (ix2 (row t r) n) := by
  have hi := index_0 t
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * n.val = n.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 256) (n : Fin 128) :
    (iblk m c 3 t : Vec Ideal S256x128 .f32) (ix2 r n) = cosTab m c (ix2 (row t r) n) := by
  have hi := index_3 t
  unfold iblk
  rw [View.read_apply]
  show V m c main_v15 _ = V m c main_v15 _
  congr 1
  funext a
  apply Fin.ext
  match a with
  | ⟨0, _⟩ => show win0_3.index t 0 * 256 + 1 * r.val = t.val * 256 + r.val; rw [hi.1]; omega
  | ⟨1, _⟩ => show win0_3.index t 1 * 128 + 1 * n.val = n.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 256) (n : Fin 128) :
    (iblk m c 4 t : Vec Ideal S256x128 .f32) (ix2 r n) = sinTab m c (ix2 (row t r) n) := by
  have hi := index_4 t
  unfold iblk
  rw [View.read_apply]
  show V m c main_v18 _ = V m c main_v18 _
  congr 1
  funext a
  apply Fin.ext
  match a with
  | ⟨0, _⟩ => show win0_4.index t 0 * 256 + 1 * r.val = t.val * 256 + r.val; rw [hi.1]; omega
  | ⟨1, _⟩ => show win0_4.index t 1 * 128 + 1 * n.val = n.val; rw [hi.2]; omega

/-- The result array of columns 0 to 512 of the projected rows. -/
def result_5 (x : Vec Ideal S16384x1024 .f32) (g : Vec Ideal S1024 .f32) (w : Fin 1024 → Fin 4096 → EReal) : Vec Ideal S16384x512 .f32 :=
  fun j => projAt (rms (fun l => x (ix2 (j 0) l)) fun l => g (ix1 l)) w (cosAt (j 0)) (sinAt (j 0)) (0 + (j 1).val)

/-- The same, from the arguments. -/
abbrev out_5 : Vec Ideal S16384x512 .f32 :=
  result_5 (m ((c : Thread nD τ).loc main_arg0)) (m ((c : Thread nD τ).loc main_arg1)) (cols (m ((c : Thread nD τ).loc main_arg2)))

theorem block_5 (t : Fin cfg0.N) (r : Fin 256) (n : Fin 512) :
    out0_5 (iblk m c 0 t) (iblk m c 1 t) (iblk m c 2 t) (iblk m c 3 t) (iblk m c 4 t) (ix2 r n) = out_5 m c (ix2 (row t r) n) := by
  rw [out_5_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (0 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_5 : ∀ t : Fin cfg0.N, win0_5.index t 0 = t.val ∧ win0_5.index t 1 = 0 :=
  (by decide +kernel : ∀ t : Fin grid0.N, win0_5.index t 0 = t.val ∧ win0_5.index t 1 = 0)

theorem flushed_5 (t : Fin cfg0.N) (hf : (cfg0.win 5).flush t = true) :
    (dats m 0 c).flushed 5 t = ((cfg0.win 5).blk t).view.read (Elt Ideal) (out_5 m c) := by
  rw [flushed5]
  have hi := index_5 t
  funext j
  rw [View.read_apply]
  have h0 : (j 0).val < 256 := (j 0).isLt
  have h1 : (j 1).val < 512 := (j 1).isLt
  have he : (((cfg0.win 5).blk t).view.emb j : S16384x512.Idx) = ix2 (row t ⟨(j 0).val, h0⟩) ⟨(j 1).val, h1⟩ := by
    funext a
    apply Fin.ext
    match a with
    | ⟨0, _⟩ => show win0_5.index t 0 * 256 + 1 * (j 0).val = t.val * 256 + (j 0).val; rw [hi.1]; omega
    | ⟨1, _⟩ => show win0_5.index t 1 * 512 + 1 * (j 1).val = (j 1).val; rw [hi.2]; omega
  have hj : (j : S256x512.Idx) = ix2 ⟨(j 0).val, h0⟩ ⟨(j 1).val, h1⟩ := by
    funext a
    match a with
    | ⟨0, _⟩ => rfl
    | ⟨1, _⟩ => rfl
  show out0_5 (iblk m c 0 t) (iblk m c 1 t) (iblk m c 2 t) (iblk m c 3 t) (iblk m c 4 t) j = out_5 m c (((cfg0.win 5).blk t).view.emb j)
  rw [he]
  exact (congrArg (out0_5 (iblk m c 0 t) (iblk m c 1 t) (iblk m c 2 t) (iblk m c 3 t) (iblk m c 4 t)) hj).trans <| block_5 m c t ⟨(j 0).val, h0⟩ ⟨(j 1).val, h1⟩

theorem final_5 : (dats m 0 c).arrAt 5 cfg0.N = out_5 m c :=
  (dats m 0 c).arrAt_eq_of_cover 5 (out_5 m c) (flushed_5 m c) fun i => by
    have h0 : (i 0 : Nat) < 16384 := (i 0).isLt
    have h1 : (i 1 : Nat) < 512 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_5 _, ?_⟩
    show i ∈ ((View.whole main_v27_0).slice (win0_5.rect t)).set
    rw [View.set_slice_whole, Rect.mem_set_unit]
    have hi := index_5 t
    intro a
    match a with
    | ⟨0, _⟩ =>
      show win0_5.index _ 0 * 256 ≤ (i 0 : Nat) ∧ (i 0 : Nat) < win0_5.index _ 0 * 256 + 256
      rw [hi.1, ht]; omega
    | ⟨1, _⟩ =>
      show win0_5.index _ 1 * 512 ≤ (i 1 : Nat) ∧ (i 1 : Nat) < win0_5.index _ 1 * 512 + 512
      rw [hi.2]; omega

/-- The result array of columns 512 to 1024 of the projected rows. -/
def result_6 (x : Vec Ideal S16384x1024 .f32) (g : Vec Ideal S1024 .f32) (w : Fin 1024 → Fin 4096 → EReal) : Vec Ideal S16384x512 .f32 :=
  fun j => projAt (rms (fun l => x (ix2 (j 0) l)) fun l => g (ix1 l)) w (cosAt (j 0)) (sinAt (j 0)) (512 + (j 1).val)

/-- The same, from the arguments. -/
abbrev out_6 : Vec Ideal S16384x512 .f32 :=
  result_6 (m ((c : Thread nD τ).loc main_arg0)) (m ((c : Thread nD τ).loc main_arg1)) (cols (m ((c : Thread nD τ).loc main_arg2)))

theorem block_6 (t : Fin cfg0.N) (r : Fin 256) (n : Fin 512) :
    out0_6 (iblk m c 0 t) (iblk m c 1 t) (iblk m c 2 t) (iblk m c 3 t) (iblk m c 4 t) (ix2 r n) = out_6 m c (ix2 (row t r) n) := by
  rw [out_6_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (512 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_6 : ∀ t : Fin cfg0.N, win0_6.index t 0 = t.val ∧ win0_6.index t 1 = 0 :=
  (by decide +kernel : ∀ t : Fin grid0.N, win0_6.index t 0 = t.val ∧ win0_6.index t 1 = 0)

theorem flushed_6 (t : Fin cfg0.N) (hf : (cfg0.win 6).flush t = true) :
    (dats m 0 c).flushed 6 t = ((cfg0.win 6).blk t).view.read (Elt Ideal) (out_6 m c) := by
  rw [flushed6]
  have hi := index_6 t
  funext j
  rw [View.read_apply]
  have h0 : (j 0).val < 256 := (j 0).isLt
  have h1 : (j 1).val < 512 := (j 1).isLt
  have he : (((cfg0.win 6).blk t).view.emb j : S16384x512.Idx) = ix2 (row t ⟨(j 0).val, h0⟩) ⟨(j 1).val, h1⟩ := by
    funext a
    apply Fin.ext
    match a with
    | ⟨0, _⟩ => show win0_6.index t 0 * 256 + 1 * (j 0).val = t.val * 256 + (j 0).val; rw [hi.1]; omega
    | ⟨1, _⟩ => show win0_6.index t 1 * 512 + 1 * (j 1).val = (j 1).val; rw [hi.2]; omega
  have hj : (j : S256x512.Idx) = ix2 ⟨(j 0).val, h0⟩ ⟨(j 1).val, h1⟩ := by
    funext a
    match a with
    | ⟨0, _⟩ => rfl
    | ⟨1, _⟩ => rfl
  show out0_6 (iblk m c 0 t) (iblk m c 1 t) (iblk m c 2 t) (iblk m c 3 t) (iblk m c 4 t) j = out_6 m c (((cfg0.win 6).blk t).view.emb j)
  rw [he]
  exact (congrArg (out0_6 (iblk m c 0 t) (iblk m c 1 t) (iblk m c 2 t) (iblk m c 3 t) (iblk m c 4 t)) hj).trans <| block_6 m c t ⟨(j 0).val, h0⟩ ⟨(j 1).val, h1⟩

theorem final_6 : (dats m 0 c).arrAt 6 cfg0.N = out_6 m c :=
  (dats m 0 c).arrAt_eq_of_cover 6 (out_6 m c) (flushed_6 m c) fun i => by
    have h0 : (i 0 : Nat) < 16384 := (i 0).isLt
    have h1 : (i 1 : Nat) < 512 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_6 _, ?_⟩
    show i ∈ ((View.whole main_v27_1).slice (win0_6.rect t)).set
    rw [View.set_slice_whole, Rect.mem_set_unit]
    have hi := index_6 t
    intro a
    match a with
    | ⟨0, _⟩ =>
      show win0_6.index _ 0 * 256 ≤ (i 0 : Nat) ∧ (i 0 : Nat) < win0_6.index _ 0 * 256 + 256
      rw [hi.1, ht]; omega
    | ⟨1, _⟩ =>
      show win0_6.index _ 1 * 512 ≤ (i 1 : Nat) ∧ (i 1 : Nat) < win0_6.index _ 1 * 512 + 512
      rw [hi.2]; omega

/-- The result array of columns 1024 to 1792 of the projected rows. -/
def result_7 (x : Vec Ideal S16384x1024 .f32) (g : Vec Ideal S1024 .f32) (w : Fin 1024 → Fin 4096 → EReal) : Vec Ideal S16384x768 .f32 :=
  fun j => projAt (rms (fun l => x (ix2 (j 0) l)) fun l => g (ix1 l)) w (cosAt (j 0)) (sinAt (j 0)) (1024 + (j 1).val)

/-- The same, from the arguments. -/
abbrev out_7 : Vec Ideal S16384x768 .f32 :=
  result_7 (m ((c : Thread nD τ).loc main_arg0)) (m ((c : Thread nD τ).loc main_arg1)) (cols (m ((c : Thread nD τ).loc main_arg2)))

theorem block_7 (t : Fin cfg0.N) (r : Fin 256) (n : Fin 768) :
    out0_7 (iblk m c 0 t) (iblk m c 1 t) (iblk m c 2 t) (iblk m c 3 t) (iblk m c 4 t) (ix2 r n) = out_7 m c (ix2 (row t r) n) := by
  rw [out_7_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (1024 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_7 : ∀ t : Fin cfg0.N, win0_7.index t 0 = t.val ∧ win0_7.index t 1 = 0 :=
  (by decide +kernel : ∀ t : Fin grid0.N, win0_7.index t 0 = t.val ∧ win0_7.index t 1 = 0)

theorem flushed_7 (t : Fin cfg0.N) (hf : (cfg0.win 7).flush t = true) :
    (dats m 0 c).flushed 7 t = ((cfg0.win 7).blk t).view.read (Elt Ideal) (out_7 m c) := by
  rw [flushed7]
  have hi := index_7 t
  funext j
  rw [View.read_apply]
  have h0 : (j 0).val < 256 := (j 0).isLt
  have h1 : (j 1).val < 768 := (j 1).isLt
  have he : (((cfg0.win 7).blk t).view.emb j : S16384x768.Idx) = ix2 (row t ⟨(j 0).val, h0⟩) ⟨(j 1).val, h1⟩ := by
    funext a
    apply Fin.ext
    match a with
    | ⟨0, _⟩ => show win0_7.index t 0 * 256 + 1 * (j 0).val = t.val * 256 + (j 0).val; rw [hi.1]; omega
    | ⟨1, _⟩ => show win0_7.index t 1 * 768 + 1 * (j 1).val = (j 1).val; rw [hi.2]; omega
  have hj : (j : S256x768.Idx) = ix2 ⟨(j 0).val, h0⟩ ⟨(j 1).val, h1⟩ := by
    funext a
    match a with
    | ⟨0, _⟩ => rfl
    | ⟨1, _⟩ => rfl
  show out0_7 (iblk m c 0 t) (iblk m c 1 t) (iblk m c 2 t) (iblk m c 3 t) (iblk m c 4 t) j = out_7 m c (((cfg0.win 7).blk t).view.emb j)
  rw [he]
  exact (congrArg (out0_7 (iblk m c 0 t) (iblk m c 1 t) (iblk m c 2 t) (iblk m c 3 t) (iblk m c 4 t)) hj).trans <| block_7 m c t ⟨(j 0).val, h0⟩ ⟨(j 1).val, h1⟩

theorem final_7 : (dats m 0 c).arrAt 7 cfg0.N = out_7 m c :=
  (dats m 0 c).arrAt_eq_of_cover 7 (out_7 m c) (flushed_7 m c) fun i => by
    have h0 : (i 0 : Nat) < 16384 := (i 0).isLt
    have h1 : (i 1 : Nat) < 768 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_7 _, ?_⟩
    show i ∈ ((View.whole main_v27_2).slice (win0_7.rect t)).set
    rw [View.set_slice_whole, Rect.mem_set_unit]
    have hi := index_7 t
    intro a
    match a with
    | ⟨0, _⟩ =>
      show win0_7.index _ 0 * 256 ≤ (i 0 : Nat) ∧ (i 0 : Nat) < win0_7.index _ 0 * 256 + 256
      rw [hi.1, ht]; omega
    | ⟨1, _⟩ =>
      show win0_7.index _ 1 * 768 ≤ (i 1 : Nat) ∧ (i 1 : Nat) < win0_7.index _ 1 * 768 + 768
      rw [hi.2]; omega

/-- The result array of columns 1792 to 2560 of the projected rows. -/
def result_8 (x : Vec Ideal S16384x1024 .f32) (g : Vec Ideal S1024 .f32) (w : Fin 1024 → Fin 4096 → EReal) : Vec Ideal S16384x768 .f32 :=
  fun j => projAt (rms (fun l => x (ix2 (j 0) l)) fun l => g (ix1 l)) w (cosAt (j 0)) (sinAt (j 0)) (1792 + (j 1).val)

/-- The same, from the arguments. -/
abbrev out_8 : Vec Ideal S16384x768 .f32 :=
  result_8 (m ((c : Thread nD τ).loc main_arg0)) (m ((c : Thread nD τ).loc main_arg1)) (cols (m ((c : Thread nD τ).loc main_arg2)))

theorem block_8 (t : Fin cfg0.N) (r : Fin 256) (n : Fin 768) :
    out0_8 (iblk m c 0 t) (iblk m c 1 t) (iblk m c 2 t) (iblk m c 3 t) (iblk m c 4 t) (ix2 r n) = out_8 m c (ix2 (row t r) n) := by
  rw [out_8_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (1792 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_8 : ∀ t : Fin cfg0.N, win0_8.index t 0 = t.val ∧ win0_8.index t 1 = 0 :=
  (by decide +kernel : ∀ t : Fin grid0.N, win0_8.index t 0 = t.val ∧ win0_8.index t 1 = 0)

theorem flushed_8 (t : Fin cfg0.N) (hf : (cfg0.win 8).flush t = true) :
    (dats m 0 c).flushed 8 t = ((cfg0.win 8).blk t).view.read (Elt Ideal) (out_8 m c) := by
  rw [flushed8]
  have hi := index_8 t
  funext j
  rw [View.read_apply]
  have h0 : (j 0).val < 256 := (j 0).isLt
  have h1 : (j 1).val < 768 := (j 1).isLt
  have he : (((cfg0.win 8).blk t).view.emb j : S16384x768.Idx) = ix2 (row t ⟨(j 0).val, h0⟩) ⟨(j 1).val, h1⟩ := by
    funext a
    apply Fin.ext
    match a with
    | ⟨0, _⟩ => show win0_8.index t 0 * 256 + 1 * (j 0).val = t.val * 256 + (j 0).val; rw [hi.1]; omega
    | ⟨1, _⟩ => show win0_8.index t 1 * 768 + 1 * (j 1).val = (j 1).val; rw [hi.2]; omega
  have hj : (j : S256x768.Idx) = ix2 ⟨(j 0).val, h0⟩ ⟨(j 1).val, h1⟩ := by
    funext a
    match a with
    | ⟨0, _⟩ => rfl
    | ⟨1, _⟩ => rfl
  show out0_8 (iblk m c 0 t) (iblk m c 1 t) (iblk m c 2 t) (iblk m c 3 t) (iblk m c 4 t) j = out_8 m c (((cfg0.win 8).blk t).view.emb j)
  rw [he]
  exact (congrArg (out0_8 (iblk m c 0 t) (iblk m c 1 t) (iblk m c 2 t) (iblk m c 3 t) (iblk m c 4 t)) hj).trans <| block_8 m c t ⟨(j 0).val, h0⟩ ⟨(j 1).val, h1⟩

theorem final_8 : (dats m 0 c).arrAt 8 cfg0.N = out_8 m c :=
  (dats m 0 c).arrAt_eq_of_cover 8 (out_8 m c) (flushed_8 m c) fun i => by
    have h0 : (i 0 : Nat) < 16384 := (i 0).isLt
    have h1 : (i 1 : Nat) < 768 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_8 _, ?_⟩
    show i ∈ ((View.whole main_v27_3).slice (win0_8.rect t)).set
    rw [View.set_slice_whole, Rect.mem_set_unit]
    have hi := index_8 t
    intro a
    match a with
    | ⟨0, _⟩ =>
      show win0_8.index _ 0 * 256 ≤ (i 0 : Nat) ∧ (i 0 : Nat) < win0_8.index _ 0 * 256 + 256
      rw [hi.1, ht]; omega
    | ⟨1, _⟩ =>
      show win0_8.index _ 1 * 768 ≤ (i 1 : Nat) ∧ (i 1 : Nat) < win0_8.index _ 1 * 768 + 768
      rw [hi.2]; omega

/-- The result array of columns 2560 to 2816 of the projected rows. -/
def result_9 (x : Vec Ideal S16384x1024 .f32) (g : Vec Ideal S1024 .f32) (w : Fin 1024 → Fin 4096 → EReal) : Vec Ideal S16384x256 .f32 :=
  fun j => projAt (rms (fun l => x (ix2 (j 0) l)) fun l => g (ix1 l)) w (cosAt (j 0)) (sinAt (j 0)) (2560 + (j 1).val)

/-- The same, from the arguments. -/
abbrev out_9 : Vec Ideal S16384x256 .f32 :=
  result_9 (m ((c : Thread nD τ).loc main_arg0)) (m ((c : Thread nD τ).loc main_arg1)) (cols (m ((c : Thread nD τ).loc main_arg2)))

theorem block_9 (t : Fin cfg0.N) (r : Fin 256) (n : Fin 256) :
    out0_9 (iblk m c 0 t) (iblk m c 1 t) (iblk m c 2 t) (iblk m c 3 t) (iblk m c 4 t) (ix2 r n) = out_9 m c (ix2 (row t r) n) := by
  rw [out_9_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (2560 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_9 : ∀ t : Fin cfg0.N, win0_9.index t 0 = t.val ∧ win0_9.index t 1 = 0 :=
  (by decide +kernel : ∀ t : Fin grid0.N, win0_9.index t 0 = t.val ∧ win0_9.index t 1 = 0)

theorem flushed_9 (t : Fin cfg0.N) (hf : (cfg0.win 9).flush t = true) :
    (dats m 0 c).flushed 9 t = ((cfg0.win 9).blk t).view.read (Elt Ideal) (out_9 m c) := by
  rw [flushed9]
  have hi := index_9 t
  funext j
  rw [View.read_apply]
  have h0 : (j 0).val < 256 := (j 0).isLt
  have h1 : (j 1).val < 256 := (j 1).isLt
  have he : (((cfg0.win 9).blk t).view.emb j : S16384x256.Idx) = ix2 (row t ⟨(j 0).val, h0⟩) ⟨(j 1).val, h1⟩ := by
    funext a
    apply Fin.ext
    match a with
    | ⟨0, _⟩ => show win0_9.index t 0 * 256 + 1 * (j 0).val = t.val * 256 + (j 0).val; rw [hi.1]; omega
    | ⟨1, _⟩ => show win0_9.index t 1 * 256 + 1 * (j 1).val = (j 1).val; rw [hi.2]; omega
  have hj : (j : S256x256.Idx) = ix2 ⟨(j 0).val, h0⟩ ⟨(j 1).val, h1⟩ := by
    funext a
    match a with
    | ⟨0, _⟩ => rfl
    | ⟨1, _⟩ => rfl
  show out0_9 (iblk m c 0 t) (iblk m c 1 t) (iblk m c 2 t) (iblk m c 3 t) (iblk m c 4 t) j = out_9 m c (((cfg0.win 9).blk t).view.emb j)
  rw [he]
  exact (congrArg (out0_9 (iblk m c 0 t) (iblk m c 1 t) (iblk m c 2 t) (iblk m c 3 t) (iblk m c 4 t)) hj).trans <| block_9 m c t ⟨(j 0).val, h0⟩ ⟨(j 1).val, h1⟩

theorem final_9 : (dats m 0 c).arrAt 9 cfg0.N = out_9 m c :=
  (dats m 0 c).arrAt_eq_of_cover 9 (out_9 m c) (flushed_9 m c) fun i => by
    have h0 : (i 0 : Nat) < 16384 := (i 0).isLt
    have h1 : (i 1 : Nat) < 256 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_9 _, ?_⟩
    show i ∈ ((View.whole main_v27_4).slice (win0_9.rect t)).set
    rw [View.set_slice_whole, Rect.mem_set_unit]
    have hi := index_9 t
    intro a
    match a with
    | ⟨0, _⟩ =>
      show win0_9.index _ 0 * 256 ≤ (i 0 : Nat) ∧ (i 0 : Nat) < win0_9.index _ 0 * 256 + 256
      rw [hi.1, ht]; omega
    | ⟨1, _⟩ =>
      show win0_9.index _ 1 * 256 ≤ (i 1 : Nat) ∧ (i 1 : Nat) < win0_9.index _ 1 * 256 + 256
      rw [hi.2]; omega

/-- The result array of columns 2816 to 3840 of the projected rows. -/
def result_10 (x : Vec Ideal S16384x1024 .f32) (g : Vec Ideal S1024 .f32) (w : Fin 1024 → Fin 4096 → EReal) : Vec Ideal S16384x1024 .f32 :=
  fun j => projAt (rms (fun l => x (ix2 (j 0) l)) fun l => g (ix1 l)) w (cosAt (j 0)) (sinAt (j 0)) (2816 + (j 1).val)

/-- The same, from the arguments. -/
abbrev out_10 : Vec Ideal S16384x1024 .f32 :=
  result_10 (m ((c : Thread nD τ).loc main_arg0)) (m ((c : Thread nD τ).loc main_arg1)) (cols (m ((c : Thread nD τ).loc main_arg2)))

theorem block_10 (t : Fin cfg0.N) (r : Fin 256) (n : Fin 1024) :
    out0_10 (iblk m c 0 t) (iblk m c 1 t) (iblk m c 2 t) (iblk m c 3 t) (iblk m c 4 t) (ix2 r n) = out_10 m c (ix2 (row t r) n) := by
  rw [out_10_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (2816 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_10 : ∀ t : Fin cfg0.N, win0_10.index t 0 = t.val ∧ win0_10.index t 1 = 0 :=
  (by decide +kernel : ∀ t : Fin grid0.N, win0_10.index t 0 = t.val ∧ win0_10.index t 1 = 0)

theorem flushed_10 (t : Fin cfg0.N) (hf : (cfg0.win 10).flush t = true) :
    (dats m 0 c).flushed 10 t = ((cfg0.win 10).blk t).view.read (Elt Ideal) (out_10 m c) := by
  rw [flushed10]
  have hi := index_10 t
  funext j
  rw [View.read_apply]
  have h0 : (j 0).val < 256 := (j 0).isLt
  have h1 : (j 1).val < 1024 := (j 1).isLt
  have he : (((cfg0.win 10).blk t).view.emb j : S16384x1024.Idx) = ix2 (row t ⟨(j 0).val, h0⟩) ⟨(j 1).val, h1⟩ := by
    funext a
    apply Fin.ext
    match a with
    | ⟨0, _⟩ => show win0_10.index t 0 * 256 + 1 * (j 0).val = t.val * 256 + (j 0).val; rw [hi.1]; omega
    | ⟨1, _⟩ => show win0_10.index t 1 * 1024 + 1 * (j 1).val = (j 1).val; rw [hi.2]; omega
  have hj : (j : S256x1024.Idx) = ix2 ⟨(j 0).val, h0⟩ ⟨(j 1).val, h1⟩ := by
    funext a
    match a with
    | ⟨0, _⟩ => rfl
    | ⟨1, _⟩ => rfl
  show out0_10 (iblk m c 0 t) (iblk m c 1 t) (iblk m c 2 t) (iblk m c 3 t) (iblk m c 4 t) j = out_10 m c (((cfg0.win 10).blk t).view.emb j)
  rw [he]
  exact (congrArg (out0_10 (iblk m c 0 t) (iblk m c 1 t) (iblk m c 2 t) (iblk m c 3 t) (iblk m c 4 t)) hj).trans <| block_10 m c t ⟨(j 0).val, h0⟩ ⟨(j 1).val, h1⟩

theorem final_10 : (dats m 0 c).arrAt 10 cfg0.N = out_10 m c :=
  (dats m 0 c).arrAt_eq_of_cover 10 (out_10 m c) (flushed_10 m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_10 _, ?_⟩
    show i ∈ ((View.whole main_v27_5).slice (win0_10.rect t)).set
    rw [View.set_slice_whole, Rect.mem_set_unit]
    have hi := index_10 t
    intro a
    match a with
    | ⟨0, _⟩ =>
      show win0_10.index _ 0 * 256 ≤ (i 0 : Nat) ∧ (i 0 : Nat) < win0_10.index _ 0 * 256 + 256
      rw [hi.1, ht]; omega
    | ⟨1, _⟩ =>
      show win0_10.index _ 1 * 1024 ≤ (i 1 : Nat) ∧ (i 1 : Nat) < win0_10.index _ 1 * 1024 + 1024
      rw [hi.2]; omega

/-- The result array of columns 3840 to 3968 of the projected rows. -/
def result_11 (x : Vec Ideal S16384x1024 .f32) (g : Vec Ideal S1024 .f32) (w : Fin 1024 → Fin 4096 → EReal) : Vec Ideal S16384x128 .f32 :=
  fun j => projAt (rms (fun l => x (ix2 (j 0) l)) fun l => g (ix1 l)) w (cosAt (j 0)) (sinAt (j 0)) (3840 + (j 1).val)

/-- The same, from the arguments. -/
abbrev out_11 : Vec Ideal S16384x128 .f32 :=
  result_11 (m ((c : Thread nD τ).loc main_arg0)) (m ((c : Thread nD τ).loc main_arg1)) (cols (m ((c : Thread nD τ).loc main_arg2)))

theorem block_11 (t : Fin cfg0.N) (r : Fin 256) (n : Fin 128) :
    out0_11 (iblk m c 0 t) (iblk m c 1 t) (iblk m c 2 t) (iblk m c 3 t) (iblk m c 4 t) (ix2 r n) = out_11 m c (ix2 (row t r) n) := by
  rw [out_11_at]
  show _ = projAt (rms (fun l => (m ((c : Thread nD τ).loc main_arg0) : Vec Ideal S16384x1024 .f32) (ix2 (row t r) l))
    fun l => (m ((c : Thread nD τ).loc main_arg1) : Vec Ideal S1024 .f32) (ix1 l)) (cols (m ((c : Thread nD τ).loc main_arg2)))
    (cosAt (row t r)) (sinAt (row t r)) (3840 + n.val)
  rw [← weights_cols m c]
  simp only [norm_at, block_0, block_1, block_2, block_3, block_4]
  rw [show (fun l => scales m c (ix2 0 l)) = (fun l => (m ((c : Thread nD τ).loc main_arg1) : Vec Ideal S1024 .f32) (ix1 l)) from funext (scales_eq m c),
    show (fun l => cosTab m c (ix2 (row t r) l)) = cosAt (row t r) from funext (cosTab_eq m c _),
    show (fun l => sinTab m c (ix2 (row t r) l)) = sinAt (row t r) from funext (sinTab_eq m c _)]

theorem index_11 : ∀ t : Fin cfg0.N, win0_11.index t 0 = t.val ∧ win0_11.index t 1 = 0 :=
  (by decide +kernel : ∀ t : Fin grid0.N, win0_11.index t 0 = t.val ∧ win0_11.index t 1 = 0)

theorem flushed_11 (t : Fin cfg0.N) (hf : (cfg0.win 11).flush t = true) :
    (dats m 0 c).flushed 11 t = ((cfg0.win 11).blk t).view.read (Elt Ideal) (out_11 m c) := by
  rw [flushed11]
  have hi := index_11 t
  funext j
  rw [View.read_apply]
  have h0 : (j 0).val < 256 := (j 0).isLt
  have h1 : (j 1).val < 128 := (j 1).isLt
  have he : (((cfg0.win 11).blk t).view.emb j : S16384x128.Idx) = ix2 (row t ⟨(j 0).val, h0⟩) ⟨(j 1).val, h1⟩ := by
    funext a
    apply Fin.ext
    match a with
    | ⟨0, _⟩ => show win0_11.index t 0 * 256 + 1 * (j 0).val = t.val * 256 + (j 0).val; rw [hi.1]; omega
    | ⟨1, _⟩ => show win0_11.index t 1 * 128 + 1 * (j 1).val = (j 1).val; rw [hi.2]; omega
  have hj : (j : S256x128.Idx) = ix2 ⟨(j 0).val, h0⟩ ⟨(j 1).val, h1⟩ := by
    funext a
    match a with
    | ⟨0, _⟩ => rfl
    | ⟨1, _⟩ => rfl
  show out0_11 (iblk m c 0 t) (iblk m c 1 t) (iblk m c 2 t) (iblk m c 3 t) (iblk m c 4 t) j = out_11 m c (((cfg0.win 11).blk t).view.emb j)
  rw [he]
  exact (congrArg (out0_11 (iblk m c 0 t) (iblk m c 1 t) (iblk m c 2 t) (iblk m c 3 t) (iblk m c 4 t)) hj).trans <| block_11 m c t ⟨(j 0).val, h0⟩ ⟨(j 1).val, h1⟩

theorem final_11 : (dats m 0 c).arrAt 11 cfg0.N = out_11 m c :=
  (dats m 0 c).arrAt_eq_of_cover 11 (out_11 m c) (flushed_11 m c) fun i => by
    have h0 : (i 0 : Nat) < 16384 := (i 0).isLt
    have h1 : (i 1 : Nat) < 128 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_11 _, ?_⟩
    show i ∈ ((View.whole main_v27_6).slice (win0_11.rect t)).set
    rw [View.set_slice_whole, Rect.mem_set_unit]
    have hi := index_11 t
    intro a
    match a with
    | ⟨0, _⟩ =>
      show win0_11.index _ 0 * 256 ≤ (i 0 : Nat) ∧ (i 0 : Nat) < win0_11.index _ 0 * 256 + 256
      rw [hi.1, ht]; omega
    | ⟨1, _⟩ =>
      show win0_11.index _ 1 * 128 ≤ (i 1 : Nat) ∧ (i 1 : Nat) < win0_11.index _ 1 * 128 + 128
      rw [hi.2]; omega

end Cert.OddProjIdeal.Proj

namespace Cert.OddProjRefIdeal.Proj

open Cert.OddProjRefIdeal Cert.OddProjRefIdeal.Gen Idealize.ShloMosaic Idealize.ShloMosaic.TcCoe Idealize.SL.Sem

/-- The angles of the positions. -/
def angle : Vec Ideal S16384x32 .f32 :=
  mulf (F := Ideal) (φ := .f32) (broadcastInDim S16384x32 ![0, 1] bcast_S16384x1_S16384x32_0_1 (broadcastInDim S16384x1 ![0] bcast_S16384_S16384x1_0 (sitofp .f32 (iotaInDim S16384 32 0)))) (broadcastInDim S16384x32 ![0, 1] bcast_S1x32_S16384x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Two heads turned by their positions. -/
def heads_2 (x : Vec Ideal S16384x128 .f32) : Vec Ideal S16384x128 .f32 :=
  shapeCast S16384x128 (concatenate S1x16384x2x64 3 [
    ⟨S1x16384x2x32, (subf (mulf (F := Ideal) (φ := .f32) (extractStridedSlice S1x16384x2x32 ![0, 0, 0, 0] (shapeCast S1x16384x2x64 x shapeCasts_S16384x128_S1x16384x2x64) slices_S1x16384x2x64_S1x16384x2x32_0_0_0_0)
      (broadcastInDim S1x16384x2x32 ![0, 1, 2, 3] bcast_S1x16384x1x32_S1x16384x2x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x2x32 ![0, 0, 0, 32] (shapeCast S1x16384x2x64 x shapeCasts_S16384x128_S1x16384x2x64) slices_S1x16384x2x64_S1x16384x2x32_0_0_0_32)
      (broadcastInDim S1x16384x2x32 ![0, 1, 2, 3] bcast_S1x16384x1x32_S1x16384x2x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x2x32 .f32)⟩,
    ⟨S1x16384x2x32, (addf (mulf (F := Ideal) (φ := .f32) (extractStridedSlice S1x16384x2x32 ![0, 0, 0, 32] (shapeCast S1x16384x2x64 x shapeCasts_S16384x128_S1x16384x2x64) slices_S1x16384x2x64_S1x16384x2x32_0_0_0_32)
      (broadcastInDim S1x16384x2x32 ![0, 1, 2, 3] bcast_S1x16384x1x32_S1x16384x2x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x2x32 ![0, 0, 0, 0] (shapeCast S1x16384x2x64 x shapeCasts_S16384x128_S1x16384x2x64) slices_S1x16384x2x64_S1x16384x2x32_0_0_0_0)
      (broadcastInDim S1x16384x2x32 ![0, 1, 2, 3] bcast_S1x16384x1x32_S1x16384x2x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x2x32 .f32)⟩]
    concatenates_S1x16384x2x32_S1x16384x2x32_S1x16384x2x64_d3 : Vec Ideal S1x16384x2x64 .f32) shapeCasts_S1x16384x2x64_S16384x128

theorem angle_at (p : Fin 16384) (i : Fin 32) : angle (ix2 p i) = Cert.OddProjIdeal.Proj.angleAt p i.val := by
  unfold Cert.OddProjIdeal.Proj.angleAt
  pointwise [angle]

theorem heads_2_at (x : Vec Ideal S16384x128 .f32) (f : Nat → EReal) (b : Nat) (hb : b % 128 = 0) (p : Fin 16384)
    (hx : ∀ k : Fin 128, x (ix2 p k) = f (b + k.val)) (n : Fin 128) :
    heads_2 x (ix2 p n) = Cert.OddProjIdeal.Proj.turn f (Cert.OddProjIdeal.Proj.cosAt p) (Cert.OddProjIdeal.Proj.sinAt p) (b + n.val) := by
  pointwise [heads_2]
  unfold Cert.OddProjIdeal.Proj.turn Cert.OddProjIdeal.Proj.cosAt Cert.OddProjIdeal.Proj.sinAt
  simp only [angle_at, hx]
  split
  · rw [if_pos (by omega), if_pos (by omega), sub_eq_add_neg, mul_neg,
      show b + (n.val / 64 * 64 + (32 + n.val % 64)) = b + n.val + 32 by omega,
      show (b + n.val) % 128 % 32 = n.val % 64 by omega]
  · rw [if_neg (by omega), if_neg (by omega),
      show b + (n.val / 64 * 64 + (32 + (n.val % 64 - 32))) = b + n.val by omega,
      show b + (n.val / 64 * 64 + (n.val % 64 - 32)) = b + n.val - 32 by omega,
      show (b + n.val) % 128 % 32 = n.val % 64 - 32 by omega]

/-- Eight heads turned by their positions. -/
def heads_8 (x : Vec Ideal S16384x512 .f32) : Vec Ideal S16384x512 .f32 :=
  shapeCast S16384x512 (concatenate S1x16384x8x64 3 [
    ⟨S1x16384x8x32, (subf (mulf (F := Ideal) (φ := .f32) (extractStridedSlice S1x16384x8x32 ![0, 0, 0, 0] (shapeCast S1x16384x8x64 x shapeCasts_S16384x512_S1x16384x8x64) slices_S1x16384x8x64_S1x16384x8x32_0_0_0_0)
      (broadcastInDim S1x16384x8x32 ![0, 1, 2, 3] bcast_S1x16384x1x32_S1x16384x8x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x8x32 ![0, 0, 0, 32] (shapeCast S1x16384x8x64 x shapeCasts_S16384x512_S1x16384x8x64) slices_S1x16384x8x64_S1x16384x8x32_0_0_0_32)
      (broadcastInDim S1x16384x8x32 ![0, 1, 2, 3] bcast_S1x16384x1x32_S1x16384x8x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x8x32 .f32)⟩,
    ⟨S1x16384x8x32, (addf (mulf (F := Ideal) (φ := .f32) (extractStridedSlice S1x16384x8x32 ![0, 0, 0, 32] (shapeCast S1x16384x8x64 x shapeCasts_S16384x512_S1x16384x8x64) slices_S1x16384x8x64_S1x16384x8x32_0_0_0_32)
      (broadcastInDim S1x16384x8x32 ![0, 1, 2, 3] bcast_S1x16384x1x32_S1x16384x8x32_0_1_2_3 (broadcastInDim S1x16384x1x32 ![1, 2, 3] bcast_S16384x1x32_S1x16384x1x32_1_2_3 (broadcastInDim S16384x1x32 ![0, 2] bcast_S16384x32_S16384x1x32_0_2 (Host.cos angle)))))
      (mulf (F := Ideal) (φ := .f32) (extractStridedSlice S1x16384x8x32 ![0, 0, 0, 0] (shapeCast S1x16384x8x64 x shapeCasts_S16384x512_S1x16384x8x64) slices_S1x16384x8x64_S1x16384x8x32_0_0_0_0)
      (broadcastInDim S1x16384x8x32 ![0, 1, 2, 3] bcast_S1x16384x1x32_S1x16384x8x32_0_1_2_3 (broadcastInDim S1x16384x1x32 ![1, 2, 3] bcast_S16384x1x32_S1x16384x1x32_1_2_3 (broadcastInDim S16384x1x32 ![0, 2] bcast_S16384x32_S16384x1x32_0_2 (Host.sin angle))))) : Vec Ideal S1x16384x8x32 .f32)⟩]
    concatenates_S1x16384x8x32_S1x16384x8x32_S1x16384x8x64_d3 : Vec Ideal S1x16384x8x64 .f32) shapeCasts_S1x16384x8x64_S16384x512

theorem heads_8_at (x : Vec Ideal S16384x512 .f32) (f : Nat → EReal) (b : Nat) (hb : b % 128 = 0) (p : Fin 16384)
    (hx : ∀ k : Fin 512, x (ix2 p k) = f (b + k.val)) (n : Fin 512) :
    heads_8 x (ix2 p n) = Cert.OddProjIdeal.Proj.turn f (Cert.OddProjIdeal.Proj.cosAt p) (Cert.OddProjIdeal.Proj.sinAt p) (b + n.val) := by
  pointwise [heads_8]
  unfold Cert.OddProjIdeal.Proj.turn Cert.OddProjIdeal.Proj.cosAt Cert.OddProjIdeal.Proj.sinAt
  simp only [angle_at, hx]
  split
  · rw [if_pos (by omega), if_pos (by omega), sub_eq_add_neg, mul_neg,
      show b + (n.val / 64 * 64 + (32 + n.val % 64)) = b + n.val + 32 by omega,
      show (b + n.val) % 128 % 32 = n.val % 64 by omega]
  · rw [if_neg (by omega), if_neg (by omega),
      show b + (n.val / 64 * 64 + (32 + (n.val % 64 - 32))) = b + n.val by omega,
      show b + (n.val / 64 * 64 + (n.val % 64 - 32)) = b + n.val - 32 by omega,
      show (b + n.val) % 128 % 32 = n.val % 64 - 32 by omega]

/-- The reference's normalised rows. -/
def normed (x : Vec Ideal S16384x1024 .f32) (g : Vec Ideal S1024 .f32) : Vec Ideal S16384x1024 .f32 :=
  mulf (F := Ideal) (φ := .f32) (mulf x (broadcastInDim S16384x1024 ![0, 1] bcast_S16384x1_S16384x1024_0_1 (Host.rsqrt (addf (Host.divf
    (broadcastInDim S16384x1 ![0] bcast_S16384_S16384x1_0 (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

theorem normed_at (x : Vec Ideal S16384x1024 .f32) (g : Vec Ideal S1024 .f32) (p : Fin 16384) (k : Fin 1024) :
    normed x g (ix2 p k) = Cert.OddProjIdeal.Proj.rms (fun l => x (ix2 p l)) (fun l => g (ix1 l)) k := by
  unfold Cert.OddProjIdeal.Proj.rms
  pointwise [normed]

/-- The reference's projected rows, before any head is turned. -/
def prod (x : Vec Ideal S16384x1024 .f32) (g : Vec Ideal S1024 .f32) (w : Vec Ideal S1024x3352 .f32) : Vec Ideal S16384x3352 .f32 :=
  Host.dotGeneral (F := Ideal) (φ₁ := .f32) (φ₂ := .f32) dot_S16384x1024_S1024x3352_S16384x3352_1_0_0_1_n_n none (normed x g) w

theorem prod_sum (x : Vec Ideal S16384x1024 .f32) (g : Vec Ideal S1024 .f32) (w : Vec Ideal S1024x3352 .f32) (p : Fin 16384) (n : Fin 3352) :
    prod x g w (ix2 p n) = ∑ k : Fin 1024, normed x g (ix2 p k) * w (ix2 k n) := by
  pointwise [prod]

theorem prod_at (x : Vec Ideal S16384x1024 .f32) (g : Vec Ideal S1024 .f32) (w : Vec Ideal S1024x3352 .f32) (p : Fin 16384) (n : Fin 3352) (n' : Nat)
    (h : Cert.OddProjIdeal.Proj.source n' n.val) : prod x g w (ix2 p n) = Cert.OddProjIdeal.Proj.lin (Cert.OddProjIdeal.Proj.rms (fun l => x (ix2 p l)) fun l => g (ix1 l)) (Cert.OddProjIdeal.Proj.cols w) n' := by
  rw [prod_sum]
  unfold Cert.OddProjIdeal.Proj.lin
  rw [dif_pos (by unfold Cert.OddProjIdeal.Proj.source at h; omega)]
  exact Finset.sum_congr rfl fun k _ => congrArg₂ (· * ·) (normed_at x g p k) (Cert.OddProjIdeal.Proj.cols_of w k ⟨n', _⟩ n h).symm

/-- Columns of the product, read at the kernel's place for them. -/
theorem slice_128 (x : Vec Ideal S16384x1024 .f32) (g : Vec Ideal S1024 .f32) (w : Vec Ideal S1024x3352 .f32) (p : Fin 16384) (o b : Nat) (hs : S16384x3352.Slices ![0, o] S16384x128)
    (h : ∀ k : Nat, k < 128 → Cert.OddProjIdeal.Proj.source (b + k) (o + k)) (ho : o + 128 ≤ 3352) (k : Fin 128) :
    (extractStridedSlice S16384x128 ![0, o] (prod x g w) hs : Vec Ideal S16384x128 .f32) (ix2 p k) = (Cert.OddProjIdeal.Proj.lin (Cert.OddProjIdeal.Proj.rms (fun l => x (ix2 p l)) fun l => g (ix1 l)) (Cert.OddProjIdeal.Proj.cols w)) (b + k.val) := by
  rw [← prod_at x g w p ⟨o + k.val, by omega⟩ (b + k.val) (h k.val k.isLt)]
  show prod x g w _ = prod x g w _
  congr 1
  funext i
  apply Fin.ext
  match i with
  | ⟨0, _⟩ => show 0 + p.val = p.val; omega
  | ⟨1, _⟩ => rfl

/-- Six groups of 128 columns side by side, the third and the fifth turned. -/
def sixths (a b d e f q : Vec Ideal S16384x128 .f32) : Vec Ideal S16384x768 .f32 :=
  concatenate S16384x768 1 [⟨S16384x128, a⟩, ⟨S16384x128, b⟩, ⟨S16384x128, heads_2 d⟩, ⟨S16384x128, e⟩, ⟨S16384x128, heads_2 f⟩, ⟨S16384x128, q⟩]
    concatenates_S16384x128_S16384x128_S16384x128_S16384x128_S16384x128_S16384x128_S16384x768_d1

/-- The columns of `sixths` that are turned. -/
def inner (n : Nat) : Prop := (256 ≤ n ∧ n < 384) ∨ (512 ≤ n ∧ n < 640)

instance (n : Nat) : Decidable (inner n) := by unfold inner; infer_instance

theorem sixths_at (a b d e f q : Vec Ideal S16384x128 .f32) (p : Fin 16384) (v : Nat → EReal) (o : Nat) (ho : o % 128 = 0)
    (ha : ∀ k : Fin 128, a (ix2 p k) = v (o + k.val)) (hb : ∀ k : Fin 128, b (ix2 p k) = v (o + 128 + k.val))
    (hd : ∀ k : Fin 128, d (ix2 p k) = v (o + 256 + k.val)) (he : ∀ k : Fin 128, e (ix2 p k) = v (o + 384 + k.val))
    (hf : ∀ k : Fin 128, f (ix2 p k) = v (o + 512 + k.val)) (hq : ∀ k : Fin 128, q (ix2 p k) = v (o + 640 + k.val)) (n : Fin 768) :
    sixths a b d e f q (ix2 p n) = if inner n.val then Cert.OddProjIdeal.Proj.turn v (Cert.OddProjIdeal.Proj.cosAt p) (Cert.OddProjIdeal.Proj.sinAt p) (o + n.val) else v (o + n.val) := by
  pointwise [sixths]
  split
  · exact (ha _).trans (if_neg (by unfold inner; omega)).symm
  split
  · exact (hb _).trans ((congrArg v (by show o + 128 + (n.val - 128) = o + n.val; omega)).trans (if_neg (by unfold inner; omega)).symm)
  split
  · exact (heads_2_at d v (o + 256) (by omega) p hd _).trans ((congrArg (Cert.OddProjIdeal.Proj.turn v _ _)
      (by show o + 256 + (n.val - 128 - 128) = o + n.val; omega)).trans (if_pos (by unfold inner; omega)).symm)
  split
  · exact (he _).trans ((congrArg v (by show o + 384 + (n.val - 128 - 128 - 128) = o + n.val; omega)).trans (if_neg (by unfold inner; omega)).symm)
  split
  · exact (heads_2_at f v (o + 512) (by omega) p hf _).trans ((congrArg (Cert.OddProjIdeal.Proj.turn v _ _)
      (by show o + 512 + (n.val - 128 - 128 - 128 - 128) = o + n.val; omega)).trans (if_pos (by unfold inner; omega)).symm)
  · exact (hq _).trans ((congrArg v (by show o + 640 + (n.val - 128 - 128 - 128 - 128 - 128) = o + n.val; omega)).trans (if_neg (by unfold inner; omega)).symm)

/-- The reference's queries that aren't turned. -/
theorem result_5 (x : Vec Ideal S16384x1024 .f32) (g : Vec Ideal S1024 .f32) (w : Vec Ideal S1024x3352 .f32) :
    (extractStridedSlice S16384x512 ![0, 0] (prod x g w) slices_S16384x3352_S16384x512_0_0) = Cert.OddProjIdeal.Proj.result_5 x g (Cert.OddProjIdeal.Proj.cols w) := by
  funext j
  obtain ⟨p, n, rfl⟩ : ∃ (p : Fin 16384) (n : Fin 512), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (0 + n.val)
  rw [Cert.OddProjIdeal.Proj.proj_plain _ _ _ _ _ (by unfold Cert.OddProjIdeal.Proj.turning; omega)]
  pointwise []
  exact prod_at x g w p _ _ (by unfold Cert.OddProjIdeal.Proj.source; try dsimp only; omega)

/-- The reference's queries, turned. -/
theorem result_6 (x : Vec Ideal S16384x1024 .f32) (g : Vec Ideal S1024 .f32) (w : Vec Ideal S1024x3352 .f32) :
    heads_8 (extractStridedSlice S16384x512 ![0, 0] (prod x g w) slices_S16384x3352_S16384x512_0_0) = Cert.OddProjIdeal.Proj.result_6 x g (Cert.OddProjIdeal.Proj.cols w) := by
  funext j
  obtain ⟨p, n, rfl⟩ : ∃ (p : Fin 16384) (n : Fin 512), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (512 + n.val)
  rw [Cert.OddProjIdeal.Proj.proj_turned _ _ _ _ _ (by unfold Cert.OddProjIdeal.Proj.turning; omega)]
  exact heads_8_at _ _ 512 (by decide) p (fun k => by pointwise []; exact prod_at x g w p _ _ (by unfold Cert.OddProjIdeal.Proj.source; try dsimp only; omega)) n

/-- The reference's keys and values. -/
theorem result_7 (x : Vec Ideal S16384x1024 .f32) (g : Vec Ideal S1024 .f32) (w : Vec Ideal S1024x3352 .f32) :
    sixths (extractStridedSlice S16384x128 ![0, 512] (prod x g w) slices_S16384x3352_S16384x128_0_512) (extractStridedSlice S16384x128 ![0, 640] (prod x g w) slices_S16384x3352_S16384x128_0_640) (extractStridedSlice S16384x128 ![0, 768] (prod x g w) slices_S16384x3352_S16384x128_0_768) (extractStridedSlice S16384x128 ![0, 896] (prod x g w) slices_S16384x3352_S16384x128_0_896) (extractStridedSlice S16384x128 ![0, 1024] (prod x g w) slices_S16384x3352_S16384x128_0_1024) (extractStridedSlice S16384x128 ![0, 1152] (prod x g w) slices_S16384x3352_S16384x128_0_1152)
      = Cert.OddProjIdeal.Proj.result_7 x g (Cert.OddProjIdeal.Proj.cols w) := by
  funext j
  obtain ⟨p, n, rfl⟩ : ∃ (p : Fin 16384) (n : Fin 768), j = ix2 p n :=
    ⟨j 0, j 1, funext fun a => by match a with | ⟨0, _⟩ => rfl | ⟨1, _⟩ => rfl⟩
  rw [sixths_at _ _ _ _ _ _ p (Cert.OddProjIdeal.Proj.lin (Cert.OddProjIdeal.Proj.rms (fun l => x (ix2 p l)) fun l => g (ix1 l)) (Cert.OddProjIdeal.Proj.cols w)) 1024 (by decide)
    (slice_128 x g w p 512 1024 _ (fun k hk => by unfold Cert.OddProjIdeal.Proj.source; omega) (by decide))
    (slice_128 x g w p 640 1152 _ (fun k hk => by unfold Cert.OddProjIdeal.Proj.source; omega) (by decide))
    (slice_128 x g w p 768 1280 _ (fun k hk => by unfold Cert.OddProjIdeal.Proj.source; omega) (by decide))
    (slice_128 x g w p 896 1408 _ (fun k hk => by unfold Cert.OddProjIdeal.Proj.source; omega) (by decide))
    (slice_128 x g w p 1024 1536 _ (fun k hk => by unfold Cert.OddProjIdeal.Proj.source; omega) (by decide))
    (slice_128 x g w p 1152 1664 _ (fun k hk => by unfold Cert.OddProjIdeal.Proj.source; omega) (by decide))]
  show _ = Cert.OddProjIdeal.Proj.projAt _ _ (Cert.OddProjIdeal.Proj.cosAt p) (Cert.OddProjIdeal.Proj.sinAt p) (1024 + n.val)
  by_cases h : inner n.val
  · rw [if_pos h]
    exact (Cert.OddProjIdeal.Proj.proj_turned _ _ _ _ _ (by unfold inner at h; unfold Cert.OddProjIdeal.Proj.turning; omega)).symm
  · rw [if_neg h]
    exact (Cert.OddProjIdeal.Proj.proj_plain _ _ _ _ _ (by unfold inner at h; unfold Cert.OddProjIdeal.Proj.turning; omega)).symm

/-- The reference's three recurrent inputs. -/
theorem result_8 (x : Vec Ideal S16384x1024 .f32) (g : Vec Ideal S1024 .f32) (w : Vec Ideal S1024x3352 .f32) :
    (concatenate S16384x768 1 [⟨S16384x256, (extractStridedSlice S16384x256 ![0, 1304] (prod x g w) slices_S16384x3352_S16384x256_0_1304)⟩, ⟨S16384x256, (extractStridedSlice S16384x256 ![0, 1560] (prod x g w) slices_S16384x3352_S16384x256_0_1560)⟩, ⟨S16384x256, (extractStridedSlice S16384x256 ![0, 1816] (prod x g w) slices_S16384x3352_S16384x256_0_1816)⟩]
      concatenates_S16384x256_S16384x256_S16384x256_S16384x768_d1 : Vec Ideal S16384x768 .f32) = Cert.OddProjIdeal.Proj.result_8 x g (Cert.OddProjIdeal.Proj.cols w) := by
  funext j
  obtain ⟨p, n, rfl⟩ : ∃ (p : Fin 16384) (n : Fin 768), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (1792 + n.val)
  rw [Cert.OddProjIdeal.Proj.proj_plain _ _ _ _ _ (by unfold Cert.OddProjIdeal.Proj.turning; omega)]
  pointwise []
  split
  · exact prod_at x g w p _ _ (by unfold Cert.OddProjIdeal.Proj.source; try dsimp only; omega)
  split
  · exact prod_at x g w p _ _ (by unfold Cert.OddProjIdeal.Proj.source; try dsimp only; omega)
  · exact prod_at x g w p _ _ (by unfold Cert.OddProjIdeal.Proj.source; try dsimp only; omega)

theorem result_9 (x : Vec Ideal S16384x1024 .f32) (g : Vec Ideal S1024 .f32) (w : Vec Ideal S1024x3352 .f32) :
    (extractStridedSlice S16384x256 ![0, 2072] (prod x g w) slices_S16384x3352_S16384x256_0_2072) = Cert.OddProjIdeal.Proj.result_9 x g (Cert.OddProjIdeal.Proj.cols w) := by
  funext j
  obtain ⟨p, n, rfl⟩ : ∃ (p : Fin 16384) (n : Fin 256), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (2560 + n.val)
  rw [Cert.OddProjIdeal.Proj.proj_plain _ _ _ _ _ (by unfold Cert.OddProjIdeal.Proj.turning; omega)]
  pointwise []
  exact prod_at x g w p _ _ (by unfold Cert.OddProjIdeal.Proj.source; try dsimp only; omega)

theorem result_10 (x : Vec Ideal S16384x1024 .f32) (g : Vec Ideal S1024 .f32) (w : Vec Ideal S1024x3352 .f32) :
    (extractStridedSlice S16384x1024 ![0, 2328] (prod x g w) slices_S16384x3352_S16384x1024_0_2328) = Cert.OddProjIdeal.Proj.result_10 x g (Cert.OddProjIdeal.Proj.cols w) := by
  funext j
  obtain ⟨p, n, rfl⟩ : ∃ (p : Fin 16384) (n : Fin 1024), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (2816 + n.val)
  rw [Cert.OddProjIdeal.Proj.proj_plain _ _ _ _ _ (by unfold Cert.OddProjIdeal.Proj.turning; omega)]
  pointwise []
  exact prod_at x g w p _ _ (by unfold Cert.OddProjIdeal.Proj.source; try dsimp only; omega)

/-- The reference's gates, with zeros after them. -/
theorem result_11 (x : Vec Ideal S16384x1024 .f32) (g : Vec Ideal S1024 .f32) (w : Vec Ideal S1024x3352 .f32) :
    (pad S16384x128 ![0, 0] ![0, 104] ![0, 0] (extractStridedSlice S16384x24 ![0, 1280] (prod x g w) slices_S16384x3352_S16384x24_0_1280) (sitofp (F := Ideal) .f32 (constantI S_ 32 0#32)) pads_S16384x24_S16384x128_000_01040 h_S_ :
      Vec Ideal S16384x128 .f32) = Cert.OddProjIdeal.Proj.result_11 x g (Cert.OddProjIdeal.Proj.cols w) := by
  funext j
  obtain ⟨p, n, rfl⟩ : ∃ (p : Fin 16384) (n : Fin 128), j = ix2 p n :=
    ⟨j 0, j 1, funext fun a => by match a with | ⟨0, _⟩ => rfl | ⟨1, _⟩ => rfl⟩
  show _ = Cert.OddProjIdeal.Proj.projAt _ _ (Cert.OddProjIdeal.Proj.cosAt p) (Cert.OddProjIdeal.Proj.sinAt p) (3840 + n.val)
  rw [Cert.OddProjIdeal.Proj.proj_plain _ _ _ _ _ (by unfold Cert.OddProjIdeal.Proj.turning; omega)]
  pointwise []
  split
  · exact prod_at x g w p _ _ (by unfold Cert.OddProjIdeal.Proj.source; try dsimp only; omega)
  · unfold Cert.OddProjIdeal.Proj.lin
    rw [dif_pos (by omega)]
    refine Eq.trans ?_ (Finset.sum_eq_zero fun k _ => by rw [Cert.OddProjIdeal.Proj.cols_zero w k _ (by show 3864 ≤ 3840 + n.val; omega), mul_zero]).symm
    show (((0#32 : BitVec 32).toInt : ℝ) : EReal) = 0
    simp

end Cert.OddProjRefIdeal.Proj

namespace Cert.Proof

open Idealize.ShloMosaic Idealize.SL.Sem Idealize.ShloMosaic.TcCoe

/-- Both programs' results are columns of `projAt` of the arguments. -/
theorem equal_OddProj : Cert.algebraic_OddProjIdeal_OddProjRefIdeal := by
  intro m ρ m' ρ' _ hagree
  refine ⟨fun c => Cert.OddProjIdeal.Proj.out_5 m c, fun c => Cert.OddProjIdeal.Proj.out_6 m c, fun c => Cert.OddProjIdeal.Proj.out_7 m c, fun c => Cert.OddProjIdeal.Proj.out_8 m c, fun c => Cert.OddProjIdeal.Proj.out_9 m c, fun c => Cert.OddProjIdeal.Proj.out_10 m c, fun c => Cert.OddProjIdeal.Proj.out_11 m c, ?_, ?_⟩
  · exact (θ_run _ _ _).mono (fun _ h c => ⟨(h c).1.trans (Cert.OddProjIdeal.Proj.final_5 m c),
      (h c).2.1.trans (Cert.OddProjIdeal.Proj.final_6 m c),
      (h c).2.2.1.trans (Cert.OddProjIdeal.Proj.final_7 m c),
      (h c).2.2.2.1.trans (Cert.OddProjIdeal.Proj.final_8 m c),
      (h c).2.2.2.2.1.trans (Cert.OddProjIdeal.Proj.final_9 m c),
      (h c).2.2.2.2.2.1.trans (Cert.OddProjIdeal.Proj.final_10 m c),
      (h c).2.2.2.2.2.2.1.trans (Cert.OddProjIdeal.Proj.final_11 m c), (h c).2.2.2.2.2.2.2⟩)
      (Cert.OddProjIdeal.Value.run_blocks m ρ)
  · refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.OddProjRefIdeal.Value.run m' ρ')
    all_goals obtain ⟨h0, h1, h2⟩ := hagree c
    · rw [h0, h1, h2]
      exact Cert.OddProjRefIdeal.Proj.result_5 _ _ _
    · unfold Cert.OddProjRefIdeal.Value.res_main_v136
      rw [h0, h1, h2]
      exact Cert.OddProjRefIdeal.Proj.result_6 _ _ _
    · unfold Cert.OddProjRefIdeal.Value.res_main_v99
      rw [h0, h1, h2]
      exact Cert.OddProjRefIdeal.Proj.result_7 _ _ _
    · rw [h0, h1, h2]
      exact Cert.OddProjRefIdeal.Proj.result_8 _ _ _
    · rw [h0, h1, h2]
      exact Cert.OddProjRefIdeal.Proj.result_9 _ _ _
    · rw [h0, h1, h2]
      exact Cert.OddProjRefIdeal.Proj.result_10 _ _ _
    · rw [h0, h1, h2]
      exact Cert.OddProjRefIdeal.Proj.result_11 _ _ _

theorem frame_OddProjRef : Cert.quiescent_OddProjRefIdeal := fun m ρ _ =>
  (θ_run Cert.OddProjRefIdeal.defs _ _).mono (fun r h => ⟨fun c => (h c).2.2.2.2.2.2.2, sem_eq_zero_of_no_sems (by decide) r.2⟩)
    (Cert.OddProjRefIdeal.Value.run m ρ)

theorem frame_OddProjIdeal : Cert.quiescent_OddProjIdeal := fun m ρ _ => Cert.OddProjIdeal.Gen.frame m ρ

set_option maxHeartbeats 4000000 in
/-- The two programs' bodies are one text. -/
theorem defs_OddProj : Cert.OddProj.defs (F := Bits) = Cert.OddProjIdeal.defs (F := Bits) := by
  have h : Cert.OddProj.defs₀ (F := Bits) = Cert.OddProjIdeal.defs₀ (F := Bits) := by
    unfold Cert.OddProj.defs₀ Cert.OddProjIdeal.defs₀
    refine congrArg Defs.onTc ?_
    funext l x
    match l, x with
    | 0, (t, s) => rfl
    | ⟨n + 1, h⟩, _ => exact absurd h (Nat.not_lt.2 (Nat.le_add_left _ _))
  unfold Cert.OddProj.defs Cert.OddProjIdeal.defs
  exact congrArg _ h

set_option maxHeartbeats 4000000 in
theorem frame_OddProj : Cert.quiescent_OddProj := fun m ρ _ => by
  rw [defs_OddProj]
  exact Cert.OddProjIdeal.Gen.frame (F := Bits) m ρ

end Cert.Proof
-- ==== Proof.MemAttend.lean ====
/-
  THE ATTENTION OVER THE MEMORY: for each head of 64 lanes the softmax of the queries times the memory's keys, times its values.
  The kernel keeps the four heads side by side and masks the lanes of one head after another; the reference divides the lanes into heads.
-/
module

public import proofs.«01_k».proof.Proof.Gen.MemAttend
public import proofs.«01_k».proof.Proof.Gen.MemAttendIdeal.Value
public import proofs.«01_k».proof.Proof.Gen.MemAttendRefIdeal.Run
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs

@[expose] public section

set_option maxRecDepth 16384

noncomputable section

namespace Cert.MemAttendIdeal.Mem

open Cert.MemAttendIdeal Cert.MemAttendIdeal.Gen Cert.MemAttendIdeal.Value Idealize.ShloMosaic Idealize.ShloMosaic.TcCoe Idealize.SL.Sem

/-- The scale of the scores, one eighth. -/
def e8 : EReal := Ideal.ofBits .f32 0x3E000000#32

theorem hz : (![0, 0] : Fin 2 → Nat) = fun _ => 0 := funext fun a => by fin_cases a <;> rfl

/-! ## One head in the kernel -/

/-- The lanes of head number `n`. -/
def mask (n : BitVec 32) : IVec S256x256 1 := cmpi .eq (k0_pay4) (broadcast S256x256 n)

/-- The scores of one head: the queries' other lanes are zero in the product. -/
def scores (m : IVec S256x256 1) (q k : Vec Ideal S256x256 .f32) : FVec Ideal S256x256 .f32 :=
  mulf (matmul dot_S256x256_S256x256_S256x256_1_1_0_0_n_n none
    (truncf .bf16 (select m q (broadcast S256x256 (Scalar.ofBits .f32 0x00000000#32))) bitsLt_bf16_f32)
    (truncf .bf16 k bitsLt_bf16_f32) (constant S256x256 .f32 0x00000000#32)) (broadcast S256x256 (Scalar.ofBits .f32 0x3E000000#32))

/-- The exponentials of the scores less their row's largest. -/
def weights (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- What one head adds: its shares times the values, at its own lanes. -/
def part (m : IVec S256x256 1) (w : FVec Ideal S256x256 .f32) (v : Vec Ideal S256x256 .f32) : FVec Ideal S256x256 .f32 :=
  select m (matmul dot_S256x256_S256x256_S256x256_1_0_0_1_n_n none
    (truncf .bf16 (divf w (broadcastTo S256x256 (shapeCast S256x1 (multiReduction .add [1] S256 w 0x00000000#32 reduces_S256x256_S256 (.inl rfl) rfl)
      shapeCasts_S256_S256x1) broadcasts_S256x1_S256x256)) bitsLt_bf16_f32)
    (truncf .bf16 v bitsLt_bf16_f32) (constant S256x256 .f32 0x00000000#32)) (broadcast S256x256 (Scalar.ofBits .f32 0x00000000#32))

/-- The lanes of head `h`. -/
abbrev lanes (h : Fin 4) : IVec S256x256 1 := mask (BitVec.ofNat 32 h.val)

/-- What head `h` adds to the block. -/
def head (h : Fin 4) (q k v : Vec Ideal S256x256 .f32) : FVec Ideal S256x256 .f32 := part (lanes h) (weights (scores (lanes h) q k)) v

/-- The block that the body leaves: the four heads' parts, added to zero one after another. -/
def block (q k v : Vec Ideal S256x256 .f32) : FVec Ideal S256x256 .f32 :=
  addf (addf (addf (addf (broadcast S256x256 (Scalar.ofBits .f32 0x00000000#32)) (head 0 q k v)) (head 1 q k v)) (head 2 q k v)) (head 3 q k v)

theorem out_3_eq (x0 x1 x2 : Vec Ideal S256x256 .f32) : out0_3 x0 x1 x2 = block x0 x1 x2 := by
  unfold_out out0_3
  simp only [View.ld_unit_zero (S := S256x256) hz]
  funext y
  canon_tiles x y
  have hxy : y = x := funext fun a => by
    match a with
    | ⟨0, _⟩ => exact Fin.ext ‹_›
    | ⟨1, _⟩ => exact Fin.ext ‹_›
  rw [hxy]
  rfl

theorem head_at (r l : Fin 256) : k0_pay4 (ix2 r l) = BitVec.ofNat 32 (l.val / 64) := by
  pointwise [k0_pay4]
  revert l
  decide +kernel

theorem scores_at (m : IVec S256x256 1) (q k : Vec Ideal S256x256 .f32) (r u : Fin 256) :
    scores m q k (ix2 r u) = (∑ l : Fin 256, Scalar.select (m (ix2 r l)) (q (ix2 r l)) 0 * k (ix2 u l)) * e8 := by
  unfold e8
  pointwise [scores]

theorem weights_at (s : FVec Ideal S256x256 .f32) (r u : Fin 256) :
    weights s (ix2 r u) = Ideal.exp (s (ix2 r u) - Finset.univ.fold max (Ideal.ofBits .f32 0xFF800000#32) fun x => s (ix2 r x)) := by
  pointwise [weights]

theorem part_at (m : IVec S256x256 1) (w : FVec Ideal S256x256 .f32) (v : Vec Ideal S256x256 .f32) (r l : Fin 256) :
    part m w v (ix2 r l) = Scalar.select (m (ix2 r l)) (∑ u : Fin 256, Ideal.div (w (ix2 r u)) (∑ u' : Fin 256, w (ix2 r u')) * v (ix2 u l)) 0 := by
  pointwise [part]

/-- Lane `d` of head `h`. -/
def lane (h : Fin 4) (d : Fin 64) : Fin 256 := ⟨h.val * 64 + d.val, by omega⟩

/-- The head of a lane. -/
def headOf (l : Fin 256) : Fin 4 := ⟨l.val / 64, by omega⟩

/-- The lane's place in its head. -/
def inHead (l : Fin 256) : Fin 64 := ⟨l.val % 64, by omega⟩

theorem lane_headOf (l : Fin 256) : lane (headOf l) (inHead l) = l := Fin.ext (by show l.val / 64 * 64 + l.val % 64 = l.val; omega)

/-- The choice that a head's mask makes at a lane. -/
theorem choose_at (h : Fin 4) (r l : Fin 256) (a b : EReal) : Scalar.select (lanes h (ix2 r l)) a b = if headOf l = h then a else b := by
  have hm : lanes h (ix2 r l) = IntOp.cmpi .eq (BitVec.ofNat 32 (l.val / 64)) (BitVec.ofNat 32 h.val) :=
    congrArg (fun x => IntOp.cmpi .eq x (BitVec.ofNat 32 h.val)) (head_at r l)
  rw [hm]
  by_cases e : headOf l = h
  · rw [if_pos e, ← e]
    simp [Scalar.select, IntOp.cmpi, headOf]
  · rw [if_neg e]
    have hb : (BitVec.ofNat 32 (l.val / 64) == BitVec.ofNat 32 h.val) = false := by
      rw [beq_eq_false_iff_ne]
      intro hh
      have h2 := congrArg BitVec.toNat hh
      simp only [BitVec.toNat_ofNat] at h2
      refine e (Fin.ext ?_)
      show l.val / 64 = h.val
      omega
    simp only [Scalar.select, IntOp.cmpi, hb]
    rfl

/-- A sum over the lanes that is zero outside head `h` is the sum over the head's own lanes. -/
theorem sum_head (f : Fin 256 → EReal) (h : Fin 4) : (∑ l : Fin 256, if headOf l = h then f l else 0) = ∑ d : Fin 64, f (lane h d) := by
  rw [← Finset.sum_filter]
  refine (Finset.sum_bij (fun d _ => lane h d) (fun d _ => ?_) (fun d _ d' _ e => ?_) (fun l hl => ?_) fun d _ => rfl).symm
  · rw [Finset.mem_filter]
    exact ⟨Finset.mem_univ _, Fin.ext (by show (h.val * 64 + d.val) / 64 = h.val; omega)⟩
  · have := congrArg Fin.val e
    simp only [lane] at this
    exact Fin.ext (by omega)
  · rw [Finset.mem_filter] at hl
    exact ⟨inHead l, Finset.mem_univ _, by rw [← hl.2]; exact lane_headOf l⟩

/-- The score of a query row against row `u` of the keys in head `h`. -/
def score (q : Fin 256 → EReal) (k : Vec Ideal S256x256 .f32) (h : Fin 4) (u : Fin 256) : EReal :=
  (∑ d : Fin 64, q (lane h d) * k (ix2 u (lane h d))) * e8

/-- The exponential of a score less the largest. -/
def soft (s : Fin 256 → EReal) (u : Fin 256) : EReal := Ideal.exp (s u - Finset.univ.fold max (Ideal.ofBits .f32 0xFF800000#32) s)

/-- A query row's attention at lane `l`. -/
def attend (q : Fin 256 → EReal) (k v : Vec Ideal S256x256 .f32) (l : Fin 256) : EReal :=
  ∑ u : Fin 256, Ideal.div (soft (score q k (headOf l)) u) (∑ u' : Fin 256, soft (score q k (headOf l)) u') * v (ix2 u l)

theorem scores_head (h : Fin 4) (q k : Vec Ideal S256x256 .f32) (r u : Fin 256) :
    scores (lanes h) q k (ix2 r u) = score (fun l => q (ix2 r l)) k h u := by
  rw [scores_at]
  refine congrArg (· * e8) ((Finset.sum_congr rfl fun l _ => ?_).trans (sum_head (fun l => q (ix2 r l) * k (ix2 u l)) h))
  rw [choose_at]
  split
  · rfl
  · exact zero_mul _

theorem weights_head (h : Fin 4) (q k : Vec Ideal S256x256 .f32) (r u : Fin 256) :
    weights (scores (lanes h) q k) (ix2 r u) = soft (score (fun l => q (ix2 r l)) k h) u := by
  rw [weights_at, show (fun x => scores (lanes h) q k (ix2 r x)) = score (fun l => q (ix2 r l)) k h from funext (scores_head h q k r), scores_head]
  rfl

theorem head_part (h : Fin 4) (q k v : Vec Ideal S256x256 .f32) (r l : Fin 256) :
    head h q k v (ix2 r l) = if headOf l = h then attend (fun l => q (ix2 r l)) k v l else 0 := by
  unfold head
  rw [part_at, choose_at]
  split
  · rename_i e
    unfold attend
    rw [e, show (fun u => weights (scores (lanes h) q k) (ix2 r u)) = soft (score (fun l => q (ix2 r l)) k h) from funext (weights_head h q k r)]
    exact Finset.sum_congr rfl fun u _ => congrArg (fun x => Ideal.div x _ * _) (weights_head h q k r u)
  · rfl

/-- One place of the block: only the lane's own head adds to it. -/
theorem block_at (q k v : Vec Ideal S256x256 .f32) (r l : Fin 256) : block q k v (ix2 r l) = attend (fun l => q (ix2 r l)) k v l := by
  have hs : block q k v (ix2 r l) = 0 + head 0 q k v (ix2 r l) + head 1 q k v (ix2 r l) + head 2 q k v (ix2 r l) + head 3 q k v (ix2 r l) := by
    pointwise [block]
  rw [hs, head_part, head_part, head_part, head_part]
  generalize attend (fun l => q (ix2 r l)) k v l = y
  generalize headOf l = h
  fin_cases h <;> simp

variable (m : (ℓ : Loc nD τ sig) → Buf (Elt Ideal) ℓ) (c : Dev nD)

/-- Row `r` of the block at grid point `t`, as a row of the array. -/
def row (t : Fin cfg0.N) (r : Fin 256) : Fin 16384 := ⟨t.val * 256 + r.val, by have := t.isLt; have hN : cfg0.N = 64 := N_0; omega⟩

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 256) (n : Fin 256) :
    (iblk m c 0 t : Vec Ideal S256x256 .f32) (ix2 r n) = (m ((c : Thread nD τ).loc main_arg0) : Vec Ideal S16384x256 .f32) (ix2 (row t r) n) := by
  have hi := index_0 t
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = t.val * 256 + r.val; rw [hi.1]; omega
  | ⟨1, _⟩ => show win0_0.index t 1 * 256 + 1 * n.val = n.val; rw [hi.2]; omega

theorem block_1 (t : Fin cfg0.N) : (iblk m c 1 t : Vec Ideal S256x256 .f32) = m ((c : Thread nD τ).loc main_arg1) := by
  have hz' : (fun a => win0_1.index t a * main_arg1.ty.shape.size a) = fun _ => 0 := funext fun a => by fin_cases a <;> rfl
  exact (Memref.read_access_unit_zero (Elt Ideal) main_arg1 hz' (fun a => by rw [congrFun hz' a]; simp) _).trans (V_main_arg1 m c)

theorem block_2 (t : Fin cfg0.N) : (iblk m c 2 t : Vec Ideal S256x256 .f32) = m ((c : Thread nD τ).loc main_arg2) := by
  have hz' : (fun a => win0_2.index t a * main_arg2.ty.shape.size a) = fun _ => 0 := funext fun a => by fin_cases a <;> rfl
  exact (Memref.read_access_unit_zero (Elt Ideal) main_arg2 hz' (fun a => by rw [congrFun hz' a]; simp) _).trans (V_main_arg2 m c)

/-- The result array: every query row's attention. -/
def result (q : Vec Ideal S16384x256 .f32) (k v : Vec Ideal S256x256 .f32) : Vec Ideal S16384x256 .f32 :=
  fun j => attend (fun l => q (ix2 (j 0) l)) k v (j 1)

/-- The same, from the arguments. -/
abbrev out : Vec Ideal S16384x256 .f32 :=
  result (m ((c : Thread nD τ).loc main_arg0)) (m ((c : Thread nD τ).loc main_arg1)) (m ((c : Thread nD τ).loc main_arg2))

theorem block_3 (t : Fin cfg0.N) (r n : Fin 256) :
    out0_3 (iblk m c 0 t) (iblk m c 1 t) (iblk m c 2 t) (ix2 r n) = out m c (ix2 (row t r) n) := by
  rw [out_3_eq, block_at, block_1, block_2]
  exact congrArg (fun f => attend f (m ((c : Thread nD τ).loc main_arg1)) (m ((c : Thread nD τ).loc main_arg2)) n) (funext (block_0 m c t r))

theorem index_3 : ∀ t : Fin cfg0.N, win0_3.index t 0 = t.val ∧ win0_3.index t 1 = 0 :=
  (by decide +kernel : ∀ t : Fin grid0.N, win0_3.index t 0 = t.val ∧ win0_3.index t 1 = 0)

theorem flushed_3 (t : Fin cfg0.N) (hf : (cfg0.win 3).flush t = true) :
    (dats m 0 c).flushed 3 t = ((cfg0.win 3).blk t).view.read (Elt Ideal) (out m c) := by
  rw [flushed3]
  have hi := index_3 t
  funext j
  rw [View.read_apply]
  have h0 : (j 0).val < 256 := (j 0).isLt
  have h1 : (j 1).val < 256 := (j 1).isLt
  have he : (((cfg0.win 3).blk t).view.emb j : S16384x256.Idx) = ix2 (row t ⟨(j 0).val, h0⟩) ⟨(j 1).val, h1⟩ := by
    funext a
    apply Fin.ext
    match a with
    | ⟨0, _⟩ => show win0_3.index t 0 * 256 + 1 * (j 0).val = t.val * 256 + (j 0).val; rw [hi.1]; omega
    | ⟨1, _⟩ => show win0_3.index t 1 * 256 + 1 * (j 1).val = (j 1).val; rw [hi.2]; omega
  have hj : (j : S256x256.Idx) = ix2 ⟨(j 0).val, h0⟩ ⟨(j 1).val, h1⟩ := by
    funext a
    match a with
    | ⟨0, _⟩ => rfl
    | ⟨1, _⟩ => rfl
  show out0_3 (iblk m c 0 t) (iblk m c 1 t) (iblk m c 2 t) j = out m c (((cfg0.win 3).blk t).view.emb j)
  rw [he]
  exact (congrArg (out0_3 (iblk m c 0 t) (iblk m c 1 t) (iblk m c 2 t)) hj).trans <| block_3 m c t ⟨(j 0).val, h0⟩ ⟨(j 1).val, h1⟩

theorem final_3 : (dats m 0 c).arrAt 3 cfg0.N = out m c :=
  (dats m 0 c).arrAt_eq_of_cover 3 (out m c) (flushed_3 m c) fun i => by
    have h0 : (i 0 : Nat) < 16384 := (i 0).isLt
    have h1 : (i 1 : Nat) < 256 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_3 _, ?_⟩
    show i ∈ ((View.whole main_v0).slice (win0_3.rect t)).set
    rw [View.set_slice_whole, Rect.mem_set_unit]
    have hi := index_3 t
    intro a
    match a with
    | ⟨0, _⟩ =>
      show win0_3.index _ 0 * 256 ≤ (i 0 : Nat) ∧ (i 0 : Nat) < win0_3.index _ 0 * 256 + 256
      rw [hi.1, ht]; omega
    | ⟨1, _⟩ =>
      show win0_3.index _ 1 * 256 ≤ (i 1 : Nat) ∧ (i 1 : Nat) < win0_3.index _ 1 * 256 + 256
      rw [hi.2]; omega

end Cert.MemAttendIdeal.Mem

namespace Cert.MemAttendRefIdeal.Mem

open Cert.MemAttendRefIdeal Cert.MemAttendRefIdeal.Gen Idealize.ShloMosaic

/-- The reference's keys and values side by side. -/
def both (k v : Vec Ideal S256x256 .f32) : Vec Ideal S1x256x2x4x64 .f32 :=
  shapeCast _ (concatenate S256x2x256 1 [⟨S256x1x256, broadcastInDim S256x1x256 ![0, 2] bcast_S256x256_S256x1x256_0_2 k⟩,
    ⟨S256x1x256, broadcastInDim S256x1x256 ![0, 2] bcast_S256x256_S256x1x256_0_2 v⟩] concatenates_S256x1x256_S256x1x256_S256x2x256_d1)
    shapeCasts_S256x2x256_S1x256x2x4x64

/-- The reference's keys by heads. -/
def keys (k v : Vec Ideal S256x256 .f32) : Vec Ideal S1x256x4x64 .f32 :=
  shapeCast _ (extractStridedSlice S1x256x1x4x64 ![0, 0, 0, 0, 0] (both k v) slices_S1x256x2x4x64_S1x256x1x4x64_0_0_0_0_0)
    shapeCasts_S1x256x1x4x64_S1x256x4x64

/-- Its values by heads. -/
def vals (k v : Vec Ideal S256x256 .f32) : Vec Ideal S1x256x4x64 .f32 :=
  shapeCast _ (extractStridedSlice S1x256x1x4x64 ![0, 0, 1, 0, 0] (both k v) slices_S1x256x2x4x64_S1x256x1x4x64_0_0_1_0_0)
    shapeCasts_S1x256x1x4x64_S1x256x4x64

/-- Its scores by heads. -/
def scores (q : Vec Ideal S16384x256 .f32) (k v : Vec Ideal S256x256 .f32) : Vec Ideal S1x4x16384x256 .f32 :=
  mulf (F := Ideal) (φ := .f32) (Host.dotGeneral (F := Ideal) (φ₁ := .f32) (φ₂ := .f32) dot_S1x16384x4x64_S1x256x4x64_S1x4x16384x256_3_3_1_1_02_02 none
    (shapeCast _ q shapeCasts_S16384x256_S1x16384x4x64) (keys k v))
    (broadcastInDim S1x4x16384x256 ![] bcast_S_S1x4x16384x256 (constant (F := Ideal) S_ .f32 0x3E000000#32))

/-- The largest score of each row. -/
def tops (s : Vec Ideal S1x4x16384x256 .f32) : Vec Ideal S1x4x16384 .f32 :=
  maximumf (F := Ideal) (φ := .f32) (broadcastInDim S1x4x16384 ![] bcast_S_S1x4x16384 (constant S_ .f32 0xFF800000#32))
    (Host.reduce FloatOps.maximumf s (constant S_ .f32 0xFF800000#32) reducesTo_S1x4x16384x256_S1x4x16384_d3 h_S_)

/-- The exponentials of the scores less the largest. -/
def weights (s : Vec Ideal S1x4x16384x256 .f32) : Vec Ideal S1x4x16384x256 .f32 :=
  Host.exp (F := Ideal) (φ := .f32) (subf s (broadcastInDim S1x4x16384x256 ![0, 1, 2, 3] bcast_S1x4x16384x1_S1x4x16384x256_0_1_2_3
    (broadcastInDim S1x4x16384x1 ![0, 1, 2] bcast_S1x4x16384_S1x4x16384x1_0_1_2
      (tops s))))

/-- The shares times the values, laid out as rows again. -/
def attended (w : Vec Ideal S1x4x16384x256 .f32) (vals : Vec Ideal S1x256x4x64 .f32) : Vec Ideal S16384x256 .f32 :=
  shapeCast _ (transpose S1x16384x4x64 [0, 3, 1, 2] (Host.dotGeneral (F := Ideal) (φ₁ := .f32) (φ₂ := .f32) dot_S1x256x4x64_S1x4x16384x256_S1x4x64x16384_1_3_3_2_02_01 none vals
    (Host.divf w (broadcastInDim S1x4x16384x256 ![0, 1, 2, 3] bcast_S1x4x16384x1_S1x4x16384x256_0_1_2_3
      (broadcastInDim S1x4x16384x1 ![0, 1, 2] bcast_S1x4x16384_S1x4x16384x1_0_1_2
        (Host.reduceAdd w (constant S_ .f32 0x00000000#32) reducesTo_S1x4x16384x256_S1x4x16384_d3 h_S_)))))
    transposes_S1x4x64x16384_S1x16384x4x64_0_3_1_2) shapeCasts_S1x16384x4x64_S16384x256

theorem keys_at (k v : Vec Ideal S256x256 .f32) (u : Fin 256) (h : Fin 4) (d : Fin 64) :
    keys k v (ix4 0 u h d) = k (ix2 u ⟨h.val * 64 + d.val, by omega⟩) := by
  pointwise [keys, both]

theorem vals_at (k v : Vec Ideal S256x256 .f32) (u : Fin 256) (h : Fin 4) (d : Fin 64) :
    vals k v (ix4 0 u h d) = v (ix2 u ⟨h.val * 64 + d.val, by omega⟩) := by
  pointwise [vals, both]

theorem scores_at (q : Vec Ideal S16384x256 .f32) (k v : Vec Ideal S256x256 .f32) (h : Fin 4) (p : Fin 16384) (u : Fin 256) :
    scores q k v (ix4 0 h p u) = (∑ d : Fin 64, q (ix2 p ⟨h.val * 64 + d.val, by omega⟩) * keys k v (ix4 0 u h d)) * Cert.MemAttendIdeal.Mem.e8 := by
  unfold Cert.MemAttendIdeal.Mem.e8
  pointwise [scores]

/-- The largest score of a row, from the operation's own starting value. -/
theorem reduce_at (s : Vec Ideal S1x4x16384x256 .f32) (h : Fin 4) (p : Fin 16384) :
    Host.reduce (FloatOps.maximumf (F := Ideal) (φ := .f32)) s (constant (F := Ideal) S_ .f32 0xFF800000#32) reducesTo_S1x4x16384x256_S1x4x16384_d3 h_S_ (ix3 0 h p)
      = Finset.univ.fold max (Ideal.ofBits .f32 0xFF800000#32) fun x : Fin 256 => s (ix4 0 h p x) := by
  pointwise []

theorem tops_max (b y : Vec Ideal S1x4x16384 .f32) (i : S1x4x16384.Idx) : maximumf (F := Ideal) (φ := .f32) b y i = max (b i) (y i) := rfl

theorem fold_top (x : EReal) (f : Fin 256 → EReal) : max x (Finset.univ.fold max x f) = Finset.univ.fold max x f :=
  max_eq_right ((Finset.le_fold_max _).2 (Or.inl le_rfl))

theorem tops_at (s : Vec Ideal S1x4x16384x256 .f32) (h : Fin 4) (p : Fin 16384) :
    tops s (ix3 0 h p) = Finset.univ.fold max (Ideal.ofBits .f32 0xFF800000#32) fun x : Fin 256 => s (ix4 0 h p x) := by
  unfold tops
  rw [tops_max, reduce_at]
  exact fold_top _ _

theorem weights_at (s : Vec Ideal S1x4x16384x256 .f32) (h : Fin 4) (p : Fin 16384) (u : Fin 256) :
    weights s (ix4 0 h p u) = Ideal.exp (s (ix4 0 h p u) - tops s (ix3 0 h p)) := by
  pointwise [weights]

theorem attended_at (w : Vec Ideal S1x4x16384x256 .f32) (vals : Vec Ideal S1x256x4x64 .f32) (p : Fin 16384) (l : Fin 256) :
    attended w vals (ix2 p l) = ∑ u : Fin 256, vals (ix4 0 u ⟨l.val / 64, by omega⟩ ⟨l.val % 64, by omega⟩)
      * Ideal.div (w (ix4 0 ⟨l.val / 64, by omega⟩ p u)) (∑ u' : Fin 256, w (ix4 0 ⟨l.val / 64, by omega⟩ p u')) := by
  pointwise [attended]

/-- The reference's result. -/
def outcome (q : Vec Ideal S16384x256 .f32) (k v : Vec Ideal S256x256 .f32) : Vec Ideal S16384x256 .f32 :=
  attended (weights (scores q k v)) (vals k v)

open Cert.MemAttendIdeal.Mem (lane headOf inHead lane_headOf score soft attend)

theorem scores_row (q : Vec Ideal S16384x256 .f32) (k v : Vec Ideal S256x256 .f32) (h : Fin 4) (p : Fin 16384) (u : Fin 256) :
    scores q k v (ix4 0 h p u) = score (fun l => q (ix2 p l)) k h u := by
  rw [scores_at]
  exact congrArg (· * Cert.MemAttendIdeal.Mem.e8) (Finset.sum_congr rfl fun d _ => congrArg (_ * ·) (keys_at k v u h d))

theorem weights_row (q : Vec Ideal S16384x256 .f32) (k v : Vec Ideal S256x256 .f32) (h : Fin 4) (p : Fin 16384) (u : Fin 256) :
    weights (scores q k v) (ix4 0 h p u) = soft (score (fun l => q (ix2 p l)) k h) u := by
  rw [weights_at, tops_at, show (fun x => scores q k v (ix4 0 h p x)) = score (fun l => q (ix2 p l)) k h from funext (scores_row q k v h p), scores_row]
  rfl

theorem outcome_at (q : Vec Ideal S16384x256 .f32) (k v : Vec Ideal S256x256 .f32) (p : Fin 16384) (l : Fin 256) :
    outcome q k v (ix2 p l) = attend (fun l => q (ix2 p l)) k v l := by
  unfold outcome
  rw [attended_at]
  have hw : (fun u => weights (scores q k v) (ix4 0 (headOf l) p u)) = soft (score (fun l => q (ix2 p l)) k (headOf l)) :=
    funext (weights_row q k v (headOf l) p)
  show (∑ u : Fin 256, vals k v (ix4 0 u (headOf l) (inHead l)) * Ideal.div (weights (scores q k v) (ix4 0 (headOf l) p u))
    (∑ u' : Fin 256, (fun u => weights (scores q k v) (ix4 0 (headOf l) p u)) u')) = _
  rw [hw]
  refine Finset.sum_congr rfl fun u _ => ?_
  rw [mul_comm, weights_row, vals_at]
  exact congrArg (fun x => _ * v (ix2 u x)) (lane_headOf l)

theorem result_eq (q : Vec Ideal S16384x256 .f32) (k v : Vec Ideal S256x256 .f32) : outcome q k v = Cert.MemAttendIdeal.Mem.result q k v := by
  funext j
  obtain ⟨p, n, rfl⟩ : ∃ (p : Fin 16384) (n : Fin 256), j = ix2 p n :=
    ⟨j 0, j 1, funext fun a => by match a with | ⟨0, _⟩ => rfl | ⟨1, _⟩ => rfl⟩
  exact outcome_at q k v p n

end Cert.MemAttendRefIdeal.Mem

namespace Cert.Proof

open Idealize.ShloMosaic Idealize.SL.Sem Idealize.ShloMosaic.TcCoe

/-- Both programs' result is every query row's attention over the memory. -/
theorem equal_MemAttend : Cert.algebraic_MemAttendIdeal_MemAttendRefIdeal := by
  intro m ρ m' ρ' _ hagree
  refine ⟨fun c => Cert.MemAttendIdeal.Mem.out m c, ?_, ?_⟩
  · exact (θ_run _ _ _).mono (fun _ h c => ⟨(h c).1.trans (Cert.MemAttendIdeal.Mem.final_3 m c), (h c).2⟩) (Cert.MemAttendIdeal.Value.run_blocks m ρ)
  · refine (θ_run _ _ _).mono (fun _ h c => ⟨(h c).1.trans ?_, (h c).2⟩) (Cert.MemAttendRefIdeal.Value.run m' ρ')
    obtain ⟨h0, h1, h2⟩ := hagree c
    unfold Cert.MemAttendRefIdeal.Value.res_main_v25
    rw [h0, h1, h2]
    exact Cert.MemAttendRefIdeal.Mem.result_eq _ _ _

theorem frame_MemAttendRef : Cert.quiescent_MemAttendRefIdeal := fun m ρ _ =>
  (θ_run Cert.MemAttendRefIdeal.defs _ _).mono (fun r h => ⟨fun c => (h c).2, sem_eq_zero_of_no_sems (by decide) r.2⟩)
    (Cert.MemAttendRefIdeal.Value.run m ρ)

theorem frame_MemAttendIdeal : Cert.quiescent_MemAttendIdeal := fun m ρ _ => Cert.MemAttendIdeal.Gen.frame m ρ

/-- The two programs' bodies are one text. -/
theorem defs_MemAttend : Cert.MemAttend.defs (F := Bits) = Cert.MemAttendIdeal.defs (F := Bits) := by
  have h : Cert.MemAttend.defs₀ (F := Bits) = Cert.MemAttendIdeal.defs₀ (F := Bits) := by
    unfold Cert.MemAttend.defs₀ Cert.MemAttendIdeal.defs₀
    refine congrArg Defs.onTc ?_
    funext l x
    match l, x with
    | 0, (t, s) => rfl
    | ⟨n + 1, h⟩, _ => exact absurd h (Nat.not_lt.2 (Nat.le_add_left _ _))
  unfold Cert.MemAttend.defs Cert.MemAttendIdeal.defs
  exact congrArg _ h

theorem frame_MemAttend : Cert.quiescent_MemAttend := fun m ρ _ => by
  rw [defs_MemAttend]
  exact Cert.MemAttendIdeal.Gen.frame (F := Bits) m ρ

end Cert.Proof
-- ==== Proof.EvenMix.lean ====
/-
  THE EVEN LAYER'S MIX: one row of the result is the residual plus the gated outputs of the three mixers times their rows of the
  weights, for the kernel block by block and for the reference in one product.
-/
module

public import proofs.«01_k».proof.Proof.Gen.EvenMix
public import proofs.«01_k».proof.Proof.Gen.EvenMixIdeal.Value
public import proofs.«01_k».proof.Proof.Gen.EvenMixRefIdeal.Run
public import Idealize.ShloMosaic.Lib.Pipeline.Value
public import Idealize.ShloMosaic.Lib.Pointwise
public import Idealize.ShloMosaic.Lib.Tactic
public import Idealize.ShloMosaic.Lib.Quiescent
public import proofs.«01_k».proof.Defs
public import Idealize.ShloMosaic.Lib.StableHlo.ReadAt

@[expose] public section

set_option maxRecDepth 16384

noncomputable section

namespace Cert.EvenMixIdeal.Mix

open Cert.EvenMixIdeal Cert.EvenMixIdeal.Gen Cert.EvenMixIdeal.Value Idealize.ShloMosaic Idealize.ShloMosaic.TcCoe Idealize.SL.Sem

variable (m : (ℓ : Loc nD τ sig) → Buf (Elt Ideal) ℓ) (c : Dev nD)

/-- The gate's weight at one place. -/
def silu (g : EReal) : EReal := g * Ideal.logistic g

/-- The mixed row times one column of the weights, added to the residual: head group by head group. -/
def mixAt (x : Vec Ideal S16384x1024 .f32) (a b : Vec Ideal S16384x384 .f32) (e : Vec Ideal S16384x256 .f32)
    (g : Vec Ideal S16384x1024 .f32) (w : Vec Ideal S1024x1024 .f32) (r : Fin 16384) (n : Fin 1024) : EReal :=
  x (ix2 r n) + (∑ k : Fin 384, a (ix2 r k) * silu (g (ix2 r ⟨k.val, by omega⟩)) * w (ix2 ⟨k.val, by omega⟩ n) : EReal)
    + (∑ k : Fin 384, b (ix2 r k) * silu (g (ix2 r ⟨384 + k.val, by omega⟩)) * w (ix2 ⟨384 + k.val, by omega⟩ n) : EReal)
    + (∑ k : Fin 256, e (ix2 r k) * silu (g (ix2 r ⟨768 + k.val, by omega⟩)) * w (ix2 ⟨768 + k.val, by omega⟩ n) : EReal)

/-- The result array of a layer's mix. -/
def mixed (x : Vec Ideal S16384x1024 .f32) (a b : Vec Ideal S16384x384 .f32) (e : Vec Ideal S16384x256 .f32)
    (g : Vec Ideal S16384x1024 .f32) (w : Vec Ideal S1024x1024 .f32) : Vec Ideal S16384x1024 .f32 :=
  fun j => mixAt x a b e g w (j 0) (j 1)

theorem lt64 (t : Fin cfg0.N) : t.val < 64 := lt_of_lt_of_eq t.isLt (show cfg0.N = 64 from N_0)

/-- Row `r` of block `t`. -/
def row (t : Fin cfg0.N) (r : Fin 256) : Fin 16384 := ⟨t.val * 256 + r.val, by have := lt64 t; omega⟩

theorem hz : (![0, 0] : Fin 2 → Nat) = fun _ => 0 := funext fun a => by fin_cases a <;> rfl

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 256) (n : Fin 1024) :
    (iblk m c 0 t : Vec Ideal S256x1024 .f32) (ix2 r n) = (m ((c : Thread nD τ).loc main_arg0) : Vec Ideal S16384x1024 .f32) (ix2 (row t r) n) := by
  have hi := index_0 t
  unfold iblk
  rw [View.read_apply]
  show V m c main_arg0 _ = _
  rw [V_main_arg0]
  show m _ _ = m _ _
  congr 1
  funext a
  apply Fin.ext
  match a with
  | ⟨0, _⟩ => show win0_0.index t 0 * 256 + 1 * r.val = t.val * 256 + r.val; rw [hi.1]; omega
  | ⟨1, _⟩ => show win0_0.index t 1 * 1024 + 1 * n.val = n.val; rw [hi.2]; omega

theorem index_1 : ∀ t : Fin cfg0.N, win0_1.index t 0 = t.val ∧ win0_1.index t 1 = 0 :=
  (by decide +kernel : ∀ t : Fin grid0.N, win0_1.index t 0 = t.val ∧ win0_1.index t 1 = 0)

theorem block_1 (t : Fin cfg0.N) (r : Fin 256) (n : Fin 384) :
    (iblk m c 1 t : Vec Ideal S256x384 .f32) (ix2 r n) = (m ((c : Thread nD τ).loc main_arg1) : Vec Ideal S16384x384 .f32) (ix2 (row t r) n) := by
  have hi := index_1 t
  unfold iblk
  rw [View.read_apply]
  show V m c main_arg1 _ = _
  rw [V_main_arg1]
  show m _ _ = m _ _
  congr 1
  funext a
  apply Fin.ext
  match a with
  | ⟨0, _⟩ => show win0_1.index t 0 * 256 + 1 * r.val = t.val * 256 + r.val; rw [hi.1]; omega
  | ⟨1, _⟩ => show win0_1.index t 1 * 384 + 1 * n.val = n.val; rw [hi.2]; omega

theorem index_2 : ∀ t : Fin cfg0.N, win0_2.index t 0 = t.val ∧ win0_2.index t 1 = 0 :=
  (by decide +kernel : ∀ t : Fin grid0.N, win0_2.index t 0 = t.val ∧ win0_2.index t 1 = 0)

theorem block_2 (t : Fin cfg0.N) (r : Fin 256) (n : Fin 384) :
    (iblk m c 2 t : Vec Ideal S256x384 .f32) (ix2 r n) = (m ((c : Thread nD τ).loc main_arg2) : Vec Ideal S16384x384 .f32) (ix2 (row t r) n) := by
  have hi := index_2 t
  unfold iblk
  rw [View.read_apply]
  show V m c main_arg2 _ = _
  rw [V_main_arg2]
  show m _ _ = m _ _
  congr 1
  funext a
  apply Fin.ext
  match a with
  | ⟨0, _⟩ => show win0_2.index t 0 * 256 + 1 * r.val = t.val * 256 + r.val; rw [hi.1]; omega
  | ⟨1, _⟩ => show win0_2.index t 1 * 384 + 1 * n.val = n.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 256) (n : Fin 256) :
    (iblk m c 3 t : Vec Ideal S256x256 .f32) (ix2 r n) = (m ((c : Thread nD τ).loc main_arg3) : Vec Ideal S16384x256 .f32) (ix2 (row t r) n) := by
  have hi := index_3 t
  unfold iblk
  rw [View.read_apply]
  show V m c main_arg3 _ = _
  rw [V_main_arg3]
  show m _ _ = m _ _
  congr 1
  funext a
  apply Fin.ext
  match a with
  | ⟨0, _⟩ => show win0_3.index t 0 * 256 + 1 * r.val = t.val * 256 + r.val; rw [hi.1]; omega
  | ⟨1, _⟩ => show win0_3.index t 1 * 256 + 1 * n.val = n.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 256) (n : Fin 1024) :
    (iblk m c 4 t : Vec Ideal S256x1024 .f32) (ix2 r n) = (m ((c : Thread nD τ).loc main_arg4) : Vec Ideal S16384x1024 .f32) (ix2 (row t r) n) := by
  have hi := index_4 t
  unfold iblk
  rw [View.read_apply]
  show V m c main_arg4 _ = _
  rw [V_main_arg4]
  show m _ _ = m _ _
  congr 1
  funext a
  apply Fin.ext
  match a with
  | ⟨0, _⟩ => show win0_4.index t 0 * 256 + 1 * r.val = t.val * 256 + r.val; rw [hi.1]; omega
  | ⟨1, _⟩ => show win0_4.index t 1 * 1024 + 1 * n.val = n.val; rw [hi.2]; omega

/-- The weights, as the kernel is handed them. -/
abbrev weights : Vec Ideal S1024x1024 .bf16 := V m c main_v0

theorem weights_eq (j : S1024x1024.Idx) : weights m c j = (m ((c : Thread nD τ).loc main_arg5) : Vec Ideal S1024x1024 .f32) j := by
  unfold weights V
  simp only [hostOps0, List.flatten_cons, List.flatten_nil, List.append_nil, List.cons_append, List.nil_append]
  after_reads_simp
  rfl

theorem block_5 (t : Fin cfg0.N) : (iblk m c 5 t : Vec Ideal S1024x1024 .bf16) = weights m c := by
  have hz' : (fun a => win0_5.index t a * main_v0.ty.shape.size a) = fun _ => 0 := funext fun a => by fin_cases a <;> rfl
  exact Memref.read_access_unit_zero (Elt Ideal) main_v0 hz' (fun a => by rw [congrFun hz' a]; simp) _

theorem ld_0 (w : Vec Ideal S1024x1024 .bf16) (k : Fin 384) (n : Fin 1024) :
    View.ld w r0_2 (ix2 k n) = w (ix2 ⟨k.val, by omega⟩ n) := by
  show w _ = w _
  congr 1
  funext a
  apply Fin.ext
  match a with
  | ⟨0, _⟩ => show 0 + 1 * k.val = k.val; omega
  | ⟨1, _⟩ => show 0 + 1 * n.val = n.val; omega

theorem ld_384 (w : Vec Ideal S1024x1024 .bf16) (k : Fin 384) (n : Fin 1024) :
    View.ld w r0_3 (ix2 k n) = w (ix2 ⟨384 + k.val, by omega⟩ n) := by
  show w _ = w _
  congr 1
  funext a
  apply Fin.ext
  match a with
  | ⟨0, _⟩ => show 384 + 1 * k.val = 384 + k.val; omega
  | ⟨1, _⟩ => show 0 + 1 * n.val = n.val; omega

theorem ld_768 (w : Vec Ideal S1024x1024 .bf16) (k : Fin 256) (n : Fin 1024) :
    View.ld w r0_5 (ix2 k n) = w (ix2 ⟨768 + k.val, by omega⟩ n) := by
  show w _ = w _
  congr 1
  funext a
  apply Fin.ext
  match a with
  | ⟨0, _⟩ => show 768 + 1 * k.val = 768 + k.val; omega
  | ⟨1, _⟩ => show 0 + 1 * n.val = n.val; omega

theorem pay_at (g x : Vec Ideal S256x1024 .f32) (a : Vec Ideal S256x384 .f32) (w0 : Vec Ideal S384x1024 .bf16) (b : Vec Ideal S256x384 .f32)
    (w1 : Vec Ideal S384x1024 .bf16) (e : Vec Ideal S256x256 .f32) (w2 : Vec Ideal S256x1024 .bf16) (r : Fin 256) (n : Fin 1024) :
    k0_pay1 g x a w0 b w1 e w2 (ix2 r n)
      = x (ix2 r n) + (∑ k : Fin 384, a (ix2 r k) * silu (g (ix2 r ⟨k.val, by omega⟩)) * w0 (ix2 k n) : EReal)
        + (∑ k : Fin 384, b (ix2 r k) * silu (g (ix2 r ⟨384 + k.val, by omega⟩)) * w1 (ix2 k n) : EReal)
        + (∑ k : Fin 256, e (ix2 r k) * silu (g (ix2 r ⟨768 + k.val, by omega⟩)) * w2 (ix2 k n) : EReal) := by
  unfold silu
  pointwise [k0_pay1]

/-- The result array, from the arguments. -/
abbrev out : Vec Ideal S16384x1024 .f32 :=
  mixed (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem out_block (t : Fin cfg0.N) (r : Fin 256) (n : Fin 1024) :
    out0_7 (iblk m c 0 t) (iblk m c 1 t) (iblk m c 2 t) (iblk m c 3 t) (iblk m c 4 t) (iblk m c 5 t) (iblk m c 6 t) (ix2 r n)
      = out m c (ix2 (row t r) n) := by
  unfold out0_7
  rw [View.canon_unit_zero hz]
  rw [pay_at]
  simp only [View.ld_unit_zero (S := S256x1024) hz, View.ld_unit_zero (S := S256x384) hz, View.ld_unit_zero (S := S256x256) hz,
    block_0, block_1, block_2, block_3, block_4, block_5]
  show _ = mixAt _ _ _ _ _ _ (row t r) n
  unfold mixAt
  exact congrArg₂ (· + ·) (congrArg₂ (· + ·) (congrArg₂ (· + ·) rfl
    (Finset.sum_congr rfl fun k _ => congrArg _ ((ld_0 _ k n).trans (weights_eq m c _))))
    (Finset.sum_congr rfl fun k _ => congrArg _ ((ld_384 _ k n).trans (weights_eq m c _))))
    (Finset.sum_congr rfl fun k _ => congrArg _ ((ld_768 _ k n).trans (weights_eq m c _)))

theorem index_7 : ∀ t : Fin cfg0.N, win0_7.index t 0 = t.val ∧ win0_7.index t 1 = 0 :=
  (by decide +kernel : ∀ t : Fin grid0.N, win0_7.index t 0 = t.val ∧ win0_7.index t 1 = 0)

theorem flushed_out (t : Fin cfg0.N) (hf : (cfg0.win 7).flush t = true) :
    (dats m 0 c).flushed 7 t = ((cfg0.win 7).blk t).view.read (Elt Ideal) (out m c) := by
  rw [flushed7]
  have hi := index_7 t
  funext j
  rw [View.read_apply]
  have h0 : (j 0).val < 256 := (j 0).isLt
  have h1 : (j 1).val < 1024 := (j 1).isLt
  have he : (((cfg0.win 7).blk t).view.emb j : S16384x1024.Idx) = ix2 (row t ⟨(j 0).val, h0⟩) ⟨(j 1).val, h1⟩ := by
    funext a
    apply Fin.ext
    match a with
    | ⟨0, _⟩ => show win0_7.index t 0 * 256 + 1 * (j 0).val = t.val * 256 + (j 0).val; rw [hi.1]; omega
    | ⟨1, _⟩ => show win0_7.index t 1 * 1024 + 1 * (j 1).val = (j 1).val; rw [hi.2]; omega
  have hj : (j : S256x1024.Idx) = ix2 ⟨(j 0).val, h0⟩ ⟨(j 1).val, h1⟩ := by
    funext a
    match a with
    | ⟨0, _⟩ => rfl
    | ⟨1, _⟩ => rfl
  show out0_7 (iblk m c 0 t) (iblk m c 1 t) (iblk m c 2 t) (iblk m c 3 t) (iblk m c 4 t) (iblk m c 5 t) (iblk m c 6 t) j
    = out m c (((cfg0.win 7).blk t).view.emb j)
  rw [he]
  exact (congrArg (out0_7 (iblk m c 0 t) (iblk m c 1 t) (iblk m c 2 t) (iblk m c 3 t) (iblk m c 4 t) (iblk m c 5 t) (iblk m c 6 t)) hj).trans
    <| out_block m c t ⟨(j 0).val, h0⟩ ⟨(j 1).val, h1⟩

theorem final_out : (dats m 0 c).arrAt 7 cfg0.N = out m c :=
  (dats m 0 c).arrAt_eq_of_cover 7 (out m c) (flushed_out m c) fun i => by
    have h0 : (i 0 : Nat) < 16384 := (i 0).isLt
    have h1 : (i 1 : Nat) < 1024 := (i 1).isLt
    have hN : cfg0.N = 64 := N_0
    obtain ⟨t, ht⟩ : ∃ t : Fin cfg0.N, t.val = (i 0 : Nat) / 256 := ⟨⟨(i 0 : Nat) / 256, by omega⟩, rfl⟩
    refine ⟨t, flush0_7 _, ?_⟩
    show i ∈ ((View.whole main_v2).slice (win0_7.rect t)).set
    rw [View.set_slice_whole, Rect.mem_set_unit]
    have hi := index_7 t
    intro a
    match a with
    | ⟨0, _⟩ =>
      show win0_7.index _ 0 * 256 ≤ (i 0 : Nat) ∧ (i 0 : Nat) < win0_7.index _ 0 * 256 + 256
      rw [hi.1, ht]; omega
    | ⟨1, _⟩ =>
      show win0_7.index _ 1 * 1024 ≤ (i 1 : Nat) ∧ (i 1 : Nat) < win0_7.index _ 1 * 1024 + 1024
      rw [hi.2]; omega

end Cert.EvenMixIdeal.Mix

namespace Cert.EvenMixRefIdeal.Mix

open Cert.EvenMixRefIdeal Cert.EvenMixRefIdeal.Gen Idealize.ShloMosaic Idealize.ShloMosaic.TcCoe Idealize.SL.Sem

/-- The reference's mixed rows: the concatenated heads times the gate's weights. -/
def gated (a b : Vec Ideal S16384x384 .f32) (e : Vec Ideal S16384x256 .f32) (g : Vec Ideal S16384x1024 .f32) : Vec Ideal S16384x1024 .f32 :=
  mulf (F := Ideal) (φ := .f32)
    ((concatenate S16384x1024 1 [⟨S16384x384, a⟩, ⟨S16384x384, b⟩, ⟨S16384x256, e⟩]
      concatenates_S16384x384_S16384x384_S16384x256_S16384x1024_d1) : Vec Ideal S16384x1024 .f32)
    (mulf (F := Ideal) (φ := .f32) g
      (Host.divf (broadcastInDim S16384x1024 ![] bcast_S_S16384x1024 (constant S_ FTy.f32 1065353216#32))
        (addf (broadcastInDim S16384x1024 ![] bcast_S_S16384x1024 (constant S_ FTy.f32 1065353216#32)) (Host.exp (Host.negf g)))))

/-- The reference's result. -/
def result (x : Vec Ideal S16384x1024 .f32) (a b : Vec Ideal S16384x384 .f32)
    (e : Vec Ideal S16384x256 .f32) (g : Vec Ideal S16384x1024 .f32) (w : Vec Ideal S1024x1024 .f32) : Vec Ideal S16384x1024 .f32 :=
  addf (F := Ideal) (φ := .f32) x (Host.dotGeneral (φ₁ := .f32) (φ₂ := .f32) dot_S16384x1024_S1024x1024_S16384x1024_1_0_0_1_n_n none (gated a b e g) w)

theorem result_at (x : Vec Ideal S16384x1024 .f32) (a b : Vec Ideal S16384x384 .f32)
    (e : Vec Ideal S16384x256 .f32) (g : Vec Ideal S16384x1024 .f32) (w : Vec Ideal S1024x1024 .f32) (r : Fin 16384) (n : Fin 1024) :
    result x a b e g w (ix2 r n) = x (ix2 r n) + ∑ l : Fin 1024, gated a b e g (ix2 r l) * w (ix2 l n) := by
  pointwise [result]

theorem gated_first (a b : Vec Ideal S16384x384 .f32) (e : Vec Ideal S16384x256 .f32) (g : Vec Ideal S16384x1024 .f32)
    (r : Fin 16384) (k : Fin 384) :
    gated a b e g (ix2 r ⟨k.val, by omega⟩) = a (ix2 r k) * Cert.EvenMixIdeal.Mix.silu (g (ix2 r ⟨k.val, by omega⟩)) := by
  pointwise [gated, Cert.EvenMixIdeal.Mix.silu, Ideal.logistic]

theorem gated_second (a b : Vec Ideal S16384x384 .f32) (e : Vec Ideal S16384x256 .f32) (g : Vec Ideal S16384x1024 .f32)
    (r : Fin 16384) (k : Fin 384) :
    gated a b e g (ix2 r ⟨384 + k.val, by omega⟩) = b (ix2 r k) * Cert.EvenMixIdeal.Mix.silu (g (ix2 r ⟨384 + k.val, by omega⟩)) := by
  pointwise [gated, Cert.EvenMixIdeal.Mix.silu, Ideal.logistic]

theorem gated_third (a b : Vec Ideal S16384x384 .f32) (e : Vec Ideal S16384x256 .f32) (g : Vec Ideal S16384x1024 .f32)
    (r : Fin 16384) (k : Fin 256) :
    gated a b e g (ix2 r ⟨768 + k.val, by omega⟩) = e (ix2 r k) * Cert.EvenMixIdeal.Mix.silu (g (ix2 r ⟨768 + k.val, by omega⟩)) := by
  pointwise [gated, Cert.EvenMixIdeal.Mix.silu, Ideal.logistic]
  rw [dif_neg (by omega), dif_neg (by omega)]
  have h : 768 + k.val - 384 - 384 = k.val := by omega
  simp only [h]

/-- A sum over all columns, head group by head group. -/
theorem sum_groups (f : Fin 1024 → EReal) : ∑ l, f l
    = (∑ k : Fin 384, f ⟨k.val, by omega⟩) + (∑ k : Fin 384, f ⟨384 + k.val, by omega⟩) + ∑ k : Fin 256, f ⟨768 + k.val, by omega⟩ := by
  rw [show (∑ l, f l) = ∑ l : Fin (768 + 256), f l from rfl, Fin.sum_univ_add]
  congr 1
  rw [show (∑ l : Fin 768, f (Fin.castAdd 256 l)) = ∑ l : Fin (384 + 384), f (Fin.castAdd 256 l) from rfl, Fin.sum_univ_add]
  rfl

/-- The two results are one array. -/
theorem result_eq (x : Vec Ideal S16384x1024 .f32) (a b : Vec Ideal S16384x384 .f32)
    (e : Vec Ideal S16384x256 .f32) (g : Vec Ideal S16384x1024 .f32) (w : Vec Ideal S1024x1024 .f32) :
    result x a b e g w = Cert.EvenMixIdeal.Mix.mixed x a b e g w := by
  funext j
  obtain ⟨r, n, rfl⟩ : ∃ (r : Fin 16384) (n : Fin 1024), j = ix2 r n :=
    ⟨j 0, j 1, funext fun a => by match a with | ⟨0, _⟩ => rfl | ⟨1, _⟩ => rfl⟩
  rw [result_at, sum_groups]
  simp only [gated_first, gated_second, gated_third]
  show _ = Cert.EvenMixIdeal.Mix.mixAt x a b e g w r n
  unfold Cert.EvenMixIdeal.Mix.mixAt
  simp only [← add_assoc]

end Cert.EvenMixRefIdeal.Mix

namespace Cert.Proof

open Idealize.ShloMosaic Idealize.SL.Sem Idealize.ShloMosaic.TcCoe

/-- Both programs' one result is `mixed` of the arguments. -/
theorem equal_EvenMix : Cert.algebraic_EvenMixIdeal_EvenMixRefIdeal := by
  intro m ρ m' ρ' _ hagree
  refine ⟨fun c => Cert.EvenMixIdeal.Mix.out m c, ?_, ?_⟩
  · exact (θ_run _ _ _).mono (fun _ h c => ⟨(h c).1.trans (Cert.EvenMixIdeal.Mix.final_out m c), (h c).2⟩)
      (Cert.EvenMixIdeal.Value.run_blocks m ρ)
  · refine (θ_run _ _ _).mono (fun _ h c => ⟨(h c).1.trans ?_, (h c).2⟩) (Cert.EvenMixRefIdeal.Value.run m' ρ')
    obtain ⟨h0, h1, h2, h3, h4, h5⟩ := hagree c
    rw [h0, h1, h2, h3, h4, h5]
    exact Cert.EvenMixRefIdeal.Mix.result_eq _ _ _ _ _ _

theorem frame_EvenMixRef : Cert.quiescent_EvenMixRefIdeal := fun m ρ _ =>
  (θ_run Cert.EvenMixRefIdeal.defs _ _).mono (fun r h => ⟨fun c => (h c).2, sem_eq_zero_of_no_sems (by decide) r.2⟩)
    (Cert.EvenMixRefIdeal.Value.run m ρ)

theorem frame_EvenMixIdeal : Cert.quiescent_EvenMixIdeal := fun m ρ _ => Cert.EvenMixIdeal.Gen.frame m ρ

/-- The two programs' bodies are one text. -/
theorem defs_EvenMix : Cert.EvenMix.defs (F := Bits) = Cert.EvenMixIdeal.defs (F := Bits) := by
  have h : Cert.EvenMix.defs₀ (F := Bits) = Cert.EvenMixIdeal.defs₀ (F := Bits) := by
    unfold Cert.EvenMix.defs₀ Cert.EvenMixIdeal.defs₀
    refine congrArg Defs.onTc ?_
    funext l x
    match l, x with
    | 0, (t, s) => rfl
    | ⟨n + 1, h⟩, _ => exact absurd h (Nat.not_lt.2 (Nat.le_add_left _ _))
  unfold Cert.EvenMix.defs Cert.EvenMixIdeal.defs
  exact congrArg _ h

theorem frame_EvenMix : Cert.quiescent_EvenMix := fun m ρ _ => by
  rw [defs_EvenMix]
  exact Cert.EvenMixIdeal.Gen.frame (F := Bits) m ρ

end Cert.Proof
-- ==== Proof.MemProj.lean ====
/-
  THE MEMORY'S PROJECTION: a normalised row of the memory times the weights, for the kernel in tiles of 128 columns and for the reference in one product.
-/
module

public import proofs.«01_k».proof.Proof.Gen.MemProj
public import proofs.«01_k».proof.Proof.Gen.MemProjIdeal.Value
public import proofs.«01_k».proof.Proof.Gen.MemProjRefIdeal.Run
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs

@[expose] public section

set_option maxRecDepth 16384

noncomputable section

namespace Cert.MemProjIdeal.Proj

open Cert.MemProjIdeal Cert.MemProjIdeal.Gen Cert.MemProjIdeal.Value Idealize.ShloMosaic Idealize.ShloMosaic.TcCoe Idealize.SL.Sem

/-- A row divided by its root mean square, scaled. -/
def rms (x : Fin 1024 → EReal) (g : Fin 1024 → EReal) (k : Fin 1024) : EReal :=
  x k * Ideal.rsqrt (Ideal.div (∑ l : Fin 1024, x l * x l) (Ideal.ofBits .f32 0x44800000#32) + Ideal.ofBits .f32 0x358637BD#32) * g k

theorem hz : (![0, 0] : Fin 2 → Nat) = fun _ => 0 := funext fun a => by fin_cases a <;> rfl

/-- One place of the product of the normalised rows with the weights. -/
theorem product_at (x0 : Vec Ideal S256x1024 .f32) (x1 : Vec Ideal S1x1024 .f32) (x2 : Vec Ideal S1024x512 .bf16) (r : Fin 256) (n : Fin 512) :
    k0_pay1 x0 x1 x2 (ix2 r n) = ∑ k : Fin 1024, rms (fun l => x0 (ix2 r l)) (fun l => x1 (ix2 0 l)) k * x2 (ix2 k n) := by
  unfold rms
  pointwise [k0_pay1]

/-- One place of the block that the body leaves. -/
theorem out_5_at (x0 : Vec Ideal S256x1024 .f32) (x1 : Vec Ideal S1x1024 .f32) (x2 : Vec Ideal S1024x512 .bf16) (x3 x4 : Vec Ideal S256x128 .f32)
    (r : Fin 256) (n : Fin 512) :
    out0_5 x0 x1 x2 x3 x4 (ix2 r n) = ∑ k : Fin 1024, rms (fun l => x0 (ix2 r l)) (fun l => x1 (ix2 0 l)) k * x2 (ix2 k n) := by
  unfold out0_5
  simp only [View.ld_unit_zero (S := S256x1024) hz, View.ld_unit_zero (S := S1024x512) hz, View.ld_unit_zero (S := S1x1024) hz]
  refine (canon5_eq x0 x1 x2 (ix2 r n)).trans ((congrArg (k0_pay1 x0 x1 x2) (funext fun a => ?_)).trans (product_at x0 x1 x2 r n))
  match a with
  | ⟨0, _⟩ => rfl
  | ⟨1, _⟩ => rfl

variable (m : (ℓ : Loc nD τ sig) → Buf (Elt Ideal) ℓ) (c : Dev nD)

/-- The weights, as the kernel is handed them. -/
abbrev weights : Vec Ideal S1024x512 .bf16 := V m c main_v19

theorem weights_eq (k : Fin 1024) (n : Fin 512) :
    weights m c (ix2 k n) = (m ((c : Thread nD τ).loc main_arg2) : Vec Ideal S1024x512 .f32) (ix2 k n) := by
  unfold weights V
  simp only [hostOps0, List.flatten_cons, List.flatten_nil, List.append_nil, List.cons_append, List.nil_append]
  after_reads_simp
  rfl

/-- The scales, as the kernel is handed them. -/
abbrev scales : Vec Ideal S1x1024 .f32 := V m c main_v22

theorem scales_eq (n : Fin 1024) : scales m c (ix2 0 n) = (m ((c : Thread nD τ).loc main_arg1) : Vec Ideal S1024 .f32) (ix1 n) := by
  have h : scales m c = shapeCast S1x1024 (m ((c : Thread nD τ).loc main_arg1) : Vec Ideal S1024 .f32) shapeCasts_S1024_S1x1024 := by
    unfold scales V
    simp only [hostOps0, List.flatten_cons, List.flatten_nil, List.append_nil, List.cons_append, List.nil_append]
    after_reads_simp
    rfl
  rw [h]
  pointwise []

theorem block_0 (t : Fin cfg0.N) : (iblk m c 0 t : Vec Ideal S256x1024 .f32) = m ((c : Thread nD τ).loc main_arg0) := by
  have hz' : (fun a => win0_0.index t a * main_arg0.ty.shape.size a) = fun _ => 0 := funext fun a => by fin_cases t; fin_cases a <;> rfl
  exact (Memref.read_access_unit_zero (Elt Ideal) main_arg0 hz' (fun a => by rw [congrFun hz' a]; simp) _).trans (V_main_arg0 m c)

theorem block_1 (t : Fin cfg0.N) : (iblk m c 1 t : Vec Ideal S1x1024 .f32) = scales m c := by
  have hz' : (fun a => win0_1.index t a * main_v22.ty.shape.size a) = fun _ => 0 := funext fun a => by fin_cases a <;> rfl
  exact Memref.read_access_unit_zero (Elt Ideal) main_v22 hz' (fun a => by rw [congrFun hz' a]; simp) _

theorem block_2 (t : Fin cfg0.N) : (iblk m c 2 t : Vec Ideal S1024x512 .bf16) = weights m c := by
  have hz' : (fun a => win0_2.index t a * main_v19.ty.shape.size a) = fun _ => 0 := funext fun a => by fin_cases a <;> rfl
  exact Memref.read_access_unit_zero (Elt Ideal) main_v19 hz' (fun a => by rw [congrFun hz' a]; simp) _

/-- The result array: each row normalised, times the weights. -/
def result (x : Vec Ideal S256x1024 .f32) (g : Vec Ideal S1024 .f32) (w : Vec Ideal S1024x512 .f32) : Vec Ideal S256x512 .f32 :=
  fun j => ∑ k : Fin 1024, rms (fun l => x (ix2 (j 0) l)) (fun l => g (ix1 l)) k * w (ix2 k (j 1))

/-- The same, from the arguments. -/
abbrev out : Vec Ideal S256x512 .f32 :=
  result (m ((c : Thread nD τ).loc main_arg0)) (m ((c : Thread nD τ).loc main_arg1)) (m ((c : Thread nD τ).loc main_arg2))

theorem block_5 (t : Fin cfg0.N) (r : Fin 256) (n : Fin 512) :
    out0_5 (iblk m c 0 t) (iblk m c 1 t) (iblk m c 2 t) (iblk m c 3 t) (iblk m c 4 t) (ix2 r n) = out m c (ix2 r n) := by
  rw [out_5_at, block_0, block_1, block_2]
  show _ = ∑ k : Fin 1024, rms (fun l => (m ((c : Thread nD τ).loc main_arg0) : Vec Ideal S256x1024 .f32) (ix2 r l))
    (fun l => (m ((c : Thread nD τ).loc main_arg1) : Vec Ideal S1024 .f32) (ix1 l)) k * (m ((c : Thread nD τ).loc main_arg2) : Vec Ideal S1024x512 .f32) (ix2 k n)
  rw [show (fun l => scales m c (ix2 0 l)) = (fun l => (m ((c : Thread nD τ).loc main_arg1) : Vec Ideal S1024 .f32) (ix1 l)) from funext (scales_eq m c)]
  exact Finset.sum_congr rfl fun k _ => congrArg _ (weights_eq m c k n)

theorem index_5 : ∀ t : Fin cfg0.N, win0_5.index t 0 = 0 ∧ win0_5.index t 1 = 0 :=
  (by decide +kernel : ∀ t : Fin grid0.N, win0_5.index t 0 = 0 ∧ win0_5.index t 1 = 0)

theorem flushed_5 (t : Fin cfg0.N) (hf : (cfg0.win 5).flush t = true) :
    (dats m 0 c).flushed 5 t = ((cfg0.win 5).blk t).view.read (Elt Ideal) (out m c) := by
  rw [flushed5]
  have hi := index_5 t
  funext j
  rw [View.read_apply]
  have h0 : (j 0).val < 256 := (j 0).isLt
  have h1 : (j 1).val < 512 := (j 1).isLt
  have he : (((cfg0.win 5).blk t).view.emb j : S256x512.Idx) = ix2 ⟨(j 0).val, h0⟩ ⟨(j 1).val, h1⟩ := by
    funext a
    apply Fin.ext
    match a with
    | ⟨0, _⟩ => show win0_5.index t 0 * 256 + 1 * (j 0).val = (j 0).val; rw [hi.1]; omega
    | ⟨1, _⟩ => show win0_5.index t 1 * 512 + 1 * (j 1).val = (j 1).val; rw [hi.2]; omega
  have hj : (j : S256x512.Idx) = ix2 ⟨(j 0).val, h0⟩ ⟨(j 1).val, h1⟩ := by
    funext a
    match a with
    | ⟨0, _⟩ => rfl
    | ⟨1, _⟩ => rfl
  show out0_5 (iblk m c 0 t) (iblk m c 1 t) (iblk m c 2 t) (iblk m c 3 t) (iblk m c 4 t) j = out m c (((cfg0.win 5).blk t).view.emb j)
  rw [he]
  exact (congrArg (out0_5 (iblk m c 0 t) (iblk m c 1 t) (iblk m c 2 t) (iblk m c 3 t) (iblk m c 4 t)) hj).trans <|
    block_5 m c t ⟨(j 0).val, h0⟩ ⟨(j 1).val, h1⟩

theorem final_5 : (dats m 0 c).arrAt 5 cfg0.N = out m c :=
  (dats m 0 c).arrAt_eq_of_cover 5 (out m c) (flushed_5 m c) fun i => by
    have h0 : (i 0 : Nat) < 256 := (i 0).isLt
    have h1 : (i 1 : Nat) < 512 := (i 1).isLt
    have hN : cfg0.N = 1 := N_0
    obtain ⟨t, -⟩ : ∃ t : Fin cfg0.N, t.val = 0 := ⟨⟨0, by omega⟩, rfl⟩
    refine ⟨t, flush0_5 _, ?_⟩
    show i ∈ ((View.whole main_v23).slice (win0_5.rect t)).set
    rw [View.set_slice_whole, Rect.mem_set_unit]
    have hi := index_5 t
    intro a
    match a with
    | ⟨0, _⟩ =>
      show win0_5.index _ 0 * 256 ≤ (i 0 : Nat) ∧ (i 0 : Nat) < win0_5.index _ 0 * 256 + 256
      rw [hi.1]; omega
    | ⟨1, _⟩ =>
      show win0_5.index _ 1 * 512 ≤ (i 1 : Nat) ∧ (i 1 : Nat) < win0_5.index _ 1 * 512 + 512
      rw [hi.2]; omega

end Cert.MemProjIdeal.Proj

namespace Cert.MemProjRefIdeal.Proj

open Cert.MemProjRefIdeal Cert.MemProjRefIdeal.Gen Idealize.ShloMosaic

/-- The reference's normalised rows. -/
def normed (x : Vec Ideal S256x1024 .f32) (g : Vec Ideal S1024 .f32) : Vec Ideal S256x1024 .f32 :=
  mulf (F := Ideal) (φ := .f32) (mulf x (broadcastInDim S256x1024 ![0, 1] bcast_S256x1_S256x1024_0_1 (Host.rsqrt (addf (Host.divf
    (broadcastInDim S256x1 ![0] bcast_S256_S256x1_0 (Host.reduceAdd (mulf x x) (constant S_ .f32 0x00000000#32) reducesTo_S256x1024_S256_d1 h_S_))
    (broadcastInDim S256x1 ![] bcast_S_S256x1 (constant S_ .f32 0x44800000#32)))
    (broadcastInDim S256x1 ![] bcast_S_S256x1 (constant S_ .f32 0x358637BD#32))))))
    (broadcastInDim S256x1024 ![0, 1] bcast_S1x1024_S256x1024_0_1 (broadcastInDim S1x1024 ![1] bcast_S1024_S1x1024_1 g))

theorem normed_at (x : Vec Ideal S256x1024 .f32) (g : Vec Ideal S1024 .f32) (p : Fin 256) (k : Fin 1024) :
    normed x g (ix2 p k) = Cert.MemProjIdeal.Proj.rms (fun l => x (ix2 p l)) (fun l => g (ix1 l)) k := by
  unfold Cert.MemProjIdeal.Proj.rms
  pointwise [normed]

/-- The reference's result. -/
def prod (x : Vec Ideal S256x1024 .f32) (g : Vec Ideal S1024 .f32) (w : Vec Ideal S1024x512 .f32) : Vec Ideal S256x512 .f32 :=
  Host.dotGeneral (F := Ideal) (φ₁ := .f32) (φ₂ := .f32) dot_S256x1024_S1024x512_S256x512_1_0_0_1_n_n none (normed x g) w

theorem prod_sum (x : Vec Ideal S256x1024 .f32) (g : Vec Ideal S1024 .f32) (w : Vec Ideal S1024x512 .f32) (p : Fin 256) (n : Fin 512) :
    prod x g w (ix2 p n) = ∑ k : Fin 1024, normed x g (ix2 p k) * w (ix2 k n) := by
  pointwise [prod]

theorem result_eq (x : Vec Ideal S256x1024 .f32) (g : Vec Ideal S1024 .f32) (w : Vec Ideal S1024x512 .f32) :
    prod x g w = Cert.MemProjIdeal.Proj.result x g w := by
  funext j
  obtain ⟨p, n, rfl⟩ : ∃ (p : Fin 256) (n : Fin 512), j = ix2 p n :=
    ⟨j 0, j 1, funext fun a => by match a with | ⟨0, _⟩ => rfl | ⟨1, _⟩ => rfl⟩
  rw [prod_sum]
  exact Finset.sum_congr rfl fun k _ => congrArg (· * _) (normed_at x g p k)

end Cert.MemProjRefIdeal.Proj

namespace Cert.Proof

open Idealize.ShloMosaic Idealize.SL.Sem Idealize.ShloMosaic.TcCoe

/-- Both programs' result is the normalised rows times the weights. -/
theorem equal_MemProj : Cert.algebraic_MemProjIdeal_MemProjRefIdeal := by
  intro m ρ m' ρ' _ hagree
  refine ⟨fun c => Cert.MemProjIdeal.Proj.out m c, ?_, ?_⟩
  · exact (θ_run _ _ _).mono (fun _ h c => ⟨(h c).1.trans (Cert.MemProjIdeal.Proj.final_5 m c), (h c).2⟩) (Cert.MemProjIdeal.Value.run_blocks m ρ)
  · refine (θ_run _ _ _).mono (fun _ h c => ⟨(h c).1.trans ?_, (h c).2⟩) (Cert.MemProjRefIdeal.Value.run m' ρ')
    obtain ⟨h0, h1, h2⟩ := hagree c
    rw [h0, h1, h2]
    exact Cert.MemProjRefIdeal.Proj.result_eq _ _ _

theorem frame_MemProjRef : Cert.quiescent_MemProjRefIdeal := fun m ρ _ =>
  (θ_run Cert.MemProjRefIdeal.defs _ _).mono (fun r h => ⟨fun c => (h c).2, sem_eq_zero_of_no_sems (by decide) r.2⟩)
    (Cert.MemProjRefIdeal.Value.run m ρ)

theorem frame_MemProjIdeal : Cert.quiescent_MemProjIdeal := fun m ρ _ => Cert.MemProjIdeal.Gen.frame m ρ

/-- The two programs' bodies are one text. -/
theorem defs_MemProj : Cert.MemProj.defs (F := Bits) = Cert.MemProjIdeal.defs (F := Bits) := by
  have h : Cert.MemProj.defs₀ (F := Bits) = Cert.MemProjIdeal.defs₀ (F := Bits) := by
    unfold Cert.MemProj.defs₀ Cert.MemProjIdeal.defs₀
    refine congrArg Defs.onTc ?_
    funext l x
    match l, x with
    | 0, (t, s) => rfl
    | ⟨n + 1, h⟩, _ => exact absurd h (Nat.not_lt.2 (Nat.le_add_left _ _))
  unfold Cert.MemProj.defs Cert.MemProjIdeal.defs
  exact congrArg _ h

theorem frame_MemProj : Cert.quiescent_MemProj := fun m ρ _ => by
  rw [defs_MemProj]
  exact Cert.MemProjIdeal.Gen.frame (F := Bits) m ρ

end Cert.Proof
-- ==== Proof.RetStep.lean ====
/-
  ONE STEP OF THE RETENTION: for each sequence and head the state decays and takes the outer product of the key and the value, and the query
  reads it. The kernel forms the new state and sums its rows against the query; the reference reads the old state and adds the score of the
  new key times the value. Both then bring the result to mean nought and variance one.
-/
module

public import proofs.«01_k».proof.Proof.Gen.RetStep
public import proofs.«01_k».proof.Proof.Gen.RetStepIdeal.Value
public import proofs.«01_k».proof.Proof.Gen.RetStepRefIdeal.Run
public import proofs.«01_k».proof.Proof.Finite
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs

@[expose] public section

set_option maxRecDepth 16384

noncomputable section

namespace Cert.RetStepIdeal.Step

open Cert.RetStepIdeal Cert.RetStepIdeal.Gen Cert.RetStepIdeal.Value Idealize.ShloMosaic Idealize.ShloMosaic.TcCoe Idealize.SL.Sem

/-- The scale of the keys, one eighth. -/
def e8 : EReal := Ideal.ofBits .f32 0x3E000000#32

/-- A head's decay, one less two to the power of minus five and minus the head's number. -/
def word : Fin 6 → BitVec 32 :=
  ![0x3F780000#32, 0x3F7C0000#32, 0x3F7E0000#32, 0x3F7F0000#32, 0x3F7F8000#32, 0x3F7FC000#32]

def decay (h : Fin 6) : EReal := Ideal.ofBits .f32 (word h)

/-- A row less its mean. -/
def centred (o : Fin 64 → EReal) (e : Fin 64) : EReal := o e - Ideal.div (∑ i : Fin 64, o i) (Ideal.ofBits .f32 0x42800000#32)

/-- A row at mean nought and variance one. -/
def normed (o : Fin 64 → EReal) (e : Fin 64) : EReal :=
  centred o e * Ideal.rsqrt (Ideal.div (∑ i : Fin 64, centred o i * centred o i) (Ideal.ofBits .f32 0x42800000#32) + Ideal.ofBits .f32 0x358637BD#32)

theorem hz : (![0, 0] : Fin 2 → Nat) = fun _ => 0 := funext fun a => by fin_cases a <;> rfl

/-! ## The kernel's block -/

theorem state_at (s k g v : Vec Ideal S3072x64 .f32) (r : Fin 3072) (e : Fin 64) :
    k0_pay4 s k g v (ix2 r e) = g (ix2 r e) * s (ix2 r e) + k (ix2 r e) * e8 * v (ix2 r e) := by
  unfold e8
  pointwise [k0_pay4, k0_pay3, k0_pay2, k0_pay1]

/-- The query's sum over a head's rows, before the norm. -/
def summed (s k g v q : Vec Ideal S3072x64 .f32) (r : Fin 48) (e : Fin 64) : EReal :=
  ∑ d : Fin 64, q (ix2 (⟨r.val * 64 + d.val, by omega⟩ : Fin 3072) e)
    * (k (ix2 (⟨r.val * 64 + d.val, by omega⟩ : Fin 3072) e) * e8 * v (ix2 (⟨r.val * 64 + d.val, by omega⟩ : Fin 3072) e)
      + g (ix2 (⟨r.val * 64 + d.val, by omega⟩ : Fin 3072) e) * s (ix2 (⟨r.val * 64 + d.val, by omega⟩ : Fin 3072) e))

theorem out_at (s k g v q : Vec Ideal S3072x64 .f32) (r : Fin 48) (e : Fin 64) :
    k0_pay5 s k g v q (ix2 r e) = normed (summed s k g v q r) e := by
  unfold normed centred summed e8
  pointwise [k0_pay5, k0_pay3, k0_pay2, k0_pay1]

/-! ## The columns that the host lays out -/

variable (m : (ℓ : Loc nD τ sig) → Buf (Elt Ideal) ℓ) (c : Dev nD)

abbrev state : Vec Ideal S32x6x64x64 .f32 := m ((c : Thread nD τ).loc main_arg0)
abbrev query : Vec Ideal S32x384 .f32 := m ((c : Thread nD τ).loc main_arg1)
abbrev key : Vec Ideal S32x384 .f32 := m ((c : Thread nD τ).loc main_arg2)
abbrev val : Vec Ideal S32x384 .f32 := m ((c : Thread nD τ).loc main_arg3)

/-- The sequence of a row of the state, its head, and its place in the head. -/
def seqOf (r : Fin 12288) : Fin 32 := ⟨r.val / 384, by omega⟩
def headOf (r : Fin 12288) : Fin 6 := ⟨r.val / 64 % 6, by omega⟩
def inHead (r : Fin 12288) : Fin 64 := ⟨r.val % 64, by omega⟩

/-- Lane `d` of head `h`. -/
def lane (h : Fin 6) (d : Fin 64) : Fin 384 := ⟨h.val * 64 + d.val, by omega⟩

theorem state_col (r : Fin 12288) (e : Fin 64) :
    (V m c main_v4 : Vec Ideal S12288x64 .f32) (ix2 r e) = state m c (ix4 (seqOf r) (headOf r) (inHead r) e) := by
  have h : (V m c main_v4 : Vec Ideal S12288x64 .f32) = shapeCast S12288x64 (state m c) shapeCasts_S32x6x64x64_S12288x64 := by
    show (V m c _) = _; unfold V
    simp only [hostOps0, List.flatten_cons, List.flatten_nil, List.append_nil, List.cons_append, List.nil_append]
    after_reads_simp
    rfl
  rw [h]
  unfold seqOf headOf inHead
  pointwise

theorem query_col (r : Fin 12288) (e : Fin 64) :
    (V m c main_v7 : Vec Ideal S12288x64 .f32) (ix2 r e) = query m c (ix2 (seqOf r) (lane (headOf r) (inHead r))) := by
  have h : (V m c main_v7 : Vec Ideal S12288x64 .f32) = shapeCast S12288x64 (broadcastInDim S32x6x64x64 ![0, 1, 2, 3] bcast_S32x6x64x1_S32x6x64x64_0_1_2_3
      (shapeCast S32x6x64x1 (query m c) shapeCasts_S32x384_S32x6x64x1)) shapeCasts_S32x6x64x64_S12288x64 := by
    show (V m c _) = _; unfold V
    simp only [hostOps0, List.flatten_cons, List.flatten_nil, List.append_nil, List.cons_append, List.nil_append]
    after_reads_simp
    rfl
  rw [h]
  unfold seqOf headOf inHead lane
  pointwise

theorem key_col (r : Fin 12288) (e : Fin 64) :
    (V m c main_v10 : Vec Ideal S12288x64 .f32) (ix2 r e) = key m c (ix2 (seqOf r) (lane (headOf r) (inHead r))) := by
  have h : (V m c main_v10 : Vec Ideal S12288x64 .f32) = shapeCast S12288x64 (broadcastInDim S32x6x64x64 ![0, 1, 2, 3] bcast_S32x6x64x1_S32x6x64x64_0_1_2_3
      (shapeCast S32x6x64x1 (key m c) shapeCasts_S32x384_S32x6x64x1)) shapeCasts_S32x6x64x64_S12288x64 := by
    show (V m c _) = _; unfold V
    simp only [hostOps0, List.flatten_cons, List.flatten_nil, List.append_nil, List.cons_append, List.nil_append]
    after_reads_simp
    rfl
  rw [h]
  unfold seqOf headOf inHead lane
  pointwise

theorem val_col (r : Fin 12288) (e : Fin 64) :
    (V m c main_v3 : Vec Ideal S12288x64 .f32) (ix2 r e) = val m c (ix2 (seqOf r) (lane (headOf r) e)) := by
  have h : (V m c main_v3 : Vec Ideal S12288x64 .f32) = shapeCast S12288x64 (broadcastInDim S32x6x64x64 ![0, 1, 2, 3] bcast_S32x6x1x64_S32x6x64x64_0_1_2_3
      (shapeCast S32x6x1x64 (val m c) shapeCasts_S32x384_S32x6x1x64)) shapeCasts_S32x6x64x64_S12288x64 := by
    show (V m c _) = _; unfold V
    simp only [hostOps0, List.flatten_cons, List.flatten_nil, List.append_nil, List.cons_append, List.nil_append]
    after_reads_simp
    rfl
  rw [h]
  unfold seqOf headOf lane
  pointwise

theorem words : ∀ h : Fin 6, ∀ d : Fin 64, lit0 (lane h d) = word h := by decide +kernel

theorem decay_col (r : Fin 12288) (e : Fin 64) :
    (V m c main_v13 : Vec Ideal S12288x64 .f32) (ix2 r e) = decay (headOf r) := by
  let g : Vec Ideal S384 .f32 := fun i => FloatOps.ofBits (F := Ideal) .f32 (lit0 (S384.rowMajor i))
  have h : (V m c main_v13 : Vec Ideal S12288x64 .f32) = shapeCast S12288x64 (broadcastInDim S32x6x64x64 ![0, 1, 2, 3] bcast_S32x6x64x1_S32x6x64x64_0_1_2_3
      (shapeCast S32x6x64x1 (broadcastInDim S32x384 ![1] bcast_S384_S32x384_1 g) shapeCasts_S32x384_S32x6x64x1)) shapeCasts_S32x6x64x64_S12288x64 := by
    show (V m c _) = _; unfold V
    simp only [hostOps0, List.flatten_cons, List.flatten_nil, List.append_nil, List.cons_append, List.nil_append]
    after_reads_simp
    rfl
  have hg : ∀ l : Fin 384, g (ix1 l) = Ideal.ofBits .f32 (lit0 l) := fun l =>
    congrArg (fun i => Ideal.ofBits .f32 (lit0 i)) (Fin.ext (Shape.rowMajor_val_one _))
  have hl : (V m c main_v13 : Vec Ideal S12288x64 .f32) (ix2 r e) = g (ix1 (lane (headOf r) (inHead r))) := by
    rw [h]
    clear_value g
    unfold headOf inHead lane
    pointwise
  rw [hl, hg, words]
  rfl

/-! ## The results -/

section results

variable (s : Vec Ideal S32x6x64x64 .f32) (q k v : Vec Ideal S32x384 .f32)

/-- The new state at one place: the old one decayed, and the key times the value. -/
def step (b : Fin 32) (h : Fin 6) (d e : Fin 64) : EReal :=
  decay h * s (ix4 b h d e) + k (ix2 b (lane h d)) * e8 * v (ix2 b (lane h e))

/-- What the query reads from the new state. -/
def read (b : Fin 32) (h : Fin 6) (e : Fin 64) : EReal :=
  ∑ d : Fin 64, q (ix2 b (lane h d)) * (k (ix2 b (lane h d)) * e8 * v (ix2 b (lane h e)) + decay h * s (ix4 b h d e))

/-- The result array: a row for each sequence and head. -/
def result : Vec Ideal S192x64 .f32 := fun j =>
  normed (read s q k v ⟨(j 0).val / 6, by have : (j 0).val < 192 := (j 0).isLt; omega⟩ ⟨(j 0).val % 6, by omega⟩) (j 1)

/-- The state's array: a row for each sequence, head and lane of the key. -/
def newState : Vec Ideal S12288x64 .f32 := fun j => step s k v (seqOf (j 0)) (headOf (j 0)) (inHead (j 0)) (j 1)

end results

/-- Row `r` of a grid point's block of the columns, as a row of the array. -/
def row (t : Fin cfg0.N) (r : Fin 3072) : Fin 12288 := ⟨t.val * 3072 + r.val, by have := t.isLt; have hN : cfg0.N = 4 := N_0; omega⟩

/-- Row `r` of a grid point's block of the result. -/
def rowO (t : Fin cfg0.N) (r : Fin 48) : Fin 192 := ⟨t.val * 48 + r.val, by have := t.isLt; have hN : cfg0.N = 4 := N_0; omega⟩

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 3072) (e : Fin 64) :
    (iblk m c 0 t : Vec Ideal S3072x64 .f32) (ix2 r e) = (V m c main_v4 : Vec Ideal S12288x64 .f32) (ix2 (row t r) e) := by
  have hi := index_0 t
  unfold iblk
  rw [View.read_apply]
  show V m c main_v4 _ = V m c main_v4 _
  congr 1
  funext a
  apply Fin.ext
  match a with
  | ⟨0, _⟩ => show win0_0.index t 0 * 3072 + 1 * r.val = t.val * 3072 + r.val; rw [hi.1]; omega
  | ⟨1, _⟩ => show win0_0.index t 1 * 64 + 1 * e.val = e.val; rw [hi.2]; omega

theorem index_1 : ∀ t : Fin cfg0.N, win0_1.index t 0 = t.val ∧ win0_1.index t 1 = 0 :=
  (by decide +kernel : ∀ t : Fin grid0.N, win0_1.index t 0 = t.val ∧ win0_1.index t 1 = 0)

theorem block_1 (t : Fin cfg0.N) (r : Fin 3072) (e : Fin 64) :
    (iblk m c 1 t : Vec Ideal S3072x64 .f32) (ix2 r e) = (V m c main_v7 : Vec Ideal S12288x64 .f32) (ix2 (row t r) e) := by
  have hi := index_1 t
  unfold iblk
  rw [View.read_apply]
  show V m c main_v7 _ = V m c main_v7 _
  congr 1
  funext a
  apply Fin.ext
  match a with
  | ⟨0, _⟩ => show win0_1.index t 0 * 3072 + 1 * r.val = t.val * 3072 + r.val; rw [hi.1]; omega
  | ⟨1, _⟩ => show win0_1.index t 1 * 64 + 1 * e.val = e.val; rw [hi.2]; omega

theorem index_2 : ∀ t : Fin cfg0.N, win0_2.index t 0 = t.val ∧ win0_2.index t 1 = 0 :=
  (by decide +kernel : ∀ t : Fin grid0.N, win0_2.index t 0 = t.val ∧ win0_2.index t 1 = 0)

theorem block_2 (t : Fin cfg0.N) (r : Fin 3072) (e : Fin 64) :
    (iblk m c 2 t : Vec Ideal S3072x64 .f32) (ix2 r e) = (V m c main_v10 : Vec Ideal S12288x64 .f32) (ix2 (row t r) e) := by
  have hi := index_2 t
  unfold iblk
  rw [View.read_apply]
  show V m c main_v10 _ = V m c main_v10 _
  congr 1
  funext a
  apply Fin.ext
  match a with
  | ⟨0, _⟩ => show win0_2.index t 0 * 3072 + 1 * r.val = t.val * 3072 + r.val; rw [hi.1]; omega
  | ⟨1, _⟩ => show win0_2.index t 1 * 64 + 1 * e.val = e.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 3072) (e : Fin 64) :
    (iblk m c 3 t : Vec Ideal S3072x64 .f32) (ix2 r e) = (V m c main_v13 : Vec Ideal S12288x64 .f32) (ix2 (row t r) e) := by
  have hi := index_3 t
  unfold iblk
  rw [View.read_apply]
  show V m c main_v13 _ = V m c main_v13 _
  congr 1
  funext a
  apply Fin.ext
  match a with
  | ⟨0, _⟩ => show win0_3.index t 0 * 3072 + 1 * r.val = t.val * 3072 + r.val; rw [hi.1]; omega
  | ⟨1, _⟩ => show win0_3.index t 1 * 64 + 1 * e.val = e.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 3072) (e : Fin 64) :
    (iblk m c 4 t : Vec Ideal S3072x64 .f32) (ix2 r e) = (V m c main_v3 : Vec Ideal S12288x64 .f32) (ix2 (row t r) e) := by
  have hi := index_4 t
  unfold iblk
  rw [View.read_apply]
  show V m c main_v3 _ = V m c main_v3 _
  congr 1
  funext a
  apply Fin.ext
  match a with
  | ⟨0, _⟩ => show win0_4.index t 0 * 3072 + 1 * r.val = t.val * 3072 + r.val; rw [hi.1]; omega
  | ⟨1, _⟩ => show win0_4.index t 1 * 64 + 1 * e.val = e.val; rw [hi.2]; omega

/-- The first result, from the arguments. -/
abbrev out : Vec Ideal S192x64 .f32 := result (state m c) (query m c) (key m c) (val m c)

/-- The second one. -/
abbrev st : Vec Ideal S12288x64 .f32 := newState (state m c) (key m c) (val m c)

theorem block_6 (t : Fin cfg0.N) (r : Fin 3072) (e : Fin 64) :
    out0_6 (iblk m c 0 t) (iblk m c 1 t) (iblk m c 2 t) (iblk m c 3 t) (iblk m c 4 t) (ix2 r e) = st m c (ix2 (row t r) e) := by
  unfold out0_6
  rw [View.canon_unit_zero hz]
  simp only [View.ld_unit_zero (S := S3072x64) hz]
  rw [state_at, block_3, block_0, block_2, block_4, decay_col, state_col, key_col, val_col]
  rfl

theorem seq_row (t : Fin cfg0.N) (r : Fin 48) (d : Fin 64) :
    seqOf (row t ⟨r.val * 64 + d.val, by omega⟩) = ⟨(rowO t r).val / 6, by have := (rowO t r).isLt; omega⟩ :=
  Fin.ext (by show (t.val * 3072 + (r.val * 64 + d.val)) / 384 = (t.val * 48 + r.val) / 6; omega)

theorem head_row (t : Fin cfg0.N) (r : Fin 48) (d : Fin 64) :
    headOf (row t ⟨r.val * 64 + d.val, by omega⟩) = ⟨(rowO t r).val % 6, by omega⟩ :=
  Fin.ext (by show (t.val * 3072 + (r.val * 64 + d.val)) / 64 % 6 = (t.val * 48 + r.val) % 6; omega)

theorem place_row (t : Fin cfg0.N) (r : Fin 48) (d : Fin 64) : inHead (row t ⟨r.val * 64 + d.val, by omega⟩) = d :=
  Fin.ext (by show (t.val * 3072 + (r.val * 64 + d.val)) % 64 = d.val; omega)

theorem block_5 (t : Fin cfg0.N) (r : Fin 48) (e : Fin 64) :
    out0_5 (iblk m c 0 t) (iblk m c 1 t) (iblk m c 2 t) (iblk m c 3 t) (iblk m c 4 t) (ix2 r e) = out m c (ix2 (rowO t r) e) := by
  unfold out0_5
  rw [View.canon_unit_zero hz]
  simp only [View.ld_unit_zero (S := S3072x64) hz]
  rw [out_at]
  refine congrArg (fun f => normed f e) (funext fun e' => ?_)
  refine Finset.sum_congr rfl fun d _ => ?_
  rw [block_0, block_1, block_2, block_3, block_4, decay_col, state_col, query_col, key_col, val_col, seq_row, head_row, place_row]
  rfl

theorem index_5 : ∀ t : Fin cfg0.N, win0_5.index t 0 = t.val ∧ win0_5.index t 1 = 0 :=
  (by decide +kernel : ∀ t : Fin grid0.N, win0_5.index t 0 = t.val ∧ win0_5.index t 1 = 0)

theorem flushed_5 (t : Fin cfg0.N) (hf : (cfg0.win 5).flush t = true) :
    (dats m 0 c).flushed 5 t = ((cfg0.win 5).blk t).view.read (Elt Ideal) (out m c) := by
  rw [flushed5]
  have hi := index_5 t
  funext j
  rw [View.read_apply]
  have h0 : (j 0).val < 48 := (j 0).isLt
  have h1 : (j 1).val < 64 := (j 1).isLt
  have he : (((cfg0.win 5).blk t).view.emb j : S192x64.Idx) = ix2 (rowO t ⟨(j 0).val, h0⟩) ⟨(j 1).val, h1⟩ := by
    funext a
    apply Fin.ext
    match a with
    | ⟨0, _⟩ => show win0_5.index t 0 * 48 + 1 * (j 0).val = t.val * 48 + (j 0).val; rw [hi.1]; omega
    | ⟨1, _⟩ => show win0_5.index t 1 * 64 + 1 * (j 1).val = (j 1).val; rw [hi.2]; omega
  have hj : (j : S48x64.Idx) = ix2 ⟨(j 0).val, h0⟩ ⟨(j 1).val, h1⟩ := by
    funext a
    match a with
    | ⟨0, _⟩ => rfl
    | ⟨1, _⟩ => rfl
  show out0_5 (iblk m c 0 t) (iblk m c 1 t) (iblk m c 2 t) (iblk m c 3 t) (iblk m c 4 t) j = out m c (((cfg0.win 5).blk t).view.emb j)
  rw [he]
  exact (congrArg (out0_5 (iblk m c 0 t) (iblk m c 1 t) (iblk m c 2 t) (iblk m c 3 t) (iblk m c 4 t)) hj).trans <| block_5 m c t ⟨(j 0).val, h0⟩ ⟨(j 1).val, h1⟩

theorem final_5 : (dats m 0 c).arrAt 5 cfg0.N = out m c :=
  (dats m 0 c).arrAt_eq_of_cover 5 (out m c) (flushed_5 m c) fun i => by
    have h0 : (i 0 : Nat) < 192 := (i 0).isLt
    have h1 : (i 1 : Nat) < 64 := (i 1).isLt
    have hN : cfg0.N = 4 := N_0
    obtain ⟨t, ht⟩ : ∃ t : Fin cfg0.N, t.val = (i 0 : Nat) / 48 := ⟨⟨(i 0 : Nat) / 48, by omega⟩, rfl⟩
    refine ⟨t, flush0_5 _, ?_⟩
    show i ∈ ((View.whole main_v14_0).slice (win0_5.rect t)).set
    rw [View.set_slice_whole, Rect.mem_set_unit]
    have hi := index_5 t
    intro a
    match a with
    | ⟨0, _⟩ =>
      show win0_5.index _ 0 * 48 ≤ (i 0 : Nat) ∧ (i 0 : Nat) < win0_5.index _ 0 * 48 + 48
      rw [hi.1, ht]; omega
    | ⟨1, _⟩ =>
      show win0_5.index _ 1 * 64 ≤ (i 1 : Nat) ∧ (i 1 : Nat) < win0_5.index _ 1 * 64 + 64
      rw [hi.2]; omega

theorem index_6 : ∀ t : Fin cfg0.N, win0_6.index t 0 = t.val ∧ win0_6.index t 1 = 0 :=
  (by decide +kernel : ∀ t : Fin grid0.N, win0_6.index t 0 = t.val ∧ win0_6.index t 1 = 0)

theorem flushed_6 (t : Fin cfg0.N) (hf : (cfg0.win 6).flush t = true) :
    (dats m 0 c).flushed 6 t = ((cfg0.win 6).blk t).view.read (Elt Ideal) (st m c) := by
  rw [flushed6]
  have hi := index_6 t
  funext j
  rw [View.read_apply]
  have h0 : (j 0).val < 3072 := (j 0).isLt
  have h1 : (j 1).val < 64 := (j 1).isLt
  have he : (((cfg0.win 6).blk t).view.emb j : S12288x64.Idx) = ix2 (row t ⟨(j 0).val, h0⟩) ⟨(j 1).val, h1⟩ := by
    funext a
    apply Fin.ext
    match a with
    | ⟨0, _⟩ => show win0_6.index t 0 * 3072 + 1 * (j 0).val = t.val * 3072 + (j 0).val; rw [hi.1]; omega
    | ⟨1, _⟩ => show win0_6.index t 1 * 64 + 1 * (j 1).val = (j 1).val; rw [hi.2]; omega
  have hj : (j : S3072x64.Idx) = ix2 ⟨(j 0).val, h0⟩ ⟨(j 1).val, h1⟩ := by
    funext a
    match a with
    | ⟨0, _⟩ => rfl
    | ⟨1, _⟩ => rfl
  show out0_6 (iblk m c 0 t) (iblk m c 1 t) (iblk m c 2 t) (iblk m c 3 t) (iblk m c 4 t) j = st m c (((cfg0.win 6).blk t).view.emb j)
  rw [he]
  exact (congrArg (out0_6 (iblk m c 0 t) (iblk m c 1 t) (iblk m c 2 t) (iblk m c 3 t) (iblk m c 4 t)) hj).trans <| block_6 m c t ⟨(j 0).val, h0⟩ ⟨(j 1).val, h1⟩

theorem final_6 : (dats m 0 c).arrAt 6 cfg0.N = st m c :=
  (dats m 0 c).arrAt_eq_of_cover 6 (st m c) (flushed_6 m c) fun i => by
    have h0 : (i 0 : Nat) < 12288 := (i 0).isLt
    have h1 : (i 1 : Nat) < 64 := (i 1).isLt
    have hN : cfg0.N = 4 := N_0
    obtain ⟨t, ht⟩ : ∃ t : Fin cfg0.N, t.val = (i 0 : Nat) / 3072 := ⟨⟨(i 0 : Nat) / 3072, by omega⟩, rfl⟩
    refine ⟨t, flush0_6 _, ?_⟩
    show i ∈ ((View.whole main_v14_1).slice (win0_6.rect t)).set
    rw [View.set_slice_whole, Rect.mem_set_unit]
    have hi := index_6 t
    intro a
    match a with
    | ⟨0, _⟩ =>
      show win0_6.index _ 0 * 3072 ≤ (i 0 : Nat) ∧ (i 0 : Nat) < win0_6.index _ 0 * 3072 + 3072
      rw [hi.1, ht]; omega
    | ⟨1, _⟩ =>
      show win0_6.index _ 1 * 64 ≤ (i 1 : Nat) ∧ (i 1 : Nat) < win0_6.index _ 1 * 64 + 64
      rw [hi.2]; omega

end Cert.RetStepIdeal.Step

namespace Cert.RetStepRefIdeal.Step

open Cert.RetStepRefIdeal Cert.RetStepRefIdeal.Gen Idealize.ShloMosaic
open Cert.ReferenceIdeal.Ret (IsReal)
open Cert.RetStepIdeal.Step (e8 word decay centred normed lane seqOf headOf inHead)

/-! ## The reference -/

/-- The heads' decays, as the exponential of their logarithm. -/
def decays : Vec Ideal S6 .f32 :=
  Host.exp (F := Ideal) (φ := .f32) (Host.log (F := Ideal) (φ := .f32) (subf (F := Ideal) (φ := .f32) (broadcastInDim S6 ![] bcast_S_S6 (constant (F := Ideal) S_ .f32 0x3F800000#32))
    (Host.powf (F := Ideal) (φ := .f32) (broadcastInDim S6 ![] bcast_S_S6 (constant (F := Ideal) S_ .f32 0x40000000#32))
      (subf (F := Ideal) (φ := .f32) (broadcastInDim S6 ![] bcast_S_S6 (constant (F := Ideal) S_ .f32 0xC0A00000#32)) (sitofp .f32 (iotaInDim S6 32 0))))))

/-- The keys by heads, scaled. -/
def keys (k : Vec Ideal S32x384 .f32) : Vec Ideal S32x6x64 .f32 :=
  mulf (F := Ideal) (φ := .f32) (shapeCast _ k shapeCasts_S32x384_S32x6x64) (broadcastInDim S32x6x64 ![] bcast_S_S32x6x64 (constant (F := Ideal) S_ .f32 0x3E000000#32))

/-- What the query reads: the new key's score times the value, and the decayed state. -/
def reads (s : Vec Ideal S32x6x64x64 .f32) (q k v : Vec Ideal S32x384 .f32) : Vec Ideal S32x6x64 .f32 :=
  addf (F := Ideal) (φ := .f32) (mulf (broadcastInDim S32x6x64 ![0, 1, 2] bcast_S32x6x1_S32x6x64_0_1_2 (broadcastInDim S32x6x1 ![0, 1] bcast_S32x6_S32x6x1_0_1
      (Host.dotGeneral (F := Ideal) (φ₁ := .f32) (φ₂ := .f32) dot_S32x6x64_S32x6x64_S32x6_2_2_n_n_01_01 none (shapeCast _ q shapeCasts_S32x384_S32x6x64) (keys k))))
      (shapeCast _ v shapeCasts_S32x384_S32x6x64))
    (mulf (Host.dotGeneral (F := Ideal) (φ₁ := .f32) (φ₂ := .f32) dot_S32x6x64_S32x6x64x64_S32x6x64_2_2_n_3_01_01 none (shapeCast _ q shapeCasts_S32x384_S32x6x64) s)
      (broadcastInDim S32x6x64 ![0, 1, 2] bcast_S1x6x1_S32x6x64_0_1_2 (broadcastInDim S1x6x1 ![1] bcast_S6_S1x6x1_1 decays)))

/-- Rows less their means. -/
def lessMean (o : Vec Ideal S32x6x64 .f32) : Vec Ideal S32x6x64 .f32 :=
  subf (F := Ideal) (φ := .f32) o (broadcastInDim S32x6x64 ![0, 1, 2] bcast_S32x6x1_S32x6x64_0_1_2 (Host.divf (F := Ideal) (φ := .f32) (broadcastInDim S32x6x1 ![0, 1] bcast_S32x6_S32x6x1_0_1
    (Host.reduceAdd (F := Ideal) (φ := .f32) o (constant (F := Ideal) S_ .f32 0x00000000#32) reducesTo_S32x6x64_S32x6_d2 h_S_)) (broadcastInDim S32x6x1 ![] bcast_S_S32x6x1 (constant (F := Ideal) S_ .f32 0x42800000#32))))

/-- Rows divided by their root mean square, laid out below one another. -/
def laid (x : Vec Ideal S32x6x64 .f32) : Vec Ideal S192x64 .f32 :=
  shapeCast _ (mulf (F := Ideal) (φ := .f32) x (broadcastInDim S32x6x64 ![0, 1, 2] bcast_S32x6x1_S32x6x64_0_1_2 (Host.rsqrt (F := Ideal) (φ := .f32) (addf (Host.divf (F := Ideal) (φ := .f32)
    (broadcastInDim S32x6x1 ![0, 1] bcast_S32x6_S32x6x1_0_1 (Host.reduceAdd (F := Ideal) (φ := .f32) (mulf x x) (constant (F := Ideal) S_ .f32 0x00000000#32) reducesTo_S32x6x64_S32x6_d2 h_S_))
    (broadcastInDim S32x6x1 ![] bcast_S_S32x6x1 (constant (F := Ideal) S_ .f32 0x42800000#32))) (broadcastInDim S32x6x1 ![] bcast_S_S32x6x1 (constant (F := Ideal) S_ .f32 0x358637BD#32)))))) shapeCasts_S32x6x64_S192x64

/-- The new state, laid out likewise. -/
def states (s : Vec Ideal S32x6x64x64 .f32) (k v : Vec Ideal S32x384 .f32) : Vec Ideal S12288x64 .f32 :=
  shapeCast _ (addf (F := Ideal) (φ := .f32) (mulf s (broadcastInDim S32x6x64x64 ![0, 1, 2, 3] bcast_S1x6x1x1_S32x6x64x64_0_1_2_3 (broadcastInDim S1x6x1x1 ![1] bcast_S6_S1x6x1x1_1 decays)))
    (mulf (broadcastInDim S32x6x64x64 ![0, 1, 2, 3] bcast_S32x6x64x1_S32x6x64x64_0_1_2_3 (broadcastInDim S32x6x64x1 ![0, 1, 2] bcast_S32x6x64_S32x6x64x1_0_1_2 (keys k)))
      (broadcastInDim S32x6x64x64 ![0, 1, 2, 3] bcast_S32x6x1x64_S32x6x64x64_0_1_2_3 (broadcastInDim S32x6x1x64 ![0, 1, 3] bcast_S32x6x64_S32x6x1x64_0_1_3
        (shapeCast _ v shapeCasts_S32x384_S32x6x64))))) shapeCasts_S32x6x64x64_S12288x64

/-- The exponential undoes the logarithm of a positive number. -/
theorem exp_log (x : ℝ) (hx : 0 < x) : Ideal.exp (Ideal.log (x : EReal)) = (x : EReal) := by
  have hl : Ideal.log (x : EReal) = ((Real.log x : ℝ) : EReal) := by
    show (if x ≤ 0 then ⊥ else ((Real.log x : ℝ) : EReal)) = _
    rw [if_neg (not_le.mpr hx)]
  rw [hl]
  show ((Real.exp (Real.log x) : ℝ) : EReal) = _
  rw [Real.exp_log hx]

/-- A head's decay as a real number. -/
theorem decay_eq (h : Fin 6) : decay h = ((1 - ((2 : ℝ) ^ (5 + h.val))⁻¹ : ℝ) : EReal) := by
  unfold decay word
  fin_cases h <;> (simp [Ideal.ofBits, Ideal.ieee]; norm_num [← EReal.coe_mul]; rw [← EReal.coe_one, ← EReal.coe_sub]; norm_num)

theorem decays_at (h : Fin 6) : decays (ix1 h) = decay h := by
  have hx : FloatOps.sitofp (F := Ideal) FTy.f32 (BitVec.ofNat 32 h.val) = ((h.val : ℝ) : EReal) := by
    have : (BitVec.ofNat 32 h.val).toInt = (h.val : ℤ) := by
      revert h; decide
    show (((BitVec.ofNat 32 h.val).toInt : ℝ) : EReal) = _
    rw [this]; norm_cast
  have hd : decays (ix1 h) = Ideal.exp (Ideal.log (Ideal.ofBits .f32 0x3F800000#32 - Ideal.pow (Ideal.ofBits .f32 0x40000000#32)
      (Ideal.ofBits .f32 0xC0A00000#32 - FloatOps.sitofp (F := Ideal) FTy.f32 (BitVec.ofNat 32 h.val)))) := by
    unfold decays
    rfl
  have h1 : Ideal.ofBits .f32 0x3F800000#32 = ((1 : ℝ) : EReal) := by
    simp [Ideal.ofBits, Ideal.ieee]; norm_num [← EReal.coe_mul]
  have hr : Real.rpow 2 (-5 - (h.val : ℝ)) = ((2 : ℝ) ^ (5 + h.val))⁻¹ := by
    show (2 : ℝ) ^ (-5 - (h.val : ℝ)) = _
    rw [show (-5 - (h.val : ℝ)) = -((5 + h.val : ℕ) : ℝ) by push_cast; ring, Real.rpow_neg (by norm_num), Real.rpow_natCast]
  rw [hd, hx, h1, Cert.ReferenceIdeal.Ret.two_eq, Cert.ReferenceIdeal.Ret.five_eq, ← EReal.coe_sub]
  show Ideal.exp (Ideal.log (((1 : ℝ) : EReal) - ((Real.rpow 2 (-5 - (h.val : ℝ)) : ℝ) : EReal))) = _
  rw [hr, ← EReal.coe_sub, decay_eq]
  refine exp_log _ ?_
  have : ((2 : ℝ) ^ (5 + h.val))⁻¹ < 1 := inv_lt_one_of_one_lt₀ (one_lt_pow₀ (by norm_num) (by omega))
  linarith

theorem reads_at (s : Vec Ideal S32x6x64x64 .f32) (q k v : Vec Ideal S32x384 .f32) (b : Fin 32) (h : Fin 6) (e : Fin 64) :
    reads s q k v (ix3 b h e) = (∑ d : Fin 64, q (ix2 b (lane h d)) * (k (ix2 b (lane h d)) * e8)) * v (ix2 b (lane h e))
      + (∑ d : Fin 64, q (ix2 b (lane h d)) * s (ix4 b h d e)) * decay h := by
  rw [← decays_at]
  generalize hg : decays = g
  unfold e8 lane
  pointwise [reads, keys, hg]

theorem lessMean_at (o : Vec Ideal S32x6x64 .f32) (b : Fin 32) (h : Fin 6) (e : Fin 64) :
    lessMean o (ix3 b h e) = centred (fun e => o (ix3 b h e)) e := by
  unfold centred
  pointwise [lessMean]

theorem laid_at (x : Vec Ideal S32x6x64 .f32) (r : Fin 192) (e : Fin 64) :
    laid x (ix2 r e) = x (ix3 ⟨r.val / 6, by omega⟩ ⟨r.val % 6, by omega⟩ e)
      * Ideal.rsqrt (Ideal.div (∑ i : Fin 64, x (ix3 ⟨r.val / 6, by omega⟩ ⟨r.val % 6, by omega⟩ i) * x (ix3 ⟨r.val / 6, by omega⟩ ⟨r.val % 6, by omega⟩ i))
        (Ideal.ofBits .f32 0x42800000#32) + Ideal.ofBits .f32 0x358637BD#32) := by
  pointwise [laid]

theorem states_at (s : Vec Ideal S32x6x64x64 .f32) (k v : Vec Ideal S32x384 .f32) (r : Fin 12288) (e : Fin 64) :
    states s k v (ix2 r e) = s (ix4 (seqOf r) (headOf r) (inHead r) e) * decay (headOf r)
      + k (ix2 (seqOf r) (lane (headOf r) (inHead r))) * e8 * v (ix2 (seqOf r) (lane (headOf r) e)) := by
  rw [← decays_at]
  generalize hg : decays = g
  unfold e8 lane seqOf headOf inHead
  pointwise [states, keys, hg]

/-- A real number times a sum of a real number and anything. -/
theorem mul_add_any {q a : EReal} (hq : IsReal q) (ha : IsReal a) (b : EReal) : q * (a + b) = q * a + q * b := by
  obtain ⟨q, rfl⟩ := hq
  obtain ⟨a, rfl⟩ := ha
  induction b using EReal.rec with
  | coe b => rw [← EReal.coe_add, ← EReal.coe_mul, ← EReal.coe_mul, ← EReal.coe_mul, ← EReal.coe_add, mul_add]
  | bot =>
    rw [EReal.add_bot, ← EReal.coe_mul]
    rcases lt_trichotomy q 0 with h | rfl | h
    · rw [EReal.coe_mul_bot_of_neg h, EReal.coe_add_top]
    · simp
    · rw [EReal.coe_mul_bot_of_pos h, EReal.add_bot]
  | top =>
    rw [EReal.coe_add_top, ← EReal.coe_mul]
    rcases lt_trichotomy q 0 with h | rfl | h
    · rw [EReal.coe_mul_top_of_neg h, EReal.add_bot]
    · simp
    · rw [EReal.coe_mul_top_of_pos h, EReal.coe_add_top]

/-- A positive real number times a sum. -/
theorem sum_mul_pos (y : Fin 64 → EReal) {g : ℝ} (hg : 0 ≤ g) : (∑ d : Fin 64, y d) * (g : EReal) = ∑ d : Fin 64, y d * (g : EReal) := by
  have h : ∀ t : Finset (Fin 64), (∑ d ∈ t, y d) * (g : EReal) = ∑ d ∈ t, y d * (g : EReal) := fun t => by
    induction t using Finset.induction_on with
    | empty => simp
    | insert a t ha ih =>
      rw [Finset.sum_insert ha, Finset.sum_insert ha, EReal.right_distrib_of_nonneg_of_ne_top (EReal.coe_nonneg.mpr hg) (EReal.coe_ne_top g), ih]
  exact h Finset.univ

/-- The two ways of reading the new state are one, where the query, the key and the value are real numbers. -/
theorem split_sum (q k s : Fin 64 → EReal) (v x : EReal) {g : ℝ} (hq : ∀ d, IsReal (q d)) (hk : ∀ d, IsReal (k d))
    (hv : IsReal v) (hg : 0 ≤ g) (hx : IsReal x) :
    (∑ d : Fin 64, q d * (k d * x)) * v + (∑ d : Fin 64, q d * s d) * (g : EReal) = ∑ d : Fin 64, q d * (k d * x * v + (g : EReal) * s d) := by
  have hd : ∀ d, q d * (k d * x * v + (g : EReal) * s d) = q d * (k d * x) * v + q d * s d * (g : EReal) := fun d => by
    rw [mul_add_any (hq d) (((hk d).mul hx).mul hv), mul_comm (g : EReal), ← mul_assoc, ← mul_assoc, ← mul_assoc]
  simp only [hd, Finset.sum_add_distrib]
  rw [sum_mul_pos _ hg]
  refine congrArg (· + _) ?_
  choose q' hq' using hq
  choose k' hk' using hk
  obtain ⟨v', rfl⟩ := hv
  obtain ⟨x', rfl⟩ := hx
  have hsum : ∀ f : Fin 64 → ℝ, (∑ d : Fin 64, ((f d : ℝ) : EReal)) = ((∑ d : Fin 64, f d : ℝ) : EReal) := fun f =>
    (map_sum (⟨⟨fun r : ℝ => (r : EReal), EReal.coe_zero⟩, EReal.coe_add⟩ : ℝ →+ EReal) f Finset.univ).symm
  simp only [hq', hk', ← EReal.coe_mul, hsum]
  rw [Finset.sum_mul]

theorem state_eq (s : Vec Ideal S32x6x64x64 .f32) (k v : Vec Ideal S32x384 .f32) : states s k v = Cert.RetStepIdeal.Step.newState s k v := by
  funext j
  obtain ⟨r, e, rfl⟩ : ∃ (r : Fin 12288) (e : Fin 64), j = ix2 r e :=
    ⟨j 0, j 1, funext fun a => by match a with | ⟨0, _⟩ => rfl | ⟨1, _⟩ => rfl⟩
  rw [states_at]
  exact congrArg (· + _) (mul_comm _ _)

theorem result_eq (s : Vec Ideal S32x6x64x64 .f32) (q k v : Vec Ideal S32x384 .f32)
    (hq : ∀ i, IsReal (q i)) (hk : ∀ i, IsReal (k i)) (hv : ∀ i, IsReal (v i)) :
    laid (lessMean (reads s q k v)) = Cert.RetStepIdeal.Step.result s q k v := by
  funext j
  obtain ⟨r, e, rfl⟩ : ∃ (r : Fin 192) (e : Fin 64), j = ix2 r e :=
    ⟨j 0, j 1, funext fun a => by match a with | ⟨0, _⟩ => rfl | ⟨1, _⟩ => rfl⟩
  have hd : ∀ h : Fin 6, (0 : ℝ) ≤ 1 - ((2 : ℝ) ^ (5 + h.val))⁻¹ := fun h => by
    have : ((2 : ℝ) ^ (5 + h.val))⁻¹ < 1 := inv_lt_one_of_one_lt₀ (one_lt_pow₀ (by norm_num) (by omega))
    linarith
  have hr : ∀ (b : Fin 32) (h : Fin 6), (fun e => reads s q k v (ix3 b h e)) = Cert.RetStepIdeal.Step.read s q k v b h := fun b h => by
    funext e
    rw [reads_at]
    unfold Cert.RetStepIdeal.Step.read
    rw [decay_eq]
    exact split_sum (fun d => q (ix2 b (lane h d))) (fun d => k (ix2 b (lane h d))) (fun d => s (ix4 b h d e)) (v (ix2 b (lane h e))) e8
      (fun d => hq _) (fun d => hk _) (hv _) (hd h) Cert.ReferenceIdeal.Ret.e8_real
  rw [laid_at]
  simp only [lessMean_at, hr]
  rfl

end Cert.RetStepRefIdeal.Step

namespace Cert.Proof

open Idealize.ShloMosaic Idealize.SL.Sem Idealize.ShloMosaic.TcCoe
open Cert.ReferenceIdeal.Ret (IsReal)

/-- The side conditions the precondition's text states: its shapes fill one another. -/
instance step_facts : Cert.Pre_finite_step.Facts := ⟨by decide, by decide, by decide, by decide, by decide, by decide⟩

/-- A value below infinity in size is a real number. -/
theorem real_of_lt (x : EReal) (h : Ideal.cmp .olt (max x (-x)) (Ideal.ofBits .f32 0x7F800000#32) = 1#1) : IsReal x := by
  have hlt : max x (-x) < Ideal.ofBits .f32 0x7F800000#32 := by
    by_contra hn
    simp [Ideal.cmp, hn] at h
  rw [show Ideal.ofBits .f32 0x7F800000#32 = ⊤ by simp [Ideal.ofBits, Ideal.ieee]] at hlt
  induction x using EReal.rec with
  | bot => simp at hlt
  | top => simp at hlt
  | coe r => exact ⟨r, rfl⟩

theorem and_one : ∀ x y : BitVec 1, x &&& y = 1#1 → x = 1#1 ∧ y = 1#1 := by decide

/-- The precondition at one place of the state, and the lanes that meet there. -/
theorem finite_step_at (s : Vec Ideal Cert.RetStepIdeal.S32x6x64x64 .f32) (q k v : Vec Ideal Cert.RetStepIdeal.S32x384 .f32) (b : Fin 32) (h : Fin 6) (d e : Fin 64) :
    Cert.Pre_finite_step.fn (F := Ideal) s q k v (ix4 b h d e)
      = Ideal.cmp .olt (max (q (ix2 b (Cert.RetStepIdeal.Step.lane h d))) (-q (ix2 b (Cert.RetStepIdeal.Step.lane h d)))) (Ideal.ofBits .f32 0x7F800000#32)
        &&& Ideal.cmp .olt (max (k (ix2 b (Cert.RetStepIdeal.Step.lane h d))) (-k (ix2 b (Cert.RetStepIdeal.Step.lane h d)))) (Ideal.ofBits .f32 0x7F800000#32)
        &&& Ideal.cmp .olt (max (v (ix2 b (Cert.RetStepIdeal.Step.lane h e))) (-v (ix2 b (Cert.RetStepIdeal.Step.lane h e)))) (Ideal.ofBits .f32 0x7F800000#32) := by
  unfold Cert.RetStepIdeal.Step.lane
  pointwise [Cert.Pre_finite_step.fn]
  rfl

/-- The precondition says that the queries, the keys and the values are real numbers. -/
theorem real_of_step {s : Vec Ideal Cert.RetStepIdeal.S32x6x64x64 .f32} {q k v : Vec Ideal Cert.RetStepIdeal.S32x384 .f32}
    (hp : Cert.Pre_finite_step.fn (F := Ideal) s q k v = fun _ => 1#1) :
    (∀ i, IsReal (q i)) ∧ (∀ i, IsReal (k i)) ∧ (∀ i, IsReal (v i)) := by
  have hall : ∀ (b : Fin 32) (h : Fin 6) (d e : Fin 64), IsReal (q (ix2 b (Cert.RetStepIdeal.Step.lane h d)))
      ∧ IsReal (k (ix2 b (Cert.RetStepIdeal.Step.lane h d))) ∧ IsReal (v (ix2 b (Cert.RetStepIdeal.Step.lane h e))) := fun b h d e => by
    have hc := congrFun hp (ix4 b h d e)
    rw [finite_step_at] at hc
    obtain ⟨h3, hv⟩ := and_one _ _ hc
    obtain ⟨hq, hk⟩ := and_one _ _ h3
    exact ⟨real_of_lt _ hq, real_of_lt _ hk, real_of_lt _ hv⟩
  have hrow : ∀ i : Cert.RetStepIdeal.S32x384.Idx, ∃ (b : Fin 32) (h : Fin 6) (d : Fin 64), i = ix2 b (Cert.RetStepIdeal.Step.lane h d) := fun i => by
    have h1 : (i 1).val < 384 := (i 1).isLt
    refine ⟨i 0, ⟨(i 1).val / 64, by omega⟩, ⟨(i 1).val % 64, by omega⟩, funext fun a => ?_⟩
    match a with
    | ⟨0, _⟩ => rfl
    | ⟨1, _⟩ => exact Fin.ext (by show (i 1).val = (i 1).val / 64 * 64 + (i 1).val % 64; omega)
  refine ⟨fun i => ?_, fun i => ?_, fun i => ?_⟩
  · obtain ⟨b, h, d, rfl⟩ := hrow i; exact (hall b h d d).1
  · obtain ⟨b, h, d, rfl⟩ := hrow i; exact (hall b h d d).2.1
  · obtain ⟨b, h, d, rfl⟩ := hrow i; exact (hall b h d d).2.2

/-- The kernel's two arrays are the reference's. -/
theorem equal_RetStep : Cert.algebraic_RetStepIdeal_RetStepRefIdeal_pre_finite_step := by
  intro m ρ m' ρ' hpre hagree
  refine ⟨fun c => Cert.RetStepIdeal.Step.out m c, fun c => Cert.RetStepIdeal.Step.st m c, ?_, ?_⟩
  · exact (θ_run _ _ _).mono (fun _ h c => ⟨(h c).1.trans (Cert.RetStepIdeal.Step.final_5 m c), (h c).2.1.trans (Cert.RetStepIdeal.Step.final_6 m c), (h c).2.2⟩)
      (Cert.RetStepIdeal.Value.run_blocks m ρ)
  · refine (θ_run _ _ _).mono (fun _ h c => ⟨(h c).1.trans ?_, (h c).2.1.trans ?_, (h c).2.2⟩) (Cert.RetStepRefIdeal.Value.run m' ρ')
    · obtain ⟨h0, h1, h2, h3⟩ := hagree c
      obtain ⟨hq, hk, hv⟩ := real_of_step (hpre c)
      unfold Cert.RetStepRefIdeal.Value.res_main_v48
      rw [h0, h1, h2, h3]
      exact Cert.RetStepRefIdeal.Step.result_eq _ _ _ _ hq hk hv
    · obtain ⟨h0, h1, h2, h3⟩ := hagree c
      rw [h0, h2, h3]
      exact Cert.RetStepRefIdeal.Step.state_eq _ _ _

theorem frame_RetStepRef : Cert.quiescent_RetStepRefIdeal := fun m ρ _ =>
  (θ_run Cert.RetStepRefIdeal.defs _ _).mono (fun r h => ⟨fun c => (h c).2.2, sem_eq_zero_of_no_sems (by decide) r.2⟩)
    (Cert.RetStepRefIdeal.Value.run m ρ)

theorem frame_RetStepIdeal : Cert.quiescent_RetStepIdeal := fun m ρ _ => Cert.RetStepIdeal.Gen.frame m ρ

/-- The two programs' bodies are one text. -/
theorem defs_RetStep : Cert.RetStep.defs (F := Bits) = Cert.RetStepIdeal.defs (F := Bits) := by
  have h : Cert.RetStep.defs₀ (F := Bits) = Cert.RetStepIdeal.defs₀ (F := Bits) := by
    unfold Cert.RetStep.defs₀ Cert.RetStepIdeal.defs₀
    refine congrArg Defs.onTc ?_
    funext l x
    match l, x with
    | 0, (t, s) => rfl
    | ⟨n + 1, h⟩, _ => exact absurd h (Nat.not_lt.2 (Nat.le_add_left _ _))
  unfold Cert.RetStep.defs Cert.RetStepIdeal.defs
  exact congrArg _ h

theorem frame_RetStep : Cert.quiescent_RetStep := fun m ρ _ => by
  rw [defs_RetStep]
  exact Cert.RetStepIdeal.Gen.frame (F := Bits) m ρ

end Cert.Proof
-- ==== Proof.HgrnStep.lean ====
/-
  ONE STEP OF THE GATED RECURRENCE: for each sequence and head the rows of the state are multiplied with their gates and take the outer product
  of the key, one less the gate, and the input. The kernel forms the new state and sums its rows against the query; the reference reads the old
  state with the query times the gate and adds the score of the new key times the input. Both then divide by the root mean square.
-/
module

public import proofs.«01_k».proof.Proof.Gen.HgrnStep
public import proofs.«01_k».proof.Proof.Gen.HgrnStepIdeal.Value
public import proofs.«01_k».proof.Proof.Gen.HgrnStepRefIdeal.Run
public import proofs.«01_k».proof.Proof.Finite
public import Idealize.ShloMosaic.Lib.Pipeline.Value
public import Idealize.ShloMosaic.Lib.Pipeline.ValueKit
public import Idealize.ShloMosaic.Lib.Pointwise
public import Idealize.ShloMosaic.Lib.Tactic
public import Idealize.ShloMosaic.Lib.Quiescent
public import Idealize.ShloMosaic.Lib.StableHlo.ReadAt
public import proofs.«01_k».proof.Defs
public import proofs.«01_k».proof.Proof.RetStep

@[expose] public section

set_option maxRecDepth 16384

noncomputable section

namespace Cert.HgrnStepIdeal.Step

open Cert.HgrnStepIdeal Cert.HgrnStepIdeal.Gen Cert.HgrnStepIdeal.Value Idealize.ShloMosaic Idealize.ShloMosaic.TcCoe Idealize.SL.Sem

/-- The number one, as its word. -/
def one : EReal := Ideal.ofBits .f32 0x3F800000#32

/-- A lane's gate, from its lower bound and its logit. -/
def gate (l f : EReal) : EReal := l + (one - l) * Ideal.logistic f

/-- A row divided by its root mean square. -/
def normed (o : Fin 64 → EReal) (e : Fin 64) : EReal :=
  o e * Ideal.rsqrt (Ideal.div (∑ i : Fin 64, o i * o i) (Ideal.ofBits .f32 0x42800000#32) + Ideal.ofBits .f32 0x358637BD#32)

theorem hz : (![0, 0] : Fin 2 → Nat) = fun _ => 0 := funext fun a => by fin_cases a <;> rfl

/-! ## The kernel's block -/

theorem gate_at (l f : Vec Ideal S2048x64 .f32) (r : Fin 2048) (e : Fin 64) :
    k0_pay2 l f (ix2 r e) = gate (l (ix2 r e)) (f (ix2 r e)) := by
  unfold gate one
  pointwise [k0_pay2]

theorem state_at (s l f v : Vec Ideal S2048x64 .f32) (r : Fin 2048) (e : Fin 64) :
    k0_pay4 s l f v (ix2 r e) = gate (l (ix2 r e)) (f (ix2 r e)) * s (ix2 r e) + (one - gate (l (ix2 r e)) (f (ix2 r e))) * v (ix2 r e) := by
  rw [← gate_at]
  unfold one k0_pay4 k0_pay3 k0_pay1
  generalize k0_pay2 l f = g
  pointwise

/-- The query's sum over a head's rows, before the norm. -/
def summed (s g v q : Vec Ideal S2048x64 .f32) (r : Fin 32) (e : Fin 64) : EReal :=
  ∑ d : Fin 64, q (ix2 (⟨r.val * 64 + d.val, by omega⟩ : Fin 2048) e)
    * ((one - g (ix2 (⟨r.val * 64 + d.val, by omega⟩ : Fin 2048) e)) * v (ix2 (⟨r.val * 64 + d.val, by omega⟩ : Fin 2048) e)
      + g (ix2 (⟨r.val * 64 + d.val, by omega⟩ : Fin 2048) e) * s (ix2 (⟨r.val * 64 + d.val, by omega⟩ : Fin 2048) e))

theorem out_at (s l f v q : Vec Ideal S2048x64 .f32) (r : Fin 32) (e : Fin 64) :
    k0_pay5 s l f v q (ix2 r e) = normed (summed s (k0_pay2 l f) v q r) e := by
  unfold normed summed one k0_pay5 k0_pay3 k0_pay1
  generalize k0_pay2 l f = g
  pointwise

/-! ## The columns that the host lays out -/

variable (m : (ℓ : Loc nD τ sig) → Buf (Elt Ideal) ℓ) (c : Dev nD)

abbrev state : Vec Ideal S32x4x64x64 .f32 := m ((c : Thread nD τ).loc main_arg0)
abbrev query : Vec Ideal S32x256 .f32 := m ((c : Thread nD τ).loc main_arg1)
abbrev logit : Vec Ideal S32x256 .f32 := m ((c : Thread nD τ).loc main_arg2)
abbrev val : Vec Ideal S32x256 .f32 := m ((c : Thread nD τ).loc main_arg3)
abbrev bound : Vec Ideal S256 .f32 := m ((c : Thread nD τ).loc main_arg4)

/-- The sequence of a row of the state, its head, and its place in the head. -/
def seqOf (r : Fin 8192) : Fin 32 := ⟨r.val / 256, by omega⟩
def headOf (r : Fin 8192) : Fin 4 := ⟨r.val / 64 % 4, by omega⟩
def inHead (r : Fin 8192) : Fin 64 := ⟨r.val % 64, by omega⟩

/-- Lane `d` of head `h`. -/
def lane (h : Fin 4) (d : Fin 64) : Fin 256 := ⟨h.val * 64 + d.val, by omega⟩

theorem state_col (r : Fin 8192) (e : Fin 64) :
    (V m c main_v5 : Vec Ideal S8192x64 .f32) (ix2 r e) = state m c (ix4 (seqOf r) (headOf r) (inHead r) e) := by
  have h : (V m c main_v5 : Vec Ideal S8192x64 .f32) = shapeCast S8192x64 (state m c) shapeCasts_S32x4x64x64_S8192x64 := by
    show (V m c _) = _; unfold V
    simp only [hostOps0, List.flatten_cons, List.flatten_nil, List.append_nil, List.cons_append, List.nil_append]
    after_reads_simp
    rfl
  rw [h]
  unfold seqOf headOf inHead
  pointwise

theorem query_col (r : Fin 8192) (e : Fin 64) :
    (V m c main_v8 : Vec Ideal S8192x64 .f32) (ix2 r e) = query m c (ix2 (seqOf r) (lane (headOf r) (inHead r))) := by
  have h : (V m c main_v8 : Vec Ideal S8192x64 .f32) = shapeCast S8192x64 (broadcastInDim S32x4x64x64 ![0, 1, 2, 3] bcast_S32x4x64x1_S32x4x64x64_0_1_2_3
      (shapeCast S32x4x64x1 (query m c) shapeCasts_S32x256_S32x4x64x1)) shapeCasts_S32x4x64x64_S8192x64 := by
    show (V m c _) = _; unfold V
    simp only [hostOps0, List.flatten_cons, List.flatten_nil, List.append_nil, List.cons_append, List.nil_append]
    after_reads_simp
    rfl
  rw [h]
  unfold seqOf headOf inHead lane
  pointwise

theorem logit_col (r : Fin 8192) (e : Fin 64) :
    (V m c main_v11 : Vec Ideal S8192x64 .f32) (ix2 r e) = logit m c (ix2 (seqOf r) (lane (headOf r) (inHead r))) := by
  have h : (V m c main_v11 : Vec Ideal S8192x64 .f32) = shapeCast S8192x64 (broadcastInDim S32x4x64x64 ![0, 1, 2, 3] bcast_S32x4x64x1_S32x4x64x64_0_1_2_3
      (shapeCast S32x4x64x1 (logit m c) shapeCasts_S32x256_S32x4x64x1)) shapeCasts_S32x4x64x64_S8192x64 := by
    show (V m c _) = _; unfold V
    simp only [hostOps0, List.flatten_cons, List.flatten_nil, List.append_nil, List.cons_append, List.nil_append]
    after_reads_simp
    rfl
  rw [h]
  unfold seqOf headOf inHead lane
  pointwise

theorem val_col (r : Fin 8192) (e : Fin 64) :
    (V m c main_v4 : Vec Ideal S8192x64 .f32) (ix2 r e) = val m c (ix2 (seqOf r) (lane (headOf r) e)) := by
  have h : (V m c main_v4 : Vec Ideal S8192x64 .f32) = shapeCast S8192x64 (broadcastInDim S32x4x64x64 ![0, 1, 2, 3] bcast_S32x4x1x64_S32x4x64x64_0_1_2_3
      (shapeCast S32x4x1x64 (val m c) shapeCasts_S32x256_S32x4x1x64)) shapeCasts_S32x4x64x64_S8192x64 := by
    show (V m c _) = _; unfold V
    simp only [hostOps0, List.flatten_cons, List.flatten_nil, List.append_nil, List.cons_append, List.nil_append]
    after_reads_simp
    rfl
  rw [h]
  unfold seqOf headOf lane
  pointwise

theorem bound_col (r : Fin 8192) (e : Fin 64) :
    (V m c main_v14 : Vec Ideal S8192x64 .f32) (ix2 r e) = bound m c (ix1 (lane (headOf r) (inHead r))) := by
  have h : (V m c main_v14 : Vec Ideal S8192x64 .f32) = shapeCast S8192x64 (broadcastInDim S32x4x64x64 ![0, 1, 2, 3] bcast_S32x4x64x1_S32x4x64x64_0_1_2_3
      (shapeCast S32x4x64x1 (broadcastInDim S32x256 ![0, 1] bcast_S1x256_S32x256_0_1 (shapeCast S1x256 (bound m c) shapeCasts_S256_S1x256)) shapeCasts_S32x256_S32x4x64x1)) shapeCasts_S32x4x64x64_S8192x64 := by
    show (V m c _) = _; unfold V
    simp only [hostOps0, List.flatten_cons, List.flatten_nil, List.append_nil, List.cons_append, List.nil_append]
    after_reads_simp
    rfl
  rw [h]
  unfold headOf inHead lane
  pointwise

/-! ## The results -/

section results

variable (s : Vec Ideal S32x4x64x64 .f32) (q f v : Vec Ideal S32x256 .f32) (l : Vec Ideal S256 .f32)

/-- The gate of a lane of a head. -/
def gateOf (b : Fin 32) (h : Fin 4) (d : Fin 64) : EReal := gate (l (ix1 (lane h d))) (f (ix2 b (lane h d)))

/-- The new state at one place: the old one times the gate, and the key times the input. -/
def step (b : Fin 32) (h : Fin 4) (d e : Fin 64) : EReal :=
  gateOf f l b h d * s (ix4 b h d e) + (one - gateOf f l b h d) * v (ix2 b (lane h e))

/-- What the query reads from the new state. -/
def read (b : Fin 32) (h : Fin 4) (e : Fin 64) : EReal :=
  ∑ d : Fin 64, q (ix2 b (lane h d)) * ((one - gateOf f l b h d) * v (ix2 b (lane h e)) + gateOf f l b h d * s (ix4 b h d e))

/-- The result array: a row for each sequence and head. -/
def result : Vec Ideal S128x64 .f32 := fun j =>
  normed (read s q f v l ⟨(j 0).val / 4, by have : (j 0).val < 128 := (j 0).isLt; omega⟩ ⟨(j 0).val % 4, by omega⟩) (j 1)

/-- The state's array: a row for each sequence, head and lane of the gate. -/
def newState : Vec Ideal S8192x64 .f32 := fun j => step s f v l (seqOf (j 0)) (headOf (j 0)) (inHead (j 0)) (j 1)

end results

/-- Row `r` of a grid point's block of the columns, as a row of the array. -/
def row (t : Fin cfg0.N) (r : Fin 2048) : Fin 8192 := ⟨t.val * 2048 + r.val, by have := t.isLt; have hN : cfg0.N = 4 := N_0; omega⟩

/-- Row `r` of a grid point's block of the result. -/
def rowO (t : Fin cfg0.N) (r : Fin 32) : Fin 128 := ⟨t.val * 32 + r.val, by have := t.isLt; have hN : cfg0.N = 4 := N_0; omega⟩

theorem index_0 : ∀ t : Fin cfg0.N, win0_0.index t 0 = t.val ∧ win0_0.index t 1 = 0 :=
  (by decide +kernel : ∀ t : Fin grid0.N, win0_0.index t 0 = t.val ∧ win0_0.index t 1 = 0)

theorem block_0 (t : Fin cfg0.N) (r : Fin 2048) (e : Fin 64) :
    (iblk m c 0 t : Vec Ideal S2048x64 .f32) (ix2 r e) = (V m c main_v5 : Vec Ideal S8192x64 .f32) (ix2 (row t r) e) := by
  have hi := index_0 t
  unfold iblk
  rw [View.read_apply]
  show V m c main_v5 _ = V m c main_v5 _
  congr 1
  funext a
  apply Fin.ext
  match a with
  | ⟨0, _⟩ => show win0_0.index t 0 * 2048 + 1 * r.val = t.val * 2048 + r.val; rw [hi.1]; omega
  | ⟨1, _⟩ => show win0_0.index t 1 * 64 + 1 * e.val = e.val; rw [hi.2]; omega

theorem index_1 : ∀ t : Fin cfg0.N, win0_1.index t 0 = t.val ∧ win0_1.index t 1 = 0 :=
  (by decide +kernel : ∀ t : Fin grid0.N, win0_1.index t 0 = t.val ∧ win0_1.index t 1 = 0)

theorem block_1 (t : Fin cfg0.N) (r : Fin 2048) (e : Fin 64) :
    (iblk m c 1 t : Vec Ideal S2048x64 .f32) (ix2 r e) = (V m c main_v8 : Vec Ideal S8192x64 .f32) (ix2 (row t r) e) := by
  have hi := index_1 t
  unfold iblk
  rw [View.read_apply]
  show V m c main_v8 _ = V m c main_v8 _
  congr 1
  funext a
  apply Fin.ext
  match a with
  | ⟨0, _⟩ => show win0_1.index t 0 * 2048 + 1 * r.val = t.val * 2048 + r.val; rw [hi.1]; omega
  | ⟨1, _⟩ => show win0_1.index t 1 * 64 + 1 * e.val = e.val; rw [hi.2]; omega

theorem index_2 : ∀ t : Fin cfg0.N, win0_2.index t 0 = t.val ∧ win0_2.index t 1 = 0 :=
  (by decide +kernel : ∀ t : Fin grid0.N, win0_2.index t 0 = t.val ∧ win0_2.index t 1 = 0)

theorem block_2 (t : Fin cfg0.N) (r : Fin 2048) (e : Fin 64) :
    (iblk m c 2 t : Vec Ideal S2048x64 .f32) (ix2 r e) = (V m c main_v11 : Vec Ideal S8192x64 .f32) (ix2 (row t r) e) := by
  have hi := index_2 t
  unfold iblk
  rw [View.read_apply]
  show V m c main_v11 _ = V m c main_v11 _
  congr 1
  funext a
  apply Fin.ext
  match a with
  | ⟨0, _⟩ => show win0_2.index t 0 * 2048 + 1 * r.val = t.val * 2048 + r.val; rw [hi.1]; omega
  | ⟨1, _⟩ => show win0_2.index t 1 * 64 + 1 * e.val = e.val; rw [hi.2]; omega

theorem index_3 : ∀ t : Fin cfg0.N, win0_3.index t 0 = t.val ∧ win0_3.index t 1 = 0 :=
  (by decide +kernel : ∀ t : Fin grid0.N, win0_3.index t 0 = t.val ∧ win0_3.index t 1 = 0)

theorem block_3 (t : Fin cfg0.N) (r : Fin 2048) (e : Fin 64) :
    (iblk m c 3 t : Vec Ideal S2048x64 .f32) (ix2 r e) = (V m c main_v14 : Vec Ideal S8192x64 .f32) (ix2 (row t r) e) := by
  have hi := index_3 t
  unfold iblk
  rw [View.read_apply]
  show V m c main_v14 _ = V m c main_v14 _
  congr 1
  funext a
  apply Fin.ext
  match a with
  | ⟨0, _⟩ => show win0_3.index t 0 * 2048 + 1 * r.val = t.val * 2048 + r.val; rw [hi.1]; omega
  | ⟨1, _⟩ => show win0_3.index t 1 * 64 + 1 * e.val = e.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (t : Fin cfg0.N) (r : Fin 2048) (e : Fin 64) :
    (iblk m c 4 t : Vec Ideal S2048x64 .f32) (ix2 r e) = (V m c main_v4 : Vec Ideal S8192x64 .f32) (ix2 (row t r) e) := by
  have hi := index_4 t
  unfold iblk
  rw [View.read_apply]
  show V m c main_v4 _ = V m c main_v4 _
  congr 1
  funext a
  apply Fin.ext
  match a with
  | ⟨0, _⟩ => show win0_4.index t 0 * 2048 + 1 * r.val = t.val * 2048 + r.val; rw [hi.1]; omega
  | ⟨1, _⟩ => show win0_4.index t 1 * 64 + 1 * e.val = e.val; rw [hi.2]; omega

/-- The first result, from the arguments. -/
abbrev out : Vec Ideal S128x64 .f32 := result (state m c) (query m c) (logit m c) (val m c) (bound m c)

/-- The second one. -/
abbrev st : Vec Ideal S8192x64 .f32 := newState (state m c) (logit m c) (val m c) (bound m c)

theorem block_6 (t : Fin cfg0.N) (r : Fin 2048) (e : Fin 64) :
    out0_6 (iblk m c 0 t) (iblk m c 1 t) (iblk m c 2 t) (iblk m c 3 t) (iblk m c 4 t) (ix2 r e) = st m c (ix2 (row t r) e) := by
  unfold out0_6
  rw [View.canon_unit_zero hz]
  simp only [View.ld_unit_zero (S := S2048x64) hz]
  rw [state_at, block_3, block_0, block_2, block_4, bound_col, state_col, logit_col, val_col]
  rfl

theorem seq_row (t : Fin cfg0.N) (r : Fin 32) (d : Fin 64) :
    seqOf (row t ⟨r.val * 64 + d.val, by omega⟩) = ⟨(rowO t r).val / 4, by have := (rowO t r).isLt; omega⟩ :=
  Fin.ext (by show (t.val * 2048 + (r.val * 64 + d.val)) / 256 = (t.val * 32 + r.val) / 4; omega)

theorem head_row (t : Fin cfg0.N) (r : Fin 32) (d : Fin 64) :
    headOf (row t ⟨r.val * 64 + d.val, by omega⟩) = ⟨(rowO t r).val % 4, by omega⟩ :=
  Fin.ext (by show (t.val * 2048 + (r.val * 64 + d.val)) / 64 % 4 = (t.val * 32 + r.val) % 4; omega)

theorem place_row (t : Fin cfg0.N) (r : Fin 32) (d : Fin 64) : inHead (row t ⟨r.val * 64 + d.val, by omega⟩) = d :=
  Fin.ext (by show (t.val * 2048 + (r.val * 64 + d.val)) % 64 = d.val; omega)

theorem block_5 (t : Fin cfg0.N) (r : Fin 32) (e : Fin 64) :
    out0_5 (iblk m c 0 t) (iblk m c 1 t) (iblk m c 2 t) (iblk m c 3 t) (iblk m c 4 t) (ix2 r e) = out m c (ix2 (rowO t r) e) := by
  unfold out0_5
  rw [View.canon_unit_zero hz]
  simp only [View.ld_unit_zero (S := S2048x64) hz]
  rw [out_at]
  refine congrArg (fun f => normed f e) (funext fun e' => ?_)
  refine Finset.sum_congr rfl fun d _ => ?_
  rw [gate_at, block_0, block_1, block_2, block_3, block_4, bound_col, state_col, query_col, logit_col, val_col, seq_row, head_row, place_row]
  rfl

theorem index_5 : ∀ t : Fin cfg0.N, win0_5.index t 0 = t.val ∧ win0_5.index t 1 = 0 :=
  (by decide +kernel : ∀ t : Fin grid0.N, win0_5.index t 0 = t.val ∧ win0_5.index t 1 = 0)

theorem flushed_5 (t : Fin cfg0.N) (hf : (cfg0.win 5).flush t = true) :
    (dats m 0 c).flushed 5 t = ((cfg0.win 5).blk t).view.read (Elt Ideal) (out m c) := by
  rw [flushed5]
  have hi := index_5 t
  funext j
  rw [View.read_apply]
  have h0 : (j 0).val < 32 := (j 0).isLt
  have h1 : (j 1).val < 64 := (j 1).isLt
  have he : (((cfg0.win 5).blk t).view.emb j : S128x64.Idx) = ix2 (rowO t ⟨(j 0).val, h0⟩) ⟨(j 1).val, h1⟩ := by
    funext a
    apply Fin.ext
    match a with
    | ⟨0, _⟩ => show win0_5.index t 0 * 32 + 1 * (j 0).val = t.val * 32 + (j 0).val; rw [hi.1]; omega
    | ⟨1, _⟩ => show win0_5.index t 1 * 64 + 1 * (j 1).val = (j 1).val; rw [hi.2]; omega
  have hj : (j : S32x64.Idx) = ix2 ⟨(j 0).val, h0⟩ ⟨(j 1).val, h1⟩ := by
    funext a
    match a with
    | ⟨0, _⟩ => rfl
    | ⟨1, _⟩ => rfl
  show out0_5 (iblk m c 0 t) (iblk m c 1 t) (iblk m c 2 t) (iblk m c 3 t) (iblk m c 4 t) j = out m c (((cfg0.win 5).blk t).view.emb j)
  rw [he]
  exact (congrArg (out0_5 (iblk m c 0 t) (iblk m c 1 t) (iblk m c 2 t) (iblk m c 3 t) (iblk m c 4 t)) hj).trans <| block_5 m c t ⟨(j 0).val, h0⟩ ⟨(j 1).val, h1⟩

theorem final_5 : (dats m 0 c).arrAt 5 cfg0.N = out m c :=
  (dats m 0 c).arrAt_eq_of_cover 5 (out m c) (flushed_5 m c) fun i => by
    have h0 : (i 0 : Nat) < 128 := (i 0).isLt
    have h1 : (i 1 : Nat) < 64 := (i 1).isLt
    have hN : cfg0.N = 4 := N_0
    obtain ⟨t, ht⟩ : ∃ t : Fin cfg0.N, t.val = (i 0 : Nat) / 32 := ⟨⟨(i 0 : Nat) / 32, by omega⟩, rfl⟩
    refine ⟨t, flush0_5 _, ?_⟩
    show i ∈ ((View.whole main_v15_0).slice (win0_5.rect t)).set
    rw [View.set_slice_whole, Rect.mem_set_unit]
    have hi := index_5 t
    intro a
    match a with
    | ⟨0, _⟩ =>
      show win0_5.index _ 0 * 32 ≤ (i 0 : Nat) ∧ (i 0 : Nat) < win0_5.index _ 0 * 32 + 32
      rw [hi.1, ht]; omega
    | ⟨1, _⟩ =>
      show win0_5.index _ 1 * 64 ≤ (i 1 : Nat) ∧ (i 1 : Nat) < win0_5.index _ 1 * 64 + 64
      rw [hi.2]; omega

theorem index_6 : ∀ t : Fin cfg0.N, win0_6.index t 0 = t.val ∧ win0_6.index t 1 = 0 :=
  (by decide +kernel : ∀ t : Fin grid0.N, win0_6.index t 0 = t.val ∧ win0_6.index t 1 = 0)

theorem flushed_6 (t : Fin cfg0.N) (hf : (cfg0.win 6).flush t = true) :
    (dats m 0 c).flushed 6 t = ((cfg0.win 6).blk t).view.read (Elt Ideal) (st m c) := by
  rw [flushed6]
  have hi := index_6 t
  funext j
  rw [View.read_apply]
  have h0 : (j 0).val < 2048 := (j 0).isLt
  have h1 : (j 1).val < 64 := (j 1).isLt
  have he : (((cfg0.win 6).blk t).view.emb j : S8192x64.Idx) = ix2 (row t ⟨(j 0).val, h0⟩) ⟨(j 1).val, h1⟩ := by
    funext a
    apply Fin.ext
    match a with
    | ⟨0, _⟩ => show win0_6.index t 0 * 2048 + 1 * (j 0).val = t.val * 2048 + (j 0).val; rw [hi.1]; omega
    | ⟨1, _⟩ => show win0_6.index t 1 * 64 + 1 * (j 1).val = (j 1).val; rw [hi.2]; omega
  have hj : (j : S2048x64.Idx) = ix2 ⟨(j 0).val, h0⟩ ⟨(j 1).val, h1⟩ := by
    funext a
    match a with
    | ⟨0, _⟩ => rfl
    | ⟨1, _⟩ => rfl
  show out0_6 (iblk m c 0 t) (iblk m c 1 t) (iblk m c 2 t) (iblk m c 3 t) (iblk m c 4 t) j = st m c (((cfg0.win 6).blk t).view.emb j)
  rw [he]
  exact (congrArg (out0_6 (iblk m c 0 t) (iblk m c 1 t) (iblk m c 2 t) (iblk m c 3 t) (iblk m c 4 t)) hj).trans <| block_6 m c t ⟨(j 0).val, h0⟩ ⟨(j 1).val, h1⟩

theorem final_6 : (dats m 0 c).arrAt 6 cfg0.N = st m c :=
  (dats m 0 c).arrAt_eq_of_cover 6 (st m c) (flushed_6 m c) fun i => by
    have h0 : (i 0 : Nat) < 8192 := (i 0).isLt
    have h1 : (i 1 : Nat) < 64 := (i 1).isLt
    have hN : cfg0.N = 4 := N_0
    obtain ⟨t, ht⟩ : ∃ t : Fin cfg0.N, t.val = (i 0 : Nat) / 2048 := ⟨⟨(i 0 : Nat) / 2048, by omega⟩, rfl⟩
    refine ⟨t, flush0_6 _, ?_⟩
    show i ∈ ((View.whole main_v15_1).slice (win0_6.rect t)).set
    rw [View.set_slice_whole, Rect.mem_set_unit]
    have hi := index_6 t
    intro a
    match a with
    | ⟨0, _⟩ =>
      show win0_6.index _ 0 * 2048 ≤ (i 0 : Nat) ∧ (i 0 : Nat) < win0_6.index _ 0 * 2048 + 2048
      rw [hi.1, ht]; omega
    | ⟨1, _⟩ =>
      show win0_6.index _ 1 * 64 ≤ (i 1 : Nat) ∧ (i 1 : Nat) < win0_6.index _ 1 * 64 + 64
      rw [hi.2]; omega

end Cert.HgrnStepIdeal.Step

namespace Cert.HgrnStepRefIdeal.Step

open Cert.HgrnStepRefIdeal Cert.HgrnStepRefIdeal.Gen Idealize.ShloMosaic
open Cert.ReferenceIdeal.Ret (IsReal)
open Cert.HgrnStepIdeal.Step (one gate gateOf normed lane seqOf headOf inHead)

/-! ## The reference -/

/-- The lower bounds by heads. -/
def bounds (l : Vec Ideal S256 .f32) : Vec Ideal S1x4x64 .f32 :=
  broadcastInDim S1x4x64 ![1, 2] bcast_S4x64_S1x4x64_1_2 (shapeCast _ l shapeCasts_S256_S4x64)

/-- The gates by heads. -/
def gates (f : Vec Ideal S32x256 .f32) (l : Vec Ideal S256 .f32) : Vec Ideal S32x4x64 .f32 :=
  addf (F := Ideal) (φ := .f32) (broadcastInDim S32x4x64 ![0, 1, 2] bcast_S1x4x64_S32x4x64_0_1_2 (bounds l))
    (mulf (broadcastInDim S32x4x64 ![0, 1, 2] bcast_S1x4x64_S32x4x64_0_1_2 (subf (F := Ideal) (φ := .f32) (broadcastInDim S1x4x64 ![] bcast_S_S1x4x64 (constant (F := Ideal) S_ .f32 0x3F800000#32)) (bounds l)))
      (Host.divf (F := Ideal) (φ := .f32) (broadcastInDim S32x4x64 ![] bcast_S_S32x4x64 (constant (F := Ideal) S_ .f32 0x3F800000#32))
        (addf (broadcastInDim S32x4x64 ![] bcast_S_S32x4x64 (constant (F := Ideal) S_ .f32 0x3F800000#32)) (Host.exp (F := Ideal) (φ := .f32) (Host.negf (F := Ideal) (φ := .f32) (shapeCast _ f shapeCasts_S32x256_S32x4x64))))))

/-- The keys, one less the gates. -/
def keys (g : Vec Ideal S32x4x64 .f32) : Vec Ideal S32x4x64 .f32 :=
  subf (F := Ideal) (φ := .f32) (broadcastInDim S32x4x64 ![] bcast_S_S32x4x64 (constant (F := Ideal) S_ .f32 0x3F800000#32)) g

/-- The gates once more, as the exponential of their logarithm. -/
def again (g : Vec Ideal S32x4x64 .f32) : Vec Ideal S32x4x64 .f32 := Host.exp (F := Ideal) (φ := .f32) (Host.log (F := Ideal) (φ := .f32) g)

/-- What the query reads: the new key's score times the input, and the old state under the gates `a`. -/
def reads (s : Vec Ideal S32x4x64x64 .f32) (q v : Vec Ideal S32x256 .f32) (g a : Vec Ideal S32x4x64 .f32) : Vec Ideal S32x4x64 .f32 :=
  addf (F := Ideal) (φ := .f32) (mulf (broadcastInDim S32x4x64 ![0, 1, 2] bcast_S32x4x1_S32x4x64_0_1_2 (broadcastInDim S32x4x1 ![0, 1] bcast_S32x4_S32x4x1_0_1
      (Host.dotGeneral (F := Ideal) (φ₁ := .f32) (φ₂ := .f32) dot_S32x4x64_S32x4x64_S32x4_2_2_n_n_01_01 none (shapeCast _ q shapeCasts_S32x256_S32x4x64) (keys g))))
      (shapeCast _ v shapeCasts_S32x256_S32x4x64))
    (Host.dotGeneral (F := Ideal) (φ₁ := .f32) (φ₂ := .f32) dot_S32x4x64_S32x4x64x64_S32x4x64_2_2_n_3_01_01 none (mulf (F := Ideal) (φ := .f32) (shapeCast _ q shapeCasts_S32x256_S32x4x64) a) s)

/-- Rows divided by their root mean square, laid out below one another. -/
def laid (x : Vec Ideal S32x4x64 .f32) : Vec Ideal S128x64 .f32 :=
  shapeCast _ (mulf (F := Ideal) (φ := .f32) x (broadcastInDim S32x4x64 ![0, 1, 2] bcast_S32x4x1_S32x4x64_0_1_2 (Host.rsqrt (F := Ideal) (φ := .f32) (addf (Host.divf (F := Ideal) (φ := .f32)
    (broadcastInDim S32x4x1 ![0, 1] bcast_S32x4_S32x4x1_0_1 (Host.reduceAdd (F := Ideal) (φ := .f32) (mulf x x) (constant (F := Ideal) S_ .f32 0x00000000#32) reducesTo_S32x4x64_S32x4_d2 h_S_))
    (broadcastInDim S32x4x1 ![] bcast_S_S32x4x1 (constant (F := Ideal) S_ .f32 0x42800000#32))) (broadcastInDim S32x4x1 ![] bcast_S_S32x4x1 (constant (F := Ideal) S_ .f32 0x358637BD#32)))))) shapeCasts_S32x4x64_S128x64

/-- The new state, laid out likewise. -/
def states (s : Vec Ideal S32x4x64x64 .f32) (v : Vec Ideal S32x256 .f32) (g a : Vec Ideal S32x4x64 .f32) : Vec Ideal S8192x64 .f32 :=
  shapeCast _ (addf (F := Ideal) (φ := .f32) (mulf s (broadcastInDim S32x4x64x64 ![0, 1, 2, 3] bcast_S32x4x64x1_S32x4x64x64_0_1_2_3 (broadcastInDim S32x4x64x1 ![0, 1, 2] bcast_S32x4x64_S32x4x64x1_0_1_2 a)))
    (mulf (broadcastInDim S32x4x64x64 ![0, 1, 2, 3] bcast_S32x4x64x1_S32x4x64x64_0_1_2_3 (broadcastInDim S32x4x64x1 ![0, 1, 2] bcast_S32x4x64_S32x4x64x1_0_1_2 (keys g)))
      (broadcastInDim S32x4x64x64 ![0, 1, 2, 3] bcast_S32x4x1x64_S32x4x64x64_0_1_2_3 (broadcastInDim S32x4x1x64 ![0, 1, 3] bcast_S32x4x64_S32x4x1x64_0_1_3
        (shapeCast _ v shapeCasts_S32x256_S32x4x64))))) shapeCasts_S32x4x64x64_S8192x64

theorem one_eq : one = ((1 : ℝ) : EReal) := by
  unfold one
  simp [Ideal.ofBits, Ideal.ieee]; norm_num [← EReal.coe_mul]

/-- The exponential undoes the logarithm of a number that is not negative, nought among them. -/
theorem exp_log (x : ℝ) (hx : 0 ≤ x) : Ideal.exp (Ideal.log (x : EReal)) = (x : EReal) := by
  rcases hx.eq_or_lt with rfl | h
  · have hl : Ideal.log ((0 : ℝ) : EReal) = ⊥ := by
      show (if (0 : ℝ) ≤ 0 then ⊥ else ((Real.log 0 : ℝ) : EReal)) = _
      rw [if_pos le_rfl]
    rw [hl]
    rfl
  · exact Cert.RetStepRefIdeal.Step.exp_log x h

/-- A sigmoid is a real number between nought and one. -/
theorem sigmoid_real (x : EReal) : ∃ r : ℝ, 0 ≤ r ∧ r ≤ 1 ∧ Ideal.logistic x = (r : EReal) := by
  induction x using EReal.rec with
  | bot => exact ⟨0, le_rfl, zero_le_one, by rw [Ideal.logistic_bot]; rfl⟩
  | top => exact ⟨1, zero_le_one, le_rfl, by rw [Ideal.logistic_top]; rfl⟩
  | coe x => exact ⟨(1 + Real.exp (-x))⁻¹, by positivity, inv_le_one_of_one_le₀ (by have := Real.exp_pos (-x); linarith), Ideal.logistic_coe ..⟩

/-- A gate over a finite bound that is not negative is a real number that is not negative. -/
theorem gate_real {l : EReal} (hl : ∃ r : ℝ, 0 ≤ r ∧ l = (r : EReal)) (f : EReal) : ∃ r : ℝ, 0 ≤ r ∧ gate l f = (r : EReal) := by
  obtain ⟨l, h0, rfl⟩ := hl
  obtain ⟨x, hx, hx1, he⟩ := sigmoid_real f
  refine ⟨l + (1 - l) * x, by nlinarith [mul_nonneg h0 (sub_nonneg.mpr hx1)], ?_⟩
  unfold gate
  rw [he, one_eq, ← EReal.coe_sub, ← EReal.coe_mul, ← EReal.coe_add]

theorem gates_at (f : Vec Ideal S32x256 .f32) (l : Vec Ideal S256 .f32) (b : Fin 32) (h : Fin 4) (d : Fin 64) :
    gates f l (ix3 b h d) = gateOf f l b h d := by
  have hg : gates f l (ix3 b h d) = l (ix1 (lane h d)) + (one - l (ix1 (lane h d))) * Ideal.div one (one + Ideal.exp (-(f (ix2 b (lane h d))))) := by
    unfold one lane
    pointwise [gates, bounds]
  rw [hg]
  unfold gateOf gate Ideal.logistic
  rw [show one = 1 from one_eq]

theorem again_at {f : Vec Ideal S32x256 .f32} {l : Vec Ideal S256 .f32} (hl : ∀ i, ∃ r : ℝ, 0 ≤ r ∧ l i = (r : EReal)) (b : Fin 32) (h : Fin 4) (d : Fin 64) :
    again (gates f l) (ix3 b h d) = gateOf f l b h d := by
  show Ideal.exp (Ideal.log (gates f l (ix3 b h d))) = _
  rw [gates_at]
  obtain ⟨r, h0, hr⟩ := gate_real (hl (ix1 (lane h d))) (f (ix2 b (lane h d)))
  unfold gateOf
  rw [hr]
  exact exp_log r h0

theorem reads_at (s : Vec Ideal S32x4x64x64 .f32) (q v : Vec Ideal S32x256 .f32) (g a : Vec Ideal S32x4x64 .f32) (b : Fin 32) (h : Fin 4) (e : Fin 64) :
    reads s q v g a (ix3 b h e) = (∑ d : Fin 64, q (ix2 b (lane h d)) * (one - g (ix3 b h d))) * v (ix2 b (lane h e))
      + ∑ d : Fin 64, q (ix2 b (lane h d)) * a (ix3 b h d) * s (ix4 b h d e) := by
  unfold one lane
  pointwise [reads, keys]

theorem laid_at (x : Vec Ideal S32x4x64 .f32) (r : Fin 128) (e : Fin 64) :
    laid x (ix2 r e) = x (ix3 ⟨r.val / 4, by omega⟩ ⟨r.val % 4, by omega⟩ e)
      * Ideal.rsqrt (Ideal.div (∑ i : Fin 64, x (ix3 ⟨r.val / 4, by omega⟩ ⟨r.val % 4, by omega⟩ i) * x (ix3 ⟨r.val / 4, by omega⟩ ⟨r.val % 4, by omega⟩ i))
        (Ideal.ofBits .f32 0x42800000#32) + Ideal.ofBits .f32 0x358637BD#32) := by
  pointwise [laid]

theorem states_at (s : Vec Ideal S32x4x64x64 .f32) (v : Vec Ideal S32x256 .f32) (g a : Vec Ideal S32x4x64 .f32) (r : Fin 8192) (e : Fin 64) :
    states s v g a (ix2 r e) = s (ix4 (seqOf r) (headOf r) (inHead r) e) * a (ix3 (seqOf r) (headOf r) (inHead r))
      + (one - g (ix3 (seqOf r) (headOf r) (inHead r))) * v (ix2 (seqOf r) (lane (headOf r) e)) := by
  unfold one lane seqOf headOf inHead
  pointwise [states, keys]

/-- The two ways of reading the new state are one, where the query, the key and the input are real numbers. -/
theorem split_sum (q k g s : Fin 64 → EReal) (v : EReal) (hq : ∀ d, IsReal (q d)) (hk : ∀ d, IsReal (k d)) (hv : IsReal v) :
    (∑ d : Fin 64, q d * k d) * v + ∑ d : Fin 64, q d * g d * s d = ∑ d : Fin 64, q d * (k d * v + g d * s d) := by
  have hd : ∀ d, q d * (k d * v + g d * s d) = q d * k d * v + q d * g d * s d := fun d => by
    rw [Cert.RetStepRefIdeal.Step.mul_add_any (hq d) ((hk d).mul hv), mul_assoc, mul_assoc]
  simp only [hd, Finset.sum_add_distrib]
  refine congrArg (· + _) ?_
  choose q' hq' using hq
  choose k' hk' using hk
  obtain ⟨v', rfl⟩ := hv
  have hsum : ∀ f : Fin 64 → ℝ, (∑ d : Fin 64, ((f d : ℝ) : EReal)) = ((∑ d : Fin 64, f d : ℝ) : EReal) := fun f =>
    (map_sum (⟨⟨fun r : ℝ => (r : EReal), EReal.coe_zero⟩, EReal.coe_add⟩ : ℝ →+ EReal) f Finset.univ).symm
  simp only [hq', hk', ← EReal.coe_mul, hsum]
  rw [Finset.sum_mul]

theorem state_eq (s : Vec Ideal S32x4x64x64 .f32) (f v : Vec Ideal S32x256 .f32) (l : Vec Ideal S256 .f32)
    (hl : ∀ i, ∃ r : ℝ, 0 ≤ r ∧ l i = (r : EReal)) :
    states s v (gates f l) (again (gates f l)) = Cert.HgrnStepIdeal.Step.newState s f v l := by
  funext j
  obtain ⟨r, e, rfl⟩ : ∃ (r : Fin 8192) (e : Fin 64), j = ix2 r e :=
    ⟨j 0, j 1, funext fun a => by match a with | ⟨0, _⟩ => rfl | ⟨1, _⟩ => rfl⟩
  rw [states_at, again_at hl, gates_at]
  exact congrArg (· + _) (mul_comm _ _)

theorem result_eq (s : Vec Ideal S32x4x64x64 .f32) (q f v : Vec Ideal S32x256 .f32) (l : Vec Ideal S256 .f32)
    (hq : ∀ i, IsReal (q i)) (hv : ∀ i, IsReal (v i)) (hl : ∀ i, ∃ r : ℝ, 0 ≤ r ∧ l i = (r : EReal)) :
    laid (reads s q v (gates f l) (again (gates f l))) = Cert.HgrnStepIdeal.Step.result s q f v l := by
  funext j
  obtain ⟨r, e, rfl⟩ : ∃ (r : Fin 128) (e : Fin 64), j = ix2 r e :=
    ⟨j 0, j 1, funext fun a => by match a with | ⟨0, _⟩ => rfl | ⟨1, _⟩ => rfl⟩
  have hg : ∀ (b : Fin 32) (h : Fin 4) (d : Fin 64), IsReal (gateOf f l b h d) := fun b h d => by
    obtain ⟨x, _, hx⟩ := gate_real (hl (ix1 (lane h d))) (f (ix2 b (lane h d)))
    exact ⟨x, hx⟩
  have hr : ∀ (b : Fin 32) (h : Fin 4) (e : Fin 64), reads s q v (gates f l) (again (gates f l)) (ix3 b h e) = Cert.HgrnStepIdeal.Step.read s q f v l b h e := fun b h e => by
    rw [reads_at]
    simp only [again_at hl, gates_at]
    exact split_sum (fun d => q (ix2 b (lane h d))) (fun d => one - gateOf f l b h d) (fun d => gateOf f l b h d) (fun d => s (ix4 b h d e)) (v (ix2 b (lane h e)))
      (fun d => hq _) (fun d => IsReal.sub ⟨_, one_eq⟩ (hg _ _ _)) (hv _)
  rw [laid_at]
  simp only [hr]
  rfl

end Cert.HgrnStepRefIdeal.Step

namespace Cert.Proof

open Idealize.ShloMosaic Idealize.SL.Sem Idealize.ShloMosaic.TcCoe
open Cert.ReferenceIdeal.Ret (IsReal)

/-- The side conditions the precondition's text states: its shapes fill one another. -/
instance hgrn_facts : Cert.Pre_finite_hgrn.Facts := ⟨by decide, by decide, by decide, by decide, by decide, by decide, by decide, by decide, by decide⟩

/-- A value that is neither below nought nor infinite is a real number that is not negative. -/
theorem share_of (x : EReal) (h0 : Ideal.cmp .oge x (Ideal.ofBits .f32 0x00000000#32) = 1#1) (h1 : Ideal.cmp .olt x (Ideal.ofBits .f32 0x7F800000#32) = 1#1) :
    ∃ r : ℝ, 0 ≤ r ∧ x = (r : EReal) := by
  have g0 : (0 : EReal) ≤ x := by
    rw [show Ideal.ofBits .f32 0x00000000#32 = (0 : EReal) by simp [Ideal.ofBits, Ideal.ieee]] at h0
    by_contra hn
    rw [show Ideal.cmp .oge x 0 = BitVec.ofBool (decide ((0 : EReal) ≤ x)) from rfl, decide_eq_false hn] at h0
    exact absurd h0 (by decide)
  have g1 : x < ⊤ := by
    rw [show Ideal.ofBits .f32 0x7F800000#32 = (⊤ : EReal) by simp [Ideal.ofBits, Ideal.ieee]] at h1
    by_contra hn
    rw [show Ideal.cmp .olt x ⊤ = BitVec.ofBool (decide (x < (⊤ : EReal))) from rfl, decide_eq_false hn] at h1
    exact absurd h1 (by decide)
  induction x using EReal.rec with
  | bot => exact absurd g0 (by simp)
  | top => exact absurd g1 (lt_irrefl _)
  | coe r => exact ⟨r, EReal.coe_nonneg.mp g0, rfl⟩

/-- The precondition at one place of the state, and the lanes that meet there. -/
theorem finite_hgrn_at (s : Vec Ideal Cert.HgrnStepIdeal.S32x4x64x64 .f32) (q f v : Vec Ideal Cert.HgrnStepIdeal.S32x256 .f32) (l : Vec Ideal Cert.HgrnStepIdeal.S256 .f32)
    (b : Fin 32) (h : Fin 4) (d e : Fin 64) :
    Cert.Pre_finite_hgrn.fn (F := Ideal) s q f v l (ix4 b h d e)
      = Ideal.cmp .olt (max (q (ix2 b (Cert.HgrnStepIdeal.Step.lane h d))) (-q (ix2 b (Cert.HgrnStepIdeal.Step.lane h d)))) (Ideal.ofBits .f32 0x7F800000#32)
        &&& Ideal.cmp .olt (max (v (ix2 b (Cert.HgrnStepIdeal.Step.lane h e))) (-v (ix2 b (Cert.HgrnStepIdeal.Step.lane h e)))) (Ideal.ofBits .f32 0x7F800000#32)
        &&& (Ideal.cmp .oge (l (ix1 (Cert.HgrnStepIdeal.Step.lane h d))) (Ideal.ofBits .f32 0x00000000#32)
          &&& Ideal.cmp .olt (l (ix1 (Cert.HgrnStepIdeal.Step.lane h d))) (Ideal.ofBits .f32 0x7F800000#32)) := by
  unfold Cert.HgrnStepIdeal.Step.lane
  pointwise [Cert.Pre_finite_hgrn.fn, Cert.Pre_finite_hgrn.fn_part1]
  rfl

/-- The precondition says that the queries, the inputs and the bounds are real numbers, the bounds not negative. -/
theorem real_of_hgrn {s : Vec Ideal Cert.HgrnStepIdeal.S32x4x64x64 .f32} {q f v : Vec Ideal Cert.HgrnStepIdeal.S32x256 .f32} {l : Vec Ideal Cert.HgrnStepIdeal.S256 .f32}
    (hp : Cert.Pre_finite_hgrn.fn (F := Ideal) s q f v l = fun _ => 1#1) :
    (∀ i, IsReal (q i)) ∧ (∀ i, IsReal (v i)) ∧ (∀ i, ∃ r : ℝ, 0 ≤ r ∧ l i = (r : EReal)) := by
  have hall : ∀ (b : Fin 32) (h : Fin 4) (d e : Fin 64), IsReal (q (ix2 b (Cert.HgrnStepIdeal.Step.lane h d)))
      ∧ IsReal (v (ix2 b (Cert.HgrnStepIdeal.Step.lane h e))) ∧ ∃ r : ℝ, 0 ≤ r ∧ l (ix1 (Cert.HgrnStepIdeal.Step.lane h d)) = (r : EReal) := fun b h d e => by
    have hc := congrFun hp (ix4 b h d e)
    rw [finite_hgrn_at] at hc
    obtain ⟨h3, hl⟩ := and_one _ _ hc
    obtain ⟨hq, hv⟩ := and_one _ _ h3
    obtain ⟨l0, l1⟩ := and_one _ _ hl
    exact ⟨real_of_lt _ hq, real_of_lt _ hv, share_of _ l0 l1⟩
  have hrow : ∀ i : Cert.HgrnStepIdeal.S32x256.Idx, ∃ (b : Fin 32) (h : Fin 4) (d : Fin 64), i = ix2 b (Cert.HgrnStepIdeal.Step.lane h d) := fun i => by
    have h1 : (i 1).val < 256 := (i 1).isLt
    refine ⟨i 0, ⟨(i 1).val / 64, by omega⟩, ⟨(i 1).val % 64, by omega⟩, funext fun a => ?_⟩
    match a with
    | ⟨0, _⟩ => rfl
    | ⟨1, _⟩ => exact Fin.ext (by show (i 1).val = (i 1).val / 64 * 64 + (i 1).val % 64; omega)
  refine ⟨fun i => ?_, fun i => ?_, fun i => ?_⟩
  · obtain ⟨b, h, d, rfl⟩ := hrow i; exact (hall b h d d).1
  · obtain ⟨b, h, d, rfl⟩ := hrow i; exact (hall b h d d).2.1
  · have h0 : (i 0).val < 256 := (i 0).isLt
    have hi : i = ix1 (Cert.HgrnStepIdeal.Step.lane ⟨(i 0).val / 64, by omega⟩ ⟨(i 0).val % 64, by omega⟩) := funext fun a => by
      match a with
      | ⟨0, _⟩ => exact Fin.ext (by show (i 0).val = (i 0).val / 64 * 64 + (i 0).val % 64; omega)
    rw [hi]; exact (hall 0 _ _ 0).2.2

/-- The kernel's two arrays are the reference's. -/
theorem equal_HgrnStep : Cert.algebraic_HgrnStepIdeal_HgrnStepRefIdeal_pre_finite_hgrn := by
  intro m ρ m' ρ' hpre hagree
  refine ⟨fun c => Cert.HgrnStepIdeal.Step.out m c, fun c => Cert.HgrnStepIdeal.Step.st m c, ?_, ?_⟩
  · exact (θ_run _ _ _).mono (fun _ h c => ⟨(h c).1.trans (Cert.HgrnStepIdeal.Step.final_5 m c), (h c).2.1.trans (Cert.HgrnStepIdeal.Step.final_6 m c), (h c).2.2⟩)
      (Cert.HgrnStepIdeal.Value.run_blocks m ρ)
  · refine (θ_run _ _ _).mono (fun _ h c => ⟨(h c).1.trans ?_, (h c).2.1.trans ?_, (h c).2.2⟩) (Cert.HgrnStepRefIdeal.Value.run m' ρ')
    · obtain ⟨h0, h1, h2, h3, h4⟩ := hagree c
      obtain ⟨hq, hv, hl⟩ := real_of_hgrn (hpre c)
      unfold Cert.HgrnStepRefIdeal.Value.res_main_v48
      rw [h0, h1, h2, h3, h4]
      exact Cert.HgrnStepRefIdeal.Step.result_eq _ _ _ _ _ hq hv hl
    · obtain ⟨h0, h1, h2, h3, h4⟩ := hagree c
      obtain ⟨_, _, hl⟩ := real_of_hgrn (hpre c)
      rw [h0, h2, h3, h4]
      exact Cert.HgrnStepRefIdeal.Step.state_eq _ _ _ _ hl

theorem frame_HgrnStepRef : Cert.quiescent_HgrnStepRefIdeal := fun m ρ _ =>
  (θ_run Cert.HgrnStepRefIdeal.defs _ _).mono (fun r h => ⟨fun c => (h c).2.2, sem_eq_zero_of_no_sems (by decide) r.2⟩)
    (Cert.HgrnStepRefIdeal.Value.run m ρ)

theorem frame_HgrnStepIdeal : Cert.quiescent_HgrnStepIdeal := fun m ρ _ => Cert.HgrnStepIdeal.Gen.frame m ρ

/-- The two programs' bodies are one text. -/
theorem defs_HgrnStep : Cert.HgrnStep.defs (F := Bits) = Cert.HgrnStepIdeal.defs (F := Bits) := by
  have h : Cert.HgrnStep.defs₀ (F := Bits) = Cert.HgrnStepIdeal.defs₀ (F := Bits) := by
    unfold Cert.HgrnStep.defs₀ Cert.HgrnStepIdeal.defs₀
    refine congrArg Defs.onTc ?_
    funext l x
    match l, x with
    | 0, (t, s) => rfl
    | ⟨n + 1, h⟩, _ => exact absurd h (Nat.not_lt.2 (Nat.le_add_left _ _))
  unfold Cert.HgrnStep.defs Cert.HgrnStepIdeal.defs
  exact congrArg _ h

theorem frame_HgrnStep : Cert.quiescent_HgrnStep := fun m ρ _ => by
  rw [defs_HgrnStep]
  exact Cert.HgrnStepIdeal.Gen.frame (F := Bits) m ρ

end Cert.Proof
-- ==== Proof.lean ====
/-
  THE CERTIFICATE.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.EvenProjIdeal.Value
public import proofs.«01_k».proof.Proof.Gen.EvenProjRefIdeal.Run
public import proofs.«01_k».proof.Proof.Gen.OddMixIdeal.Value
public import proofs.«01_k».proof.Proof.Gen.OddMixRefIdeal.Run
public import proofs.«01_k».proof.Proof.Gen.OddProjIdeal.Value
public import proofs.«01_k».proof.Proof.Gen.OddProjRefIdeal.Run
public import proofs.«01_k».proof.Proof.Gen.MemAttendIdeal.Value
public import proofs.«01_k».proof.Proof.Gen.MemAttendRefIdeal.Run
public import proofs.«01_k».proof.Proof.Gen.EvenMixIdeal.Value
public import proofs.«01_k».proof.Proof.Gen.EvenMixRefIdeal.Run
public import proofs.«01_k».proof.Proof.Gen.MemProjIdeal.Value
public import proofs.«01_k».proof.Proof.Gen.MemProjRefIdeal.Run
public import proofs.«01_k».proof.Proof.Gen.RetStepIdeal.Value
public import proofs.«01_k».proof.Proof.Gen.RetStepRefIdeal.Run
public import proofs.«01_k».proof.Proof.Gen.HgrnStepIdeal.Value
public import proofs.«01_k».proof.Proof.Gen.HgrnStepRefIdeal.Run
public import proofs.«01_k».proof.Proof.Retention
public import proofs.«01_k».proof.Proof.EvenProj
public import proofs.«01_k».proof.Proof.OddMix
public import proofs.«01_k».proof.Proof.OddProj
public import proofs.«01_k».proof.Proof.MemAttend
public import proofs.«01_k».proof.Proof.EvenMix
public import proofs.«01_k».proof.Proof.MemProj
public import proofs.«01_k».proof.Proof.RetStep
public import proofs.«01_k».proof.Proof.HgrnStep

@[expose] public section

noncomputable section

namespace Cert.Proof

open Idealize.ShloMosaic

/-- Every claim. -/
theorem claim : Cert.Claim :=
  ⟨Cert.Kernel.Gen.facts, Cert.KernelIdeal.Gen.facts, Cert.ReferenceIdeal.Gen.facts,
    Cert.EvenProj.Gen.facts, Cert.EvenProjIdeal.Gen.facts, Cert.EvenProjRefIdeal.Gen.facts,
    Cert.OddMix.Gen.facts, Cert.OddMixIdeal.Gen.facts, Cert.OddMixRefIdeal.Gen.facts,
    Cert.OddProj.Gen.facts, Cert.OddProjIdeal.Gen.facts, Cert.OddProjRefIdeal.Gen.facts,
    Cert.MemAttend.Gen.facts, Cert.MemAttendIdeal.Gen.facts, Cert.MemAttendRefIdeal.Gen.facts,
    Cert.EvenMix.Gen.facts, Cert.EvenMixIdeal.Gen.facts, Cert.EvenMixRefIdeal.Gen.facts,
    Cert.MemProj.Gen.facts, Cert.MemProjIdeal.Gen.facts, Cert.MemProjRefIdeal.Gen.facts,
    Cert.RetStep.Gen.facts, Cert.RetStepIdeal.Gen.facts, Cert.RetStepRefIdeal.Gen.facts,
    Cert.HgrnStep.Gen.facts, Cert.HgrnStepIdeal.Gen.facts, Cert.HgrnStepRefIdeal.Gen.facts,
    pre_facts,
    step_facts,
    hgrn_facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    frame_EvenProj, frame_EvenProjIdeal, frame_EvenProjRef,
    frame_OddMix, frame_OddMixIdeal, frame_OddMixRef,
    frame_OddProj, frame_OddProjIdeal, frame_OddProjRef,
    frame_MemAttend, frame_MemAttendIdeal, frame_MemAttendRef,
    frame_EvenMix, frame_EvenMixIdeal, frame_EvenMixRef,
    frame_MemProj, frame_MemProjIdeal, frame_MemProjRef,
    frame_RetStep, frame_RetStepIdeal, fun m ρ _ => frame_RetStepIdeal m ρ trivial, frame_RetStepRef, fun m ρ _ => frame_RetStepRef m ρ trivial,
    frame_HgrnStep, frame_HgrnStepIdeal, fun m ρ _ => frame_HgrnStepIdeal m ρ trivial, frame_HgrnStepRef, fun m ρ _ => frame_HgrnStepRef m ρ trivial,
    trivial, equal,
    trivial, equal_EvenProj,
    trivial, equal_OddMix,
    trivial, equal_OddProj,
    trivial, equal_MemAttend,
    trivial, equal_EvenMix,
    trivial, equal_MemProj,
    trivial, equal_RetStep,
    trivial, equal_HgrnStep⟩

end Cert.Proof

end
